-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Kv [hPre_layer_in_range : Cert.Pre_layer_in_range.Facts] (m : (ℓ : Loc Cert.Kv.nD Cert.Kv.τ Cert.Kv.sig) → Buf (Elt Bits) ℓ) : Prop :=
  ∀ c : Dev Cert.Kv.nD,
    (Cert.Pre_layer_in_range.fn (F := Bits) (m ((c.tc : Thread Cert.Kv.nD Cert.Kv.τ).loc Cert.Kv.main_arg0)) (m ((c.tc : Thread Cert.Kv.nD Cert.Kv.τ).loc Cert.Kv.main_arg1)) (m ((c.tc : Thread Cert.Kv.nD Cert.Kv.τ).loc Cert.Kv.main_arg2)) (m ((c.tc : Thread Cert.Kv.nD Cert.Kv.τ).loc Cert.Kv.main_arg3)) (m ((c.tc : Thread Cert.Kv.nD Cert.Kv.τ).loc Cert.Kv.main_arg4)) (m ((c.tc : Thread Cert.Kv.nD Cert.Kv.τ).loc Cert.Kv.main_arg5))) = (fun _ => 1#1)

def Pre_KvIdeal [hPre_layer_in_range : Cert.Pre_layer_in_range.Facts] (m : (ℓ : Loc Cert.KvIdeal.nD Cert.KvIdeal.τ Cert.KvIdeal.sig) → Buf (Elt Ideal) ℓ) : Prop :=
  ∀ c : Dev Cert.KvIdeal.nD,
    (Cert.Pre_layer_in_range.fn (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)) (m ((c.tc : Thread Cert.KvIdeal.nD Cert.KvIdeal.τ).loc Cert.KvIdeal.main_arg3)) (m ((c.tc : Thread Cert.KvIdeal.nD Cert.KvIdeal.τ).loc Cert.KvIdeal.main_arg4)) (m ((c.tc : Thread Cert.KvIdeal.nD Cert.KvIdeal.τ).loc Cert.KvIdeal.main_arg5))) = (fun _ => 1#1)

def Pre_KvReferenceIdeal [hPre_layer_in_range : Cert.Pre_layer_in_range.Facts] (m : (ℓ : Loc Cert.KvReferenceIdeal.nD Cert.KvReferenceIdeal.τ Cert.KvReferenceIdeal.sig) → Buf (Elt Ideal) ℓ) : Prop :=
  ∀ c : Dev Cert.KvReferenceIdeal.nD,
    (Cert.Pre_layer_in_range.fn (F := Ideal) (m ((c.tc : Thread Cert.KvReferenceIdeal.nD Cert.KvReferenceIdeal.τ).loc Cert.KvReferenceIdeal.main_arg0)) (m ((c.tc : Thread Cert.KvReferenceIdeal.nD Cert.KvReferenceIdeal.τ).loc Cert.KvReferenceIdeal.main_arg1)) (m ((c.tc : Thread Cert.KvReferenceIdeal.nD Cert.KvReferenceIdeal.τ).loc Cert.KvReferenceIdeal.main_arg2)) (m ((c.tc : Thread Cert.KvReferenceIdeal.nD Cert.KvReferenceIdeal.τ).loc Cert.KvReferenceIdeal.main_arg3)) (m ((c.tc : Thread Cert.KvReferenceIdeal.nD Cert.KvReferenceIdeal.τ).loc Cert.KvReferenceIdeal.main_arg4)) (m ((c.tc : Thread Cert.KvReferenceIdeal.nD Cert.KvReferenceIdeal.τ).loc Cert.KvReferenceIdeal.main_arg5))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbReferenceIdeal (m : (ℓ : Loc Cert.SbReferenceIdeal.nD Cert.SbReferenceIdeal.τ Cert.SbReferenceIdeal.sig) → Buf (Elt Ideal) ℓ) : Prop :=
  True

def Pre_MixSample (m : (ℓ : Loc Cert.MixSample.nD Cert.MixSample.τ Cert.MixSample.sig) → Buf (Elt Bits) ℓ) : Prop :=
  True

def Pre_MixSampleIdeal (m : (ℓ : Loc Cert.MixSampleIdeal.nD Cert.MixSampleIdeal.τ Cert.MixSampleIdeal.sig) → Buf (Elt Ideal) ℓ) : Prop :=
  True

def Pre_MixSampleReferenceIdeal (m : (ℓ : Loc Cert.MixSampleReferenceIdeal.nD Cert.MixSampleReferenceIdeal.τ Cert.MixSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2))
      ∧ r.2.sem = fun _ => 0)

def quiescent_Kv [hKv : Cert.Kv.Facts] [hPre_layer_in_range : Cert.Pre_layer_in_range.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3)
      ∧ r.2.mem ((c.tc : Thread Cert.Kv.nD Cert.Kv.τ).loc Cert.Kv.main_arg4) = m ((c.tc : Thread Cert.Kv.nD Cert.Kv.τ).loc Cert.Kv.main_arg4)
      ∧ r.2.mem ((c.tc : Thread Cert.Kv.nD Cert.Kv.τ).loc Cert.Kv.main_arg5) = m ((c.tc : Thread Cert.Kv.nD Cert.Kv.τ).loc Cert.Kv.main_arg5))
      ∧ r.2.sem = fun _ => 0)

def quiescent_KvIdeal [hKvIdeal : Cert.KvIdeal.Facts] [hPre_layer_in_range : Cert.Pre_layer_in_range.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
      ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
      ∧ r.2.mem ((c.tc : Thread Cert.KvIdeal.nD Cert.KvIdeal.τ).loc Cert.KvIdeal.main_arg5) = m ((c.tc : Thread Cert.KvIdeal.nD Cert.KvIdeal.τ).loc Cert.KvIdeal.main_arg5))
      ∧ r.2.sem = fun _ => 0)

def quiescent_KvReferenceIdeal [hKvReferenceIdeal : Cert.KvReferenceIdeal.Facts] [hPre_layer_in_range : Cert.Pre_layer_in_range.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2)
      ∧ r.2.mem ((c.tc : Thread Cert.KvReferenceIdeal.nD Cert.KvReferenceIdeal.τ).loc Cert.KvReferenceIdeal.main_arg3) = m ((c.tc : Thread Cert.KvReferenceIdeal.nD Cert.KvReferenceIdeal.τ).loc Cert.KvReferenceIdeal.main_arg3)
      ∧ r.2.mem ((c.tc : Thread Cert.KvReferenceIdeal.nD Cert.KvReferenceIdeal.τ).loc Cert.KvReferenceIdeal.main_arg4) = m ((c.tc : Thread Cert.KvReferenceIdeal.nD Cert.KvReferenceIdeal.τ).loc Cert.KvReferenceIdeal.main_arg4)
      ∧ r.2.mem ((c.tc : Thread Cert.KvReferenceIdeal.nD Cert.KvReferenceIdeal.τ).loc Cert.KvReferenceIdeal.main_arg5) = m ((c.tc : Thread Cert.KvReferenceIdeal.nD Cert.KvReferenceIdeal.τ).loc Cert.KvReferenceIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1)
      ∧ r.2.mem ((c.tc : Thread Cert.Sb.nD Cert.Sb.τ).loc Cert.Sb.main_arg2) = m ((c.tc : Thread Cert.Sb.nD Cert.Sb.τ).loc Cert.Sb.main_arg2)
      ∧ r.2.mem ((c.tc : Thread Cert.Sb.nD Cert.Sb.τ).loc Cert.Sb.main_arg3) = m ((c.tc : Thread Cert.Sb.nD Cert.Sb.τ).loc Cert.Sb.main_arg3)
      ∧ r.2.mem ((c.tc : Thread Cert.Sb.nD Cert.Sb.τ).loc Cert.Sb.main_arg4) = m ((c.tc : Thread Cert.Sb.nD Cert.Sb.τ).loc Cert.Sb.main_arg4))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
      ∧ r.2.mem ((c.tc : Thread Cert.SbIdeal.nD Cert.SbIdeal.τ).loc Cert.SbIdeal.main_arg3) = m ((c.tc : Thread Cert.SbIdeal.nD Cert.SbIdeal.τ).loc Cert.SbIdeal.main_arg3)
      ∧ r.2.mem ((c.tc : Thread Cert.SbIdeal.nD Cert.SbIdeal.τ).loc Cert.SbIdeal.main_arg4) = m ((c.tc : Thread Cert.SbIdeal.nD Cert.SbIdeal.τ).loc Cert.SbIdeal.main_arg4))
      ∧ r.2.sem = fun _ => 0)

def quiescent_SbReferenceIdeal [hSbReferenceIdeal : Cert.SbReferenceIdeal.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1)
      ∧ r.2.mem ((c.tc : Thread Cert.SbReferenceIdeal.nD Cert.SbReferenceIdeal.τ).loc Cert.SbReferenceIdeal.main_arg2) = m ((c.tc : Thread Cert.SbReferenceIdeal.nD Cert.SbReferenceIdeal.τ).loc Cert.SbReferenceIdeal.main_arg2)
      ∧ r.2.mem ((c.tc : Thread Cert.SbReferenceIdeal.nD Cert.SbReferenceIdeal.τ).loc Cert.SbReferenceIdeal.main_arg3) = m ((c.tc : Thread Cert.SbReferenceIdeal.nD Cert.SbReferenceIdeal.τ).loc Cert.SbReferenceIdeal.main_arg3)
      ∧ r.2.mem ((c.tc : Thread Cert.SbReferenceIdeal.nD Cert.SbReferenceIdeal.τ).loc Cert.SbReferenceIdeal.main_arg4) = m ((c.tc : Thread Cert.SbReferenceIdeal.nD Cert.SbReferenceIdeal.τ).loc Cert.SbReferenceIdeal.main_arg4))
      ∧ r.2.sem = fun _ => 0)

def quiescent_MixSample [hMixSample : Cert.MixSample.Facts] : Prop :=
  ∀ (m : (ℓ : Loc Cert.MixSample.nD Cert.MixSample.τ Cert.MixSample.sig) → Buf (Elt Bits) ℓ) (g : Dev Cert.MixSample.nD → PrngReg), Pre_MixSample m →
    θ_run (Cert.MixSample.defs (F := Bits)) (onTc (τ := Cert.MixSample.τ) (Cert.MixSample.main (F := Bits))) ⟨m, fun _ => 0, g⟩ (fun r => (∀ c : Dev Cert.MixSample.nD,
      r.2.mem ((c.tc : Thread Cert.MixSample.nD Cert.MixSample.τ).loc Cert.MixSample.main_arg0) = m ((c.tc : Thread Cert.MixSample.nD Cert.MixSample.τ).loc Cert.MixSample.main_arg0)
      ∧ r.2.mem ((c.tc : Thread Cert.MixSample.nD Cert.MixSample.τ).loc Cert.MixSample.main_arg1) = m ((c.tc : Thread Cert.MixSample.nD Cert.MixSample.τ).loc Cert.MixSample.main_arg1)
      ∧ r.2.mem ((c.tc : Thread Cert.MixSample.nD Cert.MixSample.τ).loc Cert.MixSample.main_arg2) = m ((c.tc : Thread Cert.MixSample.nD Cert.MixSample.τ).loc Cert.MixSample.main_arg2)
      ∧ r.2.mem ((c.tc : Thread Cert.MixSample.nD Cert.MixSample.τ).loc Cert.MixSample.main_arg3) = m ((c.tc : Thread Cert.MixSample.nD Cert.MixSample.τ).loc Cert.MixSample.main_arg3)
      ∧ r.2.mem ((c.tc : Thread Cert.MixSample.nD Cert.MixSample.τ).loc Cert.MixSample.main_arg4) = m ((c.tc : Thread Cert.MixSample.nD Cert.MixSample.τ).loc Cert.MixSample.main_arg4)
      ∧ r.2.mem ((c.tc : Thread Cert.MixSample.nD Cert.MixSample.τ).loc Cert.MixSample.main_arg5) = m ((c.tc : Thread Cert.MixSample.nD Cert.MixSample.τ).loc Cert.MixSample.main_arg5)
      ∧ r.2.mem ((c.tc : Thread Cert.MixSample.nD Cert.MixSample.τ).loc Cert.MixSample.main_arg6) = m ((c.tc : Thread Cert.MixSample.nD Cert.MixSample.τ).loc Cert.MixSample.main_arg6)
      ∧ r.2.mem ((c.tc : Thread Cert.MixSample.nD Cert.MixSample.τ).loc Cert.MixSample.main_arg7) = m ((c.tc : Thread Cert.MixSample.nD Cert.MixSample.τ).loc Cert.MixSample.main_arg7)
      ∧ r.2.mem ((c.tc : Thread Cert.MixSample.nD Cert.MixSample.τ).loc Cert.MixSample.main_arg8) = m ((c.tc : Thread Cert.MixSample.nD Cert.MixSample.τ).loc Cert.MixSample.main_arg8))
      ∧ r.2.sem = fun _ => 0)

def quiescent_MixSampleIdeal [hMixSampleIdeal : Cert.MixSampleIdeal.Facts] : Prop :=
  ∀ (m : (ℓ : Loc Cert.MixSampleIdeal.nD Cert.MixSampleIdeal.τ Cert.MixSampleIdeal.sig) → Buf (Elt Ideal) ℓ) (g : Dev Cert.MixSampleIdeal.nD → PrngReg), Pre_MixSampleIdeal m →
    θ_run (Cert.MixSampleIdeal.defs (F := Ideal)) (onTc (τ := Cert.MixSampleIdeal.τ) (Cert.MixSampleIdeal.main (F := Ideal))) ⟨m, fun _ => 0, g⟩ (fun r => (∀ c : Dev Cert.MixSampleIdeal.nD,
      r.2.mem ((c.tc : Thread Cert.MixSampleIdeal.nD Cert.MixSampleIdeal.τ).loc Cert.MixSampleIdeal.main_arg0) = m ((c.tc : Thread Cert.MixSampleIdeal.nD Cert.MixSampleIdeal.τ).loc Cert.MixSampleIdeal.main_arg0)
      ∧ r.2.mem ((c.tc : Thread Cert.MixSampleIdeal.nD Cert.MixSampleIdeal.τ).loc Cert.MixSampleIdeal.main_arg1) = m ((c.tc : Thread Cert.MixSampleIdeal.nD Cert.MixSampleIdeal.τ).loc Cert.MixSampleIdeal.main_arg1)
      ∧ r.2.mem ((c.tc : Thread Cert.MixSampleIdeal.nD Cert.MixSampleIdeal.τ).loc Cert.MixSampleIdeal.main_arg2) = m ((c.tc : Thread Cert.MixSampleIdeal.nD Cert.MixSampleIdeal.τ).loc Cert.MixSampleIdeal.main_arg2)
      ∧ r.2.mem ((c.tc : Thread Cert.MixSampleIdeal.nD Cert.MixSampleIdeal.τ).loc Cert.MixSampleIdeal.main_arg3) = m ((c.tc : Thread Cert.MixSampleIdeal.nD Cert.MixSampleIdeal.τ).loc Cert.MixSampleIdeal.main_arg3)
      ∧ r.2.mem ((c.tc : Thread Cert.MixSampleIdeal.nD Cert.MixSampleIdeal.τ).loc Cert.MixSampleIdeal.main_arg4) = m ((c.tc : Thread Cert.MixSampleIdeal.nD Cert.MixSampleIdeal.τ).loc Cert.MixSampleIdeal.main_arg4)
      ∧ r.2.mem ((c.tc : Thread Cert.MixSampleIdeal.nD Cert.MixSampleIdeal.τ).loc Cert.MixSampleIdeal.main_arg5) = m ((c.tc : Thread Cert.MixSampleIdeal.nD Cert.MixSampleIdeal.τ).loc Cert.MixSampleIdeal.main_arg5)
      ∧ r.2.mem ((c.tc : Thread Cert.MixSampleIdeal.nD Cert.MixSampleIdeal.τ).loc Cert.MixSampleIdeal.main_arg6) = m ((c.tc : Thread Cert.MixSampleIdeal.nD Cert.MixSampleIdeal.τ).loc Cert.MixSampleIdeal.main_arg6)
      ∧ r.2.mem ((c.tc : Thread Cert.MixSampleIdeal.nD Cert.MixSampleIdeal.τ).loc Cert.MixSampleIdeal.main_arg7) = m ((c.tc : Thread Cert.MixSampleIdeal.nD Cert.MixSampleIdeal.τ).loc Cert.MixSampleIdeal.main_arg7)
      ∧ r.2.mem ((c.tc : Thread Cert.MixSampleIdeal.nD Cert.MixSampleIdeal.τ).loc Cert.MixSampleIdeal.main_arg8) = m ((c.tc : Thread Cert.MixSampleIdeal.nD Cert.MixSampleIdeal.τ).loc Cert.MixSampleIdeal.main_arg8))
      ∧ r.2.sem = fun _ => 0)

def quiescent_MixSampleReferenceIdeal [hMixSampleReferenceIdeal : Cert.MixSampleReferenceIdeal.Facts] : Prop :=
  ∀ (m : (ℓ : Loc Cert.MixSampleReferenceIdeal.nD Cert.MixSampleReferenceIdeal.τ Cert.MixSampleReferenceIdeal.sig) → Buf (Elt Ideal) ℓ) (g : Dev Cert.MixSampleReferenceIdeal.nD → PrngReg), Pre_MixSampleReferenceIdeal m →
    θ_run (Cert.MixSampleReferenceIdeal.defs (F := Ideal)) (onTc (τ := Cert.MixSampleReferenceIdeal.τ) (Cert.MixSampleReferenceIdeal.main (F := Ideal))) ⟨m, fun _ => 0, g⟩ (fun r => (∀ c : Dev Cert.MixSampleReferenceIdeal.nD,
      r.2.mem ((c.tc : Thread Cert.MixSampleReferenceIdeal.nD Cert.MixSampleReferenceIdeal.τ).loc Cert.MixSampleReferenceIdeal.main_arg0) = m ((c.tc : Thread Cert.MixSampleReferenceIdeal.nD Cert.MixSampleReferenceIdeal.τ).loc Cert.MixSampleReferenceIdeal.main_arg0)
      ∧ r.2.mem ((c.tc : Thread Cert.MixSampleReferenceIdeal.nD Cert.MixSampleReferenceIdeal.τ).loc Cert.MixSampleReferenceIdeal.main_arg1) = m ((c.tc : Thread Cert.MixSampleReferenceIdeal.nD Cert.MixSampleReferenceIdeal.τ).loc Cert.MixSampleReferenceIdeal.main_arg1)
      ∧ r.2.mem ((c.tc : Thread Cert.MixSampleReferenceIdeal.nD Cert.MixSampleReferenceIdeal.τ).loc Cert.MixSampleReferenceIdeal.main_arg2) = m ((c.tc : Thread Cert.MixSampleReferenceIdeal.nD Cert.MixSampleReferenceIdeal.τ).loc Cert.MixSampleReferenceIdeal.main_arg2)
      ∧ r.2.mem ((c.tc : Thread Cert.MixSampleReferenceIdeal.nD Cert.MixSampleReferenceIdeal.τ).loc Cert.MixSampleReferenceIdeal.main_arg3) = m ((c.tc : Thread Cert.MixSampleReferenceIdeal.nD Cert.MixSampleReferenceIdeal.τ).loc Cert.MixSampleReferenceIdeal.main_arg3)
      ∧ r.2.mem ((c.tc : Thread Cert.MixSampleReferenceIdeal.nD Cert.MixSampleReferenceIdeal.τ).loc Cert.MixSampleReferenceIdeal.main_arg4) = m ((c.tc : Thread Cert.MixSampleReferenceIdeal.nD Cert.MixSampleReferenceIdeal.τ).loc Cert.MixSampleReferenceIdeal.main_arg4)
      ∧ r.2.mem ((c.tc : Thread Cert.MixSampleReferenceIdeal.nD Cert.MixSampleReferenceIdeal.τ).loc Cert.MixSampleReferenceIdeal.main_arg5) = m ((c.tc : Thread Cert.MixSampleReferenceIdeal.nD Cert.MixSampleReferenceIdeal.τ).loc Cert.MixSampleReferenceIdeal.main_arg5)
      ∧ r.2.mem ((c.tc : Thread Cert.MixSampleReferenceIdeal.nD Cert.MixSampleReferenceIdeal.τ).loc Cert.MixSampleReferenceIdeal.main_arg6) = m ((c.tc : Thread Cert.MixSampleReferenceIdeal.nD Cert.MixSampleReferenceIdeal.τ).loc Cert.MixSampleReferenceIdeal.main_arg6)
      ∧ r.2.mem ((c.tc : Thread Cert.MixSampleReferenceIdeal.nD Cert.MixSampleReferenceIdeal.τ).loc Cert.MixSampleReferenceIdeal.main_arg7) = m ((c.tc : Thread Cert.MixSampleReferenceIdeal.nD Cert.MixSampleReferenceIdeal.τ).loc Cert.MixSampleReferenceIdeal.main_arg7)
      ∧ r.2.mem ((c.tc : Thread Cert.MixSampleReferenceIdeal.nD Cert.MixSampleReferenceIdeal.τ).loc Cert.MixSampleReferenceIdeal.main_arg8) = m ((c.tc : Thread Cert.MixSampleReferenceIdeal.nD Cert.MixSampleReferenceIdeal.τ).loc Cert.MixSampleReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)) (v2 : (c : Dev Cert.KernelIdeal.nD) → Buf (Elt Ideal) ((c.tc : Thread Cert.KernelIdeal.nD Cert.KernelIdeal.τ).loc Cert.KernelIdeal.main_v31_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_v31_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v16)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v16) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v29) = v0 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2))

def preserves_Kv_KvIdeal : Prop :=
  True

def algebraic_KvIdeal_KvReferenceIdeal [hKvIdeal : Cert.KvIdeal.Facts] [hKvReferenceIdeal : Cert.KvReferenceIdeal.Facts] [hPre_layer_in_range : Cert.Pre_layer_in_range.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvIdeal m →
    (∀ c : Dev Cert.KvIdeal.nD,
      m' ((c.tc : Thread Cert.KvReferenceIdeal.nD Cert.KvReferenceIdeal.τ).loc Cert.KvReferenceIdeal.main_arg0) = m ((c.tc : Thread Cert.KvIdeal.nD Cert.KvIdeal.τ).loc Cert.KvIdeal.main_arg0)
      ∧ m' ((c.tc : Thread Cert.KvReferenceIdeal.nD Cert.KvReferenceIdeal.τ).loc Cert.KvReferenceIdeal.main_arg1) = m ((c.tc : Thread Cert.KvIdeal.nD Cert.KvIdeal.τ).loc Cert.KvIdeal.main_arg1)
      ∧ m' ((c.tc : Thread Cert.KvReferenceIdeal.nD Cert.KvReferenceIdeal.τ).loc Cert.KvReferenceIdeal.main_arg2) = m ((c.tc : Thread Cert.KvIdeal.nD Cert.KvIdeal.τ).loc Cert.KvIdeal.main_arg2)
      ∧ m' ((c.tc : Thread Cert.KvReferenceIdeal.nD Cert.KvReferenceIdeal.τ).loc Cert.KvReferenceIdeal.main_arg3) = m ((c.tc : Thread Cert.KvIdeal.nD Cert.KvIdeal.τ).loc Cert.KvIdeal.main_arg3)
      ∧ m' ((c.tc : Thread Cert.KvReferenceIdeal.nD Cert.KvReferenceIdeal.τ).loc Cert.KvReferenceIdeal.main_arg4) = m ((c.tc : Thread Cert.KvIdeal.nD Cert.KvIdeal.τ).loc Cert.KvIdeal.main_arg4)
      ∧ m' ((c.tc : Thread Cert.KvReferenceIdeal.nD Cert.KvReferenceIdeal.τ).loc Cert.KvReferenceIdeal.main_arg5) = m ((c.tc : Thread Cert.KvIdeal.nD Cert.KvIdeal.τ).loc Cert.KvIdeal.main_arg5)) →
    ∃ (v0 : (c : Dev Cert.KvIdeal.nD) → Buf (Elt Ideal) ((c.tc : Thread Cert.KvIdeal.nD Cert.KvIdeal.τ).loc Cert.KvIdeal.main_v9_0)) (v1 : (c : Dev Cert.KvIdeal.nD) → Buf (Elt Ideal) ((c.tc : Thread Cert.KvIdeal.nD Cert.KvIdeal.τ).loc Cert.KvIdeal.main_v9_1)) (v2 : (c : Dev Cert.KvIdeal.nD) → Buf (Elt Ideal) ((c.tc : Thread Cert.KvIdeal.nD Cert.KvIdeal.τ).loc Cert.KvIdeal.main_v9_2)) (v3 : (c : Dev Cert.KvIdeal.nD) → Buf (Elt Ideal) ((c.tc : Thread Cert.KvIdeal.nD Cert.KvIdeal.τ).loc Cert.KvIdeal.main_v9_3)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v9_0) = v0 c
          ∧ r.2.mem ((c.tc : Thread Cert.KvIdeal.nD Cert.KvIdeal.τ).loc Cert.KvIdeal.main_v9_1) = v1 c
          ∧ r.2.mem ((c.tc : Thread Cert.KvIdeal.nD Cert.KvIdeal.τ).loc Cert.KvIdeal.main_v9_2) = v2 c
          ∧ r.2.mem ((c.tc : Thread Cert.KvIdeal.nD Cert.KvIdeal.τ).loc Cert.KvIdeal.main_v9_3) = v3 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
          ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
          ∧ r.2.mem ((c.tc : Thread Cert.KvIdeal.nD Cert.KvIdeal.τ).loc Cert.KvIdeal.main_arg5) = m ((c.tc : Thread Cert.KvIdeal.nD Cert.KvIdeal.τ).loc Cert.KvIdeal.main_arg5))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v33) = v0 c
          ∧ r.2.mem ((c.tc : Thread Cert.KvReferenceIdeal.nD Cert.KvReferenceIdeal.τ).loc Cert.KvReferenceIdeal.main_v38) = v1 c
          ∧ r.2.mem ((c.tc : Thread Cert.KvReferenceIdeal.nD Cert.KvReferenceIdeal.τ).loc Cert.KvReferenceIdeal.main_v39) = v2 c
          ∧ r.2.mem ((c.tc : Thread Cert.KvReferenceIdeal.nD Cert.KvReferenceIdeal.τ).loc Cert.KvReferenceIdeal.main_v40) = v3 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1)
          ∧ r.2.mem ((c.tc : Thread Cert.KvReferenceIdeal.nD Cert.KvReferenceIdeal.τ).loc Cert.KvReferenceIdeal.main_arg2) = m' ((c.tc : Thread Cert.KvReferenceIdeal.nD Cert.KvReferenceIdeal.τ).loc Cert.KvReferenceIdeal.main_arg2)
          ∧ r.2.mem ((c.tc : Thread Cert.KvReferenceIdeal.nD Cert.KvReferenceIdeal.τ).loc Cert.KvReferenceIdeal.main_arg3) = m' ((c.tc : Thread Cert.KvReferenceIdeal.nD Cert.KvReferenceIdeal.τ).loc Cert.KvReferenceIdeal.main_arg3)
          ∧ r.2.mem ((c.tc : Thread Cert.KvReferenceIdeal.nD Cert.KvReferenceIdeal.τ).loc Cert.KvReferenceIdeal.main_arg4) = m' ((c.tc : Thread Cert.KvReferenceIdeal.nD Cert.KvReferenceIdeal.τ).loc Cert.KvReferenceIdeal.main_arg4)
          ∧ r.2.mem ((c.tc : Thread Cert.KvReferenceIdeal.nD Cert.KvReferenceIdeal.τ).loc Cert.KvReferenceIdeal.main_arg5) = m' ((c.tc : Thread Cert.KvReferenceIdeal.nD Cert.KvReferenceIdeal.τ).loc Cert.KvReferenceIdeal.main_arg5))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v3) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v33) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8))

def preserves_Sb_SbIdeal : Prop :=
  IdealRules.named_const.Statement Cert.SbIdeal.κ "masked" .f32 0xF149F2CA#32 ⊥
  ∧ IdealRules.named_const.Statement Cert.SbIdeal.κ "dead" .f32 0xC2D00000#32 ⊥

def algebraic_SbIdeal_SbReferenceIdeal [hSbIdeal : Cert.SbIdeal.Facts] [hSbReferenceIdeal : Cert.SbReferenceIdeal.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbReferenceIdeal.nD Cert.SbReferenceIdeal.τ Cert.SbReferenceIdeal.sig) → Buf (Elt Ideal) ℓ) (g' : Dev Cert.SbReferenceIdeal.nD → PrngReg), Pre_SbIdeal m →
    (∀ c : Dev Cert.SbIdeal.nD,
      m' ((c.tc : Thread Cert.SbReferenceIdeal.nD Cert.SbReferenceIdeal.τ).loc Cert.SbReferenceIdeal.main_arg0) = m ((c.tc : Thread Cert.SbIdeal.nD Cert.SbIdeal.τ).loc Cert.SbIdeal.main_arg0)
      ∧ m' ((c.tc : Thread Cert.SbReferenceIdeal.nD Cert.SbReferenceIdeal.τ).loc Cert.SbReferenceIdeal.main_arg1) = m ((c.tc : Thread Cert.SbIdeal.nD Cert.SbIdeal.τ).loc Cert.SbIdeal.main_arg1)
      ∧ m' ((c.tc : Thread Cert.SbReferenceIdeal.nD Cert.SbReferenceIdeal.τ).loc Cert.SbReferenceIdeal.main_arg2) = m ((c.tc : Thread Cert.SbIdeal.nD Cert.SbIdeal.τ).loc Cert.SbIdeal.main_arg2)
      ∧ m' ((c.tc : Thread Cert.SbReferenceIdeal.nD Cert.SbReferenceIdeal.τ).loc Cert.SbReferenceIdeal.main_arg3) = m ((c.tc : Thread Cert.SbIdeal.nD Cert.SbIdeal.τ).loc Cert.SbIdeal.main_arg3)
      ∧ m' ((c.tc : Thread Cert.SbReferenceIdeal.nD Cert.SbReferenceIdeal.τ).loc Cert.SbReferenceIdeal.main_arg4) = m ((c.tc : Thread Cert.SbIdeal.nD Cert.SbIdeal.τ).loc Cert.SbIdeal.main_arg4)) →
    ∃ (v0 : (c : Dev Cert.SbIdeal.nD) → Buf (Elt Ideal) ((c.tc : Thread Cert.SbIdeal.nD Cert.SbIdeal.τ).loc Cert.SbIdeal.main_v15)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v15) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
          ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
          ∧ r.2.mem ((c.tc : Thread Cert.SbIdeal.nD Cert.SbIdeal.τ).loc Cert.SbIdeal.main_arg3) = m ((c.tc : Thread Cert.SbIdeal.nD Cert.SbIdeal.τ).loc Cert.SbIdeal.main_arg3)
          ∧ r.2.mem ((c.tc : Thread Cert.SbIdeal.nD Cert.SbIdeal.τ).loc Cert.SbIdeal.main_arg4) = m ((c.tc : Thread Cert.SbIdeal.nD Cert.SbIdeal.τ).loc Cert.SbIdeal.main_arg4))
      ∧ θ_run (Cert.SbReferenceIdeal.defs (F := Ideal)) (onTc (τ := Cert.SbReferenceIdeal.τ) (Cert.SbReferenceIdeal.main (F := Ideal))) ⟨m', fun _ => 0, g'⟩ (fun r => ∀ c : Dev Cert.SbReferenceIdeal.nD,
          r.2.mem ((c.tc : Thread Cert.SbReferenceIdeal.nD Cert.SbReferenceIdeal.τ).loc Cert.SbReferenceIdeal.main_v39) = v0 c
          ∧ r.2.mem ((c.tc : Thread Cert.SbReferenceIdeal.nD Cert.SbReferenceIdeal.τ).loc Cert.SbReferenceIdeal.main_arg0) = m' ((c.tc : Thread Cert.SbReferenceIdeal.nD Cert.SbReferenceIdeal.τ).loc Cert.SbReferenceIdeal.main_arg0)
          ∧ r.2.mem ((c.tc : Thread Cert.SbReferenceIdeal.nD Cert.SbReferenceIdeal.τ).loc Cert.SbReferenceIdeal.main_arg1) = m' ((c.tc : Thread Cert.SbReferenceIdeal.nD Cert.SbReferenceIdeal.τ).loc Cert.SbReferenceIdeal.main_arg1)
          ∧ r.2.mem ((c.tc : Thread Cert.SbReferenceIdeal.nD Cert.SbReferenceIdeal.τ).loc Cert.SbReferenceIdeal.main_arg2) = m' ((c.tc : Thread Cert.SbReferenceIdeal.nD Cert.SbReferenceIdeal.τ).loc Cert.SbReferenceIdeal.main_arg2)
          ∧ r.2.mem ((c.tc : Thread Cert.SbReferenceIdeal.nD Cert.SbReferenceIdeal.τ).loc Cert.SbReferenceIdeal.main_arg3) = m' ((c.tc : Thread Cert.SbReferenceIdeal.nD Cert.SbReferenceIdeal.τ).loc Cert.SbReferenceIdeal.main_arg3)
          ∧ r.2.mem ((c.tc : Thread Cert.SbReferenceIdeal.nD Cert.SbReferenceIdeal.τ).loc Cert.SbReferenceIdeal.main_arg4) = m' ((c.tc : Thread Cert.SbReferenceIdeal.nD Cert.SbReferenceIdeal.τ).loc Cert.SbReferenceIdeal.main_arg4))

def preserves_MixSample_MixSampleIdeal : Prop :=
  True

def algebraic_MixSampleIdeal_MixSampleReferenceIdeal [hMixSampleIdeal : Cert.MixSampleIdeal.Facts] [hMixSampleReferenceIdeal : Cert.MixSampleReferenceIdeal.Facts] : Prop :=
  ∀ (m : (ℓ : Loc Cert.MixSampleIdeal.nD Cert.MixSampleIdeal.τ Cert.MixSampleIdeal.sig) → Buf (Elt Ideal) ℓ) (g : Dev Cert.MixSampleIdeal.nD → PrngReg)
    (m' : (ℓ : Loc Cert.MixSampleReferenceIdeal.nD Cert.MixSampleReferenceIdeal.τ Cert.MixSampleReferenceIdeal.sig) → Buf (Elt Ideal) ℓ) (g' : Dev Cert.MixSampleReferenceIdeal.nD → PrngReg), Pre_MixSampleIdeal m →
    (∀ c : Dev Cert.MixSampleIdeal.nD,
      m' ((c.tc : Thread Cert.MixSampleReferenceIdeal.nD Cert.MixSampleReferenceIdeal.τ).loc Cert.MixSampleReferenceIdeal.main_arg0) = m ((c.tc : Thread Cert.MixSampleIdeal.nD Cert.MixSampleIdeal.τ).loc Cert.MixSampleIdeal.main_arg0)
      ∧ m' ((c.tc : Thread Cert.MixSampleReferenceIdeal.nD Cert.MixSampleReferenceIdeal.τ).loc Cert.MixSampleReferenceIdeal.main_arg1) = m ((c.tc : Thread Cert.MixSampleIdeal.nD Cert.MixSampleIdeal.τ).loc Cert.MixSampleIdeal.main_arg1)
      ∧ m' ((c.tc : Thread Cert.MixSampleReferenceIdeal.nD Cert.MixSampleReferenceIdeal.τ).loc Cert.MixSampleReferenceIdeal.main_arg2) = m ((c.tc : Thread Cert.MixSampleIdeal.nD Cert.MixSampleIdeal.τ).loc Cert.MixSampleIdeal.main_arg2)
      ∧ m' ((c.tc : Thread Cert.MixSampleReferenceIdeal.nD Cert.MixSampleReferenceIdeal.τ).loc Cert.MixSampleReferenceIdeal.main_arg3) = m ((c.tc : Thread Cert.MixSampleIdeal.nD Cert.MixSampleIdeal.τ).loc Cert.MixSampleIdeal.main_arg3)
      ∧ m' ((c.tc : Thread Cert.MixSampleReferenceIdeal.nD Cert.MixSampleReferenceIdeal.τ).loc Cert.MixSampleReferenceIdeal.main_arg4) = m ((c.tc : Thread Cert.MixSampleIdeal.nD Cert.MixSampleIdeal.τ).loc Cert.MixSampleIdeal.main_arg4)
      ∧ m' ((c.tc : Thread Cert.MixSampleReferenceIdeal.nD Cert.MixSampleReferenceIdeal.τ).loc Cert.MixSampleReferenceIdeal.main_arg5) = m ((c.tc : Thread Cert.MixSampleIdeal.nD Cert.MixSampleIdeal.τ).loc Cert.MixSampleIdeal.main_arg5)
      ∧ m' ((c.tc : Thread Cert.MixSampleReferenceIdeal.nD Cert.MixSampleReferenceIdeal.τ).loc Cert.MixSampleReferenceIdeal.main_arg6) = m ((c.tc : Thread Cert.MixSampleIdeal.nD Cert.MixSampleIdeal.τ).loc Cert.MixSampleIdeal.main_arg6)
      ∧ m' ((c.tc : Thread Cert.MixSampleReferenceIdeal.nD Cert.MixSampleReferenceIdeal.τ).loc Cert.MixSampleReferenceIdeal.main_arg7) = m ((c.tc : Thread Cert.MixSampleIdeal.nD Cert.MixSampleIdeal.τ).loc Cert.MixSampleIdeal.main_arg7)
      ∧ m' ((c.tc : Thread Cert.MixSampleReferenceIdeal.nD Cert.MixSampleReferenceIdeal.τ).loc Cert.MixSampleReferenceIdeal.main_arg8) = m ((c.tc : Thread Cert.MixSampleIdeal.nD Cert.MixSampleIdeal.τ).loc Cert.MixSampleIdeal.main_arg8)) →
    ∃ (v0 : (c : Dev Cert.MixSampleIdeal.nD) → Buf (Elt Ideal) ((c.tc : Thread Cert.MixSampleIdeal.nD Cert.MixSampleIdeal.τ).loc Cert.MixSampleIdeal.main_v3)),
      θ_run (Cert.MixSampleIdeal.defs (F := Ideal)) (onTc (τ := Cert.MixSampleIdeal.τ) (Cert.MixSampleIdeal.main (F := Ideal))) ⟨m, fun _ => 0, g⟩ (fun r => ∀ c : Dev Cert.MixSampleIdeal.nD,
          r.2.mem ((c.tc : Thread Cert.MixSampleIdeal.nD Cert.MixSampleIdeal.τ).loc Cert.MixSampleIdeal.main_v3) = v0 c
          ∧ r.2.mem ((c.tc : Thread Cert.MixSampleIdeal.nD Cert.MixSampleIdeal.τ).loc Cert.MixSampleIdeal.main_arg0) = m ((c.tc : Thread Cert.MixSampleIdeal.nD Cert.MixSampleIdeal.τ).loc Cert.MixSampleIdeal.main_arg0)
          ∧ r.2.mem ((c.tc : Thread Cert.MixSampleIdeal.nD Cert.MixSampleIdeal.τ).loc Cert.MixSampleIdeal.main_arg1) = m ((c.tc : Thread Cert.MixSampleIdeal.nD Cert.MixSampleIdeal.τ).loc Cert.MixSampleIdeal.main_arg1)
          ∧ r.2.mem ((c.tc : Thread Cert.MixSampleIdeal.nD Cert.MixSampleIdeal.τ).loc Cert.MixSampleIdeal.main_arg2) = m ((c.tc : Thread Cert.MixSampleIdeal.nD Cert.MixSampleIdeal.τ).loc Cert.MixSampleIdeal.main_arg2)
          ∧ r.2.mem ((c.tc : Thread Cert.MixSampleIdeal.nD Cert.MixSampleIdeal.τ).loc Cert.MixSampleIdeal.main_arg3) = m ((c.tc : Thread Cert.MixSampleIdeal.nD Cert.MixSampleIdeal.τ).loc Cert.MixSampleIdeal.main_arg3)
          ∧ r.2.mem ((c.tc : Thread Cert.MixSampleIdeal.nD Cert.MixSampleIdeal.τ).loc Cert.MixSampleIdeal.main_arg4) = m ((c.tc : Thread Cert.MixSampleIdeal.nD Cert.MixSampleIdeal.τ).loc Cert.MixSampleIdeal.main_arg4)
          ∧ r.2.mem ((c.tc : Thread Cert.MixSampleIdeal.nD Cert.MixSampleIdeal.τ).loc Cert.MixSampleIdeal.main_arg5) = m ((c.tc : Thread Cert.MixSampleIdeal.nD Cert.MixSampleIdeal.τ).loc Cert.MixSampleIdeal.main_arg5)
          ∧ r.2.mem ((c.tc : Thread Cert.MixSampleIdeal.nD Cert.MixSampleIdeal.τ).loc Cert.MixSampleIdeal.main_arg6) = m ((c.tc : Thread Cert.MixSampleIdeal.nD Cert.MixSampleIdeal.τ).loc Cert.MixSampleIdeal.main_arg6)
          ∧ r.2.mem ((c.tc : Thread Cert.MixSampleIdeal.nD Cert.MixSampleIdeal.τ).loc Cert.MixSampleIdeal.main_arg7) = m ((c.tc : Thread Cert.MixSampleIdeal.nD Cert.MixSampleIdeal.τ).loc Cert.MixSampleIdeal.main_arg7)
          ∧ r.2.mem ((c.tc : Thread Cert.MixSampleIdeal.nD Cert.MixSampleIdeal.τ).loc Cert.MixSampleIdeal.main_arg8) = m ((c.tc : Thread Cert.MixSampleIdeal.nD Cert.MixSampleIdeal.τ).loc Cert.MixSampleIdeal.main_arg8))
      ∧ θ_run (Cert.MixSampleReferenceIdeal.defs (F := Ideal)) (onTc (τ := Cert.MixSampleReferenceIdeal.τ) (Cert.MixSampleReferenceIdeal.main (F := Ideal))) ⟨m', fun _ => 0, g'⟩ (fun r => ∀ c : Dev Cert.MixSampleReferenceIdeal.nD,
          r.2.mem ((c.tc : Thread Cert.MixSampleReferenceIdeal.nD Cert.MixSampleReferenceIdeal.τ).loc Cert.MixSampleReferenceIdeal.main_v33) = v0 c
          ∧ r.2.mem ((c.tc : Thread Cert.MixSampleReferenceIdeal.nD Cert.MixSampleReferenceIdeal.τ).loc Cert.MixSampleReferenceIdeal.main_arg0) = m' ((c.tc : Thread Cert.MixSampleReferenceIdeal.nD Cert.MixSampleReferenceIdeal.τ).loc Cert.MixSampleReferenceIdeal.main_arg0)
          ∧ r.2.mem ((c.tc : Thread Cert.MixSampleReferenceIdeal.nD Cert.MixSampleReferenceIdeal.τ).loc Cert.MixSampleReferenceIdeal.main_arg1) = m' ((c.tc : Thread Cert.MixSampleReferenceIdeal.nD Cert.MixSampleReferenceIdeal.τ).loc Cert.MixSampleReferenceIdeal.main_arg1)
          ∧ r.2.mem ((c.tc : Thread Cert.MixSampleReferenceIdeal.nD Cert.MixSampleReferenceIdeal.τ).loc Cert.MixSampleReferenceIdeal.main_arg2) = m' ((c.tc : Thread Cert.MixSampleReferenceIdeal.nD Cert.MixSampleReferenceIdeal.τ).loc Cert.MixSampleReferenceIdeal.main_arg2)
          ∧ r.2.mem ((c.tc : Thread Cert.MixSampleReferenceIdeal.nD Cert.MixSampleReferenceIdeal.τ).loc Cert.MixSampleReferenceIdeal.main_arg3) = m' ((c.tc : Thread Cert.MixSampleReferenceIdeal.nD Cert.MixSampleReferenceIdeal.τ).loc Cert.MixSampleReferenceIdeal.main_arg3)
          ∧ r.2.mem ((c.tc : Thread Cert.MixSampleReferenceIdeal.nD Cert.MixSampleReferenceIdeal.τ).loc Cert.MixSampleReferenceIdeal.main_arg4) = m' ((c.tc : Thread Cert.MixSampleReferenceIdeal.nD Cert.MixSampleReferenceIdeal.τ).loc Cert.MixSampleReferenceIdeal.main_arg4)
          ∧ r.2.mem ((c.tc : Thread Cert.MixSampleReferenceIdeal.nD Cert.MixSampleReferenceIdeal.τ).loc Cert.MixSampleReferenceIdeal.main_arg5) = m' ((c.tc : Thread Cert.MixSampleReferenceIdeal.nD Cert.MixSampleReferenceIdeal.τ).loc Cert.MixSampleReferenceIdeal.main_arg5)
          ∧ r.2.mem ((c.tc : Thread Cert.MixSampleReferenceIdeal.nD Cert.MixSampleReferenceIdeal.τ).loc Cert.MixSampleReferenceIdeal.main_arg6) = m' ((c.tc : Thread Cert.MixSampleReferenceIdeal.nD Cert.MixSampleReferenceIdeal.τ).loc Cert.MixSampleReferenceIdeal.main_arg6)
          ∧ r.2.mem ((c.tc : Thread Cert.MixSampleReferenceIdeal.nD Cert.MixSampleReferenceIdeal.τ).loc Cert.MixSampleReferenceIdeal.main_arg7) = m' ((c.tc : Thread Cert.MixSampleReferenceIdeal.nD Cert.MixSampleReferenceIdeal.τ).loc Cert.MixSampleReferenceIdeal.main_arg7)
          ∧ r.2.mem ((c.tc : Thread Cert.MixSampleReferenceIdeal.nD Cert.MixSampleReferenceIdeal.τ).loc Cert.MixSampleReferenceIdeal.main_arg8) = m' ((c.tc : Thread Cert.MixSampleReferenceIdeal.nD Cert.MixSampleReferenceIdeal.τ).loc Cert.MixSampleReferenceIdeal.main_arg8))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojReferenceIdeal : Cert.InprojReferenceIdeal.Facts) (hKv : Cert.Kv.Facts) (hKvIdeal : Cert.KvIdeal.Facts) (hKvReferenceIdeal : Cert.KvReferenceIdeal.Facts) (hMix : Cert.Mix.Facts) (hMixIdeal : Cert.MixIdeal.Facts) (hMixReferenceIdeal : Cert.MixReferenceIdeal.Facts) (hSb : Cert.Sb.Facts) (hSbIdeal : Cert.SbIdeal.Facts) (hSbReferenceIdeal : Cert.SbReferenceIdeal.Facts) (hMixSample : Cert.MixSample.Facts) (hMixSampleIdeal : Cert.MixSampleIdeal.Facts) (hMixSampleReferenceIdeal : Cert.MixSampleReferenceIdeal.Facts) (hPre_layer_in_range : Cert.Pre_layer_in_range.Facts),
    quiescent_Kernel (hKernel := hKernel)
    ∧ quiescent_KernelIdeal (hKernelIdeal := hKernelIdeal)
    ∧ quiescent_ReferenceIdeal (hReferenceIdeal := hReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Kv (hKv := hKv) (hPre_layer_in_range := hPre_layer_in_range)
    ∧ quiescent_KvIdeal (hKvIdeal := hKvIdeal) (hPre_layer_in_range := hPre_layer_in_range)
    ∧ quiescent_KvReferenceIdeal (hKvReferenceIdeal := hKvReferenceIdeal) (hPre_layer_in_range := hPre_layer_in_range)
    ∧ quiescent_Mix (hMix := hMix)
    ∧ quiescent_MixIdeal (hMixIdeal := hMixIdeal)
    ∧ quiescent_MixReferenceIdeal (hMixReferenceIdeal := hMixReferenceIdeal)
    ∧ quiescent_Sb (hSb := hSb)
    ∧ quiescent_SbIdeal (hSbIdeal := hSbIdeal)
    ∧ quiescent_SbReferenceIdeal (hSbReferenceIdeal := hSbReferenceIdeal)
    ∧ quiescent_MixSample (hMixSample := hMixSample)
    ∧ quiescent_MixSampleIdeal (hMixSampleIdeal := hMixSampleIdeal)
    ∧ quiescent_MixSampleReferenceIdeal (hMixSampleReferenceIdeal := hMixSampleReferenceIdeal)
    ∧ preserves_Kernel_KernelIdeal
    ∧ algebraic_KernelIdeal_ReferenceIdeal (hKernelIdeal := hKernelIdeal) (hReferenceIdeal := hReferenceIdeal)
    ∧ preserves_Inproj_InprojIdeal
    ∧ algebraic_InprojIdeal_InprojReferenceIdeal (hInprojIdeal := hInprojIdeal) (hInprojReferenceIdeal := hInprojReferenceIdeal)
    ∧ preserves_Kv_KvIdeal
    ∧ algebraic_KvIdeal_KvReferenceIdeal (hKvIdeal := hKvIdeal) (hKvReferenceIdeal := hKvReferenceIdeal) (hPre_layer_in_range := hPre_layer_in_range)
    ∧ preserves_Mix_MixIdeal
    ∧ algebraic_MixIdeal_MixReferenceIdeal (hMixIdeal := hMixIdeal) (hMixReferenceIdeal := hMixReferenceIdeal)
    ∧ preserves_Sb_SbIdeal
    ∧ algebraic_SbIdeal_SbReferenceIdeal (hSbIdeal := hSbIdeal) (hSbReferenceIdeal := hSbReferenceIdeal)
    ∧ preserves_MixSample_MixSampleIdeal
    ∧ algebraic_MixSampleIdeal_MixSampleReferenceIdeal (hMixSampleIdeal := hMixSampleIdeal) (hMixSampleReferenceIdeal := hMixSampleReferenceIdeal)
-- ==== Pre_layer_in_range.lean ====
abbrev S4x8192x1024 : Shape := ⟨3, ![4, 8192, 1024]⟩
abbrev S1024 : Shape := ⟨1, ![1024]⟩
abbrev S1024x10248 : Shape := ⟨2, ![1024, 10248]⟩
abbrev S4x4x512x8192 : Shape := ⟨4, ![4, 4, 512, 8192]⟩
abbrev S_ : Shape := ⟨0, ![]⟩

class Facts : Prop where

variable [Facts]

def fn {F : FTy → Type} [FloatOps F] (main_arg0 : FVec F S4x8192x1024 .f32) (main_arg1 : FVec F S1024 .f32) (main_arg2 : FVec F S1024x10248 .f32) (main_arg3 : FVec F S4x4x512x8192 .f32) (main_arg4 : FVec F S4x4x512x8192 .f32) (main_arg5 : IVec S_ 32) : IVec S_ 1 :=
  let main_c : IVec S_ 32 := constantI S_ 32 0#32
  let main_v0 : IVec S_ 1 := cmpi .sge main_arg5 main_c
  let main_c_0 : IVec S_ 32 := constantI S_ 32 4#32
  let main_v1 : IVec S_ 1 := cmpi .slt main_arg5 main_c_0
  let main_v2 : IVec S_ 1 := andi main_v0 main_v1
  main_v2
-- ==== Kernel.lean ====
abbrev S4x8192x9472 : Shape := ⟨3, ![4, 8192, 9472]⟩
abbrev S4x3x512 : Shape := ⟨3, ![4, 3, 512]⟩
abbrev S4x512 : Shape := ⟨2, ![4, 512]⟩
abbrev S512 : Shape := ⟨1, ![512]⟩
abbrev S8x64x64 : Shape := ⟨3, ![8, 64, 64]⟩
abbrev S1x512 : Shape := ⟨2, ![1, 512]⟩
abbrev S8x8 : Shape := ⟨2, ![8, 8]⟩
abbrev S_ : Shape := ⟨0, ![]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S4x1x512 : Shape := ⟨3, ![4, 1, 512]⟩
abbrev S4x8192x512 : Shape := ⟨3, ![4, 8192, 512]⟩
abbrev S1x512x512 : Shape := ⟨3, ![1, 512, 512]⟩
abbrev S1x3x512 : Shape := ⟨3, ![1, 3, 512]⟩
abbrev S1x1x512 : Shape := ⟨3, ![1, 1, 512]⟩
abbrev S3x512 : Shape := ⟨2, ![3, 512]⟩
abbrev S8x512 : Shape := ⟨2, ![8, 512]⟩
abbrev S504x512 : Shape := ⟨2, ![504, 512]⟩

abbrev nBuf : Space → Nat
  | .hbm => 46
  | .vmem => 25
  | .smem => 0
  | _ => 0

abbrev bufTy : (tb : Table) → Fin (tcTables nBuf tb) → BufTy
  | .hbm, ⟨0, _⟩ => ⟨S4x8192x9472, .bf16⟩
  | .hbm, ⟨1, _⟩ => ⟨S4x3x512, .f32⟩
  | .hbm, ⟨2, _⟩ => ⟨S4x512, .f32⟩
  | .hbm, ⟨3, _⟩ => ⟨S4x512, .f32⟩
  | .hbm, ⟨4, _⟩ => ⟨S512, .f32⟩
  | .hbm, ⟨5, _⟩ => ⟨S8x64x64, .f32⟩
  | .hbm, ⟨6, _⟩ => ⟨S512, .f32⟩
  | .hbm, ⟨7, _⟩ => ⟨S8x64x64, .f32⟩
  | .hbm, ⟨8, _⟩ => ⟨S512, .f32⟩
  | .hbm, ⟨9, _⟩ => ⟨S512, .f32⟩
  | .hbm, ⟨10, _⟩ => ⟨S1x512, .f32⟩
  | .hbm, ⟨11, _⟩ => ⟨S8x8, .i32⟩
  | .hbm, ⟨12, _⟩ => ⟨S8x8, .i32⟩
  | .hbm, ⟨13, _⟩ => ⟨S_, .i32⟩
  | .hbm, ⟨14, _⟩ => ⟨S8x8, .i32⟩
  | .hbm, ⟨15, _⟩ => ⟨S8x8, .i32⟩
  | .hbm, ⟨16, _⟩ => ⟨S8x8, .i1⟩
  | .hbm, ⟨17, _⟩ => ⟨S8x8, .f32⟩
  | .hbm, ⟨18, _⟩ => ⟨S8x1x8x1, .f32⟩
  | .hbm, ⟨19, _⟩ => ⟨S8x64x1x64, .f32⟩
  | .hbm, ⟨20, _⟩ => ⟨S8x64x8x64, .f32⟩
  | .hbm, ⟨21, _⟩ => ⟨S8x64x8x64, .f32⟩
  | .hbm, ⟨22, _⟩ => ⟨S8x64x8x64, .f32⟩
  | .hbm, ⟨23, _⟩ => ⟨S512x512, .f32⟩
  | .hbm, ⟨24, _⟩ => ⟨S512x512, .bf16⟩
  | .hbm, ⟨25, _⟩ => ⟨S1x512, .f32⟩
  | .hbm, ⟨26, _⟩ => ⟨S8x8, .i32⟩
  | .hbm, ⟨27, _⟩ => ⟨S8x8, .i32⟩
  | .hbm, ⟨28, _⟩ => ⟨S_, .i32⟩
  | .hbm, ⟨29, _⟩ => ⟨S8x8, .i32⟩
  | .hbm, ⟨30, _⟩ => ⟨S8x8, .i32⟩
  | .hbm, ⟨31, _⟩ => ⟨S8x8, .i1⟩
  | .hbm, ⟨32, _⟩ => ⟨S8x8, .f32⟩
  | .hbm, ⟨33, _⟩ => ⟨S8x1x8x1, .f32⟩
  | .hbm, ⟨34, _⟩ => ⟨S8x64x1x64, .f32⟩
  | .hbm, ⟨35, _⟩ => ⟨S8x64x8x64, .f32⟩
  | .hbm, ⟨36, _⟩ => ⟨S8x64x8x64, .f32⟩
  | .hbm, ⟨37, _⟩ => ⟨S8x64x8x64, .f32⟩
  | .hbm, ⟨38, _⟩ => ⟨S512x512, .f32⟩
  | .hbm, ⟨39, _⟩ => ⟨S512x512, .bf16⟩
  | .hbm, ⟨40, _⟩ => ⟨S1x512, .f32⟩
  | .hbm, ⟨41, _⟩ => ⟨S1x512, .f32⟩
  | .hbm, ⟨42, _⟩ => ⟨S4x1x512, .f32⟩
  | .hbm, ⟨43, _⟩ => ⟨S4x8192x512, .bf16⟩
  | .hbm, ⟨44, _⟩ => ⟨S4x1x512, .f32⟩
  | .hbm, ⟨45, _⟩ => ⟨S4x3x512, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x3x512, .f32⟩
  | .local _ .vmem, ⟨5, _⟩ => ⟨S1x3x512, .f32⟩
  | .local _ .vmem, ⟨6, _⟩ => ⟨S1x1x512, .f32⟩
  | .local _ .vmem, ⟨7, _⟩ => ⟨S1x1x512, .f32⟩
  | .local _ .vmem, ⟨8, _⟩ => ⟨S4x512, .f32⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S512x512, .bf16⟩
  | .local _ .vmem, ⟨13, _⟩ => ⟨S1x512, .f32⟩
  | .local _ .vmem, ⟨14, _⟩ => ⟨S1x512, .f32⟩
  | .local _ .vmem, ⟨15, _⟩ => ⟨S1x512x512, .bf16⟩
  | .local _ .vmem, ⟨16, _⟩ => ⟨S1x512x512, .bf16⟩
  | .local _ .vmem, ⟨17, _⟩ => ⟨S1x1x512, .f32⟩
  | .local _ .vmem, ⟨18, _⟩ => ⟨S1x1x512, .f32⟩
  | .local _ .vmem, ⟨19, _⟩ => ⟨S1x3x512, .f32⟩
  | .local _ .vmem, ⟨20, _⟩ => ⟨S1x3x512, .f32⟩
  | .local _ .vmem, ⟨21, _⟩ => ⟨S3x512, .f32⟩
  | .local _ .vmem, ⟨22, _⟩ => ⟨S512x512, .f32⟩
  | .local _ .vmem, ⟨23, _⟩ => ⟨S512x512, .f32⟩
  | .local _ .vmem, ⟨24, _⟩ => ⟨S1x512, .f32⟩
  | _, _ => ⟨S4x8192x9472, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_v31_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_56 : BitVec 32 := 0#32
  let c64_i32 : BitVec 32 := 64#32
  let v128 : BitVec 32 := Scalar.addi c0_i32_56 c64_i32
  let c1_i32_57 : BitVec 32 := 1#32
  ⟨c0_i32_56, v128, c1_i32_57⟩
def k0_mult1 (k0_t1 : Fin k0_t1_loop.trips) : BitVec 32 :=
  let c0_i32_56 : BitVec 32 := 0#32
  let c1_i32_57 : BitVec 32 := 1#32
  let arg20 : BitVec 32 := Scf.iv c0_i32_56 c1_i32_57 k0_t1
  let c8_i32 : BitVec 32 := 8#32
  let v153 : BitVec 32 := Scalar.muli arg20 c8_i32
  v153
def k0_off1 (k0_t1 : Fin k0_t1_loop.trips) : Fin 2 → Nat :=
  let c0_i32_56 : BitVec 32 := 0#32
  let c1_i32_57 : BitVec 32 := 1#32
  let arg20 : BitVec 32 := Scf.iv c0_i32_56 c1_i32_57 k0_t1
  let c8_i32 : BitVec 32 := 8#32
  let v153 : BitVec 32 := Scalar.muli arg20 c8_i32
  let v154 : BitVec 32 := v153
  let v155 : Index := Scalar.indexCast v154
  let c0_75 : Index := 0#32
  ![v155.toNat, 0]
def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x3x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S4x8192x9472 : Shape := ⟨3, ![4, 8192, 9472]⟩
abbrev S4x3x512 : Shape := ⟨3, ![4, 3, 512]⟩
abbrev S4x512 : Shape := ⟨2, ![4, 512]⟩
abbrev S512 : Shape := ⟨1, ![512]⟩
abbrev S8x64x64 : Shape := ⟨3, ![8, 64, 64]⟩
abbrev S4x8192x512 : Shape := ⟨3, ![4, 8192, 512]⟩
abbrev S4x8195x512 : Shape := ⟨3, ![4, 8195, 512]⟩
abbrev S1x512 : Shape := ⟨2, ![1, 512]⟩
abbrev S1x1x512 : Shape := ⟨3, ![1, 1, 512]⟩
abbrev S_ : Shape := ⟨0, ![]⟩
abbrev S4x8192x8x64 : Shape := ⟨4, ![4, 8192, 8, 64]⟩
abbrev S8x64x4x8192 : Shape := ⟨4, ![8, 64, 4, 8192]⟩
abbrev S8192x4x512 : Shape := ⟨3, ![8192, 4, 512]⟩
abbrev S1x4x512 : Shape := ⟨3, ![1, 4, 512]⟩
abbrev S4x1x512 : Shape := ⟨3, ![4, 1, 512]⟩

abbrev nBuf : Space → Nat
  | .hbm => 149
  | .vmem => 0
  | .smem => 0
  | _ => 0

abbrev hbmTy0_0 (i : Nat) : BufTy := match i % 128 with
  | 0 => ⟨S4x8192x9472, .bf16⟩
  | 1 => ⟨S4x3x512, .f32⟩
  | 2 => ⟨S4x512, .f32⟩
  | 3 => ⟨S4x512, .f32⟩
  | 4 => ⟨S512, .f32⟩
  | 5 => ⟨S8x64x64, .f32⟩
  | 6 => ⟨S512, .f32⟩
  | 7 => ⟨S8x64x64, .f32⟩
  | 8 => ⟨S512, .f32⟩
  | 9 => ⟨S512, .f32⟩
  | 10 => ⟨S4x8192x512, .bf16⟩
  | 11 => ⟨S4x8192x512, .f32⟩
  | 12 => ⟨S4x8192x512, .bf16⟩
  | 13 => ⟨S4x8192x512, .f32⟩
  | 14 => ⟨S4x8195x512, .f32⟩
  | 15 => ⟨S4x8192x512, .f32⟩
  | 16 => ⟨S1x512, .f32⟩
  | 17 => ⟨S512, .f32⟩
  | 18 => ⟨S1x1x512, .f32⟩
  | 19 => ⟨S4x8192x512, .f32⟩
  | 20 => ⟨S4x8192x512, .f32⟩
  | 21 => ⟨S_, .f32⟩
  | 22 => ⟨S4x8192x512, .f32⟩
  | 23 => ⟨S4x8192x512, .f32⟩
  | 24 => ⟨S4x8192x512, .f32⟩
  | 25 => ⟨S1x512, .f32⟩
  | 26 => ⟨S512, .f32⟩
  | 27 => ⟨S1x1x512, .f32⟩
  | 28 => ⟨S4x8192x512, .f32⟩
  | 29 => ⟨S4x8192x512, .f32⟩
  | 30 => ⟨S4x8192x512, .f32⟩
  | 31 => ⟨S4x8192x512, .f32⟩
  | 32 => ⟨S1x512, .f32⟩
  | 33 => ⟨S512, .f32⟩
  | 34 => ⟨S1x1x512, .f32⟩
  | 35 => ⟨S4x8192x512, .f32⟩
  | 36 => ⟨S4x8192x512, .f32⟩
  | 37 => ⟨S4x8192x512, .f32⟩
  | 38 => ⟨S4x8192x512, .f32⟩
  | 39 => ⟨S1x512, .f32⟩
  | 40 => ⟨S512, .f32⟩
  | 41 => ⟨S1x1x512, .f32⟩
  | 42 => ⟨S4x8192x512, .f32⟩
  | 43 => ⟨S4x8192x512, .f32⟩
  | 44 => ⟨S4x8192x512, .f32⟩
  | 45 => ⟨S1x1x512, .f32⟩
  | 46 => ⟨S4x8192x512, .f32⟩
  | 47 => ⟨S4x8192x512, .f32⟩
  | 48 => ⟨S4x8192x8x64, .f32⟩
  | 49 => ⟨S8x64x4x8192, .f32⟩
  | 50 => ⟨S4x8192x8x64, .f32⟩
  | 51 => ⟨S4x8192x512, .f32⟩
  | 52 => ⟨S1x1x512, .f32⟩
  | 53 => ⟨S4x8192x512, .f32⟩
  | 54 => ⟨S4x8192x512, .f32⟩
  | 55 => ⟨S8x64x4x8192, .f32⟩
  | 56 => ⟨S4x8192x8x64, .f32⟩
  | 57 => ⟨S4x8192x512, .f32⟩
  | 58 => ⟨S1x1x512, .f32⟩
  | 59 => ⟨S4x8192x512, .f32⟩
  | 60 => ⟨S4x8192x512, .f32⟩
  | 61 => ⟨S4x8192x512, .f32⟩
  | 62 => ⟨S4x8192x512, .f32⟩
  | 63 => ⟨S_, .f32⟩
  | 64 => ⟨S4x8192x512, .f32⟩
  | 65 => ⟨S4x8192x512, .f32⟩
  | 66 => ⟨S_, .f32⟩
  | 67 => ⟨S4x8192x512, .f32⟩
  | 68 => ⟨S4x8192x512, .f32⟩
  | 69 => ⟨S4x8192x512, .f32⟩
  | 70 => ⟨S4x8192x512, .f32⟩
  | 71 => ⟨S_, .f32⟩
  | 72 => ⟨S4x8192x512, .f32⟩
  | 73 => ⟨S4x8192x512, .f32⟩
  | 74 => ⟨S_, .f32⟩
  | 75 => ⟨S4x8192x512, .f32⟩
  | 76 => ⟨S4x8192x512, .f32⟩
  | 77 => ⟨S_, .f32⟩
  | 78 => ⟨S4x8192x512, .f32⟩
  | 79 => ⟨S4x8192x512, .f32⟩
  | 80 => ⟨S512, .f32⟩
  | 81 => ⟨S_, .f32⟩
  | 82 => ⟨S512, .f32⟩
  | 83 => ⟨S512, .f32⟩
  | 84 => ⟨S512, .f32⟩
  | 85 => ⟨S512, .f32⟩
  | 86 => ⟨S512, .i1⟩
  | 87 => ⟨S512, .f32⟩
  | 88 => ⟨S512, .f32⟩
  | 89 => ⟨S512, .f32⟩
  | 90 => ⟨S512, .f32⟩
  | 91 => ⟨S512, .f32⟩
  | 92 => ⟨S512, .f32⟩
  | 93 => ⟨S512, .f32⟩
  | 94 => ⟨S512, .f32⟩
  | 95 => ⟨S1x1x512, .f32⟩
  | 96 => ⟨S4x8192x512, .f32⟩
  | 97 => ⟨S4x8192x512, .f32⟩
  | 98 => ⟨S4x8192x512, .f32⟩
  | 99 => ⟨S_, .f32⟩
  | 100 => ⟨S4x8192x512, .f32⟩
  | 101 => ⟨S4x8192x512, .f32⟩
  | 102 => ⟨S4x8192x512, .f32⟩
  | 103 => ⟨S4x8192x512, .f32⟩
  | 104 => ⟨S4x8192x512, .f32⟩
  | 105 => ⟨S4x8192x512, .f32⟩
  | 106 => ⟨S4x8192x512, .f32⟩
  | 107 => ⟨S8192x4x512, .f32⟩
  | 108 => ⟨S8192x4x512, .f32⟩
  | 109 => ⟨S_, .f32⟩
  | 110 => ⟨S8192x4x512, .f32⟩
  | 111 => ⟨S_, .i32⟩
  | 112 => ⟨S8192x4x512, .f32⟩
  | 113 => ⟨S8192x4x512, .f32⟩
  | 114 => ⟨S_, .i32⟩
  | 115 => ⟨S4x512, .f32⟩
  | 116 => ⟨S8192x4x512, .f32⟩
  | 117 => ⟨S_, .i32⟩
  | 118 => ⟨S_, .i1⟩
  | 119 => ⟨S_, .i32⟩
  | 120 => ⟨S_, .i32⟩
  | 121 => ⟨S1x4x512, .f32⟩
  | 122 => ⟨S4x512, .f32⟩
  | 123 => ⟨S_, .i32⟩
  | 124 => ⟨S_, .i32⟩
  | 125 => ⟨S1x4x512, .f32⟩
  | 126 => ⟨S4x512, .f32⟩
  | 127 => ⟨S4x512, .f32⟩
  | _ => ⟨S4x8192x9472, .bf16⟩

abbrev hbmTy0_1 (i : Nat) : BufTy := match i % 128 with
  | 0 => ⟨S4x512, .f32⟩
  | 1 => ⟨S1x4x512, .f32⟩
  | 2 => ⟨S_, .i32⟩
  | 3 => ⟨S_, .i32⟩
  | 4 => ⟨S8192x4x512, .f32⟩
  | 5 => ⟨S_, .i32⟩
  | 6 => ⟨S_, .i32⟩
  | 7 => ⟨S4x8192x512, .f32⟩
  | 8 => ⟨S4x8192x512, .f32⟩
  | 9 => ⟨S4x8192x512, .f32⟩
  | 10 => ⟨S_, .f32⟩
  | 11 => ⟨S4x8192x512, .f32⟩
  | 12 => ⟨S4x8192x512, .f32⟩
  | 13 => ⟨S_, .f32⟩
  | 14 => ⟨S4x8192x512, .f32⟩
  | 15 => ⟨S4x8192x512, .f32⟩
  | 16 => ⟨S4x8192x512, .f32⟩
  | 17 => ⟨S4x8192x512, .f32⟩
  | 18 => ⟨S4x8192x512, .bf16⟩
  | 19 => ⟨S4x1x512, .f32⟩
  | 20 => ⟨S4x3x512, .f32⟩
  | _ => ⟨S4x8192x9472, .bf16⟩

abbrev hbmTy (i : Nat) : BufTy := match i / 128 with
  | 0 => hbmTy0_0 i
  | 1 => hbmTy0_1 i
  | _ => ⟨S4x8192x9472, .bf16⟩

abbrev bufTy : (tb : Table) → Fin (tcTables nBuf tb) → BufTy
  | .hbm, ⟨i, _⟩ => hbmTy i
  | _, _ => ⟨S4x8192x9472, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_0 : Ref sig .tc := ⟨.hbm, 63, rfl⟩
abbrev main_v52 : Ref sig .tc := ⟨.hbm, 64, rfl⟩
abbrev main_v53 : Ref sig .tc := ⟨.hbm, 65, rfl⟩
abbrev main_cst_1 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_2 : Ref sig .tc := ⟨.hbm, 71, rfl⟩
abbrev main_v58 : Ref sig .tc := ⟨.hbm, 72, rfl⟩
abbrev main_v59 : Ref sig .tc := ⟨.hbm, 73, rfl⟩
abbrev main_cst_3 : Ref sig .tc := ⟨.hbm, 74, rfl⟩
abbrev main_v60 : Ref sig .tc := ⟨.hbm, 75, rfl⟩
abbrev main_v61 : Ref sig .tc := ⟨.hbm, 76, rfl⟩
abbrev main_cst_4 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_call0_cst : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_v5 : Ref sig .tc := ⟨.hbm, 87, rfl⟩
abbrev main_call0_v6 : Ref sig .tc := ⟨.hbm, 88, rfl⟩
abbrev main_call0_v7 : Ref sig .tc := ⟨.hbm, 89, rfl⟩
abbrev main_call0_v8 : Ref sig .tc := ⟨.hbm, 90, rfl⟩
abbrev main_call0_v9 : Ref sig .tc := ⟨.hbm, 91, rfl⟩
abbrev main_call0_v10 : Ref sig .tc := ⟨.hbm, 92, rfl⟩
abbrev main_call0_v11 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_5 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_6 : Ref sig .tc := ⟨.hbm, 109, rfl⟩
abbrev main_v79 : Ref sig .tc := ⟨.hbm, 110, rfl⟩
abbrev main_c : Ref sig .tc := ⟨.hbm, 111, rfl⟩
abbrev main_v80_0 : Ref sig .tc := ⟨.hbm, 112, rfl⟩
abbrev main_v80_1 : Ref sig .tc := ⟨.hbm, 113, rfl⟩
abbrev main_v80_2 : Ref sig .tc := ⟨.hbm, 114, rfl⟩
abbrev main_v80_3 : Ref sig .tc := ⟨.hbm, 115, rfl⟩
abbrev main_v80_4 : Ref sig .tc := ⟨.hbm, 116, rfl⟩
abbrev main_while0c_c_11 : Ref sig .tc := ⟨.hbm, 117, rfl⟩
abbrev main_while0c_v87 : Ref sig .tc := ⟨.hbm, 118, rfl⟩
abbrev main_while0b_call1_c : Ref sig .tc := ⟨.hbm, 119, rfl⟩
abbrev main_while0b_call1_c_0 : Ref sig .tc := ⟨.hbm, 120, rfl⟩
abbrev main_while0b_call1_v0 : Ref sig .tc := ⟨.hbm, 121, rfl⟩
abbrev main_while0b_v87 : Ref sig .tc := ⟨.hbm, 122, rfl⟩
abbrev main_while0b_call2_c : Ref sig .tc := ⟨.hbm, 123, rfl⟩
abbrev main_while0b_call2_c_0 : Ref sig .tc := ⟨.hbm, 124, rfl⟩
abbrev main_while0b_call2_v0 : Ref sig .tc := ⟨.hbm, 125, rfl⟩
abbrev main_while0b_v88 : Ref sig .tc := ⟨.hbm, 126, rfl⟩
abbrev main_while0b_v89 : Ref sig .tc := ⟨.hbm, 127, rfl⟩
abbrev main_while0b_v90 : Ref sig .tc := ⟨.hbm, 128, rfl⟩
abbrev main_while0b_call3_v0 : Ref sig .tc := ⟨.hbm, 129, rfl⟩
abbrev main_while0b_call3_c : Ref sig .tc := ⟨.hbm, 130, rfl⟩
abbrev main_while0b_call3_c_0 : Ref sig .tc := ⟨.hbm, 131, rfl⟩
abbrev main_while0b_v91 : Ref sig .tc := ⟨.hbm, 132, rfl⟩
abbrev main_while0b_c_11 : Ref sig .tc := ⟨.hbm, 133, rfl⟩
abbrev main_while0b_v92 : Ref sig .tc := ⟨.hbm, 134, rfl⟩
abbrev main_v81 : Ref sig .tc := ⟨.hbm, 135, rfl⟩
abbrev main_call4_v0 : Ref sig .tc := ⟨.hbm, 136, rfl⟩
abbrev main_call4_v1 : Ref sig .tc := ⟨.hbm, 137, rfl⟩
abbrev main_call4_cst : Ref sig .tc := ⟨.hbm, 138, rfl⟩
abbrev main_call4_v2 : Ref sig .tc := ⟨.hbm, 139, rfl⟩
abbrev main_call4_v3 : Ref sig .tc := ⟨.hbm, 140, rfl⟩
abbrev main_call4_cst_0 : Ref sig .tc := ⟨.hbm, 141, rfl⟩
abbrev main_call4_v4 : Ref sig .tc := ⟨.hbm, 142, rfl⟩
abbrev main_call4_v5 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩

abbrev nD : Nat := 1
abbrev τ : Topo := Topo.v7x

variable {F : FTy → Type} [FloatOps F]

abbrev main_while0_count : Scf.Loop 32 := ⟨0#32, 8192#32, 1#32⟩
-- ==== Inproj.lean ====
abbrev S32768x1024 : Shape := ⟨2, ![32768, 1024]⟩
abbrev S1024 : Shape := ⟨1, ![1024]⟩
abbrev S1024x10248 : Shape := ⟨2, ![1024, 10248]⟩
abbrev S1024x512 : Shape := ⟨2, ![1024, 512]⟩
abbrev S1024x1024 : Shape := ⟨2, ![1024, 1024]⟩
abbrev S1024x8 : Shape := ⟨2, ![1024, 8]⟩
abbrev S1024x1536 : Shape := ⟨2, ![1024, 1536]⟩
abbrev S1024x4096 : Shape := ⟨2, ![1024, 4096]⟩
abbrev S_ : Shape := ⟨0, ![]⟩
abbrev S1024x120 : Shape := ⟨2, ![1024, 120]⟩
abbrev S1024x128 : Shape := ⟨2, ![1024, 128]⟩
abbrev S1024x9472 : Shape := ⟨2, ![1024, 9472]⟩
abbrev S1x1024 : Shape := ⟨2, ![1, 1024]⟩
abbrev S32768x9472 : Shape := ⟨2, ![32768, 9472]⟩
abbrev S1024x4736 : Shape := ⟨2, ![1024, 4736]⟩
abbrev S1024x1 : Shape := ⟨2, ![1024, 1]⟩

abbrev nBuf : Space → Nat
  | .hbm => 22
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x10248, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x1024, .f32⟩
  | .hbm, ⟨7, _⟩ => ⟨S1024x8, .f32⟩
  | .hbm, ⟨8, _⟩ => ⟨S1024x1024, .f32⟩
  | .hbm, ⟨9, _⟩ => ⟨S1024x512, .f32⟩
  | .hbm, ⟨10, _⟩ => ⟨S1024x1536, .f32⟩
  | .hbm, ⟨11, _⟩ => ⟨S1024x512, .f32⟩
  | .hbm, ⟨12, _⟩ => ⟨S1024x4096, .f32⟩
  | .hbm, ⟨13, _⟩ => ⟨S1024x512, .f32⟩
  | .hbm, ⟨14, _⟩ => ⟨S_, .f32⟩
  | .hbm, ⟨15, _⟩ => ⟨S1024x120, .f32⟩
  | .hbm, ⟨16, _⟩ => ⟨S_, .f32⟩
  | .hbm, ⟨17, _⟩ => ⟨S1024x128, .f32⟩
  | .hbm, ⟨18, _⟩ => ⟨S1024x9472, .f32⟩
  | .hbm, ⟨19, _⟩ => ⟨S1x1024, .f32⟩
  | .hbm, ⟨20, _⟩ => ⟨S1024x9472, .bf16⟩
  | .hbm, ⟨21, _⟩ => ⟨S32768x9472, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4736, .bf16⟩
  | .local _ .vmem, ⟨4, _⟩ => ⟨S1024x4736, .bf16⟩
  | .local _ .vmem, ⟨5, _⟩ => ⟨S1024x4736, .bf16⟩
  | .local _ .vmem, ⟨6, _⟩ => ⟨S1024x4736, .bf16⟩
  | .local _ .vmem, ⟨7, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x4736 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x4736 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InprojReferenceIdeal.lean ====
abbrev S32768x1024 : Shape := ⟨2, ![32768, 1024]⟩
abbrev S1024 : Shape := ⟨1, ![1024]⟩
abbrev S1024x10248 : Shape := ⟨2, ![1024, 10248]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x10248 : Shape := ⟨2, ![32768, 10248]⟩
abbrev S32768x512 : Shape := ⟨2, ![32768, 512]⟩
abbrev S32768x8 : Shape := ⟨2, ![32768, 8]⟩
abbrev S32768x1536 : Shape := ⟨2, ![32768, 1536]⟩
abbrev S32768x4096 : Shape := ⟨2, ![32768, 4096]⟩
abbrev S32768x248 : Shape := ⟨2, ![32768, 248]⟩
abbrev S32768x9472 : Shape := ⟨2, ![32768, 9472]⟩

abbrev nBuf : Space → Nat
  | .hbm => 37
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x10248, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x10248, .f32⟩
  | .hbm, ⟨20, _⟩ => ⟨S32768x512, .f32⟩
  | .hbm, ⟨21, _⟩ => ⟨S32768x512, .f32⟩
  | .hbm, ⟨22, _⟩ => ⟨S32768x512, .f32⟩
  | .hbm, ⟨23, _⟩ => ⟨S32768x1024, .f32⟩
  | .hbm, ⟨24, _⟩ => ⟨S32768x8, .f32⟩
  | .hbm, ⟨25, _⟩ => ⟨S32768x1024, .f32⟩
  | .hbm, ⟨26, _⟩ => ⟨S32768x512, .f32⟩
  | .hbm, ⟨27, _⟩ => ⟨S32768x1536, .f32⟩
  | .hbm, ⟨28, _⟩ => ⟨S32768x512, .f32⟩
  | .hbm, ⟨29, _⟩ => ⟨S32768x4096, .f32⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S_, .f32⟩
  | .hbm, ⟨34, _⟩ => ⟨S32768x248, .f32⟩
  | .hbm, ⟨35, _⟩ => ⟨S32768x9472, .f32⟩
  | .hbm, ⟨36, _⟩ => ⟨S32768x9472, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kv.lean ====
abbrev S4x8192x1024 : Shape := ⟨3, ![4, 8192, 1024]⟩
abbrev S1024 : Shape := ⟨1, ![1024]⟩
abbrev S1024x10248 : Shape := ⟨2, ![1024, 10248]⟩
abbrev S4x4x512x8192 : Shape := ⟨4, ![4, 4, 512, 8192]⟩
abbrev S_ : Shape := ⟨0, ![]⟩
abbrev S1024x1536 : Shape := ⟨2, ![1024, 1536]⟩
abbrev S1024x512 : Shape := ⟨2, ![1024, 512]⟩
abbrev S1x1024 : Shape := ⟨2, ![1, 1024]⟩
abbrev S512x1024 : Shape := ⟨2, ![512, 1024]⟩
abbrev S1 : Shape := ⟨1, ![1]⟩
abbrev S4x512x8192 : Shape := ⟨3, ![4, 512, 8192]⟩
abbrev S1x1024x1024 : Shape := ⟨3, ![1, 1024, 1024]⟩
abbrev S1x1x512x1024 : Shape := ⟨4, ![1, 1, 512, 1024]⟩
abbrev S1x512x1024 : Shape := ⟨3, ![1, 512, 1024]⟩
abbrev S1024x1024 : Shape := ⟨2, ![1024, 1024]⟩
abbrev S1024x1 : Shape := ⟨2, ![1024, 1]⟩

abbrev nBuf : Space → Nat
  | .hbm => 18
  | .vmem => 13
  | .smem => 1
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x10248, .f32⟩
  | .hbm, ⟨3, _⟩ => ⟨S4x4x512x8192, .f32⟩
  | .hbm, ⟨4, _⟩ => ⟨S4x4x512x8192, .f32⟩
  | .hbm, ⟨5, _⟩ => ⟨S_, .i32⟩
  | .hbm, ⟨6, _⟩ => ⟨S1024x1536, .f32⟩
  | .hbm, ⟨7, _⟩ => ⟨S1024x512, .f32⟩
  | .hbm, ⟨8, _⟩ => ⟨S1024x512, .f32⟩
  | .hbm, ⟨9, _⟩ => ⟨S1x1024, .f32⟩
  | .hbm, ⟨10, _⟩ => ⟨S512x1024, .f32⟩
  | .hbm, ⟨11, _⟩ => ⟨S512x1024, .bf16⟩
  | .hbm, ⟨12, _⟩ => ⟨S512x1024, .f32⟩
  | .hbm, ⟨13, _⟩ => ⟨S512x1024, .bf16⟩
  | .hbm, ⟨14, _⟩ => ⟨S4x4x512x8192, .f32⟩
  | .hbm, ⟨15, _⟩ => ⟨S4x4x512x8192, .f32⟩
  | .hbm, ⟨16, _⟩ => ⟨S4x512x8192, .bf16⟩
  | .hbm, ⟨17, _⟩ => ⟨S4x512x8192, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1x1x512x1024, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x1x512x1024, .f32⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .smem, ⟨0, _⟩ => ⟨S1, .i32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev main_v8 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 8], ![false, false]⟩

abbrev pre0 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat, arg1.toNat]

def cc0_transform_7 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KvReferenceIdeal.lean ====
abbrev S4x8192x1024 : Shape := ⟨3, ![4, 8192, 1024]⟩
abbrev S1024 : Shape := ⟨1, ![1024]⟩
abbrev S1024x10248 : Shape := ⟨2, ![1024, 10248]⟩
abbrev S4x4x512x8192 : Shape := ⟨4, ![4, 4, 512, 8192]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x10248 : Shape := ⟨3, ![4, 8192, 10248]⟩
abbrev S4x8192x512 : Shape := ⟨3, ![4, 8192, 512]⟩
abbrev S4x8192x8 : Shape := ⟨3, ![4, 8192, 8]⟩
abbrev S4x8192x1536 : Shape := ⟨3, ![4, 8192, 1536]⟩
abbrev S4x8192x4096 : Shape := ⟨3, ![4, 8192, 4096]⟩
abbrev S4x512x8192 : Shape := ⟨3, ![4, 512, 8192]⟩
abbrev S1x4x512x8192 : Shape := ⟨4, ![1, 4, 512, 8192]⟩

abbrev nBuf : Space → Nat
  | .hbm => 60
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x10248, .f32⟩
  | .hbm, ⟨3, _⟩ => ⟨S4x4x512x8192, .f32⟩
  | .hbm, ⟨4, _⟩ => ⟨S4x4x512x8192, .f32⟩
  | .hbm, ⟨5, _⟩ => ⟨S_, .i32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S4x8192x10248, .f32⟩
  | .hbm, ⟨23, _⟩ => ⟨S4x8192x512, .f32⟩
  | .hbm, ⟨24, _⟩ => ⟨S4x8192x512, .f32⟩
  | .hbm, ⟨25, _⟩ => ⟨S4x8192x512, .f32⟩
  | .hbm, ⟨26, _⟩ => ⟨S4x8192x1024, .f32⟩
  | .hbm, ⟨27, _⟩ => ⟨S4x8192x8, .f32⟩
  | .hbm, ⟨28, _⟩ => ⟨S4x8192x1024, .f32⟩
  | .hbm, ⟨29, _⟩ => ⟨S4x8192x512, .f32⟩
  | .hbm, ⟨30, _⟩ => ⟨S4x8192x1536, .f32⟩
  | .hbm, ⟨31, _⟩ => ⟨S4x8192x512, .f32⟩
  | .hbm, ⟨32, _⟩ => ⟨S4x8192x4096, .f32⟩
  | .hbm, ⟨33, _⟩ => ⟨S4x8192x512, .f32⟩
  | .hbm, ⟨34, _⟩ => ⟨S4x8192x512, .f32⟩
  | .hbm, ⟨35, _⟩ => ⟨S4x8192x512, .f32⟩
  | .hbm, ⟨36, _⟩ => ⟨S4x512x8192, .f32⟩
  | .hbm, ⟨37, _⟩ => ⟨S4x512x8192, .f32⟩
  | .hbm, ⟨38, _⟩ => ⟨S1x4x512x8192, .f32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S4x4x512x8192, .f32⟩
  | .hbm, ⟨48, _⟩ => ⟨S1x4x512x8192, .f32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S4x4x512x8192, .f32⟩
  | .hbm, ⟨58, _⟩ => ⟨S4x512x8192, .bf16⟩
  | .hbm, ⟨59, _⟩ => ⟨S4x512x8192, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_v30 : Ref sig .tc := ⟨.hbm, 40, rfl⟩
abbrev main_c_2 : Ref sig .tc := ⟨.hbm, 41, rfl⟩
abbrev main_v31 : Ref sig .tc := ⟨.hbm, 42, rfl⟩
abbrev main_v32 : Ref sig .tc := ⟨.hbm, 43, rfl⟩
abbrev main_c_3 : Ref sig .tc := ⟨.hbm, 44, rfl⟩
abbrev main_c_4 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_c_9 : Ref sig .tc := ⟨.hbm, 55, rfl⟩
abbrev main_c_10 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== Mix.lean ====
abbrev S32768x512 : Shape := ⟨2, ![32768, 512]⟩
abbrev S32768x9472 : Shape := ⟨2, ![32768, 9472]⟩
abbrev S32768x1024 : Shape := ⟨2, ![32768, 1024]⟩
abbrev S4x512x1024 : Shape := ⟨3, ![4, 512, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 13
  | .vmem => 23
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x9472, .bf16⟩
  | .hbm, ⟨5, _⟩ => ⟨S32768x1024, .f32⟩
  | .hbm, ⟨6, _⟩ => ⟨S4x512x1024, .f32⟩
  | .hbm, ⟨7, _⟩ => ⟨S1024x1024, .f32⟩
  | .hbm, ⟨8, _⟩ => ⟨S1024, .f32⟩
  | .hbm, ⟨9, _⟩ => ⟨S4x512x1024, .bf16⟩
  | .hbm, ⟨10, _⟩ => ⟨S1024x1024, .bf16⟩
  | .hbm, ⟨11, _⟩ => ⟨S1x1024, .f32⟩
  | .hbm, ⟨12, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S4x512x1024, .bf16⟩
  | .local _ .vmem, ⟨19, _⟩ => ⟨S1024x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixIdeal.lean ====
abbrev S32768x512 : Shape := ⟨2, ![32768, 512]⟩
abbrev S32768x9472 : Shape := ⟨2, ![32768, 9472]⟩
abbrev S32768x1024 : Shape := ⟨2, ![32768, 1024]⟩
abbrev S4x512x1024 : Shape := ⟨3, ![4, 512, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 13
  | .vmem => 23
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x9472, .bf16⟩
  | .hbm, ⟨5, _⟩ => ⟨S32768x1024, .f32⟩
  | .hbm, ⟨6, _⟩ => ⟨S4x512x1024, .f32⟩
  | .hbm, ⟨7, _⟩ => ⟨S1024x1024, .f32⟩
  | .hbm, ⟨8, _⟩ => ⟨S1024, .f32⟩
  | .hbm, ⟨9, _⟩ => ⟨S4x512x1024, .bf16⟩
  | .hbm, ⟨10, _⟩ => ⟨S1024x1024, .bf16⟩
  | .hbm, ⟨11, _⟩ => ⟨S1x1024, .f32⟩
  | .hbm, ⟨12, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S4x512x1024, .bf16⟩
  | .local _ .vmem, ⟨19, _⟩ => ⟨S1024x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixReferenceIdeal.lean ====
abbrev S32768x512 : Shape := ⟨2, ![32768, 512]⟩
abbrev S32768x9472 : Shape := ⟨2, ![32768, 9472]⟩
abbrev S32768x1024 : Shape := ⟨2, ![32768, 1024]⟩
abbrev S4x512x1024 : Shape := ⟨3, ![4, 512, 1024]⟩
abbrev S1024x1024 : Shape := ⟨2, ![1024, 1024]⟩
abbrev S1024 : Shape := ⟨1, ![1024]⟩
abbrev S32768x4096 : Shape := ⟨2, ![32768, 4096]⟩
abbrev S32768x1x512 : Shape := ⟨3, ![32768, 1, 512]⟩
abbrev S32768x4x512 : Shape := ⟨3, ![32768, 4, 512]⟩
abbrev S4x1024x32768 : Shape := ⟨3, ![4, 1024, 32768]⟩
abbrev S32768x4x1024 : Shape := ⟨3, ![32768, 4, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x9472, .bf16⟩
  | .hbm, ⟨5, _⟩ => ⟨S32768x1024, .f32⟩
  | .hbm, ⟨6, _⟩ => ⟨S4x512x1024, .f32⟩
  | .hbm, ⟨7, _⟩ => ⟨S1024x1024, .f32⟩
  | .hbm, ⟨8, _⟩ => ⟨S1024, .f32⟩
  | .hbm, ⟨9, _⟩ => ⟨S32768x4096, .bf16⟩
  | .hbm, ⟨10, _⟩ => ⟨S32768x4096, .f32⟩
  | .hbm, ⟨11, _⟩ => ⟨S32768x1x512, .bf16⟩
  | .hbm, ⟨12, _⟩ => ⟨S32768x1x512, .bf16⟩
  | .hbm, ⟨13, _⟩ => ⟨S32768x1x512, .bf16⟩
  | .hbm, ⟨14, _⟩ => ⟨S32768x1x512, .bf16⟩
  | .hbm, ⟨15, _⟩ => ⟨S32768x4x512, .bf16⟩
  | .hbm, ⟨16, _⟩ => ⟨S32768x4x512, .f32⟩
  | .hbm, ⟨17, _⟩ => ⟨S4x1024x32768, .f32⟩
  | .hbm, ⟨18, _⟩ => ⟨S32768x4x1024, .f32⟩
  | .hbm, ⟨19, _⟩ => ⟨S32768x4x1024, .f32⟩
  | .hbm, ⟨20, _⟩ => ⟨S32768x4x1024, .f32⟩
  | .hbm, ⟨21, _⟩ => ⟨S32768x4x1024, .f32⟩
  | .hbm, ⟨22, _⟩ => ⟨S_, .f32⟩
  | .hbm, ⟨23, _⟩ => ⟨S32768x4x1024, .f32⟩
  | .hbm, ⟨24, _⟩ => ⟨S32768x4x1024, .f32⟩
  | .hbm, ⟨25, _⟩ => ⟨S_, .f32⟩
  | .hbm, ⟨26, _⟩ => ⟨S32768x4x1024, .f32⟩
  | .hbm, ⟨27, _⟩ => ⟨S32768x4x1024, .f32⟩
  | .hbm, ⟨28, _⟩ => ⟨S32768x4x1024, .f32⟩
  | .hbm, ⟨29, _⟩ => ⟨S_, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x1, .f32⟩
  | .hbm, ⟨43, _⟩ => ⟨S32768x1024, .f32⟩
  | .hbm, ⟨44, _⟩ => ⟨S32768x1024, .f32⟩
  | .hbm, ⟨45, _⟩ => ⟨S1x1024, .f32⟩
  | .hbm, ⟨46, _⟩ => ⟨S32768x1024, .f32⟩
  | .hbm, ⟨47, _⟩ => ⟨S32768x1024, .f32⟩
  | .hbm, ⟨48, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Sb.lean ====
abbrev S8x64x9472 : Shape := ⟨3, ![8, 64, 9472]⟩
abbrev S8x1024x8x64 : Shape := ⟨4, ![8, 1024, 8, 64]⟩
abbrev S8x512x64 : Shape := ⟨3, ![8, 512, 64]⟩
abbrev S8x8x64x1024 : Shape := ⟨4, ![8, 8, 64, 1024]⟩
abbrev S8x512x1024 : Shape := ⟨3, ![8, 512, 1024]⟩
abbrev S8x512x1088 : Shape := ⟨3, ![8, 512, 1088]⟩
abbrev S_ : Shape := ⟨0, ![]⟩
abbrev S8x512x1152 : Shape := ⟨3, ![8, 512, 1152]⟩
abbrev S128x128 : Shape := ⟨2, ![128, 128]⟩
abbrev S128x256 : Shape := ⟨2, ![128, 256]⟩
abbrev S256x256 : Shape := ⟨2, ![256, 256]⟩
abbrev S8x64x512 : Shape := ⟨3, ![8, 64, 512]⟩
abbrev S1x64x512 : Shape := ⟨3, ![1, 64, 512]⟩
abbrev S1x512x1152 : Shape := ⟨3, ![1, 512, 1152]⟩
abbrev S1x4x2x64x128 : Shape := ⟨5, ![1, 4, 2, 64, 128]⟩
abbrev S1x4x64x128 : Shape := ⟨4, ![1, 4, 64, 128]⟩
abbrev S64x128 : Shape := ⟨2, ![64, 128]⟩
abbrev S1x128 : Shape := ⟨2, ![1, 128]⟩
abbrev S1x64x128 : Shape := ⟨3, ![1, 64, 128]⟩
abbrev S1x128x128 : Shape := ⟨3, ![1, 128, 128]⟩
abbrev S512x256 : Shape := ⟨2, ![512, 256]⟩
abbrev S1x1x1x64x128 : Shape := ⟨5, ![1, 1, 1, 64, 128]⟩
abbrev S32x128 : Shape := ⟨2, ![32, 128]⟩
abbrev S64x256 : Shape := ⟨2, ![64, 256]⟩
abbrev S1x1x64x128 : Shape := ⟨4, ![1, 1, 64, 128]⟩
abbrev S1x32x128 : Shape := ⟨3, ![1, 32, 128]⟩
abbrev S1 : Shape := ⟨1, ![1]⟩
abbrev S1x1x1 : Shape := ⟨3, ![1, 1, 1]⟩
abbrev S1x1x1x32x128 : Shape := ⟨5, ![1, 1, 1, 32, 128]⟩
abbrev S32x256 : Shape := ⟨2, ![32, 256]⟩
abbrev S1x1x32x128 : Shape := ⟨4, ![1, 1, 32, 128]⟩
abbrev S64x512 : Shape := ⟨2, ![64, 512]⟩

abbrev nBuf : Space → Nat
  | .hbm => 35
  | .vmem => 13
  | .smem => 0
  | _ => 0

abbrev bufTy : (tb : Table) → Fin (tcTables nBuf tb) → BufTy
  | .hbm, ⟨0, _⟩ => ⟨S8x64x9472, .bf16⟩
  | .hbm, ⟨1, _⟩ => ⟨S8x1024x8x64, .f32⟩
  | .hbm, ⟨2, _⟩ => ⟨S8x1024x8x64, .f32⟩
  | .hbm, ⟨3, _⟩ => ⟨S8x512x64, .bf16⟩
  | .hbm, ⟨4, _⟩ => ⟨S8x512x64, .bf16⟩
  | .hbm, ⟨5, _⟩ => ⟨S8x8x64x1024, .f32⟩
  | .hbm, ⟨6, _⟩ => ⟨S8x512x1024, .f32⟩
  | .hbm, ⟨7, _⟩ => ⟨S8x512x1024, .bf16⟩
  | .hbm, ⟨8, _⟩ => ⟨S8x512x1088, .bf16⟩
  | .hbm, ⟨9, _⟩ => ⟨S_, .i32⟩
  | .hbm, ⟨10, _⟩ => ⟨S_, .bf16⟩
  | .hbm, ⟨11, _⟩ => ⟨S8x512x1152, .bf16⟩
  | .hbm, ⟨12, _⟩ => ⟨S8x8x64x1024, .f32⟩
  | .hbm, ⟨13, _⟩ => ⟨S8x512x1024, .f32⟩
  | .hbm, ⟨14, _⟩ => ⟨S8x512x1024, .bf16⟩
  | .hbm, ⟨15, _⟩ => ⟨S8x512x1088, .bf16⟩
  | .hbm, ⟨16, _⟩ => ⟨S_, .i32⟩
  | .hbm, ⟨17, _⟩ => ⟨S_, .bf16⟩
  | .hbm, ⟨18, _⟩ => ⟨S8x512x1152, .bf16⟩
  | .hbm, ⟨19, _⟩ => ⟨S_, .bf16⟩
  | .hbm, ⟨20, _⟩ => ⟨S128x128, .bf16⟩
  | .hbm, ⟨21, _⟩ => ⟨S128x128, .i32⟩
  | .hbm, ⟨22, _⟩ => ⟨S_, .i32⟩
  | .hbm, ⟨23, _⟩ => ⟨S128x128, .i32⟩
  | .hbm, ⟨24, _⟩ => ⟨S128x128, .i32⟩
  | .hbm, ⟨25, _⟩ => ⟨S128x128, .i32⟩
  | .hbm, ⟨26, _⟩ => ⟨S128x128, .i1⟩
  | .hbm, ⟨27, _⟩ => ⟨S_, .bf16⟩
  | .hbm, ⟨28, _⟩ => ⟨S128x128, .bf16⟩
  | .hbm, ⟨29, _⟩ => ⟨S128x128, .bf16⟩
  | .hbm, ⟨30, _⟩ => ⟨S_, .bf16⟩
  | .hbm, ⟨31, _⟩ => ⟨S128x128, .bf16⟩
  | .hbm, ⟨32, _⟩ => ⟨S128x256, .bf16⟩
  | .hbm, ⟨33, _⟩ => ⟨S256x256, .bf16⟩
  | .hbm, ⟨34, _⟩ => ⟨S8x64x512, .bf16⟩
  | .local _ .vmem, ⟨0, _⟩ => ⟨S1x64x512, .bf16⟩
  | .local _ .vmem, ⟨1, _⟩ => ⟨S1x64x512, .bf16⟩
  | .local _ .vmem, ⟨2, _⟩ => ⟨S1x512x1152, .bf16⟩
  | .local _ .vmem, ⟨3, _⟩ => ⟨S1x512x1152, .bf16⟩
  | .local _ .vmem, ⟨4, _⟩ => ⟨S1x512x1152, .bf16⟩
  | .local _ .vmem, ⟨5, _⟩ => ⟨S1x512x1152, .bf16⟩
  | .local _ .vmem, ⟨6, _⟩ => ⟨S1x64x512, .bf16⟩
  | .local _ .vmem, ⟨7, _⟩ => ⟨S1x64x512, .bf16⟩
  | .local _ .vmem, ⟨8, _⟩ => ⟨S256x256, .bf16⟩
  | .local _ .vmem, ⟨9, _⟩ => ⟨S1x64x512, .bf16⟩
  | .local _ .vmem, ⟨10, _⟩ => ⟨S1x64x512, .bf16⟩
  | .local _ .vmem, ⟨11, _⟩ => ⟨S1x4x2x64x128, .f32⟩
  | .local _ .vmem, ⟨12, _⟩ => ⟨S1x4x64x128, .f32⟩
  | _, _ => ⟨S8x64x9472, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_call2_v0 : Ref sig .tc := ⟨.hbm, 21, rfl⟩
abbrev main_call2_c : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_call2_cst : Ref sig .tc := ⟨.hbm, 27, rfl⟩
abbrev main_call2_v5 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 1], ![false, false]⟩

def k0_mult1 (i : grid0.Coords) : BitVec 32 :=
  let c1024_i32 : BitVec 32 := 1024#32
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c64_i32 : BitVec 32 := 64#32
  let v2 : BitVec 32 := Scalar.muli v1 c64_i32
  let v3 : BitVec 32 := Scalar.addi c1024_i32 v2
  let c63_i32 : BitVec 32 := 63#32
  let v4 : BitVec 32 := Scalar.addi v3 c63_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32 : BitVec 32 := 128#32
  let c0_i32_2 : BitVec 32 := 0#32
  let v11 : BitVec 1 := Scalar.cmpi .sgt c128_i32 c0_i32_2
  let v12 : BitVec 32 := Scalar.extui v11
  let c0_i32_3 : BitVec 32 := 0#32
  let v13 : BitVec 1 := Scalar.cmpi .slt c128_i32 c0_i32_3
  let v14 : BitVec 32 := Scalar.extui v13
  let v15 : BitVec 32 := Scalar.subi v12 v14
  let v16 : BitVec 1 := Scalar.cmpi .ne v10 v15
  let v17 : BitVec 32 := Scalar.remsi v4 c128_i32
  let c0_i32_4 : BitVec 32 := 0#32
  let v18 : BitVec 1 := Scalar.cmpi .ne v17 c0_i32_4
  let v19 : BitVec 1 := Scalar.andi v16 v18
  let v5 : BitVec 32 := Scalar.divsi v4 c128_i32
  let c1_i32_5 : BitVec 32 := 1#32
  let v20 : BitVec 32 := Scalar.subi v5 c1_i32_5
  let v21 : BitVec 32 := Scalar.select v19 v20 v5
  let c0_i32_34 : BitVec 32 := 0#32
  let v94 : BitVec 32 := Scalar.subi v21 c0_i32_34
  let c0_i32_36 : BitVec 32 := 0#32
  let v96 : BitVec 32 := Scalar.maxsi v94 c0_i32_36
  let c128_i32_37 : BitVec 32 := 128#32
  let v97 : BitVec 32 := Scalar.muli v96 c128_i32_37
  v97
def k0_off1 (i : grid0.Coords) : Fin 3 → Nat :=
  let c0_38 : Index := 0#32
  let c0_39 : Index := 0#32
  let c1024_i32 : BitVec 32 := 1024#32
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c64_i32 : BitVec 32 := 64#32
  let v2 : BitVec 32 := Scalar.muli v1 c64_i32
  let v3 : BitVec 32 := Scalar.addi c1024_i32 v2
  let c63_i32 : BitVec 32 := 63#32
  let v4 : BitVec 32 := Scalar.addi v3 c63_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32 : BitVec 32 := 128#32
  let c0_i32_2 : BitVec 32 := 0#32
  let v11 : BitVec 1 := Scalar.cmpi .sgt c128_i32 c0_i32_2
  let v12 : BitVec 32 := Scalar.extui v11
  let c0_i32_3 : BitVec 32 := 0#32
  let v13 : BitVec 1 := Scalar.cmpi .slt c128_i32 c0_i32_3
  let v14 : BitVec 32 := Scalar.extui v13
  let v15 : BitVec 32 := Scalar.subi v12 v14
  let v16 : BitVec 1 := Scalar.cmpi .ne v10 v15
  let v17 : BitVec 32 := Scalar.remsi v4 c128_i32
  let c0_i32_4 : BitVec 32 := 0#32
  let v18 : BitVec 1 := Scalar.cmpi .ne v17 c0_i32_4
  let v19 : BitVec 1 := Scalar.andi v16 v18
  let v5 : BitVec 32 := Scalar.divsi v4 c128_i32
  let c1_i32_5 : BitVec 32 := 1#32
  let v20 : BitVec 32 := Scalar.subi v5 c1_i32_5
  let v21 : BitVec 32 := Scalar.select v19 v20 v5
  let c0_i32_34 : BitVec 32 := 0#32
  let v94 : BitVec 32 := Scalar.subi v21 c0_i32_34
  let c0_i32_36 : BitVec 32 := 0#32
  let v96 : BitVec 32 := Scalar.maxsi v94 c0_i32_36
  let c128_i32_37 : BitVec 32 := 128#32
  let v97 : BitVec 32 := Scalar.muli v96 c128_i32_37
  let v98 : BitVec 32 := v97
  let v100 : Index := Scalar.indexCast v98
  ![0, 0, v100.toNat]
def k0_off2 (i : grid0.Coords) : Fin 3 → Nat :=
  let c0_46 : Index := 0#32
  let c128_47 : Index := 128#32
  let c1024_i32 : BitVec 32 := 1024#32
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c64_i32 : BitVec 32 := 64#32
  let v2 : BitVec 32 := Scalar.muli v1 c64_i32
  let v3 : BitVec 32 := Scalar.addi c1024_i32 v2
  let c63_i32 : BitVec 32 := 63#32
  let v4 : BitVec 32 := Scalar.addi v3 c63_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32 : BitVec 32 := 128#32
  let c0_i32_2 : BitVec 32 := 0#32
  let v11 : BitVec 1 := Scalar.cmpi .sgt c128_i32 c0_i32_2
  let v12 : BitVec 32 := Scalar.extui v11
  let c0_i32_3 : BitVec 32 := 0#32
  let v13 : BitVec 1 := Scalar.cmpi .slt c128_i32 c0_i32_3
  let v14 : BitVec 32 := Scalar.extui v13
  let v15 : BitVec 32 := Scalar.subi v12 v14
  let v16 : BitVec 1 := Scalar.cmpi .ne v10 v15
  let v17 : BitVec 32 := Scalar.remsi v4 c128_i32
  let c0_i32_4 : BitVec 32 := 0#32
  let v18 : BitVec 1 := Scalar.cmpi .ne v17 c0_i32_4
  let v19 : BitVec 1 := Scalar.andi v16 v18
  let v5 : BitVec 32 := Scalar.divsi v4 c128_i32
  let c1_i32_5 : BitVec 32 := 1#32
  let v20 : BitVec 32 := Scalar.subi v5 c1_i32_5
  let v21 : BitVec 32 := Scalar.select v19 v20 v5
  let c0_i32_34 : BitVec 32 := 0#32
  let v94 : BitVec 32 := Scalar.subi v21 c0_i32_34
  let c0_i32_36 : BitVec 32 := 0#32
  let v96 : BitVec 32 := Scalar.maxsi v94 c0_i32_36
  let c128_i32_37 : BitVec 32 := 128#32
  let v97 : BitVec 32 := Scalar.muli v96 c128_i32_37
  let v98 : BitVec 32 := v97
  let v124 : Index := Scalar.indexCast v98
  ![0, 128, v124.toNat]
def k0_off3 (i : grid0.Coords) : Fin 3 → Nat :=
  let c0_54 : Index := 0#32
  let c256_55 : Index := 256#32
  let c1024_i32 : BitVec 32 := 1024#32
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c64_i32 : BitVec 32 := 64#32
  let v2 : BitVec 32 := Scalar.muli v1 c64_i32
  let v3 : BitVec 32 := Scalar.addi c1024_i32 v2
  let c63_i32 : BitVec 32 := 63#32
  let v4 : BitVec 32 := Scalar.addi v3 c63_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32 : BitVec 32 := 128#32
  let c0_i32_2 : BitVec 32 := 0#32
  let v11 : BitVec 1 := Scalar.cmpi .sgt c128_i32 c0_i32_2
  let v12 : BitVec 32 := Scalar.extui v11
  let c0_i32_3 : BitVec 32 := 0#32
  let v13 : BitVec 1 := Scalar.cmpi .slt c128_i32 c0_i32_3
  let v14 : BitVec 32 := Scalar.extui v13
  let v15 : BitVec 32 := Scalar.subi v12 v14
  let v16 : BitVec 1 := Scalar.cmpi .ne v10 v15
  let v17 : BitVec 32 := Scalar.remsi v4 c128_i32
  let c0_i32_4 : BitVec 32 := 0#32
  let v18 : BitVec 1 := Scalar.cmpi .ne v17 c0_i32_4
  let v19 : BitVec 1 := Scalar.andi v16 v18
  let v5 : BitVec 32 := Scalar.divsi v4 c128_i32
  let c1_i32_5 : BitVec 32 := 1#32
  let v20 : BitVec 32 := Scalar.subi v5 c1_i32_5
  let v21 : BitVec 32 := Scalar.select v19 v20 v5
  let c0_i32_34 : BitVec 32 := 0#32
  let v94 : BitVec 32 := Scalar.subi v21 c0_i32_34
  let c0_i32_36 : BitVec 32 := 0#32
  let v96 : BitVec 32 := Scalar.maxsi v94 c0_i32_36
  let c128_i32_37 : BitVec 32 := 128#32
  let v97 : BitVec 32 := Scalar.muli v96 c128_i32_37
  let v98 : BitVec 32 := v97
  let v148 : Index := Scalar.indexCast v98
  ![0, 256, v148.toNat]
def k0_off4 (i : grid0.Coords) : Fin 3 → Nat :=
  let c0_62 : Index := 0#32
  let c384_63 : Index := 384#32
  let c1024_i32 : BitVec 32 := 1024#32
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c64_i32 : BitVec 32 := 64#32
  let v2 : BitVec 32 := Scalar.muli v1 c64_i32
  let v3 : BitVec 32 := Scalar.addi c1024_i32 v2
  let c63_i32 : BitVec 32 := 63#32
  let v4 : BitVec 32 := Scalar.addi v3 c63_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32 : BitVec 32 := 128#32
  let c0_i32_2 : BitVec 32 := 0#32
  let v11 : BitVec 1 := Scalar.cmpi .sgt c128_i32 c0_i32_2
  let v12 : BitVec 32 := Scalar.extui v11
  let c0_i32_3 : BitVec 32 := 0#32
  let v13 : BitVec 1 := Scalar.cmpi .slt c128_i32 c0_i32_3
  let v14 : BitVec 32 := Scalar.extui v13
  let v15 : BitVec 32 := Scalar.subi v12 v14
  let v16 : BitVec 1 := Scalar.cmpi .ne v10 v15
  let v17 : BitVec 32 := Scalar.remsi v4 c128_i32
  let c0_i32_4 : BitVec 32 := 0#32
  let v18 : BitVec 1 := Scalar.cmpi .ne v17 c0_i32_4
  let v19 : BitVec 1 := Scalar.andi v16 v18
  let v5 : BitVec 32 := Scalar.divsi v4 c128_i32
  let c1_i32_5 : BitVec 32 := 1#32
  let v20 : BitVec 32 := Scalar.subi v5 c1_i32_5
  let v21 : BitVec 32 := Scalar.select v19 v20 v5
  let c0_i32_34 : BitVec 32 := 0#32
  let v94 : BitVec 32 := Scalar.subi v21 c0_i32_34
  let c0_i32_36 : BitVec 32 := 0#32
  let v96 : BitVec 32 := Scalar.maxsi v94 c0_i32_36
  let c128_i32_37 : BitVec 32 := 128#32
  let v97 : BitVec 32 := Scalar.muli v96 c128_i32_37
  let v98 : BitVec 32 := v97
  let v172 : Index := Scalar.indexCast v98
  ![0, 384, v172.toNat]
def k0_mult2 (i : grid0.Coords) (arg10 : BitVec 32) : BitVec 32 :=
  let c1024_i32 : BitVec 32 := 1024#32
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c64_i32 : BitVec 32 := 64#32
  let v2 : BitVec 32 := Scalar.muli v1 c64_i32
  let v3 : BitVec 32 := Scalar.addi c1024_i32 v2
  let c63_i32 : BitVec 32 := 63#32
  let v4 : BitVec 32 := Scalar.addi v3 c63_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32 : BitVec 32 := 128#32
  let c0_i32_2 : BitVec 32 := 0#32
  let v11 : BitVec 1 := Scalar.cmpi .sgt c128_i32 c0_i32_2
  let v12 : BitVec 32 := Scalar.extui v11
  let c0_i32_3 : BitVec 32 := 0#32
  let v13 : BitVec 1 := Scalar.cmpi .slt c128_i32 c0_i32_3
  let v14 : BitVec 32 := Scalar.extui v13
  let v15 : BitVec 32 := Scalar.subi v12 v14
  let v16 : BitVec 1 := Scalar.cmpi .ne v10 v15
  let v17 : BitVec 32 := Scalar.remsi v4 c128_i32
  let c0_i32_4 : BitVec 32 := 0#32
  let v18 : BitVec 1 := Scalar.cmpi .ne v17 c0_i32_4
  let v19 : BitVec 1 := Scalar.andi v16 v18
  let v5 : BitVec 32 := Scalar.divsi v4 c128_i32
  let c1_i32_5 : BitVec 32 := 1#32
  let v20 : BitVec 32 := Scalar.subi v5 c1_i32_5
  let v21 : BitVec 32 := Scalar.select v19 v20 v5
  let v422 : BitVec 32 := Scalar.subi v21 arg10
  let c0_i32_227 : BitVec 32 := 0#32
  let v424 : BitVec 32 := Scalar.maxsi v422 c0_i32_227
  let c128_i32_228 : BitVec 32 := 128#32
  let v425 : BitVec 32 := Scalar.muli v424 c128_i32_228
  v425

def k0_off5 (i : grid0.Coords) (arg10 : BitVec 32) : Fin 3 → Nat :=
  let c0_229 : Index := 0#32
  let c0_230 : Index := 0#32
  let c1024_i32 : BitVec 32 := 1024#32
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c64_i32 : BitVec 32 := 64#32
  let v2 : BitVec 32 := Scalar.muli v1 c64_i32
  let v3 : BitVec 32 := Scalar.addi c1024_i32 v2
  let c63_i32 : BitVec 32 := 63#32
  let v4 : BitVec 32 := Scalar.addi v3 c63_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32 : BitVec 32 := 128#32
  let c0_i32_2 : BitVec 32 := 0#32
  let v11 : BitVec 1 := Scalar.cmpi .sgt c128_i32 c0_i32_2
  let v12 : BitVec 32 := Scalar.extui v11
  let c0_i32_3 : BitVec 32 := 0#32
  let v13 : BitVec 1 := Scalar.cmpi .slt c128_i32 c0_i32_3
  let v14 : BitVec 32 := Scalar.extui v13
  let v15 : BitVec 32 := Scalar.subi v12 v14
  let v16 : BitVec 1 := Scalar.cmpi .ne v10 v15
  let v17 : BitVec 32 := Scalar.remsi v4 c128_i32
  let c0_i32_4 : BitVec 32 := 0#32
  let v18 : BitVec 1 := Scalar.cmpi .ne v17 c0_i32_4
  let v19 : BitVec 1 := Scalar.andi v16 v18
  let v5 : BitVec 32 := Scalar.divsi v4 c128_i32
  let c1_i32_5 : BitVec 32 := 1#32
  let v20 : BitVec 32 := Scalar.subi v5 c1_i32_5
  let v21 : BitVec 32 := Scalar.select v19 v20 v5
  let v422 : BitVec 32 := Scalar.subi v21 arg10
  let c0_i32_227 : BitVec 32 := 0#32
  let v424 : BitVec 32 := Scalar.maxsi v422 c0_i32_227
  let c128_i32_228 : BitVec 32 := 128#32
  let v425 : BitVec 32 := Scalar.muli v424 c128_i32_228
  let v426 : BitVec 32 := v425
  let v428 : Index := Scalar.indexCast v426
  ![0, 0, v428.toNat]
def k0_off6 (i : grid0.Coords) (arg10 : BitVec 32) : Fin 3 → Nat :=
  let c0_236 : Index := 0#32
  let c128_237 : Index := 128#32
  let c1024_i32 : BitVec 32 := 1024#32
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c64_i32 : BitVec 32 := 64#32
  let v2 : BitVec 32 := Scalar.muli v1 c64_i32
  let v3 : BitVec 32 := Scalar.addi c1024_i32 v2
  let c63_i32 : BitVec 32 := 63#32
  let v4 : BitVec 32 := Scalar.addi v3 c63_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32 : BitVec 32 := 128#32
  let c0_i32_2 : BitVec 32 := 0#32
  let v11 : BitVec 1 := Scalar.cmpi .sgt c128_i32 c0_i32_2
  let v12 : BitVec 32 := Scalar.extui v11
  let c0_i32_3 : BitVec 32 := 0#32
  let v13 : BitVec 1 := Scalar.cmpi .slt c128_i32 c0_i32_3
  let v14 : BitVec 32 := Scalar.extui v13
  let v15 : BitVec 32 := Scalar.subi v12 v14
  let v16 : BitVec 1 := Scalar.cmpi .ne v10 v15
  let v17 : BitVec 32 := Scalar.remsi v4 c128_i32
  let c0_i32_4 : BitVec 32 := 0#32
  let v18 : BitVec 1 := Scalar.cmpi .ne v17 c0_i32_4
  let v19 : BitVec 1 := Scalar.andi v16 v18
  let v5 : BitVec 32 := Scalar.divsi v4 c128_i32
  let c1_i32_5 : BitVec 32 := 1#32
  let v20 : BitVec 32 := Scalar.subi v5 c1_i32_5
  let v21 : BitVec 32 := Scalar.select v19 v20 v5
  let v422 : BitVec 32 := Scalar.subi v21 arg10
  let c0_i32_227 : BitVec 32 := 0#32
  let v424 : BitVec 32 := Scalar.maxsi v422 c0_i32_227
  let c128_i32_228 : BitVec 32 := 128#32
  let v425 : BitVec 32 := Scalar.muli v424 c128_i32_228
  let v426 : BitVec 32 := v425
  let v450 : Index := Scalar.indexCast v426
  ![0, 128, v450.toNat]
def k0_off7 (i : grid0.Coords) (arg10 : BitVec 32) : Fin 3 → Nat :=
  let c0_243 : Index := 0#32
  let c256_244 : Index := 256#32
  let c1024_i32 : BitVec 32 := 1024#32
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c64_i32 : BitVec 32 := 64#32
  let v2 : BitVec 32 := Scalar.muli v1 c64_i32
  let v3 : BitVec 32 := Scalar.addi c1024_i32 v2
  let c63_i32 : BitVec 32 := 63#32
  let v4 : BitVec 32 := Scalar.addi v3 c63_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32 : BitVec 32 := 128#32
  let c0_i32_2 : BitVec 32 := 0#32
  let v11 : BitVec 1 := Scalar.cmpi .sgt c128_i32 c0_i32_2
  let v12 : BitVec 32 := Scalar.extui v11
  let c0_i32_3 : BitVec 32 := 0#32
  let v13 : BitVec 1 := Scalar.cmpi .slt c128_i32 c0_i32_3
  let v14 : BitVec 32 := Scalar.extui v13
  let v15 : BitVec 32 := Scalar.subi v12 v14
  let v16 : BitVec 1 := Scalar.cmpi .ne v10 v15
  let v17 : BitVec 32 := Scalar.remsi v4 c128_i32
  let c0_i32_4 : BitVec 32 := 0#32
  let v18 : BitVec 1 := Scalar.cmpi .ne v17 c0_i32_4
  let v19 : BitVec 1 := Scalar.andi v16 v18
  let v5 : BitVec 32 := Scalar.divsi v4 c128_i32
  let c1_i32_5 : BitVec 32 := 1#32
  let v20 : BitVec 32 := Scalar.subi v5 c1_i32_5
  let v21 : BitVec 32 := Scalar.select v19 v20 v5
  let v422 : BitVec 32 := Scalar.subi v21 arg10
  let c0_i32_227 : BitVec 32 := 0#32
  let v424 : BitVec 32 := Scalar.maxsi v422 c0_i32_227
  let c128_i32_228 : BitVec 32 := 128#32
  let v425 : BitVec 32 := Scalar.muli v424 c128_i32_228
  let v426 : BitVec 32 := v425
  let v472 : Index := Scalar.indexCast v426
  ![0, 256, v472.toNat]
def k0_off8 (i : grid0.Coords) (arg10 : BitVec 32) : Fin 3 → Nat :=
  let c0_250 : Index := 0#32
  let c384_251 : Index := 384#32
  let c1024_i32 : BitVec 32 := 1024#32
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c64_i32 : BitVec 32 := 64#32
  let v2 : BitVec 32 := Scalar.muli v1 c64_i32
  let v3 : BitVec 32 := Scalar.addi c1024_i32 v2
  let c63_i32 : BitVec 32 := 63#32
  let v4 : BitVec 32 := Scalar.addi v3 c63_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32 : BitVec 32 := 128#32
  let c0_i32_2 : BitVec 32 := 0#32
  let v11 : BitVec 1 := Scalar.cmpi .sgt c128_i32 c0_i32_2
  let v12 : BitVec 32 := Scalar.extui v11
  let c0_i32_3 : BitVec 32 := 0#32
  let v13 : BitVec 1 := Scalar.cmpi .slt c128_i32 c0_i32_3
  let v14 : BitVec 32 := Scalar.extui v13
  let v15 : BitVec 32 := Scalar.subi v12 v14
  let v16 : BitVec 1 := Scalar.cmpi .ne v10 v15
  let v17 : BitVec 32 := Scalar.remsi v4 c128_i32
  let c0_i32_4 : BitVec 32 := 0#32
  let v18 : BitVec 1 := Scalar.cmpi .ne v17 c0_i32_4
  let v19 : BitVec 1 := Scalar.andi v16 v18
  let v5 : BitVec 32 := Scalar.divsi v4 c128_i32
  let c1_i32_5 : BitVec 32 := 1#32
  let v20 : BitVec 32 := Scalar.subi v5 c1_i32_5
  let v21 : BitVec 32 := Scalar.select v19 v20 v5
  let v422 : BitVec 32 := Scalar.subi v21 arg10
  let c0_i32_227 : BitVec 32 := 0#32
  let v424 : BitVec 32 := Scalar.maxsi v422 c0_i32_227
  let c128_i32_228 : BitVec 32 := 128#32
  let v425 : BitVec 32 := Scalar.muli v424 c128_i32_228
  let v426 : BitVec 32 := v425
  let v494 : Index := Scalar.indexCast v426
  ![0, 384, v494.toNat]

def k0_chk1 (i : grid0.Coords) (arg10 : BitVec 32) : Prop :=
  (128 ∣ (k0_mult2 i arg10).toNat) ∧
  (∀ a, (k0_off5 i arg10) a + S1x128x128.size a ≤ S1x512x1152.size a) ∧
  (∀ a, (k0_off6 i arg10) a + S1x128x128.size a ≤ S1x512x1152.size a) ∧
  (∀ a, (k0_off7 i arg10) a + S1x128x128.size a ≤ S1x512x1152.size a) ∧
  (∀ a, (k0_off8 i arg10) a + S1x128x128.size a ≤ S1x512x1152.size a)
theorem k0_mult2_dvd : ∀ (i : grid0.Coords) (arg10 : BitVec 32) (k0_hw1 : k0_chk1 i arg10), 128 ∣ (k0_mult2 i arg10).toNat := fun i arg10 k0_hw1 => k0_hw1.1
theorem k0_off5_inb : ∀ (i : grid0.Coords) (arg10 : BitVec 32) (k0_hw1 : k0_chk1 i arg10), ∀ a, (k0_off5 i arg10) a + S1x128x128.size a ≤ S1x512x1152.size a := fun i arg10 k0_hw1 => k0_hw1.2.1
theorem k0_off6_inb : ∀ (i : grid0.Coords) (arg10 : BitVec 32) (k0_hw1 : k0_chk1 i arg10), ∀ a, (k0_off6 i arg10) a + S1x128x128.size a ≤ S1x512x1152.size a := fun i arg10 k0_hw1 => k0_hw1.2.2.1
theorem k0_off7_inb : ∀ (i : grid0.Coords) (arg10 : BitVec 32) (k0_hw1 : k0_chk1 i arg10), ∀ a, (k0_off7 i arg10) a + S1x128x128.size a ≤ S1x512x1152.size a := fun i arg10 k0_hw1 => k0_hw1.2.2.2.1
theorem k0_off8_inb : ∀ (i : grid0.Coords) (arg10 : BitVec 32) (k0_hw1 : k0_chk1 i arg10), ∀ a, (k0_off8 i arg10) a + S1x128x128.size a ≤ S1x512x1152.size a := fun i arg10 k0_hw1 => k0_hw1.2.2.2.2

def k0_mult3 (i : grid0.Coords) (arg10 : BitVec 32) : BitVec 32 :=
  let c1024_i32 : BitVec 32 := 1024#32
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c64_i32 : BitVec 32 := 64#32
  let v2 : BitVec 32 := Scalar.muli v1 c64_i32
  let v3 : BitVec 32 := Scalar.addi c1024_i32 v2
  let c63_i32 : BitVec 32 := 63#32
  let v4 : BitVec 32 := Scalar.addi v3 c63_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32 : BitVec 32 := 128#32
  let c0_i32_2 : BitVec 32 := 0#32
  let v11 : BitVec 1 := Scalar.cmpi .sgt c128_i32 c0_i32_2
  let v12 : BitVec 32 := Scalar.extui v11
  let c0_i32_3 : BitVec 32 := 0#32
  let v13 : BitVec 1 := Scalar.cmpi .slt c128_i32 c0_i32_3
  let v14 : BitVec 32 := Scalar.extui v13
  let v15 : BitVec 32 := Scalar.subi v12 v14
  let v16 : BitVec 1 := Scalar.cmpi .ne v10 v15
  let v17 : BitVec 32 := Scalar.remsi v4 c128_i32
  let c0_i32_4 : BitVec 32 := 0#32
  let v18 : BitVec 1 := Scalar.cmpi .ne v17 c0_i32_4
  let v19 : BitVec 1 := Scalar.andi v16 v18
  let v5 : BitVec 32 := Scalar.divsi v4 c128_i32
  let c1_i32_5 : BitVec 32 := 1#32
  let v20 : BitVec 32 := Scalar.subi v5 c1_i32_5
  let v21 : BitVec 32 := Scalar.select v19 v20 v5
  let v422 : BitVec 32 := Scalar.subi v21 arg10
  let c0_i32_227 : BitVec 32 := 0#32
  let v424 : BitVec 32 := Scalar.maxsi v422 c0_i32_227
  let c128_i32_228 : BitVec 32 := 128#32
  let v425 : BitVec 32 := Scalar.muli v424 c128_i32_228
  v425

def k0_off9 (i : grid0.Coords) (arg10 : BitVec 32) : Fin 3 → Nat :=
  let c0_229 : Index := 0#32
  let c0_230 : Index := 0#32
  let c1024_i32 : BitVec 32 := 1024#32
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c64_i32 : BitVec 32 := 64#32
  let v2 : BitVec 32 := Scalar.muli v1 c64_i32
  let v3 : BitVec 32 := Scalar.addi c1024_i32 v2
  let c63_i32 : BitVec 32 := 63#32
  let v4 : BitVec 32 := Scalar.addi v3 c63_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32 : BitVec 32 := 128#32
  let c0_i32_2 : BitVec 32 := 0#32
  let v11 : BitVec 1 := Scalar.cmpi .sgt c128_i32 c0_i32_2
  let v12 : BitVec 32 := Scalar.extui v11
  let c0_i32_3 : BitVec 32 := 0#32
  let v13 : BitVec 1 := Scalar.cmpi .slt c128_i32 c0_i32_3
  let v14 : BitVec 32 := Scalar.extui v13
  let v15 : BitVec 32 := Scalar.subi v12 v14
  let v16 : BitVec 1 := Scalar.cmpi .ne v10 v15
  let v17 : BitVec 32 := Scalar.remsi v4 c128_i32
  let c0_i32_4 : BitVec 32 := 0#32
  let v18 : BitVec 1 := Scalar.cmpi .ne v17 c0_i32_4
  let v19 : BitVec 1 := Scalar.andi v16 v18
  let v5 : BitVec 32 := Scalar.divsi v4 c128_i32
  let c1_i32_5 : BitVec 32 := 1#32
  let v20 : BitVec 32 := Scalar.subi v5 c1_i32_5
  let v21 : BitVec 32 := Scalar.select v19 v20 v5
  let v422 : BitVec 32 := Scalar.subi v21 arg10
  let c0_i32_227 : BitVec 32 := 0#32
  let v424 : BitVec 32 := Scalar.maxsi v422 c0_i32_227
  let c128_i32_228 : BitVec 32 := 128#32
  let v425 : BitVec 32 := Scalar.muli v424 c128_i32_228
  let v426 : BitVec 32 := v425
  let v430 : Index := Scalar.indexCast v426
  ![0, 0, v430.toNat]
def k0_off10 (i : grid0.Coords) (arg10 : BitVec 32) : Fin 3 → Nat :=
  let c0_236 : Index := 0#32
  let c128_237 : Index := 128#32
  let c1024_i32 : BitVec 32 := 1024#32
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c64_i32 : BitVec 32 := 64#32
  let v2 : BitVec 32 := Scalar.muli v1 c64_i32
  let v3 : BitVec 32 := Scalar.addi c1024_i32 v2
  let c63_i32 : BitVec 32 := 63#32
  let v4 : BitVec 32 := Scalar.addi v3 c63_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32 : BitVec 32 := 128#32
  let c0_i32_2 : BitVec 32 := 0#32
  let v11 : BitVec 1 := Scalar.cmpi .sgt c128_i32 c0_i32_2
  let v12 : BitVec 32 := Scalar.extui v11
  let c0_i32_3 : BitVec 32 := 0#32
  let v13 : BitVec 1 := Scalar.cmpi .slt c128_i32 c0_i32_3
  let v14 : BitVec 32 := Scalar.extui v13
  let v15 : BitVec 32 := Scalar.subi v12 v14
  let v16 : BitVec 1 := Scalar.cmpi .ne v10 v15
  let v17 : BitVec 32 := Scalar.remsi v4 c128_i32
  let c0_i32_4 : BitVec 32 := 0#32
  let v18 : BitVec 1 := Scalar.cmpi .ne v17 c0_i32_4
  let v19 : BitVec 1 := Scalar.andi v16 v18
  let v5 : BitVec 32 := Scalar.divsi v4 c128_i32
  let c1_i32_5 : BitVec 32 := 1#32
  let v20 : BitVec 32 := Scalar.subi v5 c1_i32_5
  let v21 : BitVec 32 := Scalar.select v19 v20 v5
  let v422 : BitVec 32 := Scalar.subi v21 arg10
  let c0_i32_227 : BitVec 32 := 0#32
  let v424 : BitVec 32 := Scalar.maxsi v422 c0_i32_227
  let c128_i32_228 : BitVec 32 := 128#32
  let v425 : BitVec 32 := Scalar.muli v424 c128_i32_228
  let v426 : BitVec 32 := v425
  let v454 : Index := Scalar.indexCast v426
  ![0, 128, v454.toNat]
def k0_off11 (i : grid0.Coords) (arg10 : BitVec 32) : Fin 3 → Nat :=
  let c0_243 : Index := 0#32
  let c256_244 : Index := 256#32
  let c1024_i32 : BitVec 32 := 1024#32
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c64_i32 : BitVec 32 := 64#32
  let v2 : BitVec 32 := Scalar.muli v1 c64_i32
  let v3 : BitVec 32 := Scalar.addi c1024_i32 v2
  let c63_i32 : BitVec 32 := 63#32
  let v4 : BitVec 32 := Scalar.addi v3 c63_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32 : BitVec 32 := 128#32
  let c0_i32_2 : BitVec 32 := 0#32
  let v11 : BitVec 1 := Scalar.cmpi .sgt c128_i32 c0_i32_2
  let v12 : BitVec 32 := Scalar.extui v11
  let c0_i32_3 : BitVec 32 := 0#32
  let v13 : BitVec 1 := Scalar.cmpi .slt c128_i32 c0_i32_3
  let v14 : BitVec 32 := Scalar.extui v13
  let v15 : BitVec 32 := Scalar.subi v12 v14
  let v16 : BitVec 1 := Scalar.cmpi .ne v10 v15
  let v17 : BitVec 32 := Scalar.remsi v4 c128_i32
  let c0_i32_4 : BitVec 32 := 0#32
  let v18 : BitVec 1 := Scalar.cmpi .ne v17 c0_i32_4
  let v19 : BitVec 1 := Scalar.andi v16 v18
  let v5 : BitVec 32 := Scalar.divsi v4 c128_i32
  let c1_i32_5 : BitVec 32 := 1#32
  let v20 : BitVec 32 := Scalar.subi v5 c1_i32_5
  let v21 : BitVec 32 := Scalar.select v19 v20 v5
  let v422 : BitVec 32 := Scalar.subi v21 arg10
  let c0_i32_227 : BitVec 32 := 0#32
  let v424 : BitVec 32 := Scalar.maxsi v422 c0_i32_227
  let c128_i32_228 : BitVec 32 := 128#32
  let v425 : BitVec 32 := Scalar.muli v424 c128_i32_228
  let v426 : BitVec 32 := v425
  let v478 : Index := Scalar.indexCast v426
  ![0, 256, v478.toNat]
def k0_off12 (i : grid0.Coords) (arg10 : BitVec 32) : Fin 3 → Nat :=
  let c0_250 : Index := 0#32
  let c384_251 : Index := 384#32
  let c1024_i32 : BitVec 32 := 1024#32
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c64_i32 : BitVec 32 := 64#32
  let v2 : BitVec 32 := Scalar.muli v1 c64_i32
  let v3 : BitVec 32 := Scalar.addi c1024_i32 v2
  let c63_i32 : BitVec 32 := 63#32
  let v4 : BitVec 32 := Scalar.addi v3 c63_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32 : BitVec 32 := 128#32
  let c0_i32_2 : BitVec 32 := 0#32
  let v11 : BitVec 1 := Scalar.cmpi .sgt c128_i32 c0_i32_2
  let v12 : BitVec 32 := Scalar.extui v11
  let c0_i32_3 : BitVec 32 := 0#32
  let v13 : BitVec 1 := Scalar.cmpi .slt c128_i32 c0_i32_3
  let v14 : BitVec 32 := Scalar.extui v13
  let v15 : BitVec 32 := Scalar.subi v12 v14
  let v16 : BitVec 1 := Scalar.cmpi .ne v10 v15
  let v17 : BitVec 32 := Scalar.remsi v4 c128_i32
  let c0_i32_4 : BitVec 32 := 0#32
  let v18 : BitVec 1 := Scalar.cmpi .ne v17 c0_i32_4
  let v19 : BitVec 1 := Scalar.andi v16 v18
  let v5 : BitVec 32 := Scalar.divsi v4 c128_i32
  let c1_i32_5 : BitVec 32 := 1#32
  let v20 : BitVec 32 := Scalar.subi v5 c1_i32_5
  let v21 : BitVec 32 := Scalar.select v19 v20 v5
  let v422 : BitVec 32 := Scalar.subi v21 arg10
  let c0_i32_227 : BitVec 32 := 0#32
  let v424 : BitVec 32 := Scalar.maxsi v422 c0_i32_227
  let c128_i32_228 : BitVec 32 := 128#32
  let v425 : BitVec 32 := Scalar.muli v424 c128_i32_228
  let v426 : BitVec 32 := v425
  let v502 : Index := Scalar.indexCast v426
  ![0, 384, v502.toNat]

def k0_chk2 (i : grid0.Coords) (arg10 : BitVec 32) : Prop :=
  (128 ∣ (k0_mult3 i arg10).toNat) ∧
  (∀ a, (k0_off9 i arg10) a + S1x128x128.size a ≤ S1x512x1152.size a) ∧
  (∀ a, (k0_off10 i arg10) a + S1x128x128.size a ≤ S1x512x1152.size a) ∧
  (∀ a, (k0_off11 i arg10) a + S1x128x128.size a ≤ S1x512x1152.size a) ∧
  (∀ a, (k0_off12 i arg10) a + S1x128x128.size a ≤ S1x512x1152.size a)
theorem k0_mult3_dvd : ∀ (i : grid0.Coords) (arg10 : BitVec 32) (k0_hw2 : k0_chk2 i arg10), 128 ∣ (k0_mult3 i arg10).toNat := fun i arg10 k0_hw2 => k0_hw2.1
theorem k0_off9_inb : ∀ (i : grid0.Coords) (arg10 : BitVec 32) (k0_hw2 : k0_chk2 i arg10), ∀ a, (k0_off9 i arg10) a + S1x128x128.size a ≤ S1x512x1152.size a := fun i arg10 k0_hw2 => k0_hw2.2.1
theorem k0_off10_inb : ∀ (i : grid0.Coords) (arg10 : BitVec 32) (k0_hw2 : k0_chk2 i arg10), ∀ a, (k0_off10 i arg10) a + S1x128x128.size a ≤ S1x512x1152.size a := fun i arg10 k0_hw2 => k0_hw2.2.2.1
theorem k0_off11_inb : ∀ (i : grid0.Coords) (arg10 : BitVec 32) (k0_hw2 : k0_chk2 i arg10), ∀ a, (k0_off11 i arg10) a + S1x128x128.size a ≤ S1x512x1152.size a := fun i arg10 k0_hw2 => k0_hw2.2.2.2.1
theorem k0_off12_inb : ∀ (i : grid0.Coords) (arg10 : BitVec 32) (k0_hw2 : k0_chk2 i arg10), ∀ a, (k0_off12 i arg10) a + S1x128x128.size a ≤ S1x512x1152.size a := fun i arg10 k0_hw2 => k0_hw2.2.2.2.2

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SbIdeal.lean ====
variable {F : FTy → Type} [FloatOps F] [Named F]
def κ : String → Option EReal := fun
  | "dead" => some ⊥
  | "masked" => some ⊥
  | _ => none
-- ==== SbReferenceIdeal.lean ====
abbrev S8x64x9472 : Shape := ⟨3, ![8, 64, 9472]⟩
abbrev S8x1024x8x64 : Shape := ⟨4, ![8, 1024, 8, 64]⟩
abbrev S8x512x64 : Shape := ⟨3, ![8, 512, 64]⟩
abbrev S8x64x512 : Shape := ⟨3, ![8, 64, 512]⟩
abbrev S8x64x8x64 : Shape := ⟨4, ![8, 64, 8, 64]⟩
abbrev S8x1088x8x64 : Shape := ⟨4, ![8, 1088, 8, 64]⟩
abbrev S64 : Shape := ⟨1, ![64]⟩
abbrev S_ : Shape := ⟨0, ![]⟩
abbrev S8x8x64x1088 : Shape := ⟨4, ![8, 8, 64, 1088]⟩
abbrev S1088 : Shape := ⟨1, ![1088]⟩
abbrev S1x1088 : Shape := ⟨2, ![1, 1088]⟩
abbrev S64x1 : Shape := ⟨2, ![64, 1]⟩
abbrev S64x1088 : Shape := ⟨2, ![64, 1088]⟩
abbrev S8x8x64x64 : Shape := ⟨4, ![8, 8, 64, 64]⟩

abbrev nBuf : Space → Nat
  | .hbm => 95
  | .vmem => 0
  | .smem => 0
  | _ => 0

abbrev bufTy : (tb : Table) → Fin (tcTables nBuf tb) → BufTy
  | .hbm, ⟨0, _⟩ => ⟨S8x64x9472, .bf16⟩
  | .hbm, ⟨1, _⟩ => ⟨S8x1024x8x64, .f32⟩
  | .hbm, ⟨2, _⟩ => ⟨S8x1024x8x64, .f32⟩
  | .hbm, ⟨3, _⟩ => ⟨S8x512x64, .bf16⟩
  | .hbm, ⟨4, _⟩ => ⟨S8x512x64, .bf16⟩
  | .hbm, ⟨5, _⟩ => ⟨S8x64x512, .bf16⟩
  | .hbm, ⟨6, _⟩ => ⟨S8x64x512, .f32⟩
  | .hbm, ⟨7, _⟩ => ⟨S8x64x8x64, .f32⟩
  | .hbm, ⟨8, _⟩ => ⟨S8x64x512, .bf16⟩
  | .hbm, ⟨9, _⟩ => ⟨S8x64x512, .f32⟩
  | .hbm, ⟨10, _⟩ => ⟨S8x64x512, .bf16⟩
  | .hbm, ⟨11, _⟩ => ⟨S8x64x512, .f32⟩
  | .hbm, ⟨12, _⟩ => ⟨S8x64x8x64, .f32⟩
  | .hbm, ⟨13, _⟩ => ⟨S8x64x512, .bf16⟩
  | .hbm, ⟨14, _⟩ => ⟨S8x64x512, .f32⟩
  | .hbm, ⟨15, _⟩ => ⟨S8x64x8x64, .f32⟩
  | .hbm, ⟨16, _⟩ => ⟨S8x1088x8x64, .f32⟩
  | .hbm, ⟨17, _⟩ => ⟨S8x1088x8x64, .f32⟩
  | .hbm, ⟨18, _⟩ => ⟨S64, .i32⟩
  | .hbm, ⟨19, _⟩ => ⟨S_, .i32⟩
  | .hbm, ⟨20, _⟩ => ⟨S64, .i32⟩
  | .hbm, ⟨21, _⟩ => ⟨S64, .i32⟩
  | .hbm, ⟨22, _⟩ => ⟨S8x8x64x1088, .f32⟩
  | .hbm, ⟨23, _⟩ => ⟨S_, .f32⟩
  | .hbm, ⟨24, _⟩ => ⟨S8x8x64x1088, .f32⟩
  | .hbm, ⟨25, _⟩ => ⟨S8x8x64x1088, .f32⟩
  | .hbm, ⟨26, _⟩ => ⟨S1088, .i32⟩
  | .hbm, ⟨27, _⟩ => ⟨S1x1088, .i32⟩
  | .hbm, ⟨28, _⟩ => ⟨S64x1, .i32⟩
  | .hbm, ⟨29, _⟩ => ⟨S64x1088, .i32⟩
  | .hbm, ⟨30, _⟩ => ⟨S64x1088, .i32⟩
  | .hbm, ⟨31, _⟩ => ⟨S64x1088, .i1⟩
  | .hbm, ⟨32, _⟩ => ⟨S8x8x64x1088, .f32⟩
  | .hbm, ⟨33, _⟩ => ⟨S8x8x64x1088, .f32⟩
  | .hbm, ⟨34, _⟩ => ⟨S_, .f32⟩
  | .hbm, ⟨35, _⟩ => ⟨S8x8x64x1088, .f32⟩
  | .hbm, ⟨36, _⟩ => ⟨S8x8x64x1088, .f32⟩
  | .hbm, ⟨37, _⟩ => ⟨S8x8x64x1088, .f32⟩
  | .hbm, ⟨38, _⟩ => ⟨S8x8x64x1088, .f32⟩
  | .hbm, ⟨39, _⟩ => ⟨S8x8x64x1088, .i1⟩
  | .hbm, ⟨40, _⟩ => ⟨S8x8x64x1088, .f32⟩
  | .hbm, ⟨41, _⟩ => ⟨S8x8x64x1088, .f32⟩
  | .hbm, ⟨42, _⟩ => ⟨S8x8x64x1088, .f32⟩
  | .hbm, ⟨43, _⟩ => ⟨S8x8x64x1088, .f32⟩
  | .hbm, ⟨44, _⟩ => ⟨S8x8x64x1088, .f32⟩
  | .hbm, ⟨45, _⟩ => ⟨S8x8x64x1088, .f32⟩
  | .hbm, ⟨46, _⟩ => ⟨S8x8x64x1088, .f32⟩
  | .hbm, ⟨47, _⟩ => ⟨S8x8x64x1088, .f32⟩
  | .hbm, ⟨48, _⟩ => ⟨S8x8x64x1088, .f32⟩
  | .hbm, ⟨49, _⟩ => ⟨S_, .f32⟩
  | .hbm, ⟨50, _⟩ => ⟨S_, .f32⟩
  | .hbm, ⟨51, _⟩ => ⟨S8x8x64x1088, .i1⟩
  | .hbm, ⟨52, _⟩ => ⟨S8x8x64x1088, .f32⟩
  | .hbm, ⟨53, _⟩ => ⟨S8x8x64x1088, .f32⟩
  | .hbm, ⟨54, _⟩ => ⟨S_, .f32⟩
  | .hbm, ⟨55, _⟩ => ⟨S_, .f32⟩
  | .hbm, ⟨56, _⟩ => ⟨S8x8x64x1088, .f32⟩
  | .hbm, ⟨57, _⟩ => ⟨S8x8x64x1088, .f32⟩
  | .hbm, ⟨58, _⟩ => ⟨S8x8x64x1088, .f32⟩
  | .hbm, ⟨59, _⟩ => ⟨S_, .f32⟩
  | .hbm, ⟨60, _⟩ => ⟨S8x8x64x1088, .f32⟩
  | .hbm, ⟨61, _⟩ => ⟨S8x8x64x1088, .f32⟩
  | .hbm, ⟨62, _⟩ => ⟨S8x8x64x1088, .f32⟩
  | .hbm, ⟨63, _⟩ => ⟨S8x8x64x1088, .f32⟩
  | .hbm, ⟨64, _⟩ => ⟨S8x8x64x1088, .i1⟩
  | .hbm, ⟨65, _⟩ => ⟨S8x8x64x1088, .f32⟩
  | .hbm, ⟨66, _⟩ => ⟨S8x8x64x1088, .f32⟩
  | .hbm, ⟨67, _⟩ => ⟨S8x8x64x1088, .f32⟩
  | .hbm, ⟨68, _⟩ => ⟨S8x8x64x1088, .f32⟩
  | .hbm, ⟨69, _⟩ => ⟨S8x8x64x1088, .f32⟩
  | .hbm, ⟨70, _⟩ => ⟨S8x8x64x1088, .f32⟩
  | .hbm, ⟨71, _⟩ => ⟨S8x8x64x1088, .f32⟩
  | .hbm, ⟨72, _⟩ => ⟨S8x8x64x1088, .f32⟩
  | .hbm, ⟨73, _⟩ => ⟨S8x8x64x1088, .f32⟩
  | .hbm, ⟨74, _⟩ => ⟨S8x8x64x1088, .f32⟩
  | .hbm, ⟨75, _⟩ => ⟨S8x8x64x1088, .f32⟩
  | .hbm, ⟨76, _⟩ => ⟨S_, .f32⟩
  | .hbm, ⟨77, _⟩ => ⟨S_, .f32⟩
  | .hbm, ⟨78, _⟩ => ⟨S8x8x64x1088, .i1⟩
  | .hbm, ⟨79, _⟩ => ⟨S8x8x64x1088, .f32⟩
  | .hbm, ⟨80, _⟩ => ⟨S8x8x64x1088, .f32⟩
  | .hbm, ⟨81, _⟩ => ⟨S8x8x64x64, .f32⟩
  | .hbm, ⟨82, _⟩ => ⟨S8x64x8x64, .f32⟩
  | .hbm, ⟨83, _⟩ => ⟨S8x64x512, .f32⟩
  | .hbm, ⟨84, _⟩ => ⟨S8x64x512, .f32⟩
  | .hbm, ⟨85, _⟩ => ⟨S8x64x512, .f32⟩
  | .hbm, ⟨86, _⟩ => ⟨S_, .f32⟩
  | .hbm, ⟨87, _⟩ => ⟨S8x64x512, .f32⟩
  | .hbm, ⟨88, _⟩ => ⟨S8x64x512, .f32⟩
  | .hbm, ⟨89, _⟩ => ⟨S_, .f32⟩
  | .hbm, ⟨90, _⟩ => ⟨S8x64x512, .f32⟩
  | .hbm, ⟨91, _⟩ => ⟨S8x64x512, .f32⟩
  | .hbm, ⟨92, _⟩ => ⟨S8x64x512, .f32⟩
  | .hbm, ⟨93, _⟩ => ⟨S8x64x512, .f32⟩
  | .hbm, ⟨94, _⟩ => ⟨S8x64x512, .bf16⟩
  | _, _ => ⟨S8x64x9472, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call0_v0 : Ref sig .tc := ⟨.hbm, 33, rfl⟩
abbrev main_call0_call0_cst : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_call0_v2 : Ref sig .tc := ⟨.hbm, 37, rfl⟩
abbrev main_call0_call0_v3 : Ref sig .tc := ⟨.hbm, 38, rfl⟩
abbrev main_call0_call0_v4 : Ref sig .tc := ⟨.hbm, 39, rfl⟩
abbrev main_call0_call0_v5 : Ref sig .tc := ⟨.hbm, 40, rfl⟩
abbrev main_call0_call0_v6 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_v9 : Ref sig .tc := ⟨.hbm, 44, rfl⟩
abbrev main_call0_call0_v10 : Ref sig .tc := ⟨.hbm, 45, rfl⟩
abbrev main_call0_call0_v11 : Ref sig .tc := ⟨.hbm, 46, rfl⟩
abbrev main_call0_v1 : Ref sig .tc := ⟨.hbm, 47, rfl⟩
abbrev main_v26 : Ref sig .tc := ⟨.hbm, 48, rfl⟩
abbrev main_cst_0 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v27 : Ref sig .tc := ⟨.hbm, 53, rfl⟩
abbrev main_call2_cst : Ref sig .tc := ⟨.hbm, 54, rfl⟩
abbrev main_call2_v0 : Ref sig .tc := ⟨.hbm, 55, rfl⟩
abbrev main_v28 : Ref sig .tc := ⟨.hbm, 56, rfl⟩
abbrev main_v29 : Ref sig .tc := ⟨.hbm, 57, rfl⟩
abbrev main_call3_v0 : Ref sig .tc := ⟨.hbm, 58, rfl⟩
abbrev main_call3_call0_cst : Ref sig .tc := ⟨.hbm, 59, rfl⟩
abbrev main_call3_call0_v0 : Ref sig .tc := ⟨.hbm, 60, rfl⟩
abbrev main_call3_call0_v1 : Ref sig .tc := ⟨.hbm, 61, rfl⟩
abbrev main_call3_call0_v2 : Ref sig .tc := ⟨.hbm, 62, rfl⟩
abbrev main_call3_call0_v3 : Ref sig .tc := ⟨.hbm, 63, rfl⟩
abbrev main_call3_call0_v4 : Ref sig .tc := ⟨.hbm, 64, rfl⟩
abbrev main_call3_call0_v5 : Ref sig .tc := ⟨.hbm, 65, rfl⟩
abbrev main_call3_call0_v6 : Ref sig .tc := ⟨.hbm, 66, rfl⟩
abbrev main_call3_call0_v7 : Ref sig .tc := ⟨.hbm, 67, rfl⟩
abbrev main_call3_call0_v8 : Ref sig .tc := ⟨.hbm, 68, rfl⟩
abbrev main_call3_call0_v9 : Ref sig .tc := ⟨.hbm, 69, rfl⟩
abbrev main_call3_call0_v10 : Ref sig .tc := ⟨.hbm, 70, rfl⟩
abbrev main_call3_call0_v11 : Ref sig .tc := ⟨.hbm, 71, rfl⟩
abbrev main_call3_v1 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_cst_1 : Ref sig .tc := ⟨.hbm, 76, rfl⟩
abbrev main_call4_v0 : Ref sig .tc := ⟨.hbm, 77, rfl⟩
abbrev main_call4_v1 : Ref sig .tc := ⟨.hbm, 78, rfl⟩
abbrev main_call4_v2 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_call5_v0 : Ref sig .tc := ⟨.hbm, 84, rfl⟩
abbrev main_call5_v1 : Ref sig .tc := ⟨.hbm, 85, rfl⟩
abbrev main_call5_cst : Ref sig .tc := ⟨.hbm, 86, rfl⟩
abbrev main_call5_v2 : Ref sig .tc := ⟨.hbm, 87, rfl⟩
abbrev main_call5_v3 : Ref sig .tc := ⟨.hbm, 88, rfl⟩
abbrev main_call5_cst_0 : Ref sig .tc := ⟨.hbm, 89, rfl⟩
abbrev main_call5_v4 : Ref sig .tc := ⟨.hbm, 90, rfl⟩
abbrev main_call5_v5 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩

abbrev nD : Nat := 1
abbrev τ : Topo := Topo.v7x

variable {F : FTy → Type} [FloatOps F]
-- ==== MixSample.lean ====
abbrev S512x512 : Shape := ⟨2, ![512, 512]⟩
abbrev S512x9472 : Shape := ⟨2, ![512, 9472]⟩
abbrev S512x1024 : Shape := ⟨2, ![512, 1024]⟩
abbrev S4x512x1024 : Shape := ⟨3, ![4, 512, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S512x512, .bf16⟩
  | .hbm, ⟨1, _⟩ => ⟨S512x512, .bf16⟩
  | .hbm, ⟨2, _⟩ => ⟨S512x512, .bf16⟩
  | .hbm, ⟨3, _⟩ => ⟨S512x512, .bf16⟩
  | .hbm, ⟨4, _⟩ => ⟨S512x9472, .bf16⟩
  | .hbm, ⟨5, _⟩ => ⟨S512x1024, .f32⟩
  | .hbm, ⟨6, _⟩ => ⟨S4x512x1024, .f32⟩
  | .hbm, ⟨7, _⟩ => ⟨S1024x1024, .f32⟩
  | .hbm, ⟨8, _⟩ => ⟨S1024, .f32⟩
  | .hbm, ⟨9, _⟩ => ⟨S4x512x1024, .bf16⟩
  | .hbm, ⟨10, _⟩ => ⟨S1024x1024, .bf16⟩
  | .hbm, ⟨11, _⟩ => ⟨S1x1024, .f32⟩
  | .hbm, ⟨12, _⟩ => ⟨S512x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S4x512x1024, .bf16⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S4x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== MixSampleReferenceIdeal.lean ====
abbrev S512x512 : Shape := ⟨2, ![512, 512]⟩
abbrev S512x9472 : Shape := ⟨2, ![512, 9472]⟩
abbrev S512x1024 : Shape := ⟨2, ![512, 1024]⟩
abbrev S4x512x1024 : Shape := ⟨3, ![4, 512, 1024]⟩
abbrev S1024x1024 : Shape := ⟨2, ![1024, 1024]⟩
abbrev S1024 : Shape := ⟨1, ![1024]⟩
abbrev S512x4096 : Shape := ⟨2, ![512, 4096]⟩
abbrev S512x1x512 : Shape := ⟨3, ![512, 1, 512]⟩
abbrev S512x4x512 : Shape := ⟨3, ![512, 4, 512]⟩
abbrev S4x1024x512 : Shape := ⟨3, ![4, 1024, 512]⟩
abbrev S512x4x1024 : Shape := ⟨3, ![512, 4, 1024]⟩
abbrev S_ : Shape := ⟨0, ![]⟩
abbrev S512 : Shape := ⟨1, ![512]⟩
abbrev S512x1 : Shape := ⟨2, ![512, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S512x512, .bf16⟩
  | .hbm, ⟨1, _⟩ => ⟨S512x512, .bf16⟩
  | .hbm, ⟨2, _⟩ => ⟨S512x512, .bf16⟩
  | .hbm, ⟨3, _⟩ => ⟨S512x512, .bf16⟩
  | .hbm, ⟨4, _⟩ => ⟨S512x9472, .bf16⟩
  | .hbm, ⟨5, _⟩ => ⟨S512x1024, .f32⟩
  | .hbm, ⟨6, _⟩ => ⟨S4x512x1024, .f32⟩
  | .hbm, ⟨7, _⟩ => ⟨S1024x1024, .f32⟩
  | .hbm, ⟨8, _⟩ => ⟨S1024, .f32⟩
  | .hbm, ⟨9, _⟩ => ⟨S512x4096, .bf16⟩
  | .hbm, ⟨10, _⟩ => ⟨S512x4096, .f32⟩
  | .hbm, ⟨11, _⟩ => ⟨S512x1x512, .bf16⟩
  | .hbm, ⟨12, _⟩ => ⟨S512x1x512, .bf16⟩
  | .hbm, ⟨13, _⟩ => ⟨S512x1x512, .bf16⟩
  | .hbm, ⟨14, _⟩ => ⟨S512x1x512, .bf16⟩
  | .hbm, ⟨15, _⟩ => ⟨S512x4x512, .bf16⟩
  | .hbm, ⟨16, _⟩ => ⟨S512x4x512, .f32⟩
  | .hbm, ⟨17, _⟩ => ⟨S4x1024x512, .f32⟩
  | .hbm, ⟨18, _⟩ => ⟨S512x4x1024, .f32⟩
  | .hbm, ⟨19, _⟩ => ⟨S512x4x1024, .f32⟩
  | .hbm, ⟨20, _⟩ => ⟨S512x4x1024, .f32⟩
  | .hbm, ⟨21, _⟩ => ⟨S512x4x1024, .f32⟩
  | .hbm, ⟨22, _⟩ => ⟨S_, .f32⟩
  | .hbm, ⟨23, _⟩ => ⟨S512x4x1024, .f32⟩
  | .hbm, ⟨24, _⟩ => ⟨S512x4x1024, .f32⟩
  | .hbm, ⟨25, _⟩ => ⟨S_, .f32⟩
  | .hbm, ⟨26, _⟩ => ⟨S512x4x1024, .f32⟩
  | .hbm, ⟨27, _⟩ => ⟨S512x4x1024, .f32⟩
  | .hbm, ⟨28, _⟩ => ⟨S512x4x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512, .f32⟩
  | .hbm, ⟨35, _⟩ => ⟨S512x1, .f32⟩
  | .hbm, ⟨36, _⟩ => ⟨S_, .f32⟩
  | .hbm, ⟨37, _⟩ => ⟨S512x1, .f32⟩
  | .hbm, ⟨38, _⟩ => ⟨S512x1, .f32⟩
  | .hbm, ⟨39, _⟩ => ⟨S_, .f32⟩
  | .hbm, ⟨40, _⟩ => ⟨S512x1, .f32⟩
  | .hbm, ⟨41, _⟩ => ⟨S512x1, .f32⟩
  | .hbm, ⟨42, _⟩ => ⟨S512x1, .f32⟩
  | .hbm, ⟨43, _⟩ => ⟨S512x1024, .f32⟩
  | .hbm, ⟨44, _⟩ => ⟨S512x1024, .f32⟩
  | .hbm, ⟨45, _⟩ => ⟨S1x1024, .f32⟩
  | .hbm, ⟨46, _⟩ => ⟨S512x1024, .f32⟩
  | .hbm, ⟨47, _⟩ => ⟨S512x1024, .f32⟩
  | .hbm, ⟨48, _⟩ => ⟨S512x1024, .f32⟩
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Proof.Lru.Loop.lean ====
/- The counted loop of the RG-LRU kernel: 64 trips of eight rows each. A trip reads eight rows of the decays (`arg17`)
   and of the inputs (`arg18`), scans them in registers and writes the eight states over the inputs; the last state is
   carried to the next trip. -/
module

public import proofs.«01_k».proof.Proof.Gen.KernelIdeal.Loops
public import proofs.«01_k».proof.Proof.Gen.KernelIdeal.Frame
public import Idealize.ShloMosaic.Lib.Exec
public import Idealize.ShloMosaic.Lib.Tactic
public import Idealize.ShloMosaic.Lib.WritesUnit

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The eight rows of trip `k`. -/
abbrev rowsR (k : Fin k0_t1_loop.trips) : Rect S512x512 :=
  Rect.unit (s := S512x512) (k0_off1 k) S8x512.size (k0_off1_inb k)

theorem trips_eq : k0_t1_loop.trips = 64 := by decide +kernel

/-- The carried state and the pieces written into the inputs' buffer before trip `k`, last first. -/
def stC (v17 v18 : View sig .tc .vmem S512x512 .f32) (X : BufTy.Contents (Elt F) v17.ty)
    (G : BufTy.Contents (Elt F) v18.ty) (init : Vec F S1x512 .f32) :
    ℕ → Vec F S1x512 .f32 × List (View.Piece (Elt F) S512x512 .f32)
  | 0 => (init, [])
  | k + 1 =>
    if h : k < k0_t1_loop.trips then
      (k0_pay25 (stC v17 v18 X G init k).1 (v17.readAt (Elt F) (rowsR ⟨k, h⟩).toLoadRect X)
          (v18.readAt (Elt F) (rowsR ⟨k, h⟩).toLoadRect (v18.writes (Elt F) G (stC v17 v18 X G init k).2)),
        [⟨rowsR ⟨k, h⟩, k0_pay24 (stC v17 v18 X G init k).1 (v17.readAt (Elt F) (rowsR ⟨k, h⟩).toLoadRect X)
          (v18.readAt (Elt F) (rowsR ⟨k, h⟩).toLoadRect (v18.writes (Elt F) G (stC v17 v18 X G init k).2))⟩]
          ++ (stC v17 v18 X G init k).2)
    else stC v17 v18 X G init k

theorem stC_succ (v17 v18 : View sig .tc .vmem S512x512 .f32) (X : BufTy.Contents (Elt F) v17.ty)
    (G : BufTy.Contents (Elt F) v18.ty) (init : Vec F S1x512 .f32) (k : Fin k0_t1_loop.trips) :
    stC v17 v18 X G init (k.val + 1) =
      (k0_pay25 (stC v17 v18 X G init k.val).1 (v17.readAt (Elt F) (rowsR k).toLoadRect X)
          (v18.readAt (Elt F) (rowsR k).toLoadRect (v18.writes (Elt F) G (stC v17 v18 X G init k.val).2)),
        [⟨rowsR k, k0_pay24 (stC v17 v18 X G init k.val).1 (v17.readAt (Elt F) (rowsR k).toLoadRect X)
          (v18.readAt (Elt F) (rowsR k).toLoadRect (v18.writes (Elt F) G (stC v17 v18 X G init k.val).2))⟩]
          ++ (stC v17 v18 X G init k.val).2) := by
  rw [stC]; exact dif_pos k.isLt

theorem stC_zero (v17 v18 : View sig .tc .vmem S512x512 .f32) (X : BufTy.Contents (Elt F) v17.ty)
    (G : BufTy.Contents (Elt F) v18.ty) (init : Vec F S1x512 .f32) : (stC v17 v18 X G init 0).1 = init := rfl

section
variable (𝒱 : Variants) (c : Dev nD) (bd : Option 𝒱.V) (E : Set ℕ) (i : grid0.Coords)
  (arg2 : Memref sig .tc .vmem S1x512x512 .bf16) (harg2 : arg2.IsWhole)
  (arg3 : Memref sig .tc .vmem S1x512x512 .bf16) (harg3 : arg3.IsWhole)
  (arg4 : Memref sig .tc .vmem S1x3x512 .f32) (harg4 : arg4.IsWhole)
  (arg5 : Memref sig .tc .vmem S1x1x512 .f32) (harg5 : arg5.IsWhole)
  (arg6 : Memref sig .tc .vmem S4x512 .f32) (harg6 : arg6.IsWhole)
  (arg7 : Memref sig .tc .vmem S1x512 .f32) (harg7 : arg7.IsWhole)
  (arg8 : Memref sig .tc .vmem S512x512 .bf16) (harg8 : arg8.IsWhole)
  (arg9 : Memref sig .tc .vmem S1x512 .f32) (harg9 : arg9.IsWhole)
  (arg10 : Memref sig .tc .vmem S512x512 .bf16) (harg10 : arg10.IsWhole)
  (arg11 : Memref sig .tc .vmem S1x512 .f32) (harg11 : arg11.IsWhole)
  (arg12 : Memref sig .tc .vmem S1x512 .f32) (harg12 : arg12.IsWhole)
  (arg13 : Memref sig .tc .vmem S1x512x512 .bf16) (harg13 : arg13.IsWhole)
  (arg14 : Memref sig .tc .vmem S1x1x512 .f32) (harg14 : arg14.IsWhole)
  (arg15 : Memref sig .tc .vmem S1x3x512 .f32) (harg15 : arg15.IsWhole)
  (arg16 : Memref sig .tc .vmem S3x512 .f32) (harg16 : arg16.IsWhole)
  (arg17 : Memref sig .tc .vmem S512x512 .f32) (harg17 : arg17.IsWhole)
  (arg18 : Memref sig .tc .vmem S512x512 .f32) (harg18 : arg18.IsWhole)
  (arg19 : Memref sig .tc .vmem S1x512 .f32) (harg19 : arg19.IsWhole)
  (v51 v87 v111 v115 : FVec F S512x512 .f32)

/-- One trip: what it yields and what it leaves in the inputs' buffer. -/
theorem trip (X : BufTy.Contents (Elt F) arg17.view.ty) (k : Fin k0_t1_loop.trips) (acc : Vec F S1x512 .f32)
    (f : BufTy.Contents (Elt F) arg18.view.ty) :
    (iprop((arg17.view.loc (c : Thread nD τ) ↦[arg17.view.set]{fullShare} X)
        ∗ (arg18.view.loc (c : Thread nD τ) ↦[arg18.view.set]{fullShare} f)) : sProp 𝕄)
      ⊢ wp frame (wpE (defs₀ (F := F)) 𝒱 (c : Thread nD τ) bd) E
          (k0_t1_body (F := F) i arg2 harg2 arg3 harg3 arg4 harg4 arg5 harg5 arg6 harg6 arg7 harg7 arg8 harg8 arg9 harg9
            arg10 harg10 arg11 harg11 arg12 harg12 arg13 harg13 arg14 harg14 arg15 harg15 arg16 harg16 arg17 harg17
            arg18 harg18 arg19 harg19 v51 v87 v111 v115 k acc)
          (fun yld => iprop(⌜yld = k0_pay25 acc (arg17.view.readAt (Elt F) (rowsR k).toLoadRect X)
                (arg18.view.readAt (Elt F) (rowsR k).toLoadRect f)⌝
            ∗ (arg17.view.loc (c : Thread nD τ) ↦[arg17.view.set]{fullShare} X)
            ∗ (arg18.view.loc (c : Thread nD τ) ↦[arg18.view.set]{fullShare} arg18.view.writes (Elt F) f
                [⟨rowsR k, k0_pay24 acc (arg17.view.readAt (Elt F) (rowsR k).toLoadRect X)
                  (arg18.view.readAt (Elt F) (rowsR k).toLoadRect f)⟩]))) := by
  have hk : k.val < 64 := Nat.lt_of_lt_of_le k.isLt k0_t1_abs.2.1
  unfold k0_t1_body
  iintro ⟨HR, HW⟩
  sl_exec
  sl_step
  isplitr
  · ipureintro; rfl
  isplitl [HR]; · iexact HR
  iexact HW

/-- The loop's invariant before trip `k`. -/
abbrev inv (X : BufTy.Contents (Elt F) arg17.view.ty) (G : BufTy.Contents (Elt F) arg18.view.ty)
    (init : Vec F S1x512 .f32) (k : ℕ) (acc : Vec F S1x512 .f32) : sProp 𝕄 :=
  iprop((arg17.view.loc (c : Thread nD τ) ↦[arg17.view.set]{fullShare} X)
    ∗ (∃ f, (arg18.view.loc (c : Thread nD τ) ↦[arg18.view.set]{fullShare} f)
        ∗ ⌜f = arg18.view.writes (Elt F) G (stC arg17.view arg18.view X G init k).2⌝)
    ∗ ⌜acc = (stC arg17.view arg18.view X G init k).1⌝)

set_option warn.classDefReducibility false in
@[sl_loop] def loopInv (X : BufTy.Contents (Elt F) arg17.view.ty) (G : BufTy.Contents (Elt F) arg18.view.ty)
    (init : Vec F S1x512 .f32) :
    LoopInvTy_k0_t1 (F := F) Unit ℕ (UR sig nD τ) ℕ 𝒱 c bd E i arg2 harg2 arg3 harg3 arg4 harg4 arg5 harg5 arg6 harg6
      arg7 harg7 arg8 harg8 arg9 harg9 arg10 harg10 arg11 harg11 arg12 harg12 arg13 harg13 arg14 harg14 arg15 harg15
      arg16 harg16 arg17 harg17 arg18 harg18 arg19 harg19 v51 v87 v111 v115 init where
  inv := inv (F := F) c arg17 arg18 X G init
  step k acc := by
    iintro ⟨HR, ⟨%f, HW, %hf⟩, %hacc⟩
    subst hacc; subst hf
    iapply (wp_wand_r Idealize.ShloMosaic.frame (wpE (defs₀ (F := F)) 𝒱 (c : Thread nD τ) bd) E)
    isplitl [HR HW]
    · iapply (trip 𝒱 c bd E i arg2 harg2 arg3 harg3 arg4 harg4 arg5 harg5 arg6 harg6
        arg7 harg7 arg8 harg8 arg9 harg9 arg10 harg10 arg11 harg11 arg12 harg12 arg13 harg13 arg14 harg14 arg15 harg15
        arg16 harg16 arg17 harg17 arg18 harg18 arg19 harg19 v51 v87 v111 v115 X k _ _)
      isplitl [HR]; · iexact HR
      iexact HW
    · iintro %yld ⟨%hres, HR, HW⟩
      isplitl [HR]; · iexact HR
      simp only [stC_succ]
      isplitl [HW]
      · iexists _; isplitl [HW]; · iexact HW
        ipureintro; rw [← View.writes_append]
      ipureintro; exact hres
end

end Cert.KernelIdeal.Lru

end
-- ==== Proof.Lru.Spec.lean ====
/- What one grid point of the RG-LRU kernel computes, as functions of the blocks it is given and of the two carried
   scratch buffers: the last three rows of the convolution's input (`xe`) and the last state (`h`). -/
module

public import proofs.«01_k».proof.Proof.Lru.Loop
public import Idealize.ShloMosaic.Lib.VecWindow

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic
open Idealize.SL Idealize.SL.Sem

variable {F : FTy → Type} [FloatOps F]

/-- One row of the four filter taps. -/
abbrev tap (x4 : Vec F S4x512 .f32) (r : ℕ) (h : ∀ a, (![r, 0] : Fin 2 → ℕ) a + S1x512.size a ≤ S4x512.size a) :
    Vec F S1x512 .f32 := VecWindow.window x4 ![r, 0] S1x512.size h

/-- One row of the three carried input rows. -/
abbrev past (xe : Vec F S3x512 .f32) (r : ℕ) (h : ∀ a, (![r, 0] : Fin 2 → ℕ) a + S1x512.size a ≤ S3x512.size a) :
    Vec F S1x512 .f32 := VecWindow.window xe ![r, 0] S1x512.size h

/-- The three newest taps' part of the convolution. -/
def conv3 (x0 : Vec F S1x512x512 .bf16) (x4 : Vec F S4x512 .f32) (xe : Vec F S3x512 .f32) : FVec F S512x512 .f32 :=
  k0_pay8 x0 (tap x4 3 inb_S4x512_S1x512_3_0) (past xe 2 inb_S3x512_S1x512_2_0) (tap x4 2 inb_S4x512_S1x512_2_0)
    (past xe 1 inb_S3x512_S1x512_1_0) (tap x4 1 inb_S4x512_S1x512_1_0)

/-- The input rotated three rows down, before its first row is replaced. -/
def shift3 (x0 : Vec F S1x512x512 .bf16) (xe : Vec F S3x512 .f32) : FVec F S512x512 .f32 :=
  k0_pay9 x0 (past xe 2 inb_S3x512_S1x512_2_0) (past xe 1 inb_S3x512_S1x512_1_0)

/-- The convolution. -/
def convV (x0 : Vec F S1x512x512 .bf16) (x4 : Vec F S4x512 .f32) (x5 : Vec F S1x512 .f32) (xe : Vec F S3x512 .f32) :
    FVec F S512x512 .f32 :=
  k0_pay10 k0_pay5 (conv3 x0 x4 xe) (shift3 x0 xe) (past xe 0 inb_S3x512_S1x512_0_0) (tap x4 0 inb_S4x512_S1x512_0_0) x5

/-- The recurrence gate before its sigmoid. -/
def preR (x0 : Vec F S1x512x512 .bf16) (x4 : Vec F S4x512 .f32) (x5 : Vec F S1x512 .f32) (x6 : Vec F S512x512 .bf16)
    (x7 : Vec F S1x512 .f32) (xe : Vec F S3x512 .f32) : FVec F S512x512 .f32 :=
  k0_pay15 k0_pay5 (conv3 x0 x4 xe) (shift3 x0 xe) (past xe 0 inb_S3x512_S1x512_0_0) (tap x4 0 inb_S4x512_S1x512_0_0) x5 x6 x7

/-- The input gate before its sigmoid. -/
def preI (x0 : Vec F S1x512x512 .bf16) (x4 : Vec F S4x512 .f32) (x5 : Vec F S1x512 .f32) (x8 : Vec F S512x512 .bf16)
    (x9 : Vec F S1x512 .f32) (xe : Vec F S3x512 .f32) : FVec F S512x512 .f32 :=
  k0_pay16 k0_pay5 (conv3 x0 x4 xe) (shift3 x0 xe) (past xe 0 inb_S3x512_S1x512_0_0) (tap x4 0 inb_S4x512_S1x512_0_0) x5 x8 x9

/-- The constant one half, as the kernel spells it. -/
abbrev half : F .f32 := Scalar.ofBits .f32 0x3F000000#32

/-- The decays of the block's rows. -/
def decay (x0 : Vec F S1x512x512 .bf16) (x4 : Vec F S4x512 .f32) (x5 : Vec F S1x512 .f32) (x6 : Vec F S512x512 .bf16)
    (x7 : Vec F S1x512 .f32) (x10 : Vec F S1x512 .f32) (xe : Vec F S3x512 .f32) : FVec F S512x512 .f32 :=
  k0_pay20 (preR x0 x4 x5 x6 x7 xe) half x10

/-- The recurrence's inputs. -/
def inpt (x0 : Vec F S1x512x512 .bf16) (x4 : Vec F S4x512 .f32) (x5 : Vec F S1x512 .f32) (x6 : Vec F S512x512 .bf16)
    (x7 : Vec F S1x512 .f32) (x8 : Vec F S512x512 .bf16) (x9 : Vec F S1x512 .f32) (x10 : Vec F S1x512 .f32)
    (xe : Vec F S3x512 .f32) : FVec F S512x512 .f32 :=
  k0_pay22 (convV x0 x4 x5 xe) (k0_pay17 (preI x0 x4 x5 x8 x9 xe)) (k0_pay19 (preR x0 x4 x5 x6 x7 xe) half x10) k0_pay21

/-- Eight rows of a block from row `8 k`. -/
abbrev rows8 (x : Vec F S512x512 .f32) (k : Fin k0_t1_loop.trips) : Vec F S8x512 .f32 :=
  VecWindow.window x (k0_off1 k) S8x512.size (k0_off1_inb k)

/-- The carried state and the inputs' buffer before trip `k`: the rows before `8 k` hold states. -/
def stV (A B : Vec F S512x512 .f32) (h : Vec F S1x512 .f32) : ℕ → Vec F S1x512 .f32 × Vec F S512x512 .f32
  | 0 => (h, B)
  | k + 1 =>
    if hk : k < k0_t1_loop.trips then
      (k0_pay25 (stV A B h k).1 (rows8 A ⟨k, hk⟩) (rows8 (stV A B h k).2 ⟨k, hk⟩),
        VecWindow.put (stV A B h k).2 (k0_off1 ⟨k, hk⟩) S8x512.size
          (k0_pay24 (stV A B h k).1 (rows8 A ⟨k, hk⟩) (rows8 (stV A B h k).2 ⟨k, hk⟩)))
    else stV A B h k

/-- The contents the loop leaves read as the recursion over values. -/
theorem stC_read (v17 v18 : View sig .tc .vmem S512x512 .f32) (X : BufTy.Contents (Elt F) v17.ty)
    (G : BufTy.Contents (Elt F) v18.ty) (init : Vec F S1x512 .f32) (k : ℕ) :
    (stC v17 v18 X G init k).1 = (stV (v17.read (Elt F) X) (v18.read (Elt F) G) init k).1
      ∧ v18.read (Elt F) (v18.writes (Elt F) G (stC v17 v18 X G init k).2) = (stV (v17.read (Elt F) X) (v18.read (Elt F) G) init k).2 := by
  induction k with
  | zero => exact ⟨rfl, rfl⟩
  | succ k ih =>
    rw [stC, stV]
    split
    · rename_i hk
      rw [View.readAt_unit v17 X _ rfl (k0_off1_inb ⟨k, hk⟩), View.readAt_unit v18 _ _ rfl (k0_off1_inb ⟨k, hk⟩), ih.1, ih.2]
      refine ⟨rfl, ?_⟩
      rw [List.singleton_append, View.read_writes_cons_put v18 _ (k0_off1_inb ⟨k, hk⟩) _ _ rfl, ih.2]
    · exact ih

/-- The state and the states' block after the loop. -/
def scanned (x0 : Vec F S1x512x512 .bf16) (x4 : Vec F S4x512 .f32) (x5 : Vec F S1x512 .f32) (x6 : Vec F S512x512 .bf16)
    (x7 : Vec F S1x512 .f32) (x8 : Vec F S512x512 .bf16) (x9 : Vec F S1x512 .f32) (x10 : Vec F S1x512 .f32)
    (xe : Vec F S3x512 .f32) (h : Vec F S1x512 .f32) : Vec F S1x512 .f32 × Vec F S512x512 .f32 :=
  stV (decay x0 x4 x5 x6 x7 x10 xe) (inpt x0 x4 x5 x6 x7 x8 x9 x10 xe) h k0_t1_loop.trips

/-- What a point leaves: the gated states, the last state, the last three input rows, and the two carried scratch
    buffers. -/
def point (x0 x1 : Vec F S1x512x512 .bf16) (x4 : Vec F S4x512 .f32) (x5 : Vec F S1x512 .f32) (x6 : Vec F S512x512 .bf16)
    (x7 : Vec F S1x512 .f32) (x8 : Vec F S512x512 .bf16) (x9 : Vec F S1x512 .f32) (x10 : Vec F S1x512 .f32)
    (xe : Vec F S3x512 .f32) (h : Vec F S1x512 .f32) :
    Vec F S1x512x512 .bf16 × Vec F S1x1x512 .f32 × Vec F S1x3x512 .f32 × Vec F S3x512 .f32 × Vec F S1x512 .f32 :=
  (k0_pay1 (k0_pay28 (scanned x0 x4 x5 x6 x7 x8 x9 x10 xe h).2 x1),
    k0_pay27 (scanned x0 x4 x5 x6 x7 x8 x9 x10 xe h).1, k0_pay13 (k0_pay4 x0), k0_pay12 (k0_pay4 x0),
    k0_pay26 (scanned x0 x4 x5 x6 x7 x8 x9 x10 xe h).1)

end Cert.KernelIdeal.Lru

end
-- ==== Proof.Lru.Body.lean ====
/- The RG-LRU kernel's body at one grid point: from the blocks it is given and the carried scratch to what `Lru.point` says.
   Two cases: at the first point of a batch row the scratch is filled from the launch's state, elsewhere it is what the
   point before left. -/
module

public import proofs.«01_k».proof.Proof.Gen.KernelIdeal.Skeleton
public import proofs.«01_k».proof.Proof.Gen.KernelIdeal.Points
public import proofs.«01_k».proof.Proof.Lru.Spec
public import Idealize.ShloMosaic.Lib.Pipeline.FrameBody
public import Idealize.ShloMosaic.Lib.WordCmp

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition of the body's conditional: the point is the first of its batch row. -/
abbrev first (i : grid0.Coords) : Prop :=
  (Scalar.cmpi .ne (Scalar.extui (Scalar.cmpi .eq (BitVec.ofNat 32 (i 1).val) 0#32)) 0#32) = 1#1

theorem first_iff : ∀ t : Fin cfg0.N, first (grid0.coords t) ↔ t.val % 16 = 0 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 1 % 16 := Pipeline.Grid.coords_val t 1 (by decide) rfl
    simp only [first, e0, e1]
    word_cmp
   : ∀ t : Fin grid0.N, first (grid0.coords t) ↔ t.val % 16 = 0)

/-- A buffer held after writes that read `d` is owned at `d`. -/
theorem owns_of_read (c : Thread nD τ) {sp : Space} {s : Shape} {e : EltTy} (m : Memref sig c.2.kind sp s e)
    (f : BufTy.Contents (Elt F) m.view.ty) (d : s.Idx → Elt F e) (h : m.view.read (Elt F) f = d) :
    (m.view.loc c ↦[m.view.set]{fullShare} f : sProp 𝕄) ⊢ owns c m fullShare d := by
  unfold owns
  iintro H
  iexists _; isplitr; swap; · iexact H
  ipureintro; exact h

theorem readAt_win {κ : Kind} {sp : Space} {s : Shape} {e : EltTy} (v : View sig κ sp s e)
    (f : BufTy.Contents (Elt F) v.ty) {off size : Fin s.rank → ℕ} (inb : ∀ a, off a + size a ≤ s.size a) :
    v.readAt (Elt F) (Rect.unit off size inb).toLoadRect f = VecWindow.window (v.read (Elt F) f) off size inb := rfl

theorem readCov_win {κ : Kind} {sp : Space} {s : Shape} {e : EltTy} (v : View sig κ sp s e)
    {off off' size : Fin s.rank → ℕ} (inb : ∀ a, off a + size a ≤ s.size a) (inb' : ∀ a, off' a + s.size a ≤ s.size a)
    (w : (Rect.unit off' s.size inb').shape.Idx → Elt F e) (L : List (View.Piece (Elt F) s e)) :
    v.readCov (⟨Rect.unit off' s.size inb', w⟩ :: L) (Rect.unit off size inb).toLoadRect
      = VecWindow.window w off size inb := by
  show v.readAt _ _ (v.writes _ v.junk _) = _
  rw [readAt_win, View.read_writes_full]

/-- A load of the view's own sizes over a later list of pieces on an earlier one. -/
theorem readCov_app {κ : Kind} {sp : Space} {s : Shape} {e : EltTy} (v : View sig κ sp s e)
    {off : Fin s.rank → ℕ} (inb : ∀ a, off a + s.size a ≤ s.size a) (L L' : List (View.Piece (Elt F) s e)) :
    v.readCov (L ++ L') (Rect.unit off s.size inb).toLoadRect
      = v.read (Elt F) (v.writes (Elt F) (v.writes (Elt F) v.junk L') L) := by
  show v.readAt _ _ (v.writes _ v.junk _) = _
  rw [View.readAt_full, View.writes_append]

section
variable (c : Dev nD) (i : grid0.Coords)
  (arg2 : Memref sig .tc .vmem S1x512x512 .bf16) (harg2 : arg2.IsWhole)
  (arg3 : Memref sig .tc .vmem S1x512x512 .bf16) (harg3 : arg3.IsWhole)
  (arg4 : Memref sig .tc .vmem S1x3x512 .f32) (harg4 : arg4.IsWhole)
  (arg5 : Memref sig .tc .vmem S1x1x512 .f32) (harg5 : arg5.IsWhole)
  (arg6 : Memref sig .tc .vmem S4x512 .f32) (harg6 : arg6.IsWhole)
  (arg7 : Memref sig .tc .vmem S1x512 .f32) (harg7 : arg7.IsWhole)
  (arg8 : Memref sig .tc .vmem S512x512 .bf16) (harg8 : arg8.IsWhole)
  (arg9 : Memref sig .tc .vmem S1x512 .f32) (harg9 : arg9.IsWhole)
  (arg10 : Memref sig .tc .vmem S512x512 .bf16) (harg10 : arg10.IsWhole)
  (arg11 : Memref sig .tc .vmem S1x512 .f32) (harg11 : arg11.IsWhole)
  (arg12 : Memref sig .tc .vmem S1x512 .f32) (harg12 : arg12.IsWhole)
  (arg13 : Memref sig .tc .vmem S1x512x512 .bf16) (harg13 : arg13.IsWhole)
  (arg14 : Memref sig .tc .vmem S1x1x512 .f32) (harg14 : arg14.IsWhole)
  (arg15 : Memref sig .tc .vmem S1x3x512 .f32) (harg15 : arg15.IsWhole)
  (arg16 : Memref sig .tc .vmem S3x512 .f32) (harg16 : arg16.IsWhole)
  (arg17 : Memref sig .tc .vmem S512x512 .f32) (harg17 : arg17.IsWhole)
  (arg18 : Memref sig .tc .vmem S512x512 .f32) (harg18 : arg18.IsWhole)
  (arg19 : Memref sig .tc .vmem S1x512 .f32) (harg19 : arg19.IsWhole)
  (x0 : Vec F S1x512x512 .bf16) (x1 : Vec F S1x512x512 .bf16) (x2 : Vec F S1x3x512 .f32) (x3 : Vec F S1x1x512 .f32) (x4 : Vec F S4x512 .f32) (x5 : Vec F S1x512 .f32) (x6 : Vec F S512x512 .bf16) (x7 : Vec F S1x512 .f32) (x8 : Vec F S512x512 .bf16) (x9 : Vec F S1x512 .f32) (x10 : Vec F S1x512 .f32)

set_option maxHeartbeats 4000000 in
/-- The first point of a batch row. -/
theorem runA (hc0 : first i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
        ∗ (∃ d, owns (c : Thread nD τ) arg13 fullShare d) ∗ (∃ d, owns (c : Thread nD τ) arg14 fullShare d) ∗ (∃ d, owns (c : Thread nD τ) arg15 fullShare d)
        ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
            ∗ owns (c : Thread nD τ) arg13 fullShare (point x0 x1 x4 x5 x6 x7 x8 x9 x10 (k0_pay2 x2) (k0_pay3 x3)).1 ∗ owns (c : Thread nD τ) arg14 fullShare (point x0 x1 x4 x5 x6 x7 x8 x9 x10 (k0_pay2 x2) (k0_pay3 x3)).2.1 ∗ owns (c : Thread nD τ) arg15 fullShare (point x0 x1 x4 x5 x6 x7 x8 x9 x10 (k0_pay2 x2) (k0_pay3 x3)).2.2.1
            ∗ owns (c : Thread nD τ) arg16 fullShare (point x0 x1 x4 x5 x6 x7 x8 x9 x10 (k0_pay2 x2) (k0_pay3 x3)).2.2.2.1 ∗ (∃ d, owns (c : Thread nD τ) arg17 fullShare d) ∗ (∃ d, owns (c : Thread nD τ) arg18 fullShare d) ∗ owns (c : Thread nD τ) arg19 fullShare (point x0 x1 x4 x5 x6 x7 x8 x9 x10 (k0_pay2 x2) (k0_pay3 x3)).2.2.2.2) -∗ K ⟨⟩))
      ⊢ wp frame (wpE (defs₀ (F := F)) Variants.none c none) E (cc0_lru_branch i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_lru_branch_eq_skeleton]; unfold cc0_lru_branch_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro
    sl_unfold_words
    simp (config := {proj := false}) only [View.read_writes_full, View.readAt_writes_full, View.readAt_full,
      Memref.IsWhole.read_unread, View.readCov_full, readCov_app, (stC_read _ _ _ _ _ _).1, (stC_read _ _ _ _ _ _).2]
    try simp (config := {proj := false}) only [readAt_win, readCov_win, View.read_writes_full, Memref.IsWhole.read_unread]
    first | rfl | exact (View.read_writes_full _ _ _ _ _).trans rfl
  isplitl [H12]
  · iexists _; isplitr; swap; · iexact H12
    ipureintro
    sl_unfold_words
    simp (config := {proj := false}) only [View.read_writes_full, View.readAt_writes_full, View.readAt_full,
      Memref.IsWhole.read_unread, View.readCov_full, readCov_app, (stC_read _ _ _ _ _ _).1, (stC_read _ _ _ _ _ _).2]
    try simp (config := {proj := false}) only [readAt_win, readCov_win, View.read_writes_full, Memref.IsWhole.read_unread]
    first | rfl | exact (View.read_writes_full _ _ _ _ _).trans rfl
  isplitl [H13]
  · iexists _; isplitr; swap; · iexact H13
    ipureintro
    sl_unfold_words
    simp (config := {proj := false}) only [View.read_writes_full, View.readAt_writes_full, View.readAt_full,
      Memref.IsWhole.read_unread, View.readCov_full, readCov_app, (stC_read _ _ _ _ _ _).1, (stC_read _ _ _ _ _ _).2]
    try simp (config := {proj := false}) only [readAt_win, readCov_win, View.read_writes_full, Memref.IsWhole.read_unread]
    first | rfl | exact (View.read_writes_full _ _ _ _ _).trans rfl
  isplitl [HS0]
  · iexists _; isplitr; swap; · iexact HS0
    ipureintro
    sl_unfold_words
    simp (config := {proj := false}) only [View.read_writes_full, View.readAt_writes_full, View.readAt_full,
      Memref.IsWhole.read_unread, View.readCov_full, readCov_app, (stC_read _ _ _ _ _ _).1, (stC_read _ _ _ _ _ _).2]
    try simp (config := {proj := false}) only [readAt_win, readCov_win, View.read_writes_full, Memref.IsWhole.read_unread]
    first | rfl | exact (View.read_writes_full _ _ _ _ _).trans rfl
  isplitl [HS1]
  · iexists _; iexists _; isplitr; swap; · iexact HS1
    ipureintro; rfl
  isplitl [HS2]
  · iexists _; iexists _; isplitr; swap; · iexact HS2
    ipureintro; rfl
  iexists _; isplitr; swap; · iexact HS3
  ipureintro
  sl_unfold_words
  simp (config := {proj := false}) only [View.read_writes_full, View.readAt_writes_full, View.readAt_full,
    Memref.IsWhole.read_unread, View.readCov_full, readCov_app, (stC_read _ _ _ _ _ _).1, (stC_read _ _ _ _ _ _).2]
  try simp (config := {proj := false}) only [readAt_win, readCov_win, View.read_writes_full, Memref.IsWhole.read_unread]
  first | rfl | exact (View.read_writes_full _ _ _ _ _).trans rfl

set_option maxHeartbeats 4000000 in
/-- A later point of a batch row. -/
theorem runB (hc0 : ¬first i) (xe : Vec F S3x512 .f32) (h : Vec F S1x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
        ∗ (∃ d, owns (c : Thread nD τ) arg13 fullShare d) ∗ (∃ d, owns (c : Thread nD τ) arg14 fullShare d) ∗ (∃ d, owns (c : Thread nD τ) arg15 fullShare d)
        ∗ owns (c : Thread nD τ) arg16 fullShare xe ∗ (∃ d, owns (c : Thread nD τ) arg17 fullShare d) ∗ (∃ d, owns (c : Thread nD τ) arg18 fullShare d) ∗ owns (c : Thread nD τ) arg19 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
            ∗ owns (c : Thread nD τ) arg13 fullShare (point x0 x1 x4 x5 x6 x7 x8 x9 x10 xe h).1 ∗ owns (c : Thread nD τ) arg14 fullShare (point x0 x1 x4 x5 x6 x7 x8 x9 x10 xe h).2.1 ∗ owns (c : Thread nD τ) arg15 fullShare (point x0 x1 x4 x5 x6 x7 x8 x9 x10 xe h).2.2.1
            ∗ owns (c : Thread nD τ) arg16 fullShare (point x0 x1 x4 x5 x6 x7 x8 x9 x10 xe h).2.2.2.1 ∗ (∃ d, owns (c : Thread nD τ) arg17 fullShare d) ∗ (∃ d, owns (c : Thread nD τ) arg18 fullShare d) ∗ owns (c : Thread nD τ) arg19 fullShare (point x0 x1 x4 x5 x6 x7 x8 x9 x10 xe h).2.2.2.2) -∗ K ⟨⟩))
      ⊢ wp frame (wpE (defs₀ (F := F)) Variants.none c none) E (cc0_lru_branch i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_lru_branch_eq_skeleton]; unfold cc0_lru_branch_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%fs0, %hfs0, HS0⟩, ⟨%ds1, %fs1, -, HS1⟩, ⟨%ds2, %fs2, -, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  obtain rfl := harg16.eq_unread hfs0; obtain rfl := harg19.eq_unread hfs3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro
    sl_unfold_words
    simp (config := {proj := false}) only [View.read_writes_full, View.readAt_writes_full, View.readAt_full,
      Memref.IsWhole.read_unread, View.readCov_full, readCov_app, (stC_read _ _ _ _ _ _).1, (stC_read _ _ _ _ _ _).2]
    try simp (config := {proj := false}) only [readAt_win, readCov_win, View.read_writes_full, Memref.IsWhole.read_unread]
    first | rfl | exact (View.read_writes_full _ _ _ _ _).trans rfl
  isplitl [H12]
  · iexists _; isplitr; swap; · iexact H12
    ipureintro
    sl_unfold_words
    simp (config := {proj := false}) only [View.read_writes_full, View.readAt_writes_full, View.readAt_full,
      Memref.IsWhole.read_unread, View.readCov_full, readCov_app, (stC_read _ _ _ _ _ _).1, (stC_read _ _ _ _ _ _).2]
    try simp (config := {proj := false}) only [readAt_win, readCov_win, View.read_writes_full, Memref.IsWhole.read_unread]
    first | rfl | exact (View.read_writes_full _ _ _ _ _).trans rfl
  isplitl [H13]
  · iexists _; isplitr; swap; · iexact H13
    ipureintro
    sl_unfold_words
    simp (config := {proj := false}) only [View.read_writes_full, View.readAt_writes_full, View.readAt_full,
      Memref.IsWhole.read_unread, View.readCov_full, readCov_app, (stC_read _ _ _ _ _ _).1, (stC_read _ _ _ _ _ _).2]
    try simp (config := {proj := false}) only [readAt_win, readCov_win, View.read_writes_full, Memref.IsWhole.read_unread]
    first | rfl | exact (View.read_writes_full _ _ _ _ _).trans rfl
  isplitl [HS0]
  · iexists _; isplitr; swap; · iexact HS0
    ipureintro
    sl_unfold_words
    simp (config := {proj := false}) only [View.read_writes_full, View.readAt_writes_full, View.readAt_full,
      Memref.IsWhole.read_unread, View.readCov_full, readCov_app, (stC_read _ _ _ _ _ _).1, (stC_read _ _ _ _ _ _).2]
    try simp (config := {proj := false}) only [readAt_win, readCov_win, View.read_writes_full, Memref.IsWhole.read_unread]
    first | rfl | exact (View.read_writes_full _ _ _ _ _).trans rfl
  isplitl [HS1]
  · iexists _; iexists _; isplitr; swap; · iexact HS1
    ipureintro; rfl
  isplitl [HS2]
  · iexists _; iexists _; isplitr; swap; · iexact HS2
    ipureintro; rfl
  iexists _; isplitr; swap; · iexact HS3
  ipureintro
  sl_unfold_words
  simp (config := {proj := false}) only [View.read_writes_full, View.readAt_writes_full, View.readAt_full,
    Memref.IsWhole.read_unread, View.readCov_full, readCov_app, (stC_read _ _ _ _ _ _).1, (stC_read _ _ _ _ _ _).2]
  try simp (config := {proj := false}) only [readAt_win, readCov_win, View.read_writes_full, Memref.IsWhole.read_unread]
  first | rfl | exact (View.read_writes_full _ _ _ _ _).trans rfl

end

end Cert.KernelIdeal.Lru

end
-- ==== Proof.Lru.Run.lean ====
/- The RG-LRU kernel's launch: what every buffer holds after each grid point (`left`, from `Lru.point`), the pipeline's
   proof data from it, the body at a point, and the run of the program with the contents it ends at. -/
module

public import proofs.«01_k».proof.Proof.Gen.KernelIdeal.Launch
public import proofs.«01_k».proof.Proof.Gen.KernelIdeal.Points
public import proofs.«01_k».proof.Proof.Gen.KernelIdeal.Frame
public import proofs.«01_k».proof.Proof.Lru.Body
public import Idealize.ShloMosaic.Lib.Claim
public import Idealize.ShloMosaic.Lib.Pipeline.FrameBody
public import Idealize.ShloMosaic.Lib.Tactic

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers of a point -/
abbrev stg0 (t : Fin cfg0.N) : Memref sig .tc .vmem S1x512x512 .bf16 := win0_0.stage (cfg0.slots t 0)
abbrev stg1 (t : Fin cfg0.N) : Memref sig .tc .vmem S1x512x512 .bf16 := win0_1.stage (cfg0.slots t 1)
abbrev stg2 (t : Fin cfg0.N) : Memref sig .tc .vmem S1x3x512 .f32 := win0_2.stage (cfg0.slots t 2)
abbrev stg3 (t : Fin cfg0.N) : Memref sig .tc .vmem S1x1x512 .f32 := win0_3.stage (cfg0.slots t 3)
abbrev stg4 (t : Fin cfg0.N) : Memref sig .tc .vmem S4x512 .f32 := win0_4.stage (cfg0.slots t 4)
abbrev stg5 (t : Fin cfg0.N) : Memref sig .tc .vmem S1x512 .f32 := win0_5.stage (cfg0.slots t 5)
abbrev stg6 (t : Fin cfg0.N) : Memref sig .tc .vmem S512x512 .bf16 := win0_6.stage (cfg0.slots t 6)
abbrev stg7 (t : Fin cfg0.N) : Memref sig .tc .vmem S1x512 .f32 := win0_7.stage (cfg0.slots t 7)
abbrev stg8 (t : Fin cfg0.N) : Memref sig .tc .vmem S512x512 .bf16 := win0_8.stage (cfg0.slots t 8)
abbrev stg9 (t : Fin cfg0.N) : Memref sig .tc .vmem S1x512 .f32 := win0_9.stage (cfg0.slots t 9)
abbrev stg10 (t : Fin cfg0.N) : Memref sig .tc .vmem S1x512 .f32 := win0_10.stage (cfg0.slots t 10)
abbrev stg11 (t : Fin cfg0.N) : Memref sig .tc .vmem S1x512x512 .bf16 := win0_11.stage (cfg0.slots t 11)
abbrev stg12 (t : Fin cfg0.N) : Memref sig .tc .vmem S1x1x512 .f32 := win0_12.stage (cfg0.slots t 12)
abbrev stg13 (t : Fin cfg0.N) : Memref sig .tc .vmem S1x3x512 .f32 := win0_13.stage (cfg0.slots t 13)
abbrev scr0 : Memref sig .tc .vmem S3x512 .f32 := Memref.whole cc0_scratch0
abbrev scr1 : Memref sig .tc .vmem S512x512 .f32 := Memref.whole cc0_scratch1
abbrev scr2 : Memref sig .tc .vmem S512x512 .f32 := Memref.whole cc0_scratch2
abbrev scr3 : Memref sig .tc .vmem S1x512 .f32 := Memref.whole cc0_scratch3

/-- The launch's invariant: every scratch buffer owned at something, and the generator register. -/
theorem PhiA_eq (c : Dev nD) :
    (Pipeline.ΦA spec0 c : sProp 𝕄)
      = iprop(iprop((∃ d, owns (c : Thread nD τ) scr0 fullShare d) ∗ (∃ d, owns (c : Thread nD τ) scr1 fullShare d)
          ∗ (∃ d, owns (c : Thread nD τ) scr2 fullShare d) ∗ (∃ d, owns (c : Thread nD τ) scr3 fullShare d))
        ∗ (∃ r, prngReg c r)) := by
  unfold Pipeline.ΦA; rw [scopedRest0_eq]; simp only [scr0, scr1, scr2, scr3, owns_whole]; try rfl

/-! ## What each point leaves -/

/-- `Lru.point` at point `t`'s blocks. -/
def pointAt (c : Dev nD) (t : Fin cfg0.N) (xe : Vec F S3x512 .f32) (h : Vec F S1x512 .f32) :
    Vec F S1x512x512 .bf16 × Vec F S1x1x512 .f32 × Vec F S1x3x512 .f32 × Vec F S3x512 .f32 × Vec F S1x512 .f32 :=
  point (X0_0 m c t) (X0_1 m c t) (iblk m c 4 t) (iblk m c 5 t) (iblk m c 6 t) (iblk m c 7 t) (iblk m c 8 t)
    (iblk m c 9 t) (iblk m c 10 t) xe h

/-- What the outputs' buffers and the two carried scratch buffers hold after point `n`. -/
def left (c : Dev nD) : (n : ℕ) → n < cfg0.N →
    Vec F S1x512x512 .bf16 × Vec F S1x1x512 .f32 × Vec F S1x3x512 .f32 × Vec F S3x512 .f32 × Vec F S1x512 .f32
  | 0, hn => pointAt m c ⟨0, hn⟩ (k0_pay2 (iblk m c 2 ⟨0, hn⟩)) (k0_pay3 (iblk m c 3 ⟨0, hn⟩))
  | n + 1, hn =>
    if (n + 1) % 16 = 0 then
      pointAt m c ⟨n + 1, hn⟩ (k0_pay2 (iblk m c 2 ⟨n + 1, hn⟩)) (k0_pay3 (iblk m c 3 ⟨n + 1, hn⟩))
    else pointAt m c ⟨n + 1, hn⟩ (left c n (by omega)).2.2.2.1 (left c n (by omega)).2.2.2.2

theorem left_first (c : Dev nD) (t : Fin cfg0.N) (h0 : t.val % 16 = 0) :
    left m c t.val t.isLt = pointAt m c t (k0_pay2 (iblk m c 2 t)) (k0_pay3 (iblk m c 3 t)) := by
  obtain ⟨n, hn⟩ := t
  cases n with
  | zero => exact rfl
  | succ n => exact (if_pos h0).trans rfl

theorem left_later (c : Dev nD) (t : Fin cfg0.N) (h0 : ¬t.val % 16 = 0) :
    left m c t.val t.isLt = pointAt m c t (left m c (t.val - 1) (by omega)).2.2.2.1
      (left m c (t.val - 1) (by omega)).2.2.2.2 := by
  obtain ⟨n, hn⟩ := t
  cases n with
  | zero => exact absurd (Nat.zero_mod _) h0
  | succ n => exact (if_neg h0).trans rfl

/-- The invariant after a point that left `l`: the carried scratch at `l`'s parts, the other at anything. -/
abbrev carried (c : Dev nD) (xe : Vec F S3x512 .f32) (h : Vec F S1x512 .f32) : sProp 𝕄 :=
  iprop(iprop(owns (c : Thread nD τ) scr0 fullShare xe ∗ (∃ d, owns (c : Thread nD τ) scr1 fullShare d)
      ∗ (∃ d, owns (c : Thread nD τ) scr2 fullShare d) ∗ owns (c : Thread nD τ) scr3 fullShare h) ∗ (∃ r, prngReg c r))

/-- The invariant before point `n`. -/
def before (c : Dev nD) : (n : ℕ) → n ≤ cfg0.N → sProp 𝕄
  | 0, _ => Pipeline.ΦA spec0 c
  | n + 1, hn => carried c (left m c n hn).2.2.2.1 (left m c n hn).2.2.2.2

theorem before_zero (c : Dev nD) (n : ℕ) (h : n ≤ cfg0.N) (hz : n = 0) : before m c n h = Pipeline.ΦA spec0 c := by
  subst hz; rfl

theorem before_succ (c : Dev nD) (n : ℕ) (hn : n < cfg0.N) :
    before m c (n + 1) hn = carried c (left m c n hn).2.2.2.1 (left m c n hn).2.2.2.2 := rfl

theorem before_pos (c : Dev nD) (n : ℕ) (h : n ≤ cfg0.N) (hz : n ≠ 0) :
    before m c n h = carried c (left m c (n - 1) (by omega)).2.2.2.1 (left m c (n - 1) (by omega)).2.2.2.2 := by
  cases n with
  | zero => exact absurd rfl hz
  | succ n => rfl

/-- After any point the carried contents may be forgotten. -/
theorem carried_out (c : Dev nD) (xe : Vec F S3x512 .f32) (h : Vec F S1x512 .f32) :
    (carried c xe h : sProp 𝕄) ⊢ Pipeline.ΦA spec0 c := by
  rw [PhiA_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexists _; iexact HS3
  iexact Hg

theorem before_out (c : Dev nD) (n : ℕ) (h : n ≤ cfg0.N) : before m c n h ⊢ Pipeline.ΦA spec0 c := by
  by_cases hz : n = 0
  · rw [before_zero m c n h hz]
  · rw [before_pos m c n h hz]; exact carried_out c _ _

/-! ## The pipeline's proof data -/

/-- Each input's buffer at its block, the outputs' at `left`, the invariant `before`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (left m c t.val t.isLt).1
    | ⟨12, _⟩ => (left m c t.val t.isLt).2.1
    | ⟨13, _⟩ => (left m c t.val t.isLt).2.2.1
  Φ t := before m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = before m c t.val (Nat.le_of_lt t.isLt) := by
  dsimp only [dats]; exact Pipeline.Dat.Φ_castSucc (before m c) t

theorem after_0 (c : Dev nD) (t : Fin cfg0.N) : (dats m 0 c).after 0 t = X0_0 m c t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = (left m c t.val t.isLt).1 := by dsimp only [dats]
theorem after_12 (c : Dev nD) (t : Fin cfg0.N) : (dats m 0 c).after 12 t = (left m c t.val t.isLt).2.1 := by dsimp only [dats]
theorem after_13 (c : Dev nD) (t : Fin cfg0.N) : (dats m 0 c).after 13 t = (left m c t.val t.isLt).2.2.1 := by dsimp only [dats]
theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-! ## The body at a point -/

def pre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare ((dats m 0 c).before 12 t d))
    ∗ (∃ d, owns (c : Thread nD τ) (stg13 t) fullShare ((dats m 0 c).before 13 t d)))

def post (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ owns (c : Thread nD τ) (stg11 t) fullShare ((dats m 0 c).after 11 t)
    ∗ owns (c : Thread nD τ) (stg12 t) fullShare ((dats m 0 c).after 12 t)
    ∗ owns (c : Thread nD τ) (stg13 t) fullShare ((dats m 0 c).after 13 t))

set_option maxHeartbeats 4000000 in
/-- The body at any point, from what the launch's invariant says before it to what it says after. -/
theorem sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9, before_10]
  rw [show (dats m 0 c).owesAt () t.succ = (dats m 0 c).owesAt () t.castSucc from rfl,
    after_0, after_1, after_2, after_3, after_4, after_5, after_6, after_7, after_8, after_9, after_10, after_11, after_12, after_13]
  rw [show (dats m 0 c).Φ t.succ = before m c (t.val + 1) t.isLt from rfl, before_succ, Phi_castSucc m c t]
  by_cases h0 : t.val % 16 = 0
  · rw [left_first m c t h0]
    refine (sep_mono (before_out m c _ _) .rfl).trans ?_
    rw [PhiA_eq]
    unfold pointAt
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (runA c (grid0.coords t) _ _ _ _ _ _ _ _ _ _ _ _ _ _ _ _ _ _ _ _ _ _ _ _ _ _ _ _ _ _ _ _ _ _ _ _ (X0_0 m c t) (X0_1 m c t) (iblk m c 2 t) (iblk m c 3 t) (iblk m c 4 t) (iblk m c 5 t) (iblk m c 6 t) (iblk m c 7 t) (iblk m c 8 t) (iblk m c 9 t) (iblk m c 10 t) ((first_iff t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [left_later m c t h0, before_pos m c _ _ (fun hz => h0 (by rw [hz]))]
    unfold pointAt
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (runB c (grid0.coords t) _ _ _ _ _ _ _ _ _ _ _ _ _ _ _ _ _ _ _ _ _ _ _ _ _ _ _ _ _ _ _ _ _ _ _ _ (X0_0 m c t) (X0_1 m c t) (iblk m c 2 t) (iblk m c 3 t) (iblk m c 4 t) (iblk m c 5 t) (iblk m c 6 t) (iblk m c 7 t) (iblk m c 8 t) (iblk m c 9 t) (iblk m c 10 t) (fun h => h0 ((first_iff t).mp h)) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row at a point is the body. -/
theorem defs₀_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs₀_row]
  exact triple_restated (sound m c t) rfl .rfl fun _ => .rfl

theorem hin (c : Dev nD) : Pipeline.ΦA spec0 c ⊢ (dats m 0 c).Φ 0 := by
  rw [show (dats m 0 c).Φ 0 = before m c 0 (Nat.zero_le _) from rfl, before_zero m c 0 _ rfl]
  try exact Idealize.SL.BI.Entails.refl _

theorem hout (c : Dev nD) : (dats m 0 c).Φ (Fin.last cfg0.N) ⊢ Pipeline.ΦA spec0 c :=
  by
  rw [show (dats m 0 c).Φ (Fin.last cfg0.N) = before m c cfg0.N (Nat.le_refl _) from rfl]
  exact before_out m c _ _

/-! ## The run -/

set_option backward.isDefEq.respectTransparency.types false in
/-- The program runs to its end: every array of the pipeline at what the proof data say, every counter at zero. -/
theorem run_q : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_q m ρ)

/-- The argument arrays end unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := θ_run_and (frame_of m ρ (dats m) (A_eq m) (run_main m ρ))
  ((θ_run defs _ _).mono (fun _ h => h.2) (run_q m ρ))

end Cert.KernelIdeal.Lru

end
-- ==== Proof.Lru.Scalars.lean ====
/- The scalar identities over the extended reals that join the RG-LRU kernel and its reference: the sigmoid written by
   `tanh`, the decay's range, the two spellings of the input's scale, and eight steps of the recurrence taken in three
   doublings. -/
module

public import Idealize.ShloMosaic.Lib.Pointwise
public import Idealize.ShloMosaic.Lib.IdealHost

@[expose] public section

noncomputable section

namespace Cert.Lru

open Idealize.ShloMosaic

theorem ofBits_half : Ideal.ofBits .f32 0x3F000000#32 = (((1 : ℝ) / 2 : ℝ) : EReal) := by
  simp [Ideal.ofBits, Ideal.ieee, -EReal.coe_mul]; norm_num

theorem ofBits_neg_eight : Ideal.ofBits .f32 0xC1000000#32 = ((-8 : ℝ) : EReal) := by
  simp [Ideal.ofBits, Ideal.ieee, -EReal.coe_mul, -EReal.coe_neg]; norm_num

theorem ofBits_two : Ideal.ofBits .f32 0x40000000#32 = ((2 : ℝ) : EReal) := by
  simp [Ideal.ofBits, Ideal.ieee, -EReal.coe_mul]; norm_num

/-- The sigmoid. -/
def sig (x : EReal) : EReal := Ideal.div 1 (1 + Ideal.exp (-x))

theorem sig_eq (x : EReal) : sig x = Ideal.logistic x := rfl

theorem sig_coe (r : ℝ) : sig (r : EReal) = (((1 + Real.exp (-r))⁻¹ : ℝ) : EReal) := Ideal.logistic_coe r

/-- The sigmoid as the kernel writes it. -/
theorem tanh_sig (x : EReal) :
    Ideal.ofBits .f32 0x3F000000#32 * Ideal.tanh (Ideal.ofBits .f32 0x3F000000#32 * x) + Ideal.ofBits .f32 0x3F000000#32 = sig x := by
  rw [ofBits_half]
  induction x using EReal.rec with
  | bot =>
    rw [EReal.coe_mul_bot_of_pos (by norm_num), sig_eq, Ideal.logistic_bot, Ideal.tanh_bot,
      show (-1 : EReal) = ((-1 : ℝ) : EReal) from by rw [EReal.coe_neg]; rfl, ← EReal.coe_mul, ← EReal.coe_add]
    norm_num
  | top =>
    rw [EReal.coe_mul_top_of_pos (by norm_num), sig_eq, Ideal.logistic_top, Ideal.tanh_top,
      show (1 : EReal) = ((1 : ℝ) : EReal) by norm_cast, ← EReal.coe_mul, ← EReal.coe_add]
    norm_num
  | coe r =>
    rw [← EReal.coe_mul, Ideal.tanh_coe, ← EReal.coe_mul, ← EReal.coe_add, sig_coe]
    congr 1
    rw [Real.tanh_eq_sinh_div_cosh, Real.sinh_eq, Real.cosh_eq]
    have h1 : Real.exp (-r) = Real.exp (-(1 / 2 * r)) * Real.exp (-(1 / 2 * r)) := by rw [← Real.exp_add]; congr 1; ring
    have h2 : Real.exp (1 / 2 * r) * Real.exp (-(1 / 2 * r)) = 1 := by rw [← Real.exp_add]; simp
    have h3 := Real.exp_pos (1 / 2 * r)
    have h4 := Real.exp_pos (-(1 / 2 * r))
    rw [h1]
    generalize Real.exp (1 / 2 * r) = p at *
    generalize Real.exp (-(1 / 2 * r)) = q at *
    field_simp
    nlinarith

/-- The sigmoid is a real number between zero and one. -/
theorem sig_range (x : EReal) : ∃ r : ℝ, 0 ≤ r ∧ r ≤ 1 ∧ sig x = (r : EReal) := by
  induction x using EReal.rec with
  | bot => exact ⟨0, le_rfl, zero_le_one, by rw [sig_eq, Ideal.logistic_bot]; rfl⟩
  | top => exact ⟨1, zero_le_one, le_rfl, by rw [sig_eq, Ideal.logistic_top]; rfl⟩
  | coe r =>
    refine ⟨_, ?_, ?_, sig_coe r⟩
    · positivity
    · have := Real.exp_pos (-r)
      exact inv_le_one_of_one_le₀ (by linarith)

/-- The softplus. -/
def softplus (v : EReal) : EReal := max v 0 + Ideal.log (1 + Ideal.exp (-max v (-v)))

theorem softplus_nonneg (v : EReal) : 0 ≤ softplus v := by
  refine add_nonneg (le_max_right _ _) ?_
  have hw : ∀ w : EReal, 0 ≤ Ideal.log (1 + Ideal.exp w) := by
    intro w
    induction w using EReal.rec with
    | bot =>
      show 0 ≤ Ideal.log (1 + 0)
      rw [add_zero, show (1 : EReal) = ((1 : ℝ) : EReal) from rfl]
      show (0 : EReal) ≤ if (1 : ℝ) ≤ 0 then ⊥ else (Real.log 1 : EReal)
      rw [if_neg (by norm_num), Real.log_one]
      rfl
    | top =>
      show 0 ≤ Ideal.log (1 + ⊤)
      rw [show (1 + ⊤ : EReal) = ⊤ from by rw [show (1 : EReal) = ((1 : ℝ) : EReal) from rfl]; exact EReal.coe_add_top _]
      exact le_top
    | coe r =>
      have hr := Real.exp_pos r
      show 0 ≤ Ideal.log (((1 : ℝ) : EReal) + (Real.exp r : EReal))
      rw [← EReal.coe_add]
      show (0 : EReal) ≤ if 1 + Real.exp r ≤ 0 then ⊥ else (Real.log (1 + Real.exp r) : EReal)
      rw [if_neg (by linarith)]
      exact_mod_cast Real.log_nonneg (by linarith)
  exact hw _

/-- The exponent of the decay: minus eight times the gate times the softplus. -/
def logDecay (g s : EReal) : EReal := ((-8 : ℝ) : EReal) * sig g * s

theorem logDecay_nonpos (g s : EReal) (hs : 0 ≤ s) : logDecay g s ≤ 0 := by
  obtain ⟨r, h0, _, hr⟩ := sig_range g
  rw [logDecay, hr, ← EReal.coe_mul]
  exact mul_nonpos_of_nonpos_of_nonneg (by exact_mod_cast (by linarith : -8 * r ≤ 0)) hs

/-- The exponential of what is not positive is a real number between zero and one. -/
theorem exp_range (y : EReal) (hy : y ≤ 0) : ∃ a : ℝ, 0 ≤ a ∧ a ≤ 1 ∧ Ideal.exp y = (a : EReal) := by
  induction y using EReal.rec with
  | bot => exact ⟨0, le_rfl, zero_le_one, rfl⟩
  | top => exact absurd hy (by simp)
  | coe r => exact ⟨Real.exp r, (Real.exp_pos r).le, Real.exp_le_one_iff.mpr (by exact_mod_cast hy), rfl⟩

/-- The scale of the recurrence's input, as the reference writes it. -/
def scale (y : EReal) : EReal := Ideal.sqrt (-(Ideal.exp (((2 : ℝ) : EReal) * y) - 1))

/-- The scale of the input as the kernel writes it is the reference's. -/
theorem scale_eq (y : EReal) (hy : y ≤ 0) :
    (if 0 < (1 - Ideal.exp y) * (1 + Ideal.exp y) then
      (1 - Ideal.exp y) * (1 + Ideal.exp y) * Ideal.rsqrt ((1 - Ideal.exp y) * (1 + Ideal.exp y)) else 0) = scale y := by
  obtain ⟨a, h0, h1, ha⟩ := exp_range y hy
  have h2 : Ideal.exp (((2 : ℝ) : EReal) * y) = ((a * a : ℝ) : EReal) := by
    induction y using EReal.rec with
    | bot =>
      rw [EReal.coe_mul_bot_of_pos (by norm_num)]
      have : (0 : EReal) = (a : EReal) := ha
      have : (0 : ℝ) = a := by exact_mod_cast this
      rw [← this, mul_zero]; rfl
    | top => exact absurd hy (by simp)
    | coe r =>
      have : ((Real.exp r : ℝ) : EReal) = (a : EReal) := ha
      have : Real.exp r = a := by exact_mod_cast this
      rw [← EReal.coe_mul]
      show ((Real.exp (2 * r) : ℝ) : EReal) = _
      rw [two_mul, Real.exp_add, this]
  rw [scale, h2, ha, show (1 : EReal) = ((1 : ℝ) : EReal) from rfl, ← EReal.coe_sub, ← EReal.coe_add, ← EReal.coe_mul,
    ← EReal.coe_sub, ← EReal.coe_neg, show -(a * a - 1) = (1 - a) * (1 + a) by ring]
  have hu : 0 ≤ (1 - a) * (1 + a) := mul_nonneg (by linarith) (by linarith)
  generalize (1 - a) * (1 + a) = u at hu
  show _ = if u < 0 then ⊥ else (Real.sqrt u : EReal)
  rw [if_neg (not_lt.mpr hu)]
  rcases hu.eq_or_lt with h | h
  · subst h; simp
  · rw [if_pos (by exact_mod_cast h)]
    show (u : EReal) * (if u < 0 then ⊥ else if u = 0 then ⊤ else (((Real.sqrt u)⁻¹ : ℝ) : EReal)) = _
    rw [if_neg (not_lt.mpr hu), if_neg h.ne', ← EReal.coe_mul]
    congr 1
    have := Real.sqrt_pos.mpr h
    field_simp
    rw [Real.sq_sqrt hu]

/-- Multiplication by a real number that is not negative distributes. -/
theorem mul_add_of_range {a : EReal} (h : ∃ r : ℝ, 0 ≤ r ∧ a = (r : EReal)) (x y : EReal) : a * (x + y) = a * x + a * y := by
  obtain ⟨r, h0, rfl⟩ := h
  exact EReal.left_distrib_of_nonneg_of_ne_top (by exact_mod_cast h0) (EReal.coe_ne_top r) x y

/-- The state after `n` rows of a recurrence `h ← a h + b`. -/
def seq (a b : ℕ → EReal) (h : EReal) : ℕ → EReal
  | 0 => h
  | n + 1 => a n * seq a b h n + b n

theorem seq_congr {a b a' b' : ℕ → EReal} (h : EReal) (n : ℕ) (ha : ∀ k < n, a k = a' k) (hb : ∀ k < n, b k = b' k) :
    seq a b h n = seq a' b' h n := by
  induction n with
  | zero => rfl
  | succ n ih =>
    rw [seq, seq, ha n (by omega), hb n (by omega), ih (fun k hk => ha k (by omega)) fun k hk => hb k (by omega)]

theorem seq_add (a b : ℕ → EReal) (h : EReal) (m n : ℕ) :
    seq a b h (m + n) = seq (fun k => a (m + k)) (fun k => b (m + k)) (seq a b h m) n := by
  induction n with
  | zero => rfl
  | succ n ih => rw [← Nat.add_assoc, seq, seq, ih]

/-- A real number that is not negative, among the extended reals. -/
def Good (a : EReal) : Prop := ∃ r : ℝ, 0 ≤ r ∧ a = (r : EReal)

theorem Good.mul {a b : EReal} (ha : Good a) (hb : Good b) : Good (a * b) := by
  obtain ⟨r, hr, rfl⟩ := ha
  obtain ⟨s, hs, rfl⟩ := hb
  exact ⟨r * s, mul_nonneg hr hs, (EReal.coe_mul r s).symm⟩

theorem Good.mul_add {a : EReal} (h : Good a) (x y : EReal) : a * (x + y) = a * x + a * y := mul_add_of_range h x y

theorem good_exp (y : EReal) (hy : y ≤ 0) : Good (Ideal.exp y) := by
  obtain ⟨a, h0, _, h⟩ := exp_range y hy
  exact ⟨a, h0, h⟩

end Cert.Lru

end
-- ==== Proof.Lru.Scan.lean ====
/- Eight rows of the kernel's recurrence are eight steps of the sequential one, and the loop over a block's rows is the
   sequential recurrence over the block. -/
module

public import proofs.«01_k».proof.Proof.Lru.Spec
public import proofs.«01_k».proof.Proof.Lru.Scalars

@[expose] public section

set_option maxRecDepth 16384

noncomputable section

namespace Cert.KernelIdeal.Lru

open Cert.KernelIdeal Cert.KernelIdeal.Gen Cert.Lru
open Idealize.ShloMosaic Idealize.ShloMosaic.TcCoe Idealize.ShloMosaic.Pointwise

/-- A column of eight rows as a sequence, zero from the ninth on. -/
def col8 (x : Vec Ideal S8x512 .f32) (l : Fin 512) (k : ℕ) : EReal := if h : k < 8 then x (ix2 ⟨k, h⟩ l) else 0

theorem pay23_apply (h : Vec Ideal S1x512 .f32) (A B : Vec Ideal S8x512 .f32) (hA : ∀ j, Good (A j)) (j : Fin 8) (l : Fin 512) :
    k0_pay23 h A B (ix2 j l) = seq (col8 A l) (col8 B l) (h (ix2 0 l)) (j.val + 1) := by
  rcases j with ⟨j, hj⟩
  interval_cases j
  all_goals pointwise [k0_pay23]
  all_goals simp [IntOp.cmpi, Scalar.select, seq, col8, (hA _).mul_add, mul_assoc, add_assoc]

/-- A column of a block as a sequence, zero past the block. -/
def col (x : Vec Ideal S512x512 .f32) (l : Fin 512) (k : ℕ) : EReal := if h : k < 512 then x (ix2 ⟨k, h⟩ l) else 0

theorem trip_lt (k : Fin k0_t1_loop.trips) : k.val < 64 := lt_of_lt_of_eq k.isLt trips_eq

/-- Row `j` of trip `k`'s eight rows is row `8 k + j` of the block. -/
theorem rows8_apply (x : Vec Ideal S512x512 .f32) (k : Fin k0_t1_loop.trips) (j : Fin 8) (l : Fin 512) :
    rows8 x k (ix2 j l) = x (ix2 ⟨8 * k.val + j.val, by have := trip_lt k; omega⟩ l) := by
  refine congrArg x (funext fun a => Fin.ext ?_)
  fin_cases a
  · show k0_off1 k 0 + 1 * j.val = 8 * k.val + j.val
    rw [k0_off1_eq]
    show 8 * k.val + 1 * j.val = _
    omega
  · show k0_off1 k 1 + 1 * l.val = l.val
    rw [k0_off1_eq]
    show 0 + 1 * l.val = _
    omega

/-- Reading after trip `k`'s eight rows are replaced: outside them nothing changed, inside the new row is read. -/
theorem put8_apply (x : Vec Ideal S512x512 .f32) (k : Fin k0_t1_loop.trips) (w : Vec Ideal S8x512 .f32) (r l : Fin 512) :
    VecWindow.put x (k0_off1 k) S8x512.size w (ix2 r l) =
      if h : 8 * k.val ≤ r.val ∧ r.val < 8 * k.val + 8 then w (ix2 ⟨r.val - 8 * k.val, by omega⟩ l) else x (ix2 r l) := by
  have hl := l.isLt
  have e : (∀ a, k0_off1 k a ≤ (ix2 r l a).val ∧ (ix2 r l a).val < k0_off1 k a + S8x512.size a) ↔
      8 * k.val ≤ r.val ∧ r.val < 8 * k.val + 8 := by
    rw [k0_off1_eq]
    constructor
    · intro h; exact h 0
    · intro h a
      fin_cases a
      · exact h
      · show 0 ≤ l.val ∧ l.val < 0 + 512
        omega
  unfold VecWindow.put
  by_cases h : 8 * k.val ≤ r.val ∧ r.val < 8 * k.val + 8
  · rw [dif_pos (e.mpr h), dif_pos h]
    refine congrArg w (funext fun a => Fin.ext ?_)
    fin_cases a
    · show r.val - k0_off1 k 0 = r.val - 8 * k.val
      rw [k0_off1_eq]
      rfl
    · show l.val - k0_off1 k 1 = l.val
      rw [k0_off1_eq]
      rfl
  · rw [dif_neg (fun h' => h (e.mp h')), dif_neg h]

/-- The carried state before trip `k` is the sequential state after `8 k` rows, and the buffer holds the states of the
    rows before `8 k`. -/
theorem stV_apply (A B : Vec Ideal S512x512 .f32) (h : Vec Ideal S1x512 .f32) (hA : ∀ j, Good (A j)) (k : ℕ)
    (hk : k ≤ 64) :
    (∀ l : Fin 512, (stV A B h k).1 (ix2 0 l) = seq (col A l) (col B l) (h (ix2 0 l)) (8 * k)) ∧
      ∀ r l : Fin 512, (stV A B h k).2 (ix2 r l) =
        if r.val < 8 * k then seq (col A l) (col B l) (h (ix2 0 l)) (r.val + 1) else B (ix2 r l) := by
  induction k with
  | zero => exact ⟨fun l => rfl, fun r l => by simp [stV]⟩
  | succ k ih =>
    obtain ⟨ih1, ih2⟩ := ih (by omega)
    have hk' : k < k0_t1_loop.trips := by rw [trips_eq]; omega
    have key : ∀ (j : Fin 8) (l : Fin 512),
        k0_pay23 (stV A B h k).1 (rows8 A ⟨k, hk'⟩) (rows8 (stV A B h k).2 ⟨k, hk'⟩) (ix2 j l) =
          seq (col A l) (col B l) (h (ix2 0 l)) (8 * k + (j.val + 1)) := by
      intro j l
      rw [pay23_apply _ (rows8 A ⟨k, hk'⟩) _ (fun i => hA _), seq_add _ _ _ (8 * k), ih1]
      refine seq_congr _ _ (fun i hi => ?_) fun i hi => ?_
      · have hi8 : i < 8 := by omega
        rw [col8, dif_pos hi8, rows8_apply, col, dif_pos (show 8 * k + i < 512 by omega)]
      · have hi8 : i < 8 := by omega
        rw [col8, dif_pos hi8, rows8_apply, ih2, if_neg (by simp), col, dif_pos (show 8 * k + i < 512 by omega)]
    rw [stV, dif_pos hk']
    refine ⟨fun l => ?_, fun r l => ?_⟩
    · show k0_pay25 _ _ _ (ix2 0 l) = _
      pointwise [k0_pay25]
      exact key 7 l
    · show VecWindow.put _ _ _ _ (ix2 r l) = _
      rw [put8_apply]
      split
      · rename_i hr
        simp only at hr
        pointwise [k0_pay24]
        rw [key, if_pos (by omega)]
        congr 1
        show 8 * k + (r.val - 8 * k + 1) = _
        omega
      · rename_i hr
        simp only at hr
        rw [ih2]
        by_cases h1 : r.val < 8 * k
        · rw [if_pos h1, if_pos (by omega)]
        · rw [if_neg h1, if_neg (by omega)]

end Cert.KernelIdeal.Lru

end
-- ==== Proof.Lru.Maths.lean ====
/- The RG-LRU's mathematics at one batch row, over the extended reals: the causal convolution of four taps, the two
   block-diagonal gates, the decay and the scaled input, the recurrence and the gated output. The kernel's blocks and the
   reference's arrays are both read as these functions. -/
module

public import proofs.«01_k».proof.Proof.Lru.Scalars

@[expose] public section

noncomputable section

namespace Cert.Lru

open Idealize.ShloMosaic

/-- The weights: four filter taps and a bias, two gates of eight 64 × 64 blocks and a bias, and the softplus of the decay's
    parameter, each at its lane. -/
structure Weights where
  tap : Fin 4 → Fin 512 → EReal
  bias : Fin 512 → EReal
  wr : Fin 8 → Fin 64 → Fin 64 → EReal
  br : Fin 512 → EReal
  wi : Fin 8 → Fin 64 → Fin 64 → EReal
  bi : Fin 512 → EReal
  rate : Fin 512 → EReal

/-- The block a lane belongs to, and its place there. -/
abbrev blk (l : Fin 512) : Fin 8 := ⟨l.val / 64, by omega⟩
abbrev pos (l : Fin 512) : Fin 64 := ⟨l.val % 64, by omega⟩
/-- The lane at a place of a block. -/
abbrev lane (n : Fin 8) (k : Fin 64) : Fin 512 := ⟨n.val * 64 + k.val, by omega⟩

/-- The convolution at row `t` of the sequence `X`, which begins with the three rows before the first. -/
def cv (W : Weights) (X : ℕ → Fin 512 → EReal) (t : ℕ) (l : Fin 512) : EReal :=
  X t l * W.tap 0 l + X (t + 1) l * W.tap 1 l + X (t + 2) l * W.tap 2 l + X (t + 3) l * W.tap 3 l + W.bias l

/-- A gate before its sigmoid: the lane's block of the weights against the block's lanes, and the bias. -/
def gate (w : Fin 8 → Fin 64 → Fin 64 → EReal) (b : Fin 512 → EReal) (y : Fin 512 → EReal) (l : Fin 512) : EReal :=
  (∑ k : Fin 64, w (blk l) k (pos l) * y (lane (blk l) k)) + b l

/-- The exponent of the decay. -/
def expo (W : Weights) (X : ℕ → Fin 512 → EReal) (t : ℕ) (l : Fin 512) : EReal :=
  logDecay (gate W.wr W.br (cv W X t) l) (W.rate l)

/-- The decay. -/
def dec (W : Weights) (X : ℕ → Fin 512 → EReal) (t : ℕ) (l : Fin 512) : EReal := Ideal.exp (expo W X t l)

/-- The recurrence's input. -/
def inp (W : Weights) (X : ℕ → Fin 512 → EReal) (t : ℕ) (l : Fin 512) : EReal :=
  scale (expo W X t l) * (sig (gate W.wi W.bi (cv W X t) l) * cv W X t l)

/-- The state after `t` rows. -/
def st (W : Weights) (X : ℕ → Fin 512 → EReal) (h : Fin 512 → EReal) (t : ℕ) (l : Fin 512) : EReal :=
  seq (fun k => dec W X k l) (fun k => inp W X k l) (h l) t

/-- The output gate. -/
def silu (g : EReal) : EReal := g * sig g

theorem cv_shift (W : Weights) (X : ℕ → Fin 512 → EReal) (s t : ℕ) : cv W (fun k => X (s + k)) t = cv W X (s + t) := rfl

theorem dec_shift (W : Weights) (X : ℕ → Fin 512 → EReal) (s t : ℕ) : dec W (fun k => X (s + k)) t = dec W X (s + t) := rfl

theorem inp_shift (W : Weights) (X : ℕ → Fin 512 → EReal) (s t : ℕ) : inp W (fun k => X (s + k)) t = inp W X (s + t) := rfl

/-- The state goes on from where it stood. -/
theorem st_add (W : Weights) (X : ℕ → Fin 512 → EReal) (h : Fin 512 → EReal) (s t : ℕ) (l : Fin 512) :
    st W (fun k => X (s + k)) (st W X h s) t l = st W X h (s + t) l := by
  unfold st
  rw [seq_add]
  rfl

/-- The state depends on the rows read so far only. -/
theorem st_congr (W : Weights) {X Y : ℕ → Fin 512 → EReal} {h g : Fin 512 → EReal} (t : ℕ) (l : Fin 512)
    (hX : ∀ k < t + 3, X k = Y k) (hh : h = g) : st W X h t l = st W Y g t l := by
  subst hh
  have hc : ∀ k < t, cv W X k = cv W Y k := fun k hk => by
    funext l; unfold cv; rw [hX k (by omega), hX (k + 1) (by omega), hX (k + 2) (by omega), hX (k + 3) (by omega)]
  refine seq_congr _ _ (fun k hk => ?_) fun k hk => ?_
  · unfold dec expo; rw [hc k hk]
  · unfold inp expo; rw [hc k hk]

/-- A sum over all lanes against a block-diagonal matrix is the sum over the lane's own block. -/
theorem sum_blocks (y : Fin 512 → EReal) (w : Fin 8 → Fin 64 → Fin 64 → EReal) (M : Fin 512 → EReal) (l : Fin 512)
    (hM : ∀ e, M e = if blk e = blk l then w (blk e) (pos e) (pos l) else 0) :
    ∑ e : Fin 512, y e * M e = ∑ k : Fin 64, w (blk l) k (pos l) * y (lane (blk l) k) := by
  have h1 : ∑ e : Fin 512, y e * M e = ∑ n : Fin 8, ∑ k : Fin 64, y (lane n k) * M (lane n k) := by
    rw [← Finset.sum_product' (Finset.univ : Finset (Fin 8)) (Finset.univ : Finset (Fin 64)) fun n k => y (lane n k) * M (lane n k)]
    symm
    refine Finset.sum_bij (fun p _ => lane p.1 p.2) (fun _ _ => Finset.mem_univ _) ?_ ?_ fun _ _ => rfl
    · rintro ⟨a, b⟩ _ ⟨c, d⟩ _ h
      have h' : a.val * 64 + b.val = c.val * 64 + d.val := congrArg Fin.val h
      exact Prod.ext (Fin.ext (by show a.val = c.val; omega)) (Fin.ext (by show b.val = d.val; omega))
    · intro e _
      exact ⟨(blk e, pos e), Finset.mem_univ _, Fin.ext (by show e.val / 64 * 64 + e.val % 64 = e.val; omega)⟩
  have hb : ∀ (n : Fin 8) (k : Fin 64), blk (lane n k) = n := fun n k =>
    Fin.ext (by show (n.val * 64 + k.val) / 64 = n.val; omega)
  have hp : ∀ (n : Fin 8) (k : Fin 64), pos (lane n k) = k := fun n k =>
    Fin.ext (by show (n.val * 64 + k.val) % 64 = k.val; omega)
  rw [h1, Finset.sum_eq_single (blk l)]
  · refine Finset.sum_congr rfl fun k _ => ?_
    rw [hM, hb, hp, if_pos rfl, mul_comm]
  · intro n _ hn
    refine Finset.sum_eq_zero fun k _ => ?_
    rw [hM, hb, if_neg hn, mul_zero]
  · intro h; exact absurd (Finset.mem_univ _) h

end Cert.Lru

end
-- ==== Proof.Lru.Point.lean ====
/- One grid point of the RG-LRU kernel, read at an index: the block's states are the recurrence of `Lru.Maths` over the
   block's rows, begun at the carried state and the three carried input rows. -/
module

public import proofs.«01_k».proof.Proof.Lru.Scan
public import proofs.«01_k».proof.Proof.Lru.Maths

@[expose] public section

set_option maxRecDepth 16384

noncomputable section

namespace Cert.KernelIdeal.Lru

open Cert.KernelIdeal Cert.KernelIdeal.Gen Cert.Lru
open Idealize.ShloMosaic Idealize.ShloMosaic.TcCoe Idealize.ShloMosaic.Pointwise

/-- The three carried rows and then the block's. -/
def rowsOf (x0 : Vec Ideal S1x512x512 .bf16) (xe : Vec Ideal S3x512 .f32) (k : ℕ) (l : Fin 512) : EReal :=
  if h : k < 3 then xe (ix2 ⟨k, h⟩ l) else if h : k - 3 < 512 then x0 (ix3 0 ⟨k - 3, h⟩ l) else 0

theorem past_apply (xe : Vec Ideal S3x512 .f32) (r : ℕ) (hr : r < 3) (h) (l : Fin 512) :
    past xe r h (ix2 0 l) = xe (ix2 ⟨r, hr⟩ l) := by
  refine congrArg xe (funext fun a => Fin.ext ?_)
  fin_cases a
  · show r + 1 * 0 = r
    omega
  · show 0 + 1 * l.val = l.val
    omega

theorem tap_apply (x4 : Vec Ideal S4x512 .f32) (r : ℕ) (hr : r < 4) (h) (l : Fin 512) :
    tap x4 r h (ix2 0 l) = x4 (ix2 ⟨r, hr⟩ l) := by
  refine congrArg x4 (funext fun a => Fin.ext ?_)
  fin_cases a
  · show r + 1 * 0 = r
    omega
  · show 0 + 1 * l.val = l.val
    omega

/-- A rotation by one row whose first row is replaced. -/
theorem shift_eq (f : Fin 512 → EReal) (v : EReal) (r : Fin 512) (p : r.val < 8 → (r.val + 512 - 1) % 512 < 512)
    (q : ¬r.val < 8 → (8 + (r.val - 8) + 512 - 1) % 512 < 512) :
    (if h : r.val < 8 then Scalar.select (IntOp.cmpi .eq (BitVec.ofNat 32 r.val) 0#32) v (f ⟨(r.val + 512 - 1) % 512, p h⟩)
      else f ⟨(8 + (r.val - 8) + 512 - 1) % 512, q h⟩) = if h : r.val = 0 then v else f ⟨r.val - 1, by omega⟩ := by
  have hr := r.isLt
  by_cases h0 : r.val = 0
  · rw [dif_pos (by omega), dif_pos h0]
    simp [h0, IntOp.cmpi, Scalar.select]
  · rw [dif_neg h0]
    by_cases h8 : r.val < 8
    · rw [dif_pos h8]
      have hne : IntOp.cmpi .eq (BitVec.ofNat 32 r.val) 0#32 = 0#1 := by
        have : ¬ BitVec.ofNat 32 r.val = 0#32 := fun h => by
          have := congrArg BitVec.toNat h
          simp at this
          omega
        show BitVec.ofBool (BitVec.ofNat 32 r.val == 0#32) = 0#1
        rw [beq_eq_false_iff_ne.mpr this]
        rfl
      rw [hne]
      show f _ = f _
      congr 1
      exact Fin.ext (by show (r.val + 512 - 1) % 512 = r.val - 1; omega)
    · rw [dif_neg h8]
      congr 1
      exact Fin.ext (by show (8 + (r.val - 8) + 512 - 1) % 512 = r.val - 1; omega)

theorem pay6_apply (x0 : Vec Ideal S1x512x512 .bf16) (v : Vec Ideal S1x512 .f32) (r l : Fin 512) :
    k0_pay6 x0 v (ix2 r l) = if h : r.val = 0 then v (ix2 0 l) else x0 (ix3 0 ⟨r.val - 1, by omega⟩ l) := by
  pointwise [k0_pay6, k0_pay5, k0_pay4]
  exact shift_eq (fun i => x0 (ix3 0 i l)) _ r _ _

theorem pay7_apply (x0 : Vec Ideal S1x512x512 .bf16) (v w : Vec Ideal S1x512 .f32) (r l : Fin 512) :
    k0_pay7 x0 v w (ix2 r l) = if h : r.val = 0 then w (ix2 0 l) else k0_pay6 x0 v (ix2 ⟨r.val - 1, by omega⟩ l) := by
  pointwise [k0_pay7, k0_pay5]
  exact shift_eq (fun i => k0_pay6 x0 v (ix2 i l)) _ r _ _

/-- The convolution of a block. -/
theorem convV_apply (W : Weights) (x0 : Vec Ideal S1x512x512 .bf16) (x4 : Vec Ideal S4x512 .f32) (x5 : Vec Ideal S1x512 .f32)
    (xe : Vec Ideal S3x512 .f32) (h4 : ∀ j l, x4 (ix2 j l) = W.tap j l) (h5 : ∀ l, x5 (ix2 0 l) = W.bias l) (r l : Fin 512) :
    convV x0 x4 x5 xe (ix2 r l) = cv W (rowsOf x0 xe) r.val l := by
  have e : ∀ a b c d : EReal, W.tap 3 l * a + W.tap 2 l * b + W.tap 1 l * c + W.tap 0 l * d + W.bias l =
      d * W.tap 0 l + c * W.tap 1 l + b * W.tap 2 l + a * W.tap 3 l + W.bias l := fun a b c d => by
    rw [mul_comm _ a, mul_comm _ b, mul_comm _ c, mul_comm _ d]; ac_rfl
  have h3 : (if h : r.val = 0 then past xe 0 inb_S3x512_S1x512_0_0 (ix2 0 l)
      else k0_pay7 x0 (past xe 2 inb_S3x512_S1x512_2_0) (past xe 1 inb_S3x512_S1x512_1_0) (ix2 ⟨r.val - 1, by omega⟩ l)) =
      rowsOf x0 xe r.val l := by
    have hr := r.isLt
    unfold rowsOf
    rw [past_apply xe 0 (by omega), pay7_apply]
    by_cases h0 : r.val = 0
    · rw [dif_pos h0, dif_pos (by omega)]; congr 2; exact Fin.ext h0.symm
    · rw [dif_neg h0]
      by_cases h1 : r.val = 1
      · rw [dif_pos (show r.val - 1 = 0 by omega), dif_pos (by omega), past_apply xe 1 (by omega)]; congr 2; exact Fin.ext h1.symm
      · rw [dif_neg (show ¬ r.val - 1 = 0 by omega), pay6_apply]
        by_cases h2 : r.val = 2
        · rw [dif_pos (show r.val - 1 - 1 = 0 by omega), dif_pos (by omega), past_apply xe 2 (by omega)]; congr 2; exact Fin.ext h2.symm
        · rw [dif_neg (show ¬ r.val - 1 - 1 = 0 by omega), dif_neg (by omega), dif_pos (by omega)]
          exact congrArg (fun i => x0 (ix3 0 i l)) (Fin.ext (by show r.val - 1 - 1 - 1 = r.val - 3; omega))
  have h2 : k0_pay7 x0 (past xe 2 inb_S3x512_S1x512_2_0) (past xe 1 inb_S3x512_S1x512_1_0) (ix2 r l) =
      rowsOf x0 xe (r.val + 1) l := by
    have hr := r.isLt
    unfold rowsOf
    rw [pay7_apply]
    by_cases h0 : r.val = 0
    · rw [dif_pos h0, dif_pos (by omega), past_apply xe 1 (by omega)]; congr 2; exact Fin.ext (by show 1 = r.val + 1; omega)
    · rw [dif_neg h0, pay6_apply]
      by_cases h1 : r.val = 1
      · rw [dif_pos (show r.val - 1 = 0 by omega), dif_pos (by omega), past_apply xe 2 (by omega)]; congr 2; exact Fin.ext (by show 2 = r.val + 1; omega)
      · rw [dif_neg (show ¬ r.val - 1 = 0 by omega), dif_neg (by omega), dif_pos (by omega)]; rfl
  have h1 : k0_pay6 x0 (past xe 2 inb_S3x512_S1x512_2_0) (ix2 r l) = rowsOf x0 xe (r.val + 2) l := by
    have hr := r.isLt
    unfold rowsOf
    rw [pay6_apply]
    by_cases h0 : r.val = 0
    · rw [dif_pos h0, dif_pos (by omega), past_apply xe 2 (by omega)]; congr 2; exact Fin.ext (by show 2 = r.val + 2; omega)
    · rw [dif_neg h0, dif_neg (by omega), dif_pos (by omega)]; rfl
  have h0 : x0 (ix3 0 r l) = rowsOf x0 xe (r.val + 3) l := by
    unfold rowsOf
    rw [dif_neg (by omega), dif_pos (show r.val + 3 - 3 < 512 by omega)]
    rfl
  unfold convV conv3 shift3
  pointwise [k0_pay10, k0_pay8, k0_pay9, k0_pay4, k0_pay5]
  rw [tap_apply x4 3 (by omega), tap_apply x4 2 (by omega), tap_apply x4 1 (by omega), tap_apply x4 0 (by omega),
    shift_eq (fun i => k0_pay7 x0 (past xe 2 inb_S3x512_S1x512_2_0) (past xe 1 inb_S3x512_S1x512_1_0) (ix2 i l)) _ r, h3, h2, h1, h0]
  show x4 (ix2 3 l) * _ + x4 (ix2 2 l) * _ + x4 (ix2 1 l) * _ + x4 (ix2 0 l) * _ + _ = _
  rw [h4, h4, h4, h4, h5, e]
  rfl

/-- A row of a block, lane by lane. -/
theorem preR_apply (W : Weights) (x0 : Vec Ideal S1x512x512 .bf16) (x4 : Vec Ideal S4x512 .f32) (x5 : Vec Ideal S1x512 .f32)
    (x6 : Vec Ideal S512x512 .bf16) (x7 : Vec Ideal S1x512 .f32) (xe : Vec Ideal S3x512 .f32)
    (h4 : ∀ j l, x4 (ix2 j l) = W.tap j l) (h5 : ∀ l, x5 (ix2 0 l) = W.bias l)
    (h6 : ∀ e l, x6 (ix2 e l) = if blk e = blk l then W.wr (blk e) (pos e) (pos l) else 0) (h7 : ∀ l, x7 (ix2 0 l) = W.br l)
    (r l : Fin 512) :
    preR x0 x4 x5 x6 x7 xe (ix2 r l) = gate W.wr W.br (cv W (rowsOf x0 xe) r.val) l := by
  have hc := fun e => convV_apply W x0 x4 x5 xe h4 h5 r e
  unfold convV at hc
  unfold preR
  pointwise [k0_pay15, k0_pay14]
  simp only [hc, h7]
  rw [sum_blocks (cv W (rowsOf x0 xe) r.val) W.wr (fun e => x6 (ix2 e l)) l (fun e => h6 e l)]
  rfl

theorem preI_apply (W : Weights) (x0 : Vec Ideal S1x512x512 .bf16) (x4 : Vec Ideal S4x512 .f32) (x5 : Vec Ideal S1x512 .f32)
    (x8 : Vec Ideal S512x512 .bf16) (x9 : Vec Ideal S1x512 .f32) (xe : Vec Ideal S3x512 .f32)
    (h4 : ∀ j l, x4 (ix2 j l) = W.tap j l) (h5 : ∀ l, x5 (ix2 0 l) = W.bias l)
    (h8 : ∀ e l, x8 (ix2 e l) = if blk e = blk l then W.wi (blk e) (pos e) (pos l) else 0) (h9 : ∀ l, x9 (ix2 0 l) = W.bi l)
    (r l : Fin 512) :
    preI x0 x4 x5 x8 x9 xe (ix2 r l) = gate W.wi W.bi (cv W (rowsOf x0 xe) r.val) l := by
  have hc := fun e => convV_apply W x0 x4 x5 xe h4 h5 r e
  unfold convV at hc
  unfold preI
  pointwise [k0_pay16, k0_pay14]
  simp only [hc, h9]
  rw [sum_blocks (cv W (rowsOf x0 xe) r.val) W.wi (fun e => x8 (ix2 e l)) l (fun e => h8 e l)]
  rfl

/-- The kernel's decay of a gate's value and the parameter. -/
theorem pay18_apply (v : Vec Ideal S512x512 .f32) (x10 : Vec Ideal S1x512 .f32) (r l : Fin 512) :
    k0_pay18 v (Ideal.ofBits .f32 0x3F000000#32) x10 (ix2 r l) = Ideal.exp (logDecay (v (ix2 r l)) (softplus (-x10 (ix2 0 l)))) := by
  pointwise [k0_pay18]
  rw [tanh_sig, ofBits_neg_eight]
  simp only [zero_sub]
  rfl

theorem decay_apply (W : Weights) (x0 : Vec Ideal S1x512x512 .bf16) (x4 : Vec Ideal S4x512 .f32) (x5 : Vec Ideal S1x512 .f32)
    (x6 : Vec Ideal S512x512 .bf16) (x7 x10 : Vec Ideal S1x512 .f32) (xe : Vec Ideal S3x512 .f32)
    (h4 : ∀ j l, x4 (ix2 j l) = W.tap j l) (h5 : ∀ l, x5 (ix2 0 l) = W.bias l)
    (h6 : ∀ e l, x6 (ix2 e l) = if blk e = blk l then W.wr (blk e) (pos e) (pos l) else 0) (h7 : ∀ l, x7 (ix2 0 l) = W.br l)
    (h10 : ∀ l, softplus (-x10 (ix2 0 l)) = W.rate l) (r l : Fin 512) :
    decay x0 x4 x5 x6 x7 x10 xe (ix2 r l) = dec W (rowsOf x0 xe) r.val l := by
  unfold decay
  pointwise [k0_pay20]
  rw [pay18_apply, preR_apply W x0 x4 x5 x6 x7 xe h4 h5 h6 h7, h10]
  rfl

theorem inpt_apply (W : Weights) (x0 : Vec Ideal S1x512x512 .bf16) (x4 : Vec Ideal S4x512 .f32) (x5 : Vec Ideal S1x512 .f32)
    (x6 : Vec Ideal S512x512 .bf16) (x7 : Vec Ideal S1x512 .f32) (x8 : Vec Ideal S512x512 .bf16) (x9 x10 : Vec Ideal S1x512 .f32)
    (xe : Vec Ideal S3x512 .f32) (h4 : ∀ j l, x4 (ix2 j l) = W.tap j l) (h5 : ∀ l, x5 (ix2 0 l) = W.bias l)
    (h6 : ∀ e l, x6 (ix2 e l) = if blk e = blk l then W.wr (blk e) (pos e) (pos l) else 0) (h7 : ∀ l, x7 (ix2 0 l) = W.br l)
    (h8 : ∀ e l, x8 (ix2 e l) = if blk e = blk l then W.wi (blk e) (pos e) (pos l) else 0) (h9 : ∀ l, x9 (ix2 0 l) = W.bi l)
    (h10 : ∀ l, softplus (-x10 (ix2 0 l)) = W.rate l) (r l : Fin 512) :
    inpt x0 x4 x5 x6 x7 x8 x9 x10 xe (ix2 r l) = inp W (rowsOf x0 xe) r.val l := by
  have hn : expo W (rowsOf x0 xe) r.val l ≤ 0 := logDecay_nonpos _ _ (by rw [← h10]; exact softplus_nonneg _)
  unfold inpt
  pointwise [k0_pay22, k0_pay21, k0_pay19, k0_pay17]
  rw [tanh_sig, pay18_apply, convV_apply W x0 x4 x5 xe h4 h5, preR_apply W x0 x4 x5 x6 x7 xe h4 h5 h6 h7,
    preI_apply W x0 x4 x5 x8 x9 xe h4 h5 h8 h9, h10]
  unfold inp
  rw [← scale_eq _ hn]
  rfl

/-- What is asked of the weights' blocks: they hold `W`. -/
structure Holds (W : Weights) (x4 : Vec Ideal S4x512 .f32) (x5 : Vec Ideal S1x512 .f32) (x6 : Vec Ideal S512x512 .bf16)
    (x7 : Vec Ideal S1x512 .f32) (x8 : Vec Ideal S512x512 .bf16) (x9 x10 : Vec Ideal S1x512 .f32) : Prop where
  h4 : ∀ j l, x4 (ix2 j l) = W.tap j l
  h5 : ∀ l, x5 (ix2 0 l) = W.bias l
  h6 : ∀ e l, x6 (ix2 e l) = if blk e = blk l then W.wr (blk e) (pos e) (pos l) else 0
  h7 : ∀ l, x7 (ix2 0 l) = W.br l
  h8 : ∀ e l, x8 (ix2 e l) = if blk e = blk l then W.wi (blk e) (pos e) (pos l) else 0
  h9 : ∀ l, x9 (ix2 0 l) = W.bi l
  h10 : ∀ l, softplus (-x10 (ix2 0 l)) = W.rate l

section

variable {W : Weights} {x4 : Vec Ideal S4x512 .f32} {x5 : Vec Ideal S1x512 .f32} {x6 : Vec Ideal S512x512 .bf16}
  {x7 : Vec Ideal S1x512 .f32} {x8 : Vec Ideal S512x512 .bf16} {x9 x10 : Vec Ideal S1x512 .f32}
  (H : Holds W x4 x5 x6 x7 x8 x9 x10) (x0 x1 : Vec Ideal S1x512x512 .bf16) (xe : Vec Ideal S3x512 .f32)
  (h : Vec Ideal S1x512 .f32)

include H

theorem scanned_apply :
    (∀ l : Fin 512, (scanned x0 x4 x5 x6 x7 x8 x9 x10 xe h).1 (ix2 0 l) =
        st W (rowsOf x0 xe) (fun l => h (ix2 0 l)) 512 l) ∧
      ∀ r l : Fin 512, (scanned x0 x4 x5 x6 x7 x8 x9 x10 xe h).2 (ix2 r l) =
        st W (rowsOf x0 xe) (fun l => h (ix2 0 l)) (r.val + 1) l := by
  have hd := decay_apply W x0 x4 x5 x6 x7 x10 xe H.h4 H.h5 H.h6 H.h7 H.h10
  have hi := inpt_apply W x0 x4 x5 x6 x7 x8 x9 x10 xe H.h4 H.h5 H.h6 H.h7 H.h8 H.h9 H.h10
  have hg : ∀ j, Good (decay x0 x4 x5 x6 x7 x10 xe j) := fun j => by
    obtain ⟨r, l, rfl⟩ : ∃ r l : Fin 512, j = ix2 r l := ⟨j 0, j 1, eq_ix2 j⟩
    rw [hd]
    exact good_exp _ (logDecay_nonpos _ _ (by rw [← H.h10]; exact softplus_nonneg _))
  have hs := stV_apply (decay x0 x4 x5 x6 x7 x10 xe) (inpt x0 x4 x5 x6 x7 x8 x9 x10 xe) h hg 64 le_rfl
  have ht : scanned x0 x4 x5 x6 x7 x8 x9 x10 xe h =
      stV (decay x0 x4 x5 x6 x7 x10 xe) (inpt x0 x4 x5 x6 x7 x8 x9 x10 xe) h 64 :=
    congrArg (stV (decay x0 x4 x5 x6 x7 x10 xe) (inpt x0 x4 x5 x6 x7 x8 x9 x10 xe) h) trips_eq
  have hq : ∀ (l : Fin 512) (n : ℕ), n ≤ 512 → seq (col (decay x0 x4 x5 x6 x7 x10 xe) l) (col (inpt x0 x4 x5 x6 x7 x8 x9 x10 xe) l)
      (h (ix2 0 l)) n = st W (rowsOf x0 xe) (fun l => h (ix2 0 l)) n l := fun l n hn =>
    seq_congr _ _ (fun k hk => by rw [col, dif_pos (by omega), hd]) fun k hk => by rw [col, dif_pos (by omega), hi]
  rw [ht]
  refine ⟨fun l => (hs.1 l).trans (hq l _ (by omega)), fun r l => ?_⟩
  rw [hs.2, if_pos (by omega)]
  exact hq l _ (by omega)

theorem point_u (r l : Fin 512) : (point x0 x1 x4 x5 x6 x7 x8 x9 x10 xe h).1 (ix3 0 r l) =
    st W (rowsOf x0 xe) (fun l => h (ix2 0 l)) (r.val + 1) l * silu (x1 (ix3 0 r l)) := by
  show k0_pay1 (k0_pay28 (scanned x0 x4 x5 x6 x7 x8 x9 x10 xe h).2 x1) (ix3 0 r l) = _
  pointwise [k0_pay1, k0_pay28]
  rw [tanh_sig, (scanned_apply H x0 xe h).2]
  rfl

theorem point_h (l : Fin 512) : (point x0 x1 x4 x5 x6 x7 x8 x9 x10 xe h).2.1 (ix3 0 0 l) =
    st W (rowsOf x0 xe) (fun l => h (ix2 0 l)) 512 l := by
  show k0_pay27 (scanned x0 x4 x5 x6 x7 x8 x9 x10 xe h).1 (ix3 0 0 l) = _
  pointwise [k0_pay27]
  exact (scanned_apply H x0 xe h).1 l

theorem point_carry (l : Fin 512) : (point x0 x1 x4 x5 x6 x7 x8 x9 x10 xe h).2.2.2.2 (ix2 0 l) =
    st W (rowsOf x0 xe) (fun l => h (ix2 0 l)) 512 l := by
  show k0_pay26 (scanned x0 x4 x5 x6 x7 x8 x9 x10 xe h).1 (ix2 0 l) = _
  pointwise [k0_pay26]
  exact (scanned_apply H x0 xe h).1 l

omit H

theorem point_conv (j : Fin 3) (l : Fin 512) : (point x0 x1 x4 x5 x6 x7 x8 x9 x10 xe h).2.2.1 (ix3 0 j l) =
    rowsOf x0 xe (512 + j.val) l := by
  show k0_pay13 (k0_pay4 x0) (ix3 0 j l) = _
  pointwise [k0_pay13, k0_pay11, k0_pay4]
  rw [rowsOf, dif_neg (by omega), dif_pos (by omega)]
  exact congrArg (fun i => x0 (ix3 0 i l)) (Fin.ext (by show 509 + j.val = 512 + j.val - 3; omega))

theorem point_rows (j : Fin 3) (l : Fin 512) : (point x0 x1 x4 x5 x6 x7 x8 x9 x10 xe h).2.2.2.1 (ix2 j l) =
    rowsOf x0 xe (512 + j.val) l := by
  show k0_pay12 (k0_pay4 x0) (ix2 j l) = _
  pointwise [k0_pay12, k0_pay11, k0_pay4]
  rw [rowsOf, dif_neg (by omega), dif_pos (by omega)]
  exact congrArg (fun i => x0 (ix3 0 i l)) (Fin.ext (by show 509 + j.val = 512 + j.val - 3; omega))

end

end Cert.KernelIdeal.Lru

end
-- ==== Proof.Lru.Blocks.lean ====
/- The blocks of the kernel's windows at a grid point, read as the program's arguments: the branch's two slices of the
   projection, the carried rows and state, and the weights that the host code lays out before the call. -/
module

public import proofs.«01_k».proof.Proof.Lru.Run
public import proofs.«01_k».proof.Proof.Lru.Point
public import Idealize.ShloMosaic.Lib.Pointwise
public import Idealize.ShloMosaic.Lib.StableHlo.RunRead

@[expose] public section

set_option maxRecDepth 16384

noncomputable section

namespace Cert.KernelIdeal.Lru

open Cert.KernelIdeal Cert.KernelIdeal.Gen Cert.Lru
open Idealize.ShloMosaic Idealize.ShloMosaic.TcCoe Idealize.ShloMosaic.Tactic Idealize.ShloMosaic.Pointwise

variable (m : (ℓ : Loc nD τ sig) → Buf (Elt Ideal) ℓ) (c : Dev nD)

/-! ## The arguments -/
abbrev P3 : Vec Ideal S4x8192x9472 .bf16 := m ((c : Thread nD τ).loc main_arg0)
abbrev conv0 : Vec Ideal S4x3x512 .f32 := m ((c : Thread nD τ).loc main_arg1)
abbrev h0 : Vec Ideal S4x512 .f32 := m ((c : Thread nD τ).loc main_arg2)
abbrev taps : Vec Ideal S4x512 .f32 := m ((c : Thread nD τ).loc main_arg3)
abbrev cbias : Vec Ideal S512 .f32 := m ((c : Thread nD τ).loc main_arg4)
abbrev wa : Vec Ideal S8x64x64 .f32 := m ((c : Thread nD τ).loc main_arg5)
abbrev ba : Vec Ideal S512 .f32 := m ((c : Thread nD τ).loc main_arg6)
abbrev wx : Vec Ideal S8x64x64 .f32 := m ((c : Thread nD τ).loc main_arg7)
abbrev bx : Vec Ideal S512 .f32 := m ((c : Thread nD τ).loc main_arg8)
abbrev lam : Vec Ideal S512 .f32 := m ((c : Thread nD τ).loc main_arg9)

/-! ## The windows' indices -/
theorem idx0 : ∀ t : Fin cfg0.N, win0_0.index t (0 : Fin 3) = t.val / 16 ∧ win0_0.index t (1 : Fin 3) = t.val % 16 ∧
    win0_0.index t (2 : Fin 3) = 4 := (by decide +kernel : ∀ t : Fin grid0.N, _)
theorem idx1 : ∀ t : Fin cfg0.N, win0_1.index t (0 : Fin 3) = t.val / 16 ∧ win0_1.index t (1 : Fin 3) = t.val % 16 ∧
    win0_1.index t (2 : Fin 3) = 5 := (by decide +kernel : ∀ t : Fin grid0.N, _)
theorem idx2 : ∀ t : Fin cfg0.N, win0_2.index t (0 : Fin 3) = t.val / 16 ∧ win0_2.index t (1 : Fin 3) = 0 ∧
    win0_2.index t (2 : Fin 3) = 0 := (by decide +kernel : ∀ t : Fin grid0.N, _)
theorem idx3 : ∀ t : Fin cfg0.N, win0_3.index t (0 : Fin 3) = t.val / 16 ∧ win0_3.index t (1 : Fin 3) = 0 ∧
    win0_3.index t (2 : Fin 3) = 0 := (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)

theorem t_lt (t : Fin cfg0.N) : t.val < 64 := lt_of_lt_of_eq t.isLt N_0

/-! ## The blocks as reads of the arrays the region starts on -/
theorem blk0 (t : Fin cfg0.N) (r l : Fin 512) : X0_0 m c t (ix3 0 r l) =
    P3 m c (ix3 ⟨t.val / 16, by have := t_lt t; omega⟩ ⟨t.val % 16 * 512 + r.val, by omega⟩ ⟨2048 + l.val, by omega⟩) := by
  unfold X0_0 Pipeline.Window.fill
  rw [dif_pos (moved0_0 t _)]
  obtain ⟨e0, e1, e2⟩ := idx0 t
  show V m c main_arg0 (((cfg0.win 0).blk t).view.emb _) = _
  rw [V_main_arg0]
  refine congrArg (m ((c : Thread nD τ).loc main_arg0)) (funext fun a => Fin.ext ?_)
  match a with
  | ⟨0, _⟩ => show win0_0.index t (0 : Fin 3) * 1 + 1 * 0 = t.val / 16; omega
  | ⟨1, _⟩ => show win0_0.index t (1 : Fin 3) * 512 + 1 * r.val = t.val % 16 * 512 + r.val; rw [e1]; omega
  | ⟨2, _⟩ => show win0_0.index t (2 : Fin 3) * 512 + 1 * l.val = 2048 + l.val; omega

theorem blk1 (t : Fin cfg0.N) (r l : Fin 512) : X0_1 m c t (ix3 0 r l) =
    P3 m c (ix3 ⟨t.val / 16, by have := t_lt t; omega⟩ ⟨t.val % 16 * 512 + r.val, by omega⟩ ⟨2560 + l.val, by omega⟩) := by
  unfold X0_1 Pipeline.Window.fill
  rw [dif_pos (moved0_1 t _)]
  obtain ⟨e0, e1, e2⟩ := idx1 t
  show V m c main_arg0 (((cfg0.win 1).blk t).view.emb _) = _
  rw [V_main_arg0]
  refine congrArg (m ((c : Thread nD τ).loc main_arg0)) (funext fun a => Fin.ext ?_)
  match a with
  | ⟨0, _⟩ => show win0_1.index t (0 : Fin 3) * 1 + 1 * 0 = t.val / 16; omega
  | ⟨1, _⟩ => show win0_1.index t (1 : Fin 3) * 512 + 1 * r.val = t.val % 16 * 512 + r.val; rw [e1]; omega
  | ⟨2, _⟩ => show win0_1.index t (2 : Fin 3) * 512 + 1 * l.val = 2560 + l.val; omega

theorem blk2 (t : Fin cfg0.N) (j : Fin 3) (l : Fin 512) : (iblk m c 2 t : Vec Ideal S1x3x512 .f32) (ix3 0 j l) =
    conv0 m c (ix3 ⟨t.val / 16, by have := t_lt t; omega⟩ j l) := by
  obtain ⟨e0, e1, e2⟩ := idx2 t
  show V m c main_arg1 (((cfg0.win 2).blk t).view.emb _) = _
  rw [V_main_arg1]
  refine congrArg (m ((c : Thread nD τ).loc main_arg1)) (funext fun a => Fin.ext ?_)
  match a with
  | ⟨0, _⟩ => show win0_2.index t (0 : Fin 3) * 1 + 1 * 0 = t.val / 16; omega
  | ⟨1, _⟩ => show win0_2.index t (1 : Fin 3) * 3 + 1 * j.val = j.val; omega
  | ⟨2, _⟩ => show win0_2.index t (2 : Fin 3) * 512 + 1 * l.val = l.val; omega

theorem V_v30 (b : Fin 4) (l : Fin 512) : (V m c main_v30 : Vec Ideal S4x1x512 .f32) (ix3 b 0 l) = h0 m c (ix2 b l) := by
  have e : (V m c main_v30 : Vec Ideal S4x1x512 .f32) =
      broadcastInDim S4x1x512 ![0, 2] bcast_S4x512_S4x1x512_0_2 (h0 m c) := by
    unfold V; unfold_abbrev_sides; after_reads_simp
  rw [e]
  pointwise

theorem V_row (a : Vec Ideal S512 .f32) (l : Fin 512) :
    (broadcastInDim S1x512 ![1] bcast_S512_S1x512_1 a : Vec Ideal S1x512 .f32) (ix2 0 l) = a (ix1 l) := by
  pointwise

theorem V_v0 : (V m c main_v0 : Vec Ideal S1x512 .f32) = broadcastInDim S1x512 ![1] bcast_S512_S1x512_1 (cbias m c) := by
  unfold V; unfold_abbrev_sides; after_reads_simp
theorem V_v14 : (V m c main_v14 : Vec Ideal S1x512 .f32) = broadcastInDim S1x512 ![1] bcast_S512_S1x512_1 (ba m c) := by
  unfold V; unfold_abbrev_sides; after_reads_simp
theorem V_v28 : (V m c main_v28 : Vec Ideal S1x512 .f32) = broadcastInDim S1x512 ![1] bcast_S512_S1x512_1 (bx m c) := by
  unfold V; unfold_abbrev_sides; after_reads_simp
theorem V_v29 : (V m c main_v29 : Vec Ideal S1x512 .f32) = broadcastInDim S1x512 ![1] bcast_S512_S1x512_1 (lam m c) := by
  unfold V; unfold_abbrev_sides; after_reads_simp

/-- The block-diagonal matrix the host code lays out. -/
def diag (w : FVec Ideal S8x64x64 .f32) : FVec Ideal S512x512 .bf16 :=
  truncf (F := Ideal) .bf16 (shapeCast S512x512 (mulf (F := Ideal) (φ := .f32)
    (broadcastInDim S8x64x8x64 ![0, 1, 2, 3] bcast_S8x1x8x1_S8x64x8x64_0_1_2_3 (broadcastInDim S8x1x8x1 ![0, 2] bcast_S8x8_S8x1x8x1_0_2
      (uitofp .f32 (cmpi .eq (addi (iotaInDim S8x8 32 0) (broadcastInDim S8x8 ![] bcast_S_S8x8 (constantI S_ 32 0#32))) (iotaInDim S8x8 32 1)))))
    (broadcastInDim S8x64x8x64 ![0, 1, 2, 3] bcast_S8x64x1x64_S8x64x8x64_0_1_2_3
      (broadcastInDim S8x64x1x64 ![0, 1, 3] bcast_S8x64x64_S8x64x1x64_0_1_3 w))) shapeCasts_S8x64x8x64_S512x512) bitsLt_bf16_f32

theorem V_v13 : (V m c main_v13 : Vec Ideal S512x512 .bf16) = diag (wa m c) := by
  unfold V; unfold_abbrev_sides; after_reads_simp; try rfl
theorem V_v27 : (V m c main_v27 : Vec Ideal S512x512 .bf16) = diag (wx m c) := by
  unfold V; unfold_abbrev_sides; after_reads_simp; try rfl

theorem diag_apply (w : Vec Ideal S8x64x64 .f32) (e l : Fin 512) :
    diag w (ix2 e l) = if blk e = blk l then w (ix3 (blk e) (pos e) (pos l)) else 0 := by
  unfold diag
  pointwise
  have hc : (FloatOps.uitofp (F := Ideal) .f32 (IntOp.cmpi CmpIPredicate.eq (IntOp.addi (BitVec.ofNat 32 (e.val / 64)) 0#32)
      (BitVec.ofNat 32 (l.val / 64))) : EReal) = if blk e = blk l then 1 else 0 := by
    have ha : IntOp.addi (BitVec.ofNat 32 (e.val / 64)) 0#32 = BitVec.ofNat 32 (e.val / 64) := BitVec.add_zero _
    rw [ha]
    by_cases h : e.val / 64 = l.val / 64
    · rw [if_pos (Fin.ext h), h]
      show FloatOps.uitofp (F := Ideal) .f32 (BitVec.ofBool (_ == _)) = (1 : EReal)
      rw [beq_self_eq_true]
      simp [FloatOps.uitofp]
    · have hb : BitVec.ofNat 32 (e.val / 64) ≠ BitVec.ofNat 32 (l.val / 64) := fun hh => h (by
        have := congrArg BitVec.toNat hh
        rw [BitVec.toNat_ofNat, BitVec.toNat_ofNat, Nat.mod_eq_of_lt (by omega), Nat.mod_eq_of_lt (by omega)] at this
        exact this)
      rw [if_neg (fun hh => h (congrArg Fin.val hh))]
      show FloatOps.uitofp (F := Ideal) .f32 (BitVec.ofBool (_ == _)) = (0 : EReal)
      rw [beq_eq_false_iff_ne.mpr hb]
      simp [FloatOps.uitofp]
  rw [hc]
  by_cases h : blk e = blk l
  · rw [if_pos h, if_pos h, one_mul]
  · rw [if_neg h, if_neg h, zero_mul]

/-! ## The weights, the sequence and the state as functions of the arguments -/

/-- The weights the call is given. -/
def wts : Weights where
  tap j l := taps m c (ix2 j l)
  bias l := cbias m c (ix1 l)
  wr n k d := wa m c (ix3 n k d)
  br l := ba m c (ix1 l)
  wi n k d := wx m c (ix3 n k d)
  bi l := bx m c (ix1 l)
  rate l := softplus (-lam m c (ix1 l))

/-- Batch row `b`'s sequence: the three rows carried in, then the branch's slice of the projection. -/
def rowsX (b : Fin 4) (k : ℕ) (l : Fin 512) : EReal :=
  if h : k < 3 then conv0 m c (ix3 b ⟨k, h⟩ l)
  else if h : k - 3 < 8192 then P3 m c (ix3 b ⟨k - 3, h⟩ ⟨2048 + l.val, by omega⟩) else 0

/-- Batch row `b`'s state before the first row. -/
def stateH (b : Fin 4) (l : Fin 512) : EReal := h0 m c (ix2 b l)

/-- Batch row `b`'s output gate before its activation. -/
def gateG (b : Fin 4) (t : Fin 8192) (l : Fin 512) : EReal := P3 m c (ix3 b t ⟨2560 + l.val, by omega⟩)

theorem blk3 (t : Fin cfg0.N) (l : Fin 512) : (iblk m c 3 t : Vec Ideal S1x1x512 .f32) (ix3 0 0 l) =
    stateH m c ⟨t.val / 16, by have := t_lt t; omega⟩ l := by
  obtain ⟨e0, e1, e2⟩ := idx3 t
  show (V m c main_v30 : Vec Ideal S4x1x512 .f32) (((cfg0.win 3).blk t).view.emb _) = _
  rw [stateH, ← V_v30]
  refine congrArg (V m c main_v30) (funext fun a => Fin.ext ?_)
  match a with
  | ⟨0, _⟩ => show win0_3.index t (0 : Fin 3) * 1 + 1 * 0 = t.val / 16; omega
  | ⟨1, _⟩ => show win0_3.index t (1 : Fin 3) * 1 + 1 * 0 = 0; omega
  | ⟨2, _⟩ => show win0_3.index t (2 : Fin 3) * 512 + 1 * l.val = l.val; omega

theorem blk4 (t : Fin cfg0.N) (j : Fin 4) (l : Fin 512) : (iblk m c 4 t : Vec Ideal S4x512 .f32) (ix2 j l) =
    taps m c (ix2 j l) := by
  obtain ⟨e0, e1⟩ := idx4 t
  show V m c main_arg3 (((cfg0.win 4).blk t).view.emb _) = _
  rw [V_main_arg3]
  refine congrArg (m ((c : Thread nD τ).loc main_arg3)) (funext fun a => Fin.ext ?_)
  match a with
  | ⟨0, _⟩ => show win0_4.index t (0 : Fin 2) * 4 + 1 * j.val = j.val; omega
  | ⟨1, _⟩ => show win0_4.index t (1 : Fin 2) * 512 + 1 * l.val = l.val; omega

theorem blk5 (t : Fin cfg0.N) (l : Fin 512) : (iblk m c 5 t : Vec Ideal S1x512 .f32) (ix2 0 l) = cbias m c (ix1 l) := by
  obtain ⟨e0, e1⟩ := idx5 t
  show (V m c main_v0 : Vec Ideal S1x512 .f32) (((cfg0.win 5).blk t).view.emb _) = _
  rw [← V_row (cbias m c) l, ← V_v0]
  refine congrArg (V m c main_v0) (funext fun a => Fin.ext ?_)
  match a with
  | ⟨0, _⟩ => show win0_5.index t (0 : Fin 2) * 1 + 1 * 0 = 0; omega
  | ⟨1, _⟩ => show win0_5.index t (1 : Fin 2) * 512 + 1 * l.val = l.val; omega

theorem blk7 (t : Fin cfg0.N) (l : Fin 512) : (iblk m c 7 t : Vec Ideal S1x512 .f32) (ix2 0 l) = ba m c (ix1 l) := by
  obtain ⟨e0, e1⟩ := idx7 t
  show (V m c main_v14 : Vec Ideal S1x512 .f32) (((cfg0.win 7).blk t).view.emb _) = _
  rw [← V_row (ba m c) l, ← V_v14]
  refine congrArg (V m c main_v14) (funext fun a => Fin.ext ?_)
  match a with
  | ⟨0, _⟩ => show win0_7.index t (0 : Fin 2) * 1 + 1 * 0 = 0; omega
  | ⟨1, _⟩ => show win0_7.index t (1 : Fin 2) * 512 + 1 * l.val = l.val; omega

theorem blk9 (t : Fin cfg0.N) (l : Fin 512) : (iblk m c 9 t : Vec Ideal S1x512 .f32) (ix2 0 l) = bx m c (ix1 l) := by
  obtain ⟨e0, e1⟩ := idx9 t
  show (V m c main_v28 : Vec Ideal S1x512 .f32) (((cfg0.win 9).blk t).view.emb _) = _
  rw [← V_row (bx m c) l, ← V_v28]
  refine congrArg (V m c main_v28) (funext fun a => Fin.ext ?_)
  match a with
  | ⟨0, _⟩ => show win0_9.index t (0 : Fin 2) * 1 + 1 * 0 = 0; omega
  | ⟨1, _⟩ => show win0_9.index t (1 : Fin 2) * 512 + 1 * l.val = l.val; omega

theorem blk10 (t : Fin cfg0.N) (l : Fin 512) : (iblk m c 10 t : Vec Ideal S1x512 .f32) (ix2 0 l) = lam m c (ix1 l) := by
  obtain ⟨e0, e1⟩ := idx10 t
  show (V m c main_v29 : Vec Ideal S1x512 .f32) (((cfg0.win 10).blk t).view.emb _) = _
  rw [← V_row (lam m c) l, ← V_v29]
  refine congrArg (V m c main_v29) (funext fun a => Fin.ext ?_)
  match a with
  | ⟨0, _⟩ => show win0_10.index t (0 : Fin 2) * 1 + 1 * 0 = 0; omega
  | ⟨1, _⟩ => show win0_10.index t (1 : Fin 2) * 512 + 1 * l.val = l.val; omega

theorem blk6 (t : Fin cfg0.N) (e l : Fin 512) : (iblk m c 6 t : Vec Ideal S512x512 .bf16) (ix2 e l) =
    diag (wa m c) (ix2 e l) := by
  obtain ⟨e0, e1⟩ := idx6 t
  show (V m c main_v13 : Vec Ideal S512x512 .bf16) (((cfg0.win 6).blk t).view.emb _) = _
  rw [← V_v13]
  refine congrArg (V m c main_v13) (funext fun a => Fin.ext ?_)
  match a with
  | ⟨0, _⟩ => show win0_6.index t (0 : Fin 2) * 512 + 1 * e.val = e.val; omega
  | ⟨1, _⟩ => show win0_6.index t (1 : Fin 2) * 512 + 1 * l.val = l.val; omega

theorem blk8 (t : Fin cfg0.N) (e l : Fin 512) : (iblk m c 8 t : Vec Ideal S512x512 .bf16) (ix2 e l) =
    diag (wx m c) (ix2 e l) := by
  obtain ⟨e0, e1⟩ := idx8 t
  show (V m c main_v27 : Vec Ideal S512x512 .bf16) (((cfg0.win 8).blk t).view.emb _) = _
  rw [← V_v27]
  refine congrArg (V m c main_v27) (funext fun a => Fin.ext ?_)
  match a with
  | ⟨0, _⟩ => show win0_8.index t (0 : Fin 2) * 512 + 1 * e.val = e.val; omega
  | ⟨1, _⟩ => show win0_8.index t (1 : Fin 2) * 512 + 1 * l.val = l.val; omega

theorem holds (t : Fin cfg0.N) : Holds (wts m c) (iblk m c 4 t) (iblk m c 5 t) (iblk m c 6 t) (iblk m c 7 t)
    (iblk m c 8 t) (iblk m c 9 t) (iblk m c 10 t) where
  h4 j l := blk4 m c t j l
  h5 l := blk5 m c t l
  h6 e l := (blk6 m c t e l).trans (diag_apply _ e l)
  h7 l := blk7 m c t l
  h8 e l := (blk8 m c t e l).trans (diag_apply _ e l)
  h9 l := blk9 m c t l
  h10 l := by rw [blk10]; rfl

/-! ## What every point leaves -/

/-- The rows a point reads are its part of the sequence. -/
theorem rows_eq (t : Fin cfg0.N) (xe : Vec Ideal S3x512 .f32) (b : Fin 4) (hb : b.val = t.val / 16)
    (hx : ∀ j l, xe (ix2 j l) = rowsX m c b (t.val % 16 * 512 + j.val) l) (k : ℕ) (hk : k < 515) :
    rowsOf (X0_0 m c t) xe k = rowsX m c b (t.val % 16 * 512 + k) := by
  funext l
  unfold rowsOf
  by_cases h : k < 3
  · rw [dif_pos h, hx]
  · rw [dif_neg h, dif_pos (by omega), blk0, rowsX, dif_neg (by omega), dif_pos (by omega)]
    refine congrArg (P3 m c) ?_
    congr 1
    · exact Fin.ext hb.symm
    · exact Fin.ext (by show t.val % 16 * 512 + (k - 3) = t.val % 16 * 512 + k - 3; omega)

/-- What point `t` of batch row `b` leaves. -/
structure Left (t : Fin cfg0.N) (b : Fin 4)
    (L : Vec Ideal S1x512x512 .bf16 × Vec Ideal S1x1x512 .f32 × Vec Ideal S1x3x512 .f32 × Vec Ideal S3x512 .f32 × Vec Ideal S1x512 .f32) : Prop where
  u : ∀ r l : Fin 512, L.1 (ix3 0 r l) = st (wts m c) (rowsX m c b) (stateH m c b) (t.val % 16 * 512 + r.val + 1) l *
    silu (gateG m c b ⟨t.val % 16 * 512 + r.val, by omega⟩ l)
  hl : ∀ l : Fin 512, L.2.1 (ix3 0 0 l) = st (wts m c) (rowsX m c b) (stateH m c b) (t.val % 16 * 512 + 512) l
  cn : ∀ (j : Fin 3) (l : Fin 512), L.2.2.1 (ix3 0 j l) = rowsX m c b (t.val % 16 * 512 + 512 + j.val) l
  xe : ∀ (j : Fin 3) (l : Fin 512), L.2.2.2.1 (ix2 j l) = rowsX m c b (t.val % 16 * 512 + 512 + j.val) l
  h : ∀ l : Fin 512, L.2.2.2.2 (ix2 0 l) = st (wts m c) (rowsX m c b) (stateH m c b) (t.val % 16 * 512 + 512) l

theorem left_point (t : Fin cfg0.N) (b : Fin 4) (hb : b.val = t.val / 16) (xe : Vec Ideal S3x512 .f32)
    (h : Vec Ideal S1x512 .f32) (hx : ∀ j l, xe (ix2 j l) = rowsX m c b (t.val % 16 * 512 + j.val) l)
    (hh : ∀ l, h (ix2 0 l) = st (wts m c) (rowsX m c b) (stateH m c b) (t.val % 16 * 512) l) :
    Left m c t b (pointAt m c t xe h) := by
  have hst : ∀ n, n ≤ 512 → ∀ l, st (wts m c) (rowsOf (X0_0 m c t) xe) (fun l => h (ix2 0 l)) n l =
      st (wts m c) (rowsX m c b) (stateH m c b) (t.val % 16 * 512 + n) l := fun n hn l => by
    rw [← st_add]
    exact st_congr _ _ _ (fun k hk => rows_eq m c t xe b hb hx k (by omega)) (funext hh)
  have hr := fun (j : Fin 3) => rows_eq m c t xe b hb hx (512 + j.val) (by omega)
  refine ⟨fun r l => ?_, fun l => ?_, fun j l => ?_, fun j l => ?_, fun l => ?_⟩
  · refine (point_u (holds m c t) _ _ _ _ r l).trans ?_
    rw [hst _ (by omega), blk1, gateG]
    refine congrArg (fun i => _ * silu (P3 m c i)) ?_
    congr 1
    exact Fin.ext hb.symm
  · exact (point_h (holds m c t) _ _ _ _ l).trans (hst _ le_rfl l)
  · refine (point_conv _ _ _ _ j l).trans ?_
    rw [hr, ← Nat.add_assoc]
  · refine (point_rows _ _ _ _ j l).trans ?_
    rw [hr, ← Nat.add_assoc]
  · exact (point_carry (holds m c t) _ _ _ _ l).trans (hst _ le_rfl l)

theorem left_begin (t : Fin cfg0.N) (b : Fin 4) (hb : b.val = t.val / 16) (h0 : t.val % 16 = 0) :
    Left m c t b (left m c t.val t.isLt) := by
  have e : (⟨t.val / 16, by have := t_lt t; omega⟩ : Fin 4) = b := Fin.ext hb.symm
  rw [left_first m c t h0]
  refine left_point m c t b hb _ _ (fun j l => ?_) fun l => ?_
  · pointwise [k0_pay2]
    rw [blk2, rowsX, dif_pos (by omega), e]
    exact congrArg (fun i => conv0 m c (ix3 b i l)) (Fin.ext (by show j.val = t.val % 16 * 512 + j.val; omega))
  · pointwise [k0_pay3]
    rw [blk3, e, h0]
    rfl

theorem left_all (n : ℕ) : ∀ (hn : n < cfg0.N) (b : Fin 4), b.val = n / 16 → Left m c ⟨n, hn⟩ b (left m c n hn) := by
  induction n with
  | zero => exact fun hn b hb => left_begin m c ⟨0, hn⟩ b hb rfl
  | succ n ih =>
    intro hn b hb
    by_cases h0 : (n + 1) % 16 = 0
    · exact left_begin m c ⟨n + 1, hn⟩ b hb h0
    · have L := ih (by omega) b (by omega)
      rw [left_later m c ⟨n + 1, hn⟩ h0]
      have e : (n + 1) % 16 * 512 = n % 16 * 512 + 512 := by omega
      refine left_point m c ⟨n + 1, hn⟩ b hb _ _ (fun j l => ?_) fun l => ?_
      · show _ = rowsX m c b ((n + 1) % 16 * 512 + j.val) l
        rw [e]; exact L.xe j l
      · show _ = st _ _ _ ((n + 1) % 16 * 512) l
        rw [e]; exact L.h l

end Cert.KernelIdeal.Lru

end
-- ==== Proof.Lru.Arrays.lean ====
/- What the kernel's three result arrays hold after the run: the gated states, the last state and the last three rows, each
   as a function of the arguments. -/
module

public import proofs.«01_k».proof.Proof.Lru.Blocks
public import Idealize.ShloMosaic.Lib.Pipeline.Value

@[expose] public section

set_option maxRecDepth 16384

noncomputable section

namespace Cert.KernelIdeal.Lru

open Cert.KernelIdeal Cert.KernelIdeal.Gen Cert.Lru
open Idealize.ShloMosaic Idealize.ShloMosaic.TcCoe Idealize.ShloMosaic.Tactic Idealize.ShloMosaic.Pointwise
open Idealize.ShloMosaic.Pipeline (Dat)

variable (m : (ℓ : Loc nD τ sig) → Buf (Elt Ideal) ℓ) (c : Dev nD)

/-- The gated states. -/
def U (i : S4x8192x512.Idx) : EReal :=
  st (wts m c) (rowsX m c (i 0)) (stateH m c (i 0)) ((i 1).val + 1) (i 2) * silu (gateG m c (i 0) (i 1) (i 2))
/-- The last state. -/
def HL (i : S4x1x512.Idx) : EReal := st (wts m c) (rowsX m c (i 0)) (stateH m c (i 0)) 8192 (i 2)
/-- The last three rows. -/
def CN (i : S4x3x512.Idx) : EReal := rowsX m c (i 0) (8192 + (i 1).val) (i 2)

theorem idx11 : ∀ t : Fin cfg0.N, win0_11.index t (0 : Fin 3) = t.val / 16 ∧ win0_11.index t (1 : Fin 3) = t.val % 16 ∧
    win0_11.index t (2 : Fin 3) = 0 := (by decide +kernel : ∀ t : Fin grid0.N, _)
theorem idx12 : ∀ t : Fin cfg0.N, win0_12.index t (0 : Fin 3) = t.val / 16 ∧ win0_12.index t (1 : Fin 3) = 0 ∧
    win0_12.index t (2 : Fin 3) = 0 := (by decide +kernel : ∀ t : Fin grid0.N, _)
theorem idx13 : ∀ t : Fin cfg0.N, win0_13.index t (0 : Fin 3) = t.val / 16 ∧ win0_13.index t (1 : Fin 3) = 0 ∧
    win0_13.index t (2 : Fin 3) = 0 := (by decide +kernel : ∀ t : Fin grid0.N, _)

theorem pt_lt (b q : ℕ) (hb : b < 4) (hq : q < 16) : 16 * b + q < cfg0.N := lt_of_lt_of_eq (by omega) N_0.symm

theorem flushed11 (t : Fin cfg0.N) : (dats m 0 c).flushed 11 t = ((cfg0.win 11).blk t).view.read (Elt Ideal) (U m c) := by
  show (cfg0.win 11).cut (grid0.coords t) ((dats m 0 c).after 11 t) = _
  rw [after_11]
  obtain ⟨e0, e1, e2⟩ := idx11 t
  have ht := t_lt t
  have L := left_all m c t.val t.isLt ⟨t.val / 16, by omega⟩ rfl
  funext y
  have hy0 : (y 0).val < 1 := (y 0).isLt
  have hy1 : (y 1).val < 512 := (y 1).isLt
  have hy2 : (y 2).val < 512 := (y 2).isLt
  have hi : (cfg0.win 11).xinj (grid0.coords t) y = ix3 (0 : Fin 1) (⟨(y 1).val, hy1⟩ : Fin 512) (⟨(y 2).val, hy2⟩ : Fin 512) := by
    funext a; apply Fin.ext
    match a with
    | ⟨0, _⟩ => show (y 0).val = 0; omega
    | ⟨1, _⟩ => rfl
    | ⟨2, _⟩ => rfl
  have he : ((cfg0.win 11).blk t).view.emb y = ix3 (⟨t.val / 16, by omega⟩ : Fin 4)
      (⟨t.val % 16 * 512 + (y 1).val, by omega⟩ : Fin 8192) (⟨(y 2).val, hy2⟩ : Fin 512) := by
    funext a; apply Fin.ext
    match a with
    | ⟨0, _⟩ => show win0_11.index t (0 : Fin 3) * 1 + 1 * (y 0).val = t.val / 16; omega
    | ⟨1, _⟩ => show win0_11.index t (1 : Fin 3) * 512 + 1 * (y 1).val = t.val % 16 * 512 + (y 1).val; rw [e1]; omega
    | ⟨2, _⟩ => show win0_11.index t (2 : Fin 3) * 512 + 1 * (y 2).val = (y 2).val; omega
  show (left m c t.val t.isLt).1 ((cfg0.win 11).xinj (grid0.coords t) y) = U m c (((cfg0.win 11).blk t).view.emb y)
  rw [hi, he, L.u]
  rfl

theorem flushed12 (t : Fin cfg0.N) (hf : (cfg0.win 12).flush t = true) :
    (dats m 0 c).flushed 12 t = ((cfg0.win 12).blk t).view.read (Elt Ideal) (HL m c) := by
  show (cfg0.win 12).cut (grid0.coords t) ((dats m 0 c).after 12 t) = _
  rw [after_12]
  have hl := (flush0_12 t).mp hf
  obtain ⟨e0, e1, e2⟩ := idx12 t
  have ht := t_lt t
  have L := left_all m c t.val t.isLt ⟨t.val / 16, by omega⟩ rfl
  funext y
  have hy0 : (y 0).val < 1 := (y 0).isLt
  have hy1 : (y 1).val < 1 := (y 1).isLt
  have hy2 : (y 2).val < 512 := (y 2).isLt
  have hi : (cfg0.win 12).xinj (grid0.coords t) y = ix3 (0 : Fin 1) (0 : Fin 1) (⟨(y 2).val, hy2⟩ : Fin 512) := by
    funext a; apply Fin.ext
    match a with
    | ⟨0, _⟩ => show (y 0).val = 0; omega
    | ⟨1, _⟩ => show (y 1).val = 0; omega
    | ⟨2, _⟩ => rfl
  have he : ((cfg0.win 12).blk t).view.emb y = ix3 (⟨t.val / 16, by omega⟩ : Fin 4) (0 : Fin 1) (⟨(y 2).val, hy2⟩ : Fin 512) := by
    funext a; apply Fin.ext
    match a with
    | ⟨0, _⟩ => show win0_12.index t (0 : Fin 3) * 1 + 1 * (y 0).val = t.val / 16; omega
    | ⟨1, _⟩ => show win0_12.index t (1 : Fin 3) * 1 + 1 * (y 1).val = 0; omega
    | ⟨2, _⟩ => show win0_12.index t (2 : Fin 3) * 512 + 1 * (y 2).val = (y 2).val; omega
  show (left m c t.val t.isLt).2.1 ((cfg0.win 12).xinj (grid0.coords t) y) = HL m c (((cfg0.win 12).blk t).view.emb y)
  rw [hi, he, L.hl]
  show st _ _ _ (t.val % 16 * 512 + 512) _ = _
  rw [hl]
  rfl

theorem flushed13 (t : Fin cfg0.N) (hf : (cfg0.win 13).flush t = true) :
    (dats m 0 c).flushed 13 t = ((cfg0.win 13).blk t).view.read (Elt Ideal) (CN m c) := by
  show (cfg0.win 13).cut (grid0.coords t) ((dats m 0 c).after 13 t) = _
  rw [after_13]
  have hl := (flush0_13 t).mp hf
  obtain ⟨e0, e1, e2⟩ := idx13 t
  have ht := t_lt t
  have L := left_all m c t.val t.isLt ⟨t.val / 16, by omega⟩ rfl
  funext y
  have hy0 : (y 0).val < 1 := (y 0).isLt
  have hy1 : (y 1).val < 3 := (y 1).isLt
  have hy2 : (y 2).val < 512 := (y 2).isLt
  have hi : (cfg0.win 13).xinj (grid0.coords t) y = ix3 (0 : Fin 1) (⟨(y 1).val, hy1⟩ : Fin 3) (⟨(y 2).val, hy2⟩ : Fin 512) := by
    funext a; apply Fin.ext
    match a with
    | ⟨0, _⟩ => show (y 0).val = 0; omega
    | ⟨1, _⟩ => rfl
    | ⟨2, _⟩ => rfl
  have he : ((cfg0.win 13).blk t).view.emb y = ix3 (⟨t.val / 16, by omega⟩ : Fin 4) (⟨(y 1).val, hy1⟩ : Fin 3) (⟨(y 2).val, hy2⟩ : Fin 512) := by
    funext a; apply Fin.ext
    match a with
    | ⟨0, _⟩ => show win0_13.index t (0 : Fin 3) * 1 + 1 * (y 0).val = t.val / 16; omega
    | ⟨1, _⟩ => show win0_13.index t (1 : Fin 3) * 3 + 1 * (y 1).val = (y 1).val; omega
    | ⟨2, _⟩ => show win0_13.index t (2 : Fin 3) * 512 + 1 * (y 2).val = (y 2).val; omega
  show (left m c t.val t.isLt).2.2.1 ((cfg0.win 13).xinj (grid0.coords t) y) = CN m c (((cfg0.win 13).blk t).view.emb y)
  rw [hi, he, L.cn]
  show rowsX _ _ _ (t.val % 16 * 512 + 512 + (y 1).val) _ = _
  rw [hl]
  rfl

theorem mem_blk11 (t : Fin cfg0.N) (i : S4x8192x512.Idx) : i ∈ ((cfg0.win 11).blk t).view.set ↔
    ∀ a : Fin 3, win0_11.index t a * S1x512x512.size a ≤ (i a).val ∧ (i a).val < win0_11.index t a * S1x512x512.size a + S1x512x512.size a := by
  show i ∈ ((View.whole main_v31_0).slice (win0_11.rect t)).set ↔ _
  rw [View.set_slice_whole, Rect.mem_set_unit]
  exact Iff.rfl
theorem mem_blk12 (t : Fin cfg0.N) (i : S4x1x512.Idx) : i ∈ ((cfg0.win 12).blk t).view.set ↔
    ∀ a : Fin 3, win0_12.index t a * S1x1x512.size a ≤ (i a).val ∧ (i a).val < win0_12.index t a * S1x1x512.size a + S1x1x512.size a := by
  show i ∈ ((View.whole main_v31_1).slice (win0_12.rect t)).set ↔ _
  rw [View.set_slice_whole, Rect.mem_set_unit]
  exact Iff.rfl
theorem mem_blk13 (t : Fin cfg0.N) (i : S4x3x512.Idx) : i ∈ ((cfg0.win 13).blk t).view.set ↔
    ∀ a : Fin 3, win0_13.index t a * S1x3x512.size a ≤ (i a).val ∧ (i a).val < win0_13.index t a * S1x3x512.size a + S1x3x512.size a := by
  show i ∈ ((View.whole main_v31_2).slice (win0_13.rect t)).set ↔ _
  rw [View.set_slice_whole, Rect.mem_set_unit]
  exact Iff.rfl

theorem array11 : (dats m 0 c).arrAt 11 cfg0.N = U m c :=
  (dats m 0 c).arrAt_eq_of_cover 11 _ (fun t _ => flushed11 m c t) fun i => by
    have h0 : (i 0).val < 4 := (i 0).isLt
    have h1 : (i 1).val < 8192 := (i 1).isLt
    have h2 : (i 2).val < 512 := (i 2).isLt
    refine ⟨⟨16 * (i 0).val + (i 1).val / 512, pt_lt _ _ h0 (by omega)⟩, flush0_11 _, ?_⟩
    obtain ⟨e0, e1, e2⟩ := idx11 ⟨16 * (i 0).val + (i 1).val / 512, pt_lt _ _ h0 (by omega)⟩
    rw [mem_blk11]
    intro a
    match a with
    | ⟨0, _⟩ => show win0_11.index _ (0 : Fin 3) * 1 ≤ (i 0).val ∧ (i 0).val < win0_11.index _ (0 : Fin 3) * 1 + 1; rw [e0]; dsimp only; omega
    | ⟨1, _⟩ => show win0_11.index _ (1 : Fin 3) * 512 ≤ (i 1).val ∧ (i 1).val < win0_11.index _ (1 : Fin 3) * 512 + 512; rw [e1]; dsimp only; omega
    | ⟨2, _⟩ => show win0_11.index _ (2 : Fin 3) * 512 ≤ (i 2).val ∧ (i 2).val < win0_11.index _ (2 : Fin 3) * 512 + 512; rw [e2]; omega

theorem array12 : (dats m 0 c).arrAt 12 cfg0.N = HL m c :=
  (dats m 0 c).arrAt_eq_of_cover 12 _ (fun t hf => flushed12 m c t hf) fun i => by
    have h0 : (i 0).val < 4 := (i 0).isLt
    have h1 : (i 1).val < 1 := (i 1).isLt
    have h2 : (i 2).val < 512 := (i 2).isLt
    refine ⟨⟨16 * (i 0).val + 15, pt_lt _ _ h0 (by omega)⟩, (flush0_12 _).mpr (by dsimp only; omega), ?_⟩
    obtain ⟨e0, e1, e2⟩ := idx12 ⟨16 * (i 0).val + 15, pt_lt _ _ h0 (by omega)⟩
    rw [mem_blk12]
    intro a
    match a with
    | ⟨0, _⟩ => show win0_12.index _ (0 : Fin 3) * 1 ≤ (i 0).val ∧ (i 0).val < win0_12.index _ (0 : Fin 3) * 1 + 1; rw [e0]; dsimp only; omega
    | ⟨1, _⟩ => show win0_12.index _ (1 : Fin 3) * 1 ≤ (i 1).val ∧ (i 1).val < win0_12.index _ (1 : Fin 3) * 1 + 1; rw [e1]; omega
    | ⟨2, _⟩ => show win0_12.index _ (2 : Fin 3) * 512 ≤ (i 2).val ∧ (i 2).val < win0_12.index _ (2 : Fin 3) * 512 + 512; rw [e2]; omega

theorem array13 : (dats m 0 c).arrAt 13 cfg0.N = CN m c :=
  (dats m 0 c).arrAt_eq_of_cover 13 _ (fun t hf => flushed13 m c t hf) fun i => by
    have h0 : (i 0).val < 4 := (i 0).isLt
    have h1 : (i 1).val < 3 := (i 1).isLt
    have h2 : (i 2).val < 512 := (i 2).isLt
    refine ⟨⟨16 * (i 0).val + 15, pt_lt _ _ h0 (by omega)⟩, (flush0_13 _).mpr (by dsimp only; omega), ?_⟩
    obtain ⟨e0, e1, e2⟩ := idx13 ⟨16 * (i 0).val + 15, pt_lt _ _ h0 (by omega)⟩
    rw [mem_blk13]
    intro a
    match a with
    | ⟨0, _⟩ => show win0_13.index _ (0 : Fin 3) * 1 ≤ (i 0).val ∧ (i 0).val < win0_13.index _ (0 : Fin 3) * 1 + 1; rw [e0]; dsimp only; omega
    | ⟨1, _⟩ => show win0_13.index _ (1 : Fin 3) * 3 ≤ (i 1).val ∧ (i 1).val < win0_13.index _ (1 : Fin 3) * 3 + 3; rw [e1]; omega
    | ⟨2, _⟩ => show win0_13.index _ (2 : Fin 3) * 512 ≤ (i 2).val ∧ (i 2).val < win0_13.index _ (2 : Fin 3) * 512 + 512; rw [e2]; omega

end Cert.KernelIdeal.Lru

end
-- ==== Proof.Lru.RefFrame.lean ====
/- The reference's run: it ends with every buffer at the fold of its operations and every counter at zero. -/
module

public import proofs.«01_k».proof.Proof.Gen.ReferenceIdeal.Run
public import Idealize.ShloMosaic.Lib.Claim
public import Idealize.ShloMosaic.Lib.Pipeline.Quiescent
public import Idealize.ShloMosaic.Lib.Tactic

@[expose] public section

set_option maxRecDepth 16384

noncomputable section

namespace Cert.ReferenceIdeal.Lru

open Cert.ReferenceIdeal Cert.ReferenceIdeal.Gen Cert.ReferenceIdeal.Value
open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg Ticket PCfg ucRefs)

variable {F : FTy → Type} [FloatOps F]

local notation "𝕄" => MT nD τ sig Unit (Elt F) ℕ (Option PUnit) ℕ

variable (m : (ℓ : Loc nD τ sig) → Buf (Elt F) ℓ) (ρ : Dev nD → PrngReg)

/-! ## There are no pipelines, no tickets and no levels -/
abbrev noAdm : (p : Fin 0) → (pcfgs (F := F) p).Adm := fun p => p.elim0
abbrev noTk : Fin 0 → Ticket (Ix := Unit) (Name := ℕ) (U := Option PUnit) (Lvl := ℕ) (nD := nD) (τ := τ) (pcfgs (F := F)) noAdm :=
  fun j => j.elim0
abbrev noL : GSem nD τ sig → Finset Unit := fun _ => ∅
abbrev noLv : GSem nD τ sig → Unit → ℕ := fun _ _ => 0

/-- What is carried beside the buffers: the counters at zero and what the core owes. -/
abbrev side (c : Dev nD) : sProp 𝕄 :=
  iprop(unscopedSems0 c ∗ ∃ W, owes (c : Thread nD τ) (0 : CellTallies nD τ sig Unit) W)

theorem cond_side : LoopCond (pcfgs (F := F)) defs₀ Variants.none loops (side (F := F)) (main_while0_cond (F := F)) condOps bodyI
    (entryContents preI m) 8192 := fun k hk c bd => by
  have hpost : ∀ v : Elt F .i1,
      iprop(iprop(⌜v = 1#1 ↔ k < 8192⌝ ∗ boundary (c : Thread nD τ) ∗ held (c : Thread nD τ) (ucRefs τ sig) (after condOps (atTrip condOps bodyI (entryContents preI m) k c))) ∗ side c)
        ⊢ (iprop(⌜v = 1#1 ↔ k < 8192⌝ ∗ boundary (c : Thread nD τ) ∗ held (c : Thread nD τ) (ucRefs τ sig) (after condOps (atTrip condOps bodyI (entryContents preI m) k c)) ∗ side c) : sProp 𝕄) := fun v => by
    iintro ⟨⟨%hv, Hb, Hh⟩, HR⟩
    isplitr
    · ipureintro; exact hv
    isplitl [Hb]
    · iexact Hb
    isplitl [Hh]
    · iexact Hh
    iexact HR
  refine BIBase.Entails.trans ?_ (((sep_mono_left (cond_spec m k hk c bd)).trans (wp_frame_r _ _ _)).trans (wp_mono _ _ _ hpost))
  iintro ⟨Hb, Hh, HR⟩
  isplitl [Hb Hh]
  · isplitl [Hb]
    · iexact Hb
    iexact Hh
  iexact HR

/-- @main's segments: the operations before the loop, the loop, the operations after it. -/
def segments : List (CSeg (pcfgs (F := F)) noAdm defs₀ Variants.none noL noLv loops noTk) :=
  segsOf _ _ _ _ _ _ _ _ side preI hpre (launchContents m)
    ++ loopSeg _ _ _ _ _ _ _ _ 0 main_while0_cond main_while0_body rfl condOps bodyI hbodyI
        (by rw [while0_body_chain]; rfl) 8192 (entryContents preI m) side (cond_side m)
      :: segsOf _ _ _ _ _ _ _ _ side postI hpost (fun c => after condOps (atTrip condOps bodyI (entryContents preI m) 8192 c))

theorem segments_prog : (segments (F := F) m).map CSeg.prog =
    (preI.map fun ops => (seq ops : Prog _ PUnit)) ++ HostLoop.enter 0 :: postI.map fun ops => (seq ops : Prog _ PUnit) := by
  unfold segments
  rw [List.map_append, List.map_cons, segsOf_prog, segsOf_prog]
  rfl

theorem segments_T : ∀ s ∈ segments (F := F) m, s.T = ∅ := fun s _ => Finset.eq_empty_of_isEmpty s.T

/-- What the last segment leaves. -/
abbrev atEnd (c : Dev nD) : sProp 𝕄 :=
  iprop(held (c : Thread nD τ) (ucRefs τ sig) (finalContents condOps preI bodyI postI 8192 m c) ∗ unscopedSems0 c)

theorem segments_chain : CSeg.Chains (fun c => iprop(held (c : Thread nD τ) (ucRefs τ sig) (launchContents m c) ∗ side c)) (segments (F := F) m)
    (fun c => iprop(atEnd m c ∗ ∃ W, owes (c : Thread nD τ) (0 : CellTallies nD τ sig Unit) W)) := by
  refine CSeg.Chains.mono_right (T₁ := fun c => iprop(held (c : Thread nD τ) (ucRefs τ sig) (finalContents condOps preI bodyI postI 8192 m c) ∗ side c))
    (fun c => ?_) _ _ ?_
  · iintro ⟨Hh, Hs, HO⟩
    isplitl [Hh Hs]
    · isplitl [Hh]
      · iexact Hh
      iexact Hs
    iexact HO
  · unfold segments
    exact CSeg.Chains.append (segsOf_chains _ _ _ _ _ _ _ _ side preI hpre _)
      ⟨fun _ => .rfl, segsOf_chains _ _ _ _ _ _ _ _ side postI hpost _⟩

theorem run_q : θ_run (defs (F := F)) (onTc (τ := τ) (main (F := F))) ⟨m, fun _ => 0, ρ⟩ (fun r =>
    (∀ (c : Dev nD) (b : Ref sig .tc), (Proc.devRef .tc b : DevRef τ sig).isScoped = false →
      r.2.mem ((c.tc : Thread nD τ).loc b) = finalContents condOps preI bodyI postI 8192 m c (Proc.devRef .tc b)) ∧
    r.2.sem = fun _ => 0) :=
  Pipeline.θ_run_regions_loop_kit_sems (Ix := Unit) (Name := ℕ) (U := Option PUnit) (Lvl := ℕ) (J := Fin 0) (P := Fin 0) (Val := Elt F)
    (pcfgs (F := F)) noAdm (fun k => k.1.elim0) defs₀ Variants.none noL noLv loops noTk m ρ main (segments m)
    (fun c Q => by
      have e : main (F := F) c = Pipeline.chain ((segments m).map CSeg.prog) := by
        rw [segments_prog, main_chain]; rfl
      rw [e]; exact .rfl)
    (CSeg.pairwise_disjoint_of_T_empty _ (segments_T m))
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ side c))
    (Tₙ := atEnd m)
    (hch := segments_chain m)
    (hinit := by
      refine Pipeline.initEach noL noLv fun c => ?_
      rw [show unscopedBufs c (fun b => m ((c : Thread nD τ).loc b)) = held (c : Thread nD τ) (ucRefs τ sig) (launchContents m c) from
        Pipeline.unscopedBufs_held c (launchContents m c)]
      iintro ⟨⟨Hh, Hs, HO, -, -, -⟩, -⟩
      imodintro
      isplitl [Hh]
      · iexact Hh
      isplitl [Hs]
      · iexact Hs
      iexists ∅; iexact HO)
    (QY := fun c s => (∀ b ∈ ucRefs τ sig, s.mem ((c : Dev nD), b) = finalContents condOps preI bodyI postI 8192 m c b) ∧
      ∀ sm : SemLoc sig, sm.isScoped .tc = false → s.sem ((c.tc : Thread nD τ), sm) = 0)
    (hfin := fun c s' => by
      unfold atEnd held
      iintro ⟨⟨Hh, Hs⟩, HSI⟩
      ihave #Hz := (tcUnscoped_read c s') $$ [Hs HSI]
      · isplitl [Hs]
        · iexact Hs
        iexact HSI
      icases Hz with %hz
      ihave Hr := (pointsTo_read_all (ucRefs τ sig) (fun b => ((c : Dev nD), b)) (fun b => finalContents condOps preI bodyI postI 8192 m c b) s') $$ [Hh HSI]
      · isplitl [Hh]
        · iexact Hh
        iexact HSI
      icases Hr with ⟨%h, HSI⟩
      imodintro
      isplitr
      · ipureintro; exact ⟨h, hz⟩
      iexact HSI)
    (hQ := fun s h hz => ⟨fun c b hb => (h c).1 _ (devRef_mem_ucRefs b hb), funext fun g => by
      by_cases hg : g.1.2 ≠ .tc ∨ g.2.isScoped .tc = true
      · exact hz g hg
      · obtain ⟨⟨d, p⟩, sm⟩ := g
        have h1 : p = .tc := not_not.mp fun hp => hg (Or.inl hp)
        subst h1
        exact (h d).2 sm (Bool.eq_false_iff.mpr fun hs => hg (Or.inr hs))⟩)

/-! ## The buffers the loop does not write -/

/-- A buffer neither the condition nor the body writes keeps its contents over the trips. -/
theorem trips_keep (c : Dev nD) (r : Ref sig .tc) (h0 : r ∉ condOps_W) (h1 : r ∉ while0Ops0_W) (h2 : r ∉ while0Ops0_1_W)
    (h3 : r ∉ while0Ops0_2_W) (h4 : r ∉ while0Ops0_3_W) (h5 : r ∉ while0Ops0_4_W) (k : ℕ) :
    atK m k c (Proc.devRef .tc r) = entryContents preI m c (Proc.devRef .tc r) := by
  induction k with
  | zero => rfl
  | succ k ih =>
    rw [show atK m (k + 1) c = afterL bodyI (after condOps (atK m k c)) from rfl]
    simp only [afterL_cons, afterL_nil]
    rw [after_of_writes_sub while0Ops0_4 _ while0Ops0_4_writes h5, after_of_writes_sub while0Ops0_3 _ while0Ops0_3_writes h4,
      after_of_writes_sub while0Ops0_2 _ while0Ops0_2_writes h3, after_of_writes_sub while0Ops0_1 _ while0Ops0_1_writes h2,
      after_of_writes_sub while0Ops0 _ while0Ops0_writes h1, after_of_writes_sub condOps _ condOps_writes h0]
    exact ih

/-- A buffer that nothing writes ends as it began. -/
theorem never_written (c : Dev nD) (r : Ref sig .tc) (h0 : r ∉ condOps_W) (h1 : r ∉ while0Ops0_W) (h2 : r ∉ while0Ops0_1_W)
    (h3 : r ∉ while0Ops0_2_W) (h4 : r ∉ while0Ops0_3_W) (h5 : r ∉ while0Ops0_4_W) (p0 : r ∉ hostOps0_W) (p1 : r ∉ hostOps0_1_W)
    (p2 : r ∉ hostOps0_2_W)
    (q : ∀ V : Valuation τ sig (Elt F), afterL postI V (Proc.devRef .tc r) = V (Proc.devRef .tc r)) :
    finalContents condOps preI bodyI postI 8192 m c (Proc.devRef .tc r) = m ((c : Thread nD τ).loc r) := by
  refine (q _).trans ?_
  rw [after_of_writes_sub condOps _ condOps_writes h0]
  refine (trips_keep m c r h0 h1 h2 h3 h4 h5 8192).trans ?_
  simp only [entryContents, afterL_cons, afterL_nil]
  rw [after_of_writes_sub hostOps0_2 _ hostOps0_2_writes p2, after_of_writes_sub hostOps0_1 _ hostOps0_1_writes p1,
    after_of_writes_sub hostOps0 _ hostOps0_writes p0]

theorem end_main_arg0 (c : Dev nD) : finalContents condOps preI bodyI postI 8192 m c (Proc.devRef .tc main_arg0) = m ((c : Thread nD τ).loc main_arg0) :=
  never_written m c main_arg0 (by decide +kernel) (by decide +kernel) (by decide +kernel) (by decide +kernel) (by decide +kernel)
    (by decide +kernel) (by decide +kernel) (by decide +kernel) (by decide +kernel)
    fun V => by simp only [afterL_cons, afterL_nil]; after_reads_simp

theorem end_main_arg1 (c : Dev nD) : finalContents condOps preI bodyI postI 8192 m c (Proc.devRef .tc main_arg1) = m ((c : Thread nD τ).loc main_arg1) :=
  never_written m c main_arg1 (by decide +kernel) (by decide +kernel) (by decide +kernel) (by decide +kernel) (by decide +kernel)
    (by decide +kernel) (by decide +kernel) (by decide +kernel) (by decide +kernel)
    fun V => by simp only [afterL_cons, afterL_nil]; after_reads_simp

theorem end_main_arg2 (c : Dev nD) : finalContents condOps preI bodyI postI 8192 m c (Proc.devRef .tc main_arg2) = m ((c : Thread nD τ).loc main_arg2) :=
  never_written m c main_arg2 (by decide +kernel) (by decide +kernel) (by decide +kernel) (by decide +kernel) (by decide +kernel)
    (by decide +kernel) (by decide +kernel) (by decide +kernel) (by decide +kernel)
    fun V => by simp only [afterL_cons, afterL_nil]; after_reads_simp

theorem end_main_arg3 (c : Dev nD) : finalContents condOps preI bodyI postI 8192 m c (Proc.devRef .tc main_arg3) = m ((c : Thread nD τ).loc main_arg3) :=
  never_written m c main_arg3 (by decide +kernel) (by decide +kernel) (by decide +kernel) (by decide +kernel) (by decide +kernel)
    (by decide +kernel) (by decide +kernel) (by decide +kernel) (by decide +kernel)
    fun V => by simp only [afterL_cons, afterL_nil]; after_reads_simp

theorem end_main_arg4 (c : Dev nD) : finalContents condOps preI bodyI postI 8192 m c (Proc.devRef .tc main_arg4) = m ((c : Thread nD τ).loc main_arg4) :=
  never_written m c main_arg4 (by decide +kernel) (by decide +kernel) (by decide +kernel) (by decide +kernel) (by decide +kernel)
    (by decide +kernel) (by decide +kernel) (by decide +kernel) (by decide +kernel)
    fun V => by simp only [afterL_cons, afterL_nil]; after_reads_simp

theorem end_main_arg5 (c : Dev nD) : finalContents condOps preI bodyI postI 8192 m c (Proc.devRef .tc main_arg5) = m ((c : Thread nD τ).loc main_arg5) :=
  never_written m c main_arg5 (by decide +kernel) (by decide +kernel) (by decide +kernel) (by decide +kernel) (by decide +kernel)
    (by decide +kernel) (by decide +kernel) (by decide +kernel) (by decide +kernel)
    fun V => by simp only [afterL_cons, afterL_nil]; after_reads_simp

theorem end_main_arg6 (c : Dev nD) : finalContents condOps preI bodyI postI 8192 m c (Proc.devRef .tc main_arg6) = m ((c : Thread nD τ).loc main_arg6) :=
  never_written m c main_arg6 (by decide +kernel) (by decide +kernel) (by decide +kernel) (by decide +kernel) (by decide +kernel)
    (by decide +kernel) (by decide +kernel) (by decide +kernel) (by decide +kernel)
    fun V => by simp only [afterL_cons, afterL_nil]; after_reads_simp

theorem end_main_arg7 (c : Dev nD) : finalContents condOps preI bodyI postI 8192 m c (Proc.devRef .tc main_arg7) = m ((c : Thread nD τ).loc main_arg7) :=
  never_written m c main_arg7 (by decide +kernel) (by decide +kernel) (by decide +kernel) (by decide +kernel) (by decide +kernel)
    (by decide +kernel) (by decide +kernel) (by decide +kernel) (by decide +kernel)
    fun V => by simp only [afterL_cons, afterL_nil]; after_reads_simp

theorem end_main_arg8 (c : Dev nD) : finalContents condOps preI bodyI postI 8192 m c (Proc.devRef .tc main_arg8) = m ((c : Thread nD τ).loc main_arg8) :=
  never_written m c main_arg8 (by decide +kernel) (by decide +kernel) (by decide +kernel) (by decide +kernel) (by decide +kernel)
    (by decide +kernel) (by decide +kernel) (by decide +kernel) (by decide +kernel)
    fun V => by simp only [afterL_cons, afterL_nil]; after_reads_simp

theorem end_main_arg9 (c : Dev nD) : finalContents condOps preI bodyI postI 8192 m c (Proc.devRef .tc main_arg9) = m ((c : Thread nD τ).loc main_arg9) :=
  never_written m c main_arg9 (by decide +kernel) (by decide +kernel) (by decide +kernel) (by decide +kernel) (by decide +kernel)
    (by decide +kernel) (by decide +kernel) (by decide +kernel) (by decide +kernel)
    fun V => by simp only [afterL_cons, afterL_nil]; after_reads_simp

/-- The argument arrays end unchanged and every counter at zero. -/
theorem frame_all : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨(h.1 c main_arg0 rfl).trans (end_main_arg0 m c), (h.1 c main_arg1 rfl).trans (end_main_arg1 m c), (h.1 c main_arg2 rfl).trans (end_main_arg2 m c), (h.1 c main_arg3 rfl).trans (end_main_arg3 m c), (h.1 c main_arg4 rfl).trans (end_main_arg4 m c), (h.1 c main_arg5 rfl).trans (end_main_arg5 m c), (h.1 c main_arg6 rfl).trans (end_main_arg6 m c), (h.1 c main_arg7 rfl).trans (end_main_arg7 m c), (h.1 c main_arg8 rfl).trans (end_main_arg8 m c), (h.1 c main_arg9 rfl).trans (end_main_arg9 m c)⟩, h.2⟩) (run_q m ρ)

end Cert.ReferenceIdeal.Lru

end
-- ==== Proof.Lru.RefValue.lean ====
/- The reference's arrays at the loop's entry, read at an index: the convolution, the gates, the decay and the scaled input
   of every row, then the recurrence over the rows and the three results. -/
module

public import proofs.«01_k».proof.Proof.Lru.RefFrame
public import proofs.«01_k».proof.Proof.Lru.Maths
public import Idealize.ShloMosaic.Lib.Pointwise

@[expose] public section

set_option maxRecDepth 16384

noncomputable section

namespace Cert.ReferenceIdeal.Lru

open Cert.ReferenceIdeal Cert.ReferenceIdeal.Gen Cert.ReferenceIdeal.Value Cert.Lru
open Idealize.ShloMosaic Idealize.ShloMosaic.TcCoe Idealize.ShloMosaic.Tactic Idealize.ShloMosaic.StableHlo Idealize.ShloMosaic.Pointwise

/-! ## The operations before the loop -/

abbrev Arr := FVec Ideal S4x8192x512 .f32

/-- The sequence with the three carried rows before it. -/
def seqS (p3 : FVec Ideal S4x8192x9472 .bf16) (cv : FVec Ideal S4x3x512 .f32) : FVec Ideal S4x8195x512 .f32 :=
  concatenate S4x8195x512 1 [⟨S4x3x512, cv⟩, ⟨S4x8192x512, extf (F := Ideal) .f32 (extractStridedSlice S4x8192x512 ![0, 0, 2048] p3
    slices_S4x8192x9472_S4x8192x512_0_0_2048) bitsLt_bf16_f32⟩] concatenates_S4x3x512_S4x8192x512_S4x8195x512_d1

/-- A row of lanes at every row. -/
def rowS (b : FVec Ideal S512 .f32) : Arr :=
  broadcastInDim S4x8192x512 ![0, 1, 2] bcast_S1x1x512_S4x8192x512_0_1_2 (broadcastInDim S1x1x512 ![2] bcast_S512_S1x1x512_2 b)

/-- A scalar at every place. -/
def allS (w : BitVec 32) : Arr := broadcastInDim S4x8192x512 ![] bcast_S_S4x8192x512 (constant (F := Ideal) S_ .f32 w)

/-- The convolution. -/
def convS (x : FVec Ideal S4x8195x512 .f32) (tp : FVec Ideal S4x512 .f32) (b : FVec Ideal S512 .f32) : Arr :=
  addf (addf (addf (addf (addf (allS 0x00000000#32)
    (mulf (extractStridedSlice S4x8192x512 ![0, 0, 0] x slices_S4x8195x512_S4x8192x512_0_0_0)
      (rowS (shapeCast S512 (extractStridedSlice S1x512 ![0, 0] tp slices_S4x512_S1x512_0_0) shapeCasts_S1x512_S512))))
    (mulf (extractStridedSlice S4x8192x512 ![0, 1, 0] x slices_S4x8195x512_S4x8192x512_0_1_0)
      (rowS (shapeCast S512 (extractStridedSlice S1x512 ![1, 0] tp slices_S4x512_S1x512_1_0) shapeCasts_S1x512_S512))))
    (mulf (extractStridedSlice S4x8192x512 ![0, 2, 0] x slices_S4x8195x512_S4x8192x512_0_2_0)
      (rowS (shapeCast S512 (extractStridedSlice S1x512 ![2, 0] tp slices_S4x512_S1x512_2_0) shapeCasts_S1x512_S512))))
    (mulf (extractStridedSlice S4x8192x512 ![0, 3, 0] x slices_S4x8195x512_S4x8192x512_0_3_0)
      (rowS (shapeCast S512 (extractStridedSlice S1x512 ![3, 0] tp slices_S4x512_S1x512_3_0) shapeCasts_S1x512_S512))))
    (rowS b)

/-- A gate before its sigmoid. -/
def gateS (y : Arr) (w : FVec Ideal S8x64x64 .f32) (b : FVec Ideal S512 .f32) : Arr :=
  addf (shapeCast S4x8192x512 (transpose S4x8192x8x64 [2, 3, 0, 1]
    (Host.dotGeneral (F := Ideal) dot_S8x64x64_S4x8192x8x64_S8x64x4x8192_1_3_2_01_0_2 none w (shapeCast S4x8192x8x64 y shapeCasts_S4x8192x512_S4x8192x8x64))
    transposes_S8x64x4x8192_S4x8192x8x64_2_3_0_1) shapeCasts_S4x8192x8x64_S4x8192x512) (rowS b)

/-- The sigmoid. -/
def sigS (z : Arr) : Arr := Host.divf (allS 0x3F800000#32) (addf (allS 0x3F800000#32) (Host.exp (Host.negf z)))

/-- The softplus of the decay's parameter. -/
def softS (v : FVec Ideal S512 .f32) : FVec Ideal S512 .f32 :=
  let z : FVec Ideal S512 .f32 := broadcastInDim S512 ![] bcast_S_S512 (constant (F := Ideal) S_ .f32 0x00000000#32)
  select (cmpf .une (subf v z) (subf v z)) (addf v z) (addf (maximumf v z) (Host.log1p (Host.exp (Host.negf (Host.absf (subf v z))))))

/-- The exponent of the decay. -/
def logS (z : Arr) (lam : FVec Ideal S512 .f32) : Arr :=
  mulf (mulf (allS 0xC1000000#32) (sigS z)) (rowS (softS (Host.negf lam)))

/-- The scaled input. -/
def inpS (e z y : Arr) : Arr :=
  mulf (Host.sqrt (Host.negf (Host.expm1 (mulf (allS 0x40000000#32) e)))) (mulf (sigS z) y)

variable (m : (ℓ : Loc nD τ sig) → Buf (Elt Ideal) ℓ) (c : Dev nD)

abbrev P3 : FVec Ideal S4x8192x9472 .bf16 := m ((c : Thread nD τ).loc main_arg0)
abbrev conv0 : FVec Ideal S4x3x512 .f32 := m ((c : Thread nD τ).loc main_arg1)
abbrev h0 : FVec Ideal S4x512 .f32 := m ((c : Thread nD τ).loc main_arg2)
abbrev taps : FVec Ideal S4x512 .f32 := m ((c : Thread nD τ).loc main_arg3)
abbrev cbias : FVec Ideal S512 .f32 := m ((c : Thread nD τ).loc main_arg4)
abbrev wa : FVec Ideal S8x64x64 .f32 := m ((c : Thread nD τ).loc main_arg5)
abbrev ba : FVec Ideal S512 .f32 := m ((c : Thread nD τ).loc main_arg6)
abbrev wx : FVec Ideal S8x64x64 .f32 := m ((c : Thread nD τ).loc main_arg7)
abbrev bx : FVec Ideal S512 .f32 := m ((c : Thread nD τ).loc main_arg8)
abbrev lam : FVec Ideal S512 .f32 := m ((c : Thread nD τ).loc main_arg9)

abbrev xs := seqS (P3 m c) (conv0 m c)
abbrev ys := convS (xs m c) (taps m c) (cbias m c)
abbrev es := logS (gateS (ys m c) (wa m c) (ba m c)) (lam m c)

theorem entry_v4 : entryContents preI m c (Proc.devRef .tc main_v4) = xs m c := by
  simp only [entryContents, afterL_cons, afterL_nil]
  after_reads_simp
  rfl
theorem entry_v3 : entryContents preI m c (Proc.devRef .tc main_v3) =
    extf (F := Ideal) .f32 (extractStridedSlice S4x8192x512 ![0, 0, 2560] (P3 m c) slices_S4x8192x9472_S4x8192x512_0_0_2560) bitsLt_bf16_f32 := by
  simp only [entryContents, afterL_cons, afterL_nil]
  after_reads_simp
theorem entry_a : entryContents preI m c (Proc.devRef .tc main_v80_0) =
    transpose S8192x4x512 [1, 0, 2] (Host.exp (F := Ideal) (es m c)) transposes_S4x8192x512_S8192x4x512_1_0_2 := by
  simp only [entryContents, afterL_cons, afterL_nil]
  after_reads_simp
  rfl
theorem entry_b : entryContents preI m c (Proc.devRef .tc main_v80_1) =
    transpose S8192x4x512 [1, 0, 2] (inpS (es m c) (gateS (ys m c) (wx m c) (bx m c)) (ys m c)) transposes_S4x8192x512_S8192x4x512_1_0_2 := by
  simp only [entryContents, afterL_cons, afterL_nil]
  after_reads_simp
  rfl
theorem entry_h : entryContents preI m c (Proc.devRef .tc main_v80_3) = h0 m c := by
  simp only [entryContents, afterL_cons, afterL_nil]
  after_reads_simp
  rfl

/-! ## The arrays at an index -/

theorem rowS_apply (b : FVec Ideal S512 .f32) (n : Fin 4) (t : Fin 8192) (l : Fin 512) : rowS b (ix3 n t l) = b (ix1 l) := by
  pointwise [rowS]
theorem allS_apply (w : BitVec 32) (n : Fin 4) (t : Fin 8192) (l : Fin 512) : allS w (ix3 n t l) = Ideal.ofBits .f32 w := by
  pointwise [allS]
theorem sigS_apply (z : Arr) (n : Fin 4) (t : Fin 8192) (l : Fin 512) : sigS z (ix3 n t l) = Cert.Lru.sig (z (ix3 n t l)) := by
  pointwise [sigS, allS]
  rfl
theorem softS_apply (v : FVec Ideal S512 .f32) (l : Fin 512) : softS v (ix1 l) = softplus (v (ix1 l)) := by
  pointwise [softS]
  rw [if_neg (by simp)]
  rfl
theorem seqS_apply (p3 : FVec Ideal S4x8192x9472 .bf16) (cv : FVec Ideal S4x3x512 .f32) (n : Fin 4) (k : Fin 8195) (l : Fin 512) :
    seqS p3 cv (ix3 n k l) = if h : k.val < 3 then cv (ix3 n ⟨k.val, h⟩ l) else p3 (ix3 n ⟨k.val - 3, by omega⟩ ⟨2048 + l.val, by omega⟩) := by
  pointwise [seqS]
theorem convS_apply (x : FVec Ideal S4x8195x512 .f32) (tp : FVec Ideal S4x512 .f32) (b : FVec Ideal S512 .f32) (n : Fin 4) (t : Fin 8192)
    (l : Fin 512) : convS x tp b (ix3 n t l) = x (ix3 n ⟨t.val, by omega⟩ l) * tp (ix2 0 l) + x (ix3 n ⟨t.val + 1, by omega⟩ l) * tp (ix2 1 l)
      + x (ix3 n ⟨t.val + 2, by omega⟩ l) * tp (ix2 2 l) + x (ix3 n ⟨t.val + 3, by omega⟩ l) * tp (ix2 3 l) + b (ix1 l) := by
  pointwise [convS, rowS, allS]
  simp only [Nat.add_comm 1, Nat.add_comm 2, Nat.add_comm 3]
theorem gateS_apply (y : Arr) (w : FVec Ideal S8x64x64 .f32) (b : FVec Ideal S512 .f32) (n : Fin 4) (t : Fin 8192) (l : Fin 512) :
    gateS y w b (ix3 n t l) = gate (fun a k d => w (ix3 a k d)) (fun l => b (ix1 l)) (fun l => y (ix3 n t l)) l := by
  pointwise [gateS, rowS]
  rfl

/-! ## The recurrence's terms -/

/-- The weights. -/
def wts : Weights where
  tap j l := taps m c (ix2 j l)
  bias l := cbias m c (ix1 l)
  wr a k d := wa m c (ix3 a k d)
  br l := ba m c (ix1 l)
  wi a k d := wx m c (ix3 a k d)
  bi l := bx m c (ix1 l)
  rate l := softplus (-lam m c (ix1 l))
/-- The sequence of a batch entry: the carried rows, then the projected ones. -/
def rowsX (n : Fin 4) (k : ℕ) (l : Fin 512) : EReal :=
  if h : k < 3 then conv0 m c (ix3 n ⟨k, h⟩ l)
  else if h' : k - 3 < 8192 then P3 m c (ix3 n ⟨k - 3, h'⟩ ⟨2048 + l.val, by omega⟩) else 0
/-- The state before the first row. -/
def stateH (n : Fin 4) (l : Fin 512) : EReal := h0 m c (ix2 n l)
/-- The output gate's rows. -/
def gateG (n : Fin 4) (t : Fin 8192) (l : Fin 512) : EReal := P3 m c (ix3 n t ⟨2560 + l.val, by omega⟩)

theorem xs_apply (n : Fin 4) (k : ℕ) (hk : k < 8195) (l : Fin 512) : xs m c (ix3 n ⟨k, hk⟩ l) = rowsX m c n k l := by
  refine (seqS_apply _ _ n ⟨k, hk⟩ l).trans ?_
  unfold rowsX
  show (if h : k < 3 then _ else _) = _
  by_cases h : k < 3
  · rw [dif_pos h, dif_pos h]
  · rw [dif_neg h, dif_neg h, dif_pos (by omega)]
theorem ys_apply (n : Fin 4) (t : Fin 8192) (l : Fin 512) : ys m c (ix3 n t l) = cv (wts m c) (rowsX m c n) t.val l := by
  refine (convS_apply _ _ _ n t l).trans ?_
  rw [xs_apply, xs_apply, xs_apply, xs_apply]
  rfl
theorem es_apply (n : Fin 4) (t : Fin 8192) (l : Fin 512) : es m c (ix3 n t l) = expo (wts m c) (rowsX m c n) t.val l := by
  show mulf (F := Ideal) (φ := .f32) (mulf (F := Ideal) (φ := .f32) (allS 0xC1000000#32) (sigS _)) (rowS (softS (Host.negf (F := Ideal) (φ := .f32) (lam m c)))) (ix3 n t l) = _
  rw [mulf_apply, mulf_apply, allS_apply, sigS_apply, rowS_apply, softS_apply, gateS_apply, ofBits_neg_eight,
    show (fun l => ys m c (ix3 n t l)) = cv (wts m c) (rowsX m c n) t.val from funext fun l => ys_apply m c n t l]
  rfl
theorem a_apply (n : Fin 4) (t : Fin 8192) (l : Fin 512) :
    entryContents preI m c (Proc.devRef .tc main_v80_0) (ix3 t n l) = dec (wts m c) (rowsX m c n) t.val l := by
  rw [entry_a]
  have h : transpose S8192x4x512 [1, 0, 2] (Host.exp (F := Ideal) (φ := .f32) (es m c)) transposes_S4x8192x512_S8192x4x512_1_0_2 (ix3 t n l)
      = Ideal.exp (es m c (ix3 n t l)) := by pointwise []
  rw [h, es_apply]
  rfl
theorem b_apply (n : Fin 4) (t : Fin 8192) (l : Fin 512) :
    entryContents preI m c (Proc.devRef .tc main_v80_1) (ix3 t n l) = inp (wts m c) (rowsX m c n) t.val l := by
  rw [entry_b]
  have h : ∀ e z y : Arr, transpose S8192x4x512 [1, 0, 2] (inpS e z y) transposes_S4x8192x512_S8192x4x512_1_0_2 (ix3 t n l)
      = scale (e (ix3 n t l)) * (Cert.Lru.sig (z (ix3 n t l)) * y (ix3 n t l)) := fun e z y => by
    have h1 : transpose S8192x4x512 [1, 0, 2] (inpS e z y) transposes_S4x8192x512_S8192x4x512_1_0_2 (ix3 t n l)
        = inpS e z y (ix3 n t l) := by pointwise []
    rw [h1]
    show mulf (F := Ideal) (φ := .f32) _ (mulf (F := Ideal) (φ := .f32) (sigS z) y) (ix3 n t l) = _
    rw [mulf_apply, mulf_apply, sigS_apply]
    pointwise [allS]
    rw [ofBits_two]
    rfl
  rw [h, es_apply, ys_apply, gateS_apply,
    show (fun l => ys m c (ix3 n t l)) = cv (wts m c) (rowsX m c n) t.val from funext fun l => ys_apply m c n t l]
  rfl

/-! ## The loop -/

/-- The starts of the row a trip reads and writes. -/
abbrev starts (V : Valuation τ sig (Elt Ideal)) : Fin 3 → Int := fun k => (((![V (Proc.devRef .tc main_v80_2), constantI S_ 32 0#32,
  constantI S_ 32 0#32] : Fin 3 → (⟨S_, .i32⟩ : BufTy).Contents (Elt Ideal))) k (Shape.Idx.first h_S_)).toInt

theorem iv_toInt (k : ℕ) (hk : k < 8192) : (Scf.iv 0#32 1#32 k).toInt = k := by
  have : Scf.iv 0#32 1#32 k = BitVec.ofNat 32 k := by
    simp [Scf.iv]
  rw [this, BitVec.toInt_ofNat', Int.bmod_def]
  omega

theorem clamp_row (t : Shape) (ht : t.rank = S8192x4x512.rank) (hz : ∀ a : Fin 3, t.size (a.cast ht.symm) = ![1, 4, 512] a)
    (V : Valuation τ sig (Elt Ideal)) (k : ℕ) (hk : k < 8192)
    (hV : V (Proc.devRef .tc main_v80_2) = fun _ => Scf.iv 0#32 1#32 k) (a : Fin 3) :
    Host.clampedStart S8192x4x512 t ht (starts V) a = ![k, 0, 0] a := by
  have e := hz a
  refine Host.clampedStart_of_le ht (starts V) a _ ?_ ?_
  · match a with
    | ⟨0, _⟩ => show (V (Proc.devRef .tc main_v80_2) _).toInt = (k : ℤ); rw [hV]; exact iv_toInt k hk
    | ⟨1, _⟩ => rfl
    | ⟨2, _⟩ => rfl
  · rw [e]
    match a with
    | ⟨0, _⟩ => show k + 1 ≤ 8192; omega
    | ⟨1, _⟩ => show 0 + 4 ≤ 4; omega
    | ⟨2, _⟩ => show 0 + 512 ≤ 512; omega

theorem read_row (V : Valuation τ sig (Elt Ideal)) (k : ℕ) (hk : k < 8192)
    (hV : V (Proc.devRef .tc main_v80_2) = fun _ => Scf.iv 0#32 1#32 k) (x : FVec Ideal S8192x4x512 .f32) (n : Fin 4) (l : Fin 512) :
    shapeCast S4x512 (Host.dynamicSlice S1x4x512 x (starts V) sliceFits_S8192x4x512_S1x4x512) shapeCasts_S1x4x512_S4x512 (ix2 n l)
      = x (ix3 ⟨k, hk⟩ n l) := by
  have h : shapeCast S4x512 (Host.dynamicSlice S1x4x512 x (starts V) sliceFits_S8192x4x512_S1x4x512) shapeCasts_S1x4x512_S4x512 (ix2 n l)
      = Host.dynamicSlice S1x4x512 x (starts V) sliceFits_S8192x4x512_S1x4x512 (ix3 0 n l) := by
    generalize Host.dynamicSlice S1x4x512 x (starts V) sliceFits_S8192x4x512_S1x4x512 = w
    pointwise []
  rw [h, Host.dynamicSlice_apply]
  refine congrArg x (funext fun a => Fin.ext ?_)
  have hc := clamp_row S1x4x512 rfl (fun a => by match a with | ⟨0, _⟩ => rfl | ⟨1, _⟩ => rfl | ⟨2, _⟩ => rfl) V k hk hV a
  match a with
  | ⟨0, _⟩ => exact (congrArg (· + 0) hc).trans rfl
  | ⟨1, _⟩ => exact (congrArg (· + n.val) hc).trans (Nat.zero_add _)
  | ⟨2, _⟩ => exact (congrArg (· + l.val) hc).trans (Nat.zero_add _)

theorem write_row (V : Valuation τ sig (Elt Ideal)) (k : ℕ) (hk : k < 8192)
    (hV : V (Proc.devRef .tc main_v80_2) = fun _ => Scf.iv 0#32 1#32 k) (x : FVec Ideal S8192x4x512 .f32) (u : FVec Ideal S4x512 .f32)
    (t : Fin 8192) (n : Fin 4) (l : Fin 512) :
    Host.dynamicUpdateSlice x (broadcastInDim S1x4x512 ![1, 2] bcast_S4x512_S1x4x512_1_2 u) (starts V) updateFits_S8192x4x512_S1x4x512 (ix3 t n l)
      = if t.val = k then u (ix2 n l) else x (ix3 t n l) := by
  have hc := clamp_row S1x4x512 rfl (fun a => by match a with | ⟨0, _⟩ => rfl | ⟨1, _⟩ => rfl | ⟨2, _⟩ => rfl) V k hk hV
  have h0 : Host.clampedStart S8192x4x512 S1x4x512 rfl (starts V) 0 = k := hc 0
  have h1 : Host.clampedStart S8192x4x512 S1x4x512 rfl (starts V) 1 = 0 := hc 1
  have h2 : Host.clampedStart S8192x4x512 S1x4x512 rfl (starts V) 2 = 0 := hc 2
  rw [Host.dynamicUpdateSlice_apply]
  by_cases ht : t.val = k
  · rw [if_pos ht, dif_pos (fun a => by
      match a with
      | ⟨0, _⟩ => exact ⟨le_of_eq_of_le h0 (le_of_eq ht.symm), lt_of_lt_of_eq (show t.val < k + 1 by omega) (congrArg (· + 1) h0.symm)⟩
      | ⟨1, _⟩ => exact ⟨le_of_eq_of_le h1 (Nat.zero_le _), lt_of_lt_of_eq (show n.val < 0 + 4 by omega) (congrArg (· + 4) h1.symm)⟩
      | ⟨2, _⟩ => exact ⟨le_of_eq_of_le h2 (Nat.zero_le _), lt_of_lt_of_eq (show l.val < 0 + 512 by omega) (congrArg (· + 512) h2.symm)⟩)]
    have hb : ∀ j : S1x4x512.Idx, (j 1).val = n.val → (j 2).val = l.val →
        broadcastInDim S1x4x512 ![1, 2] bcast_S4x512_S1x4x512_1_2 u j = u (ix2 n l) := by
      intro j e1 e2
      refine congrArg u (funext fun a => Fin.ext ?_)
      match a with
      | ⟨0, _⟩ => exact e1
      | ⟨1, _⟩ => exact e2
    exact hb _ ((congrArg (n.val - ·) h1).trans (Nat.sub_zero _)) ((congrArg (l.val - ·) h2).trans (Nat.sub_zero _))
  · rw [if_neg ht, dif_neg]
    intro h
    have := h 0
    have e1 : Host.clampedStart S8192x4x512 S1x4x512 rfl (starts V) 0 ≤ t.val := this.1
    have e2 : t.val < Host.clampedStart S8192x4x512 S1x4x512 rfl (starts V) 0 + 1 := this.2
    omega

/-- What the loop's buffers hold before trip `k`. -/
structure Before (k : ℕ) (V : Valuation τ sig (Elt Ideal)) : Prop where
  ctr : V (Proc.devRef .tc main_v80_2) = fun _ => Scf.iv 0#32 1#32 k
  a : V (Proc.devRef .tc main_v80_0) = entryContents preI m c (Proc.devRef .tc main_v80_0)
  b : V (Proc.devRef .tc main_v80_1) = entryContents preI m c (Proc.devRef .tc main_v80_1)
  h : ∀ (n : Fin 4) (l : Fin 512), V (Proc.devRef .tc main_v80_3) (ix2 n l) = st (wts m c) (rowsX m c n) (stateH m c n) k l
  hs : ∀ (t : Fin 8192) (n : Fin 4) (l : Fin 512), t.val < k →
    V (Proc.devRef .tc main_v80_4) (ix3 t n l) = st (wts m c) (rowsX m c n) (stateH m c n) (t.val + 1) l

theorem next_state (k : ℕ) (hk : k < 8192) (V : Valuation τ sig (Elt Ideal)) (B : Before m c k V) (n : Fin 4) (l : Fin 512) :
    res_main_while0b_v90 V (ix2 n l) = st (wts m c) (rowsX m c n) (stateH m c n) (k + 1) l := by
  show addf (F := Ideal) (φ := .f32) (mulf (F := Ideal) (φ := .f32) (shapeCast S4x512 (Host.dynamicSlice S1x4x512 (V (Proc.devRef .tc main_v80_0)) (starts V)
      sliceFits_S8192x4x512_S1x4x512) shapeCasts_S1x4x512_S4x512) (V (Proc.devRef .tc main_v80_3)))
    (shapeCast S4x512 (Host.dynamicSlice S1x4x512 (V (Proc.devRef .tc main_v80_1)) (starts V)
      sliceFits_S8192x4x512_S1x4x512) shapeCasts_S1x4x512_S4x512) (ix2 n l) = _
  rw [addf_apply, mulf_apply, read_row V k hk B.ctr, read_row V k hk B.ctr, B.h, B.a, B.b, a_apply, b_apply]
  rfl

theorem before (k : ℕ) (hk : k ≤ 8192) : Before m c k (atK m k c) := by
  induction k with
  | zero =>
    refine ⟨atK_ctr m c 0, rfl, rfl, fun n l => ?_, fun t n l ht => absurd ht (Nat.not_lt_zero _)⟩
    show entryContents preI m c (Proc.devRef .tc main_v80_3) (ix2 n l) = _
    rw [entry_h]
    rfl
  | succ k ih =>
    have B := ih (by omega)
    have A := trip_agree (atK m k c)
    refine ⟨atK_ctr m c (k + 1), ?_, ?_, fun n l => ?_, fun t n l ht => ?_⟩
    · exact ((A main_v80_0 (by decide)).trans (STEP_main_v80_0 _)).trans B.a
    · exact ((A main_v80_1 (by decide)).trans (STEP_main_v80_1 _)).trans B.b
    · refine (congrFun ((A main_v80_3 (by decide)).trans (STEP_main_v80_3 _)) (ix2 n l)).trans ?_
      exact next_state m c k (by omega) _ B n l
    · refine (congrFun ((A main_v80_4 (by decide)).trans (STEP_main_v80_4 _)) (ix3 t n l)).trans ?_
      refine (write_row (atK m k c) k (by omega) B.ctr _ _ t n l).trans ?_
      by_cases e : t.val = k
      · rw [if_pos e, next_state m c k (by omega) _ B n l, e]
      · rw [if_neg e]; exact B.hs t n l (by omega)

/-! ## The results -/

/-- The gated states. -/
def U (i : S4x8192x512.Idx) : EReal :=
  st (wts m c) (rowsX m c (i 0)) (stateH m c (i 0)) ((i 1).val + 1) (i 2) * silu (gateG m c (i 0) (i 1) (i 2))
/-- The last state. -/
def HL (i : S4x1x512.Idx) : EReal := st (wts m c) (rowsX m c (i 0)) (stateH m c (i 0)) 8192 (i 2)
/-- The last three rows. -/
def CN (i : S4x3x512.Idx) : EReal := rowsX m c (i 0) (8192 + (i 1).val) (i 2)

abbrev loopEnd : Valuation τ sig (Elt Ideal) := after condOps (atK m 8192 c)

theorem end_carried (r : Ref sig .tc) (h : r ∈ carriedRefs) : loopEnd m c (Proc.devRef .tc r) = atK m 8192 c (Proc.devRef .tc r) :=
  cond_keeps _ r h

theorem end_v3 : loopEnd m c (Proc.devRef .tc main_v3) = entryContents preI m c (Proc.devRef .tc main_v3) :=
  (after_of_writes_sub condOps _ condOps_writes (by decide +kernel)).trans
    (trips_keep m c main_v3 (by decide +kernel) (by decide +kernel) (by decide +kernel) (by decide +kernel) (by decide +kernel) (by decide +kernel) 8192)
theorem end_v4 : loopEnd m c (Proc.devRef .tc main_v4) = entryContents preI m c (Proc.devRef .tc main_v4) :=
  (after_of_writes_sub condOps _ condOps_writes (by decide +kernel)).trans
    (trips_keep m c main_v4 (by decide +kernel) (by decide +kernel) (by decide +kernel) (by decide +kernel) (by decide +kernel) (by decide +kernel) 8192)

/-- The output's operations. -/
def outS (x : FVec Ideal S8192x4x512 .f32) (g : Arr) : FVec Ideal S4x8192x512 .bf16 :=
  truncf (F := Ideal) .bf16 (mulf (transpose S4x8192x512 [1, 0, 2] x transposes_S8192x4x512_S4x8192x512_1_0_2) (mulf g (sigS g))) bitsLt_bf16_f32

theorem post_v84 (V : Valuation τ sig (Elt Ideal)) :
    afterL postI V (Proc.devRef .tc main_v84) = outS (V (Proc.devRef .tc main_v80_4)) (V (Proc.devRef .tc main_v3)) := by
  simp only [afterL_cons, afterL_nil]
  after_reads_simp
  rfl
theorem post_v85 (V : Valuation τ sig (Elt Ideal)) :
    afterL postI V (Proc.devRef .tc main_v85) = broadcastInDim S4x1x512 ![0, 2] bcast_S4x512_S4x1x512_0_2 (V (Proc.devRef .tc main_v80_3)) := by
  simp only [afterL_cons, afterL_nil]
  after_reads_simp
theorem post_v86 (V : Valuation τ sig (Elt Ideal)) : afterL postI V (Proc.devRef .tc main_v86) =
    extractStridedSlice S4x3x512 ![0, 8192, 0] (V (Proc.devRef .tc main_v4)) slices_S4x8195x512_S4x3x512_0_8192_0 := by
  simp only [afterL_cons, afterL_nil]
  after_reads_simp

theorem result_u : finalContents condOps preI bodyI postI 8192 m c (Proc.devRef .tc main_v84) = U m c := by
  refine (post_v84 (loopEnd m c)).trans (funext fun i => ?_)
  obtain ⟨n, t, l, rfl⟩ : ∃ (n : Fin 4) (t : Fin 8192) (l : Fin 512), i = ix3 n t l := ⟨i 0, i 1, i 2, eq_ix3 i⟩
  have h : ∀ (x : FVec Ideal S8192x4x512 .f32) (g : Arr), outS x g (ix3 n t l) = x (ix3 t n l) * silu (g (ix3 n t l)) := fun x g => by
    pointwise [outS, sigS, allS]
    rfl
  rw [h, end_carried m c main_v80_4 (by decide), end_v3, entry_v3, (before m c 8192 le_rfl).hs t n l t.isLt]
  refine congrArg (st (wts m c) (rowsX m c n) (stateH m c n) (t.val + 1) l * silu ·) ?_
  show _ = P3 m c (ix3 n t ⟨2560 + l.val, by omega⟩)
  generalize P3 m c = p
  pointwise []
theorem result_h : finalContents condOps preI bodyI postI 8192 m c (Proc.devRef .tc main_v85) = HL m c := by
  refine (post_v85 (loopEnd m c)).trans (funext fun i => ?_)
  obtain ⟨n, o, l, rfl⟩ : ∃ (n : Fin 4) (o : Fin 1) (l : Fin 512), i = ix3 n o l := ⟨i 0, i 1, i 2, eq_ix3 i⟩
  rw [end_carried m c main_v80_3 (by decide)]
  have h : ∀ x : FVec Ideal S4x512 .f32, broadcastInDim S4x1x512 ![0, 2] bcast_S4x512_S4x1x512_0_2 x (ix3 n o l) = x (ix2 n l) := fun x => by
    pointwise []
  exact (h _).trans ((before m c 8192 le_rfl).h n l)
theorem result_conv : finalContents condOps preI bodyI postI 8192 m c (Proc.devRef .tc main_v86) = CN m c := by
  refine (post_v86 (loopEnd m c)).trans (funext fun i => ?_)
  obtain ⟨n, j, l, rfl⟩ : ∃ (n : Fin 4) (j : Fin 3) (l : Fin 512), i = ix3 n j l := ⟨i 0, i 1, i 2, eq_ix3 i⟩
  rw [end_v4, entry_v4]
  have h : ∀ x : FVec Ideal S4x8195x512 .f32, extractStridedSlice S4x3x512 ![0, 8192, 0] x slices_S4x8195x512_S4x3x512_0_8192_0 (ix3 n j l)
      = x (ix3 n ⟨8192 + j.val, by omega⟩ l) := fun x => by
    pointwise []
  exact (h _).trans (xs_apply m c n (8192 + j.val) (by omega) l)

end Cert.ReferenceIdeal.Lru

end
-- ==== Proof.Lru.Claims.lean ====
/- The claims about the recurrent branch: the kernel's three result arrays are the reference's. -/
module

public import proofs.«01_k».proof.Defs
public import proofs.«01_k».proof.Proof.Gen.Kernel
public import proofs.«01_k».proof.Proof.Lru.Arrays
public import proofs.«01_k».proof.Proof.Lru.RefValue

@[expose] public section

set_option maxRecDepth 16384

noncomputable section

namespace Cert.Lru

open Idealize.ShloMosaic Idealize.SL.Sem

/-- The reference's arguments are the kernel's. -/
abbrev Same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} {c : Dev Cert.KernelIdeal.nD}

theorem wts_eq (e : Same m m' c) : Cert.ReferenceIdeal.Lru.wts m' c = Cert.KernelIdeal.Lru.wts m c := by
  obtain ⟨e0, e1, e2, e3, e4, e5, e6, e7, e8, e9⟩ := e
  unfold Cert.ReferenceIdeal.Lru.wts
  rw [Cert.ReferenceIdeal.Lru.taps, Cert.ReferenceIdeal.Lru.cbias, Cert.ReferenceIdeal.Lru.wa, Cert.ReferenceIdeal.Lru.ba,
    Cert.ReferenceIdeal.Lru.wx, Cert.ReferenceIdeal.Lru.bx, Cert.ReferenceIdeal.Lru.lam, e3, e4, e5, e6, e7, e8, e9]
  rfl
theorem rows_eq (e : Same m m' c) : Cert.ReferenceIdeal.Lru.rowsX m' c = Cert.KernelIdeal.Lru.rowsX m c := by
  obtain ⟨e0, e1, _⟩ := e
  funext n k l
  unfold Cert.ReferenceIdeal.Lru.rowsX
  rw [Cert.ReferenceIdeal.Lru.P3, Cert.ReferenceIdeal.Lru.conv0, e0, e1]
  rfl
theorem state_eq (e : Same m m' c) : Cert.ReferenceIdeal.Lru.stateH m' c = Cert.KernelIdeal.Lru.stateH m c := by
  obtain ⟨_, _, e2, _⟩ := e
  funext n l
  unfold Cert.ReferenceIdeal.Lru.stateH
  rw [Cert.ReferenceIdeal.Lru.h0, e2]
  rfl
theorem gate_eq (e : Same m m' c) : Cert.ReferenceIdeal.Lru.gateG m' c = Cert.KernelIdeal.Lru.gateG m c := by
  obtain ⟨e0, _⟩ := e
  funext n t l
  unfold Cert.ReferenceIdeal.Lru.gateG
  rw [Cert.ReferenceIdeal.Lru.P3, e0]
  rfl
theorem u_eq (e : Same m m' c) : Cert.ReferenceIdeal.Lru.U m' c = Cert.KernelIdeal.Lru.U m c := by
  unfold Cert.ReferenceIdeal.Lru.U
  rw [wts_eq e, rows_eq e, state_eq e, gate_eq e]
  rfl
theorem h_eq (e : Same m m' c) : Cert.ReferenceIdeal.Lru.HL m' c = Cert.KernelIdeal.Lru.HL m c := by
  unfold Cert.ReferenceIdeal.Lru.HL
  rw [wts_eq e, rows_eq e, state_eq e]
  rfl
theorem cn_eq (e : Same m m' c) : Cert.ReferenceIdeal.Lru.CN m' c = Cert.KernelIdeal.Lru.CN m c := by
  unfold Cert.ReferenceIdeal.Lru.CN
  rw [rows_eq e]
  rfl

set_option maxHeartbeats 4000000

section Frames
attribute [local instance] Cert.Kernel.Gen.facts Cert.KernelIdeal.Gen.facts

/-- The kernel and its idealization have one text. -/
theorem bodies_eq : (Cert.Kernel.defs₀ (F := Bits)) = (Cert.KernelIdeal.defs₀ (F := Bits)) := by
  refine congrArg Defs.onTc (funext fun l => funext fun a => ?_)
  match l, a with
  | ⟨0, _⟩, (t, s) => exact rfl
theorem defs_eq : (Cert.Kernel.defs (F := Bits)) = (Cert.KernelIdeal.defs (F := Bits)) :=
  congrArg (Pipeline.defs Cert.KernelIdeal.pcfgs) bodies_eq

theorem kernel_frame : Cert.quiescent_Kernel (hKernel := Cert.Kernel.Gen.facts) := fun m g _ => by
  rw [defs_eq]
  exact Cert.KernelIdeal.Lru.frame_all (F := Bits) m g
end Frames

theorem ideal_frame : Cert.quiescent_KernelIdeal (hKernelIdeal := Cert.KernelIdeal.Gen.facts) := fun m g _ => Cert.KernelIdeal.Lru.frame_all (F := Ideal) m g
theorem reference_frame : Cert.quiescent_ReferenceIdeal (hReferenceIdeal := Cert.ReferenceIdeal.Gen.facts) :=
  fun m g _ => Cert.ReferenceIdeal.Lru.frame_all (F := Ideal) m g

theorem algebraic : Cert.algebraic_KernelIdeal_ReferenceIdeal (hKernelIdeal := Cert.KernelIdeal.Gen.facts)
    (hReferenceIdeal := Cert.ReferenceIdeal.Gen.facts) := by
  intro m g m' g' _ e
  refine ⟨fun c => Cert.KernelIdeal.Lru.U m c, fun c => Cert.KernelIdeal.Lru.HL m c, fun c => Cert.KernelIdeal.Lru.CN m c, ?_, ?_⟩
  · refine (θ_run Cert.KernelIdeal.defs _ _).mono (fun r h c => ?_) (θ_run_and (Cert.KernelIdeal.Lru.run_main m g) (Cert.KernelIdeal.Lru.frame_all m g))
    exact ⟨((h.1 c).1 11).trans (Cert.KernelIdeal.Lru.array11 m c), ((h.1 c).1 12).trans (Cert.KernelIdeal.Lru.array12 m c),
      ((h.1 c).1 13).trans (Cert.KernelIdeal.Lru.array13 m c), h.2.1 c⟩
  · refine (θ_run Cert.ReferenceIdeal.defs _ _).mono (fun r h c => ?_) (θ_run_and (Cert.ReferenceIdeal.Lru.run_q m' g') (Cert.ReferenceIdeal.Lru.frame_all m' g'))
    exact ⟨((h.1.1 c _ rfl).trans (Cert.ReferenceIdeal.Lru.result_u m' c)).trans (u_eq (e c)),
      ((h.1.1 c _ rfl).trans (Cert.ReferenceIdeal.Lru.result_h m' c)).trans (h_eq (e c)),
      ((h.1.1 c _ rfl).trans (Cert.ReferenceIdeal.Lru.result_conv m' c)).trans (cn_eq (e c)), h.2.1 c⟩

end Cert.Lru

end
-- ==== Proof.Norm.lean ====
/- The RMSNorm of a row over the extended reals. -/
module

public import Idealize.ShloMosaic.Lib.Pointwise
public import Idealize.ShloMosaic.Lib.IdealHost

@[expose] public section

noncomputable section

namespace Cert.Norm

open Idealize.ShloMosaic

/-- A row of 1024 numbers divided by the root of its mean square and scaled. -/
def normRow (o w : Fin 1024 → EReal) (j : Fin 1024) : EReal :=
  o j * Ideal.rsqrt (Ideal.div (∑ k, o k * o k) (Ideal.ofBits .f32 0x44800000#32) + Ideal.ofBits .f32 0x358637BD#32) * w j

end Cert.Norm

end
-- ==== Proof.Inproj.Maths.lean ====
/- The columns of the projection in the order that the kernel keeps them. -/
module

public import proofs.«01_k».proof.Proof.Norm

@[expose] public section

noncomputable section

namespace Cert.Inproj

open Idealize.ShloMosaic

/-- The source column of each of the 9224 columns that hold something. -/
def source (j : ℕ) : ℕ :=
  if j < 1024 then 1536 + j
  else if j < 2048 then 2568 + (j - 1024)
  else if j < 2560 then j - 2048
  else if j < 3072 then 512 + (j - 2560)
  else if j < 3584 then 1024 + (j - 3072)
  else if j < 4096 then 3592 + (j - 3584)
  else if j < 4608 then 4104 + (j - 4096)
  else if j < 5120 then 5640 + (j - 4608)
  else if j < 9216 then 6152 + (j - 5120)
  else 2560 + (j - 9216)

theorem source_lt (j : ℕ) (h : j < 9224) : source j < 10248 := by
  unfold source; split_ifs <;> omega

/-- A row of 10248 numbers in the kernel's order, with zeros after its 9224 columns. -/
def arranged (p : Fin 10248 → EReal) (j : Fin 9472) : EReal :=
  if h : j.val < 9224 then p ⟨source j.val, source_lt _ h⟩ else 0

/-- A product with the rearranged columns is the rearranged product. -/
theorem arranged_sum (p : Fin 10248 → EReal) (h : Fin 1024 → EReal) (w : Fin 1024 → Fin 10248 → EReal)
    (e : ∀ l, p l = ∑ k, h k * w k l) (j : Fin 9472) : arranged p j = ∑ k, h k * arranged (w k) j := by
  unfold arranged
  split
  · exact e _
  · simp

end Cert.Inproj

end
-- ==== Proof.Inproj.Point.lean ====
/- One grid point of the input projection kernel, read at an index. -/
module

public import proofs.«01_k».proof.Proof.Gen.InprojIdeal.Value
public import proofs.«01_k».proof.Proof.Inproj.Maths
public import Idealize.ShloMosaic.Lib.Pointwise

@[expose] public section

set_option maxRecDepth 16384

noncomputable section

namespace Cert.InprojIdeal.Inproj

open Cert.InprojIdeal Cert.InprojIdeal.Gen Cert.Inproj
open Idealize.ShloMosaic Idealize.ShloMosaic.TcCoe Idealize.ShloMosaic.Tactic Idealize.ShloMosaic.Pointwise

theorem hz2 : (![0, 0] : Fin 2 → Nat) = fun _ => 0 := funext fun a => by fin_cases a <;> rfl

/-! ## The payloads at an index -/
theorem pay1_apply (x : Vec Ideal S1024x1024 .f32) (w : Vec Ideal S1x1024 .f32) (r k : Fin 1024) :
    k0_pay1 x w (ix2 r k) = Cert.Norm.normRow (fun k => x (ix2 r k)) (fun k => w (ix2 0 k)) k := by
  pointwise [k0_pay1]
  rfl

/-- A product of the normed rows with a chunk of the weight's columns. -/
def prod {n : ℕ} (h : Vec Ideal S1024x1024 .bf16) (w : Fin 1024 → Fin n → EReal) (r : Fin 1024) (j : Fin n) : EReal :=
  ∑ k : Fin 1024, h (ix2 r k) * w k j

theorem pay2_apply (h : Vec Ideal S1024x1024 .bf16) (w : Vec Ideal S1024x512 .bf16) (r : Fin 1024) (j : Fin 512) :
    k0_pay2 h w (ix2 r j) = prod h (fun k j => w (ix2 k j)) r j := by
  pointwise [k0_pay2]
  rfl
theorem pay12_apply (h : Vec Ideal S1024x1024 .bf16) (w : Vec Ideal S1024x128 .bf16) (r : Fin 1024) (j : Fin 128) :
    k0_pay12 h w (ix2 r j) = prod h (fun k j => w (ix2 k j)) r j := by
  pointwise [k0_pay12]
  rfl

/-- The block that a point leaves. -/
def block (h : Vec Ideal S1024x1024 .bf16) (w : Vec Ideal S1024x4736 .bf16) (y : S1024x4736.Idx) : EReal :=
  prod h (fun k j => w (ix2 k j)) (y 0) (y 1)

theorem piece (h : Vec Ideal S1024x1024 .bf16) (w : Vec Ideal S1024x4736 .bf16) (o : Fin 2 → ℕ) (n : ℕ) (ho : o = ![0, n]) (hb)
    (y : (Rect.unit (s := S1024x4736) o ![1024, 512] hb).shape.Idx) :
    k0_pay2 h (View.ld w (Rect.unit (s := S1024x4736) o ![1024, 512] hb)) y = block h w ((Rect.unit (s := S1024x4736) o ![1024, 512] hb).emb y) := by
  subst ho
  have h0 : (y 0).val < 1024 := (y 0).isLt
  have h1 : (y 1).val < 512 := (y 1).isLt
  have e : y = ix2 (⟨(y 0).val, h0⟩ : Fin 1024) (⟨(y 1).val, h1⟩ : Fin 512) := by
    funext a; match a with | ⟨0, _⟩ => rfl | ⟨1, _⟩ => rfl
  refine (congrArg (k0_pay2 h _) e).trans ((pay2_apply h _ _ _).trans ?_)
  unfold block prod
  refine Finset.sum_congr rfl fun k _ => congrArg₂ (· * ·) (congrArg h (funext fun a => Fin.ext ?_)) (congrArg w (funext fun a => Fin.ext ?_))
  · match a with
    | ⟨0, _⟩ => show (y 0).val = 0 + 1 * (y 0).val; omega
    | ⟨1, _⟩ => rfl
  · match a with
    | ⟨0, _⟩ => show 0 + 1 * k.val = k.val; omega
    | ⟨1, _⟩ => rfl

theorem piece_last (h : Vec Ideal S1024x1024 .bf16) (w : Vec Ideal S1024x4736 .bf16) (o : Fin 2 → ℕ) (n : ℕ) (ho : o = ![0, n]) (hb)
    (y : (Rect.unit (s := S1024x4736) o ![1024, 128] hb).shape.Idx) :
    k0_pay12 h (View.ld w (Rect.unit (s := S1024x4736) o ![1024, 128] hb)) y = block h w ((Rect.unit (s := S1024x4736) o ![1024, 128] hb).emb y) := by
  subst ho
  have h0 : (y 0).val < 1024 := (y 0).isLt
  have h1 : (y 1).val < 128 := (y 1).isLt
  have e : y = ix2 (⟨(y 0).val, h0⟩ : Fin 1024) (⟨(y 1).val, h1⟩ : Fin 128) := by
    funext a; match a with | ⟨0, _⟩ => rfl | ⟨1, _⟩ => rfl
  refine (congrArg (k0_pay12 h _) e).trans ((pay12_apply h _ _ _).trans ?_)
  unfold block prod
  refine Finset.sum_congr rfl fun k _ => congrArg₂ (· * ·) (congrArg h (funext fun a => Fin.ext ?_)) (congrArg w (funext fun a => Fin.ext ?_))
  · match a with
    | ⟨0, _⟩ => show (y 0).val = 0 + 1 * (y 0).val; omega
    | ⟨1, _⟩ => rfl
  · match a with
    | ⟨0, _⟩ => show 0 + 1 * k.val = k.val; omega
    | ⟨1, _⟩ => rfl

section
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x4736 .bf16) (harg4 : arg4.IsWhole) (arg5 : Memref sig .tc .vmem S1024x4736 .bf16) (harg5 : arg5.IsWhole) (arg6 : Memref sig .tc .vmem S1024x1024 .bf16) (harg6 : arg6.IsWhole)
    (x0 : Vec Ideal S1024x1024 .f32) (x1 : Vec Ideal S1x1024 .f32) (x2 : Vec Ideal S1024x4736 .bf16) (xs0 : Vec Ideal S1024x1024 .bf16)

theorem out_B (hc0 : ¬cond0_0 i) : out0_B_3 c i arg2 harg2 arg3 harg3 arg4 harg4 arg5 harg5 arg6 harg6 hc0 x0 x1 x2 xs0 = block xs0 x2 := by
  unfold out0_B_3
  rw [View.read_writes_junk_eq_canon]
  have hcov := cover0_B_3 c i arg2 harg2 arg3 harg3 arg4 harg4 arg5 harg5 arg6 harg6 hc0 x0 x1 x2 xs0
  funext y
  refine View.canon_apply_of_pieces (block xs0 x2) _ ?_ y (hcov y)
  unfold kernelRun0_B
  dsimp only
  sl_unfold_words
  simp only [View.readAt_eq_ld, harg4.read_unread, harg6.read_unread, View.ld_unit_zero (S := S1024x1024) hz2]
  intro p hp
  simp only [List.mem_cons, List.not_mem_nil, or_false] at hp
  rcases hp with rfl | rfl | rfl | rfl | rfl | rfl | rfl | rfl | rfl | rfl
  · exact fun x => piece_last _ _ _ 4608 rfl _ x
  · exact fun x => piece _ _ _ 4096 rfl _ x
  · exact fun x => piece _ _ _ 3584 rfl _ x
  · exact fun x => piece _ _ _ 3072 rfl _ x
  · exact fun x => piece _ _ _ 2560 rfl _ x
  · exact fun x => piece _ _ _ 2048 rfl _ x
  · exact fun x => piece _ _ _ 1536 rfl _ x
  · exact fun x => piece _ _ _ 1024 rfl _ x
  · exact fun x => piece _ _ _ 512 rfl _ x
  · exact fun x => piece _ _ _ 0 rfl _ x

theorem out_A (hc0 : cond0_0 i) : out0_A_3 c i arg2 harg2 arg3 harg3 arg4 harg4 arg5 harg5 arg6 harg6 hc0 x0 x1 x2 = block (k0_pay1 x0 x1) x2 := by
  unfold out0_A_3
  rw [View.read_writes_junk_eq_canon]
  have hcov := cover0_A_3 c i arg2 harg2 arg3 harg3 arg4 harg4 arg5 harg5 arg6 harg6 hc0 x0 x1 x2
  funext y
  refine View.canon_apply_of_pieces (block (k0_pay1 x0 x1) x2) _ ?_ y (hcov y)
  unfold kernelRun0_A
  dsimp only
  sl_unfold_words
  simp only [View.readAt_eq_ld, harg2.read_unread, harg3.read_unread, harg4.read_unread, View.ld_unit_zero (S := S1024x1024) hz2,
    View.ld_unit_zero (S := S1x1024) hz2, View.readCov_unit_zero (S := S1024x1024) arg6.view hz2]
  intro p hp
  simp only [List.mem_cons, List.not_mem_nil, or_false] at hp
  rcases hp with rfl | rfl | rfl | rfl | rfl | rfl | rfl | rfl | rfl | rfl
  · exact fun x => piece_last _ _ _ 4608 rfl _ x
  · exact fun x => piece _ _ _ 4096 rfl _ x
  · exact fun x => piece _ _ _ 3584 rfl _ x
  · exact fun x => piece _ _ _ 3072 rfl _ x
  · exact fun x => piece _ _ _ 2560 rfl _ x
  · exact fun x => piece _ _ _ 2048 rfl _ x
  · exact fun x => piece _ _ _ 1536 rfl _ x
  · exact fun x => piece _ _ _ 1024 rfl _ x
  · exact fun x => piece _ _ _ 512 rfl _ x
  · exact fun x => piece _ _ _ 0 rfl _ x

theorem scratch_A (hc0 : cond0_0 i) : sout0_A_0 c i arg2 harg2 arg3 harg3 arg4 harg4 arg5 harg5 arg6 harg6 hc0 x0 x1 x2 = k0_pay1 x0 x1 := by
  unfold sout0_A_0
  rw [View.read_writes_junk_eq_canon]
  unfold kernelRun0_A
  dsimp only
  sl_unfold_words
  rw [View.canon_unit_zero hz2]
  simp only [View.readAt_eq_ld, harg2.read_unread, harg3.read_unread, View.ld_unit_zero (S := S1024x1024) hz2, View.ld_unit_zero (S := S1x1024) hz2]
end

end Cert.InprojIdeal.Inproj

end
-- ==== Proof.Inproj.Arrays.lean ====
/- What the input projection kernel's result array holds after the run, as a function of the arguments. -/
module

public import proofs.«01_k».proof.Proof.Inproj.Point
public import Idealize.ShloMosaic.Lib.StableHlo.RunRead
public import Idealize.ShloMosaic.Lib.Pipeline.Value

@[expose] public section

set_option maxRecDepth 16384

noncomputable section

namespace Cert.InprojIdeal.Inproj

open Cert.InprojIdeal Cert.InprojIdeal.Gen Cert.Inproj
open Idealize.ShloMosaic Idealize.ShloMosaic.TcCoe Idealize.ShloMosaic.Tactic Idealize.ShloMosaic.Pointwise
open Idealize.ShloMosaic.Pipeline (Dat)

variable (m : (ℓ : Loc nD τ sig) → Buf (Elt Ideal) ℓ) (c : Dev nD)

/-! ## The arguments -/
abbrev x2 : Vec Ideal S32768x1024 .f32 := m ((c : Thread nD τ).loc main_arg0)
abbrev npre : Vec Ideal S1024 .f32 := m ((c : Thread nD τ).loc main_arg1)
abbrev win : Vec Ideal S1024x10248 .f32 := m ((c : Thread nD τ).loc main_arg2)

/-- A normed row of the input. -/
def row (t : Fin 32768) (k : Fin 1024) : EReal := Cert.Norm.normRow (fun k => x2 m c (ix2 t k)) (fun k => npre m c (ix1 k)) k

/-- The weight's columns in the kernel's order. -/
def weight (k : Fin 1024) (j : Fin 9472) : EReal := arranged (fun l => win m c (ix2 k l)) j

/-- The result array. -/
def Y (i : S32768x9472.Idx) : EReal := ∑ k : Fin 1024, row m c (i 0) k * weight m c k (i 1)

/-! ## The windows' indices -/
theorem idx0 : ∀ t : Fin cfg0.N, win0_0.index t (0 : Fin 2) = t.val / 2 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 2 :=
  (by decide +kernel : ∀ t : Fin grid0.N, _)
theorem idx3 : ∀ t : Fin cfg0.N, win0_3.index t (0 : Fin 2) = t.val / 2 ∧ win0_3.index t (1 : Fin 2) = t.val % 2 :=
  (by decide +kernel : ∀ t : Fin grid0.N, _)

theorem t_lt (t : Fin cfg0.N) : t.val < 64 := lt_of_lt_of_eq t.isLt N_0

/-! ## The arrays that the host code prepares -/
theorem V_v14 : (V m c main_v14 : Vec Ideal S1x1024 .f32) = broadcastInDim S1x1024 ![1] bcast_S1024_S1x1024_1 (npre m c) := by
  unfold V; unfold_abbrev_sides; after_reads_simp
theorem row_apply (a : Vec Ideal S1024 .f32) (k : Fin 1024) :
    (broadcastInDim S1x1024 ![1] bcast_S1024_S1x1024_1 a : Vec Ideal S1x1024 .f32) (ix2 0 k) = a (ix1 k) := by
  pointwise

set_option maxHeartbeats 1000000 in
theorem V_v15 (k : Fin 1024) (j : Fin 9472) : (V m c main_v15 : Vec Ideal S1024x9472 .bf16) (ix2 k j) = weight m c k j := by
  unfold V; unfold_abbrev_sides; after_reads_simp
  unfold weight
  pointwise
  unfold arranged source
  rcases (by omega : j.val < 1024 ∨ (1024 ≤ j.val ∧ j.val < 2048) ∨ (2048 ≤ j.val ∧ j.val < 2560) ∨ (2560 ≤ j.val ∧ j.val < 3072) ∨ (3072 ≤ j.val ∧ j.val < 3584)
    ∨ (3584 ≤ j.val ∧ j.val < 4096) ∨ (4096 ≤ j.val ∧ j.val < 4608) ∨ (4608 ≤ j.val ∧ j.val < 5120) ∨ (5120 ≤ j.val ∧ j.val < 9216)
    ∨ (9216 ≤ j.val ∧ j.val < 9224) ∨ (9224 ≤ j.val ∧ j.val < 9344) ∨ 9344 ≤ j.val) with h | h | h | h | h | h | h | h | h | h | h | h <;>
  simp (disch := omega) only [↓dif_pos, ↓dif_neg, ↓if_pos, ↓if_neg] <;>
  after_reads_simp <;> pointwise <;>
  try exact congrArg (win m c) (congrArg (ix2 k) (Fin.ext (by dsimp only; omega)))

/-! ## The blocks as reads of the arguments -/
theorem blk0 (t : Fin cfg0.N) (r k : Fin 1024) : (iblk m c 0 t : Vec Ideal S1024x1024 .f32) (ix2 r k) =
    x2 m c (ix2 ⟨t.val / 2 * 1024 + r.val, by have := t_lt t; omega⟩ k) := by
  obtain ⟨e0, e1⟩ := idx0 t
  show V m c main_arg0 (((cfg0.win 0).blk t).view.emb _) = _
  rw [V_main_arg0]
  refine congrArg (m ((c : Thread nD τ).loc main_arg0)) (funext fun a => Fin.ext ?_)
  match a with
  | ⟨0, _⟩ => show win0_0.index t (0 : Fin 2) * 1024 + 1 * r.val = t.val / 2 * 1024 + r.val; rw [e0]; omega
  | ⟨1, _⟩ => show win0_0.index t (1 : Fin 2) * 1024 + 1 * k.val = k.val; rw [e1]; omega

theorem blk1 (t : Fin cfg0.N) (k : Fin 1024) : (iblk m c 1 t : Vec Ideal S1x1024 .f32) (ix2 0 k) = npre m c (ix1 k) := by
  obtain ⟨e0, e1⟩ := idx1 t
  show V m c main_v14 (((cfg0.win 1).blk t).view.emb _) = _
  rw [V_v14, ← row_apply (npre m c) k]
  refine congrArg (broadcastInDim S1x1024 ![1] bcast_S1024_S1x1024_1 (npre m c) : Vec Ideal S1x1024 .f32) (funext fun a => Fin.ext ?_)
  match a with
  | ⟨0, _⟩ => show win0_1.index t (0 : Fin 2) * 1 + 1 * 0 = 0; rw [e0]
  | ⟨1, _⟩ => show win0_1.index t (1 : Fin 2) * 1024 + 1 * k.val = k.val; rw [e1]; omega

theorem blk2 (t : Fin cfg0.N) (k : Fin 1024) (j : Fin 4736) : (iblk m c 2 t : Vec Ideal S1024x4736 .bf16) (ix2 k j) =
    weight m c k ⟨t.val % 2 * 4736 + j.val, by omega⟩ := by
  obtain ⟨e0, e1⟩ := idx2 t
  rw [← V_v15]
  show V m c main_v15 (((cfg0.win 2).blk t).view.emb _) = _
  refine congrArg (V m c main_v15 : Vec Ideal S1024x9472 .bf16) (funext fun a => Fin.ext ?_)
  match a with
  | ⟨0, _⟩ => show win0_2.index t (0 : Fin 2) * 1024 + 1 * k.val = k.val; rw [e0]; omega
  | ⟨1, _⟩ => show win0_2.index t (1 : Fin 2) * 4736 + 1 * j.val = t.val % 2 * 4736 + j.val; rw [e1]; omega

/-- The normed block of a point's rows. -/
theorem rows_apply (t : Fin cfg0.N) (r k : Fin 1024) :
    k0_pay1 (iblk m c 0 t : Vec Ideal S1024x1024 .f32) (iblk m c 1 t : Vec Ideal S1x1024 .f32) (ix2 r k) =
      row m c ⟨t.val / 2 * 1024 + r.val, by have := t_lt t; omega⟩ k := by
  refine (pay1_apply _ _ r k).trans ?_
  unfold row
  congr 1
  · funext k; exact blk0 m c t r k
  · funext k; exact blk1 m c t k

/-- The normed block of a point's rows, as an array. -/
def normed (t : Fin cfg0.N) : Vec Ideal S1024x1024 .bf16 :=
  k0_pay1 (iblk m c 0 t : Vec Ideal S1024x1024 .f32) (iblk m c 1 t : Vec Ideal S1x1024 .f32)

/-- The scratch after a point of the first columns. -/
theorem scratch (t : Fin cfg0.N) (h0 : t.val % 2 = 0) : (outsAt0 m c t.val t.isLt).2 = normed m c t := by
  rw [outsAt0_A m c t h0]
  dsimp only
  rw [scratch_A]
  rfl

theorem scratch_before (t : Fin cfg0.N) (h0 : ¬t.val % 2 = 0) (hp : t.val - 1 < cfg0.N) : (outsAt0 m c (t.val - 1) hp).2 = normed m c ⟨t.val - 1, hp⟩ :=
  scratch m c ⟨t.val - 1, hp⟩ (by show (t.val - 1) % 2 = 0; omega)

theorem point_A (t : Fin cfg0.N) (h0 : t.val % 2 = 0) : (outsAt0 m c t.val t.isLt).1 = block (normed m c t) (iblk m c 2 t) := by
  rw [outsAt0_A m c t h0]
  dsimp only
  rw [out_A]
  rfl

theorem point_B (t : Fin cfg0.N) (h0 : ¬t.val % 2 = 0) (hp : t.val - 1 < cfg0.N) :
    (outsAt0 m c t.val t.isLt).1 = block (normed m c ⟨t.val - 1, hp⟩) (iblk m c 2 t) := by
  rw [outsAt0_B m c t h0]
  dsimp only
  rw [out_B, scratch_before m c t h0]

/-- What every point leaves in its block. -/
theorem point (t : Fin cfg0.N) : ∃ h : Vec Ideal S1024x1024 .bf16,
    (∀ r k, h (ix2 r k) = row m c ⟨t.val / 2 * 1024 + r.val, by have := t_lt t; omega⟩ k) ∧
      (outsAt0 m c t.val t.isLt).1 = block h (iblk m c 2 t) := by
  by_cases h0 : t.val % 2 = 0
  · exact ⟨normed m c t, rows_apply m c t, point_A m c t h0⟩
  · have hp : t.val - 1 < cfg0.N := Nat.lt_of_le_of_lt (Nat.sub_le _ _) t.isLt
    refine ⟨normed m c ⟨t.val - 1, hp⟩, fun r k => (rows_apply m c ⟨t.val - 1, hp⟩ r k).trans ?_, point_B m c t h0 hp⟩
    exact congrArg (fun n => row m c n k) (Fin.ext (by show (t.val - 1) / 2 * 1024 + r.val = t.val / 2 * 1024 + r.val; omega))

/-! ## The result array -/
theorem flushed3 (t : Fin cfg0.N) : (dats m 0 c).flushed 3 t = ((cfg0.win 3).blk t).view.read (Elt Ideal) (Y m c) := by
  obtain ⟨h, hh, e⟩ := point m c t
  rw [Value.flushed3, e]
  obtain ⟨e0, e1⟩ := idx3 t
  have ht := t_lt t
  funext y
  have hy0 : (y 0).val < 1024 := (y 0).isLt
  have hy1 : (y 1).val < 4736 := (y 1).isLt
  have hi : (cfg0.win 3).xinj (grid0.coords t) y = ix2 (⟨(y 0).val, hy0⟩ : Fin 1024) (⟨(y 1).val, hy1⟩ : Fin 4736) := by
    funext a; apply Fin.ext
    match a with
    | ⟨0, _⟩ => rfl
    | ⟨1, _⟩ => rfl
  have he : ((cfg0.win 3).blk t).view.emb y = ix2 (⟨t.val / 2 * 1024 + (y 0).val, by omega⟩ : Fin 32768) (⟨t.val % 2 * 4736 + (y 1).val, by omega⟩ : Fin 9472) := by
    funext a; apply Fin.ext
    match a with
    | ⟨0, _⟩ => show win0_3.index t (0 : Fin 2) * 1024 + 1 * (y 0).val = t.val / 2 * 1024 + (y 0).val; rw [e0]; omega
    | ⟨1, _⟩ => show win0_3.index t (1 : Fin 2) * 4736 + 1 * (y 1).val = t.val % 2 * 4736 + (y 1).val; rw [e1]; omega
  show _ = Y m c (((cfg0.win 3).blk t).view.emb y)
  rw [he]
  show block h (iblk m c 2 t) ((cfg0.win 3).xinj (grid0.coords t) y) = _
  rw [hi]
  unfold block prod Y
  exact Finset.sum_congr rfl fun k _ => congrArg₂ (· * ·) (hh _ k) (blk2 m c t k _)

theorem cover3 (i : S32768x9472.Idx) : ∃ t : Fin cfg0.N, (cfg0.win 3).flush t = true ∧ i ∈ ((cfg0.win 3).blk t).view.set := by
  have h0 : (i 0).val < 32768 := (i 0).isLt
  have h1 : (i 1).val < 9472 := (i 1).isLt
  have hlt : (i 0).val / 1024 * 2 + (i 1).val / 4736 < cfg0.N := lt_of_lt_of_eq (by omega) N_0.symm
  refine ⟨⟨(i 0).val / 1024 * 2 + (i 1).val / 4736, hlt⟩, flush0_3 _, ?_⟩
  obtain ⟨e0, e1⟩ := idx3 ⟨(i 0).val / 1024 * 2 + (i 1).val / 4736, hlt⟩
  show i ∈ ((View.whole main_v16).slice (win0_3.rect ⟨(i 0).val / 1024 * 2 + (i 1).val / 4736, hlt⟩)).set
  rw [View.set_slice_whole, Rect.mem_set_unit]
  intro a
  match a with
  | ⟨0, _⟩ =>
    show win0_3.index ⟨(i 0).val / 1024 * 2 + (i 1).val / 4736, hlt⟩ (0 : Fin 2) * 1024 ≤ (i 0).val ∧ (i 0).val < win0_3.index ⟨(i 0).val / 1024 * 2 + (i 1).val / 4736, hlt⟩ (0 : Fin 2) * 1024 + 1024
    rw [e0]; dsimp only; omega
  | ⟨1, _⟩ =>
    show win0_3.index ⟨(i 0).val / 1024 * 2 + (i 1).val / 4736, hlt⟩ (1 : Fin 2) * 4736 ≤ (i 1).val ∧ (i 1).val < win0_3.index ⟨(i 0).val / 1024 * 2 + (i 1).val / 4736, hlt⟩ (1 : Fin 2) * 4736 + 4736
    rw [e1]; dsimp only; omega

theorem array3 : (dats m 0 c).arrAt 3 cfg0.N = Y m c :=
  (dats m 0 c).arrAt_eq_of_cover 3 (Y m c) (fun t _ => flushed3 m c t) cover3

end Cert.InprojIdeal.Inproj

end
-- ==== Proof.Inproj.Reference.lean ====
/- The input projection's reference, read at an index. -/
module

public import proofs.«01_k».proof.Proof.Gen.InprojReferenceIdeal.Run
public import proofs.«01_k».proof.Proof.Gen.InprojReferenceIdeal.Read
public import proofs.«01_k».proof.Proof.Inproj.Maths
public import Idealize.ShloMosaic.Lib.Pointwise

@[expose] public section

set_option maxRecDepth 16384

noncomputable section

namespace Cert.InprojReferenceIdeal.Inproj

open Cert.InprojReferenceIdeal Cert.InprojReferenceIdeal.Gen Cert.InprojReferenceIdeal.Read Cert.Inproj
open Idealize.ShloMosaic Idealize.ShloMosaic.TcCoe Idealize.ShloMosaic.Tactic Idealize.ShloMosaic.Pointwise

variable (x0 : Vec Ideal S32768x1024 .f32) (x1 : Vec Ideal S1024 .f32) (x2 : Vec Ideal S1024x10248 .f32)

theorem norm_apply (t : Fin 32768) (k : Fin 1024) : val_main_v12 (F := Ideal) x0 x1 (ix2 t k) =
    Cert.Norm.normRow (fun k => x0 (ix2 t k)) (fun k => x1 (ix1 k)) k := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  rfl

theorem proj_apply (t : Fin 32768) (j : Fin 10248) : val_main_v13 (F := Ideal) x0 x1 x2 (ix2 t j) =
    ∑ k : Fin 1024, Cert.Norm.normRow (fun k => x0 (ix2 t k)) (fun k => x1 (ix1 k)) k * x2 (ix2 k j) := by
  simp only [← norm_apply]
  unfold val_main_v13
  generalize val_main_v12 (F := Ideal) x0 x1 = h
  pointwise

set_option maxHeartbeats 1000000 in
theorem result_apply (t : Fin 32768) (j : Fin 9472) : val_main_v29 (F := Ideal) x0 x1 x2 (ix2 t j) =
    arranged (fun l => val_main_v13 (F := Ideal) x0 x1 x2 (ix2 t l)) j := by
  unfold val_main_v29 val_main_v28 val_main_v24 val_main_v23 val_main_v22 val_main_v21 val_main_v20 val_main_v19 val_main_v18 val_main_v17
    val_main_v16 val_main_v15 val_main_v14
  generalize val_main_v13 (F := Ideal) x0 x1 x2 = p
  pointwise [val_main_v27, val_main_cst_2]
  unfold arranged source
  rcases (by omega : j.val < 1024 ∨ (1024 ≤ j.val ∧ j.val < 2048) ∨ (2048 ≤ j.val ∧ j.val < 2560) ∨ (2560 ≤ j.val ∧ j.val < 3072) ∨ (3072 ≤ j.val ∧ j.val < 3584)
    ∨ (3584 ≤ j.val ∧ j.val < 4096) ∨ (4096 ≤ j.val ∧ j.val < 4608) ∨ (4608 ≤ j.val ∧ j.val < 5120) ∨ (5120 ≤ j.val ∧ j.val < 9216)
    ∨ (9216 ≤ j.val ∧ j.val < 9224) ∨ 9224 ≤ j.val) with h | h | h | h | h | h | h | h | h | h | h <;>
  simp (disch := omega) only [↓dif_pos, ↓dif_neg, ↓if_pos, ↓if_neg] <;>
  try exact congrArg p (congrArg (ix2 t) (Fin.ext (by dsimp only; omega)))

end Cert.InprojReferenceIdeal.Inproj

end
-- ==== Proof.Inproj.Claims.lean ====
/- The claims about the input projection: the kernel's result array is the reference's. -/
module

public import proofs.«01_k».proof.Defs
public import proofs.«01_k».proof.Proof.Gen.Inproj.Frame
public import proofs.«01_k».proof.Proof.Inproj.Arrays
public import proofs.«01_k».proof.Proof.Inproj.Reference

@[expose] public section

set_option maxRecDepth 16384

noncomputable section

namespace Cert.Inproj

open Idealize.ShloMosaic Idealize.ShloMosaic.Pointwise Idealize.SL.Sem

theorem kernel_frame : Cert.quiescent_Inproj (hInproj := Cert.Inproj.Gen.facts) := fun m g _ => Cert.Inproj.Gen.frame m g
theorem ideal_frame : Cert.quiescent_InprojIdeal (hInprojIdeal := Cert.InprojIdeal.Gen.facts) := fun m g _ => Cert.InprojIdeal.Gen.frame m g
theorem reference_frame : Cert.quiescent_InprojReferenceIdeal (hInprojReferenceIdeal := Cert.InprojReferenceIdeal.Gen.facts) := fun m g _ =>
  (θ_run Cert.InprojReferenceIdeal.defs _ _).mono (fun r h => ⟨fun c => (h c).2, Idealize.ShloMosaic.sem_eq_zero_of_no_sems (by decide) r.2⟩) (Cert.InprojReferenceIdeal.Value.run m g)

/-- The reference's arguments are the kernel's. -/
abbrev Same (m : (ℓ : Loc Cert.InprojIdeal.nD Cert.InprojIdeal.τ Cert.InprojIdeal.sig) → Buf (Elt Ideal) ℓ)
    (m' : (ℓ : Loc Cert.InprojReferenceIdeal.nD Cert.InprojReferenceIdeal.τ Cert.InprojReferenceIdeal.sig) → Buf (Elt Ideal) ℓ) (c : Dev Cert.InprojIdeal.nD) : Prop :=
  m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
  ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
  ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)

theorem result_eq {m : (ℓ : Loc Cert.InprojIdeal.nD Cert.InprojIdeal.τ Cert.InprojIdeal.sig) → Buf (Elt Ideal) ℓ}
    {m' : (ℓ : Loc Cert.InprojReferenceIdeal.nD Cert.InprojReferenceIdeal.τ Cert.InprojReferenceIdeal.sig) → Buf (Elt Ideal) ℓ} {c : Dev Cert.InprojIdeal.nD}
    (e : Same m m' c) : Cert.InprojReferenceIdeal.Value.res_out0 m' c = Cert.InprojIdeal.Inproj.Y m c := by
  obtain ⟨e0, e1, e2⟩ := e
  refine (Cert.InprojReferenceIdeal.Read.val_main_v29_eq m' c).trans ?_
  rw [e0, e1, e2]
  funext i
  rw [eq_ix2 i]
  exact (Cert.InprojReferenceIdeal.Inproj.result_apply _ _ _ _ _).trans (arranged_sum _ _ _ (Cert.InprojReferenceIdeal.Inproj.proj_apply _ _ _ _) _)

theorem algebraic : Cert.algebraic_InprojIdeal_InprojReferenceIdeal (hInprojIdeal := Cert.InprojIdeal.Gen.facts)
    (hInprojReferenceIdeal := Cert.InprojReferenceIdeal.Gen.facts) := by
  intro m g m' g' _ e
  refine ⟨fun c => Cert.InprojIdeal.Inproj.Y m c, ?_, ?_⟩
  · refine (θ_run Cert.InprojIdeal.defs _ _).mono (fun r h c => ?_) (Cert.InprojIdeal.Value.run_blocks m g)
    exact ⟨((h c).1).trans (Cert.InprojIdeal.Inproj.array3 m c), (h c).2⟩
  · refine (θ_run Cert.InprojReferenceIdeal.defs _ _).mono (fun r h c => ?_) (Cert.InprojReferenceIdeal.Value.run m' g')
    exact ⟨((h c).1).trans (result_eq (e c)), (h c).2⟩

end Cert.Inproj

end
-- ==== Proof.Kv.Maths.lean ====
/- The keys and values of a normed row: what the kernel and the reference both compute. -/
module

public import proofs.«01_k».proof.Proof.Norm
public import Idealize.ShloMosaic.Lib.WordCmp

@[expose] public section

noncomputable section

namespace Cert.Kv

open Idealize.ShloMosaic

/-- A normed row's product with a column of the weight. -/
def proj (o n w : Fin 1024 → EReal) : EReal := ∑ k : Fin 1024, Cert.Norm.normRow o n k * w k

/-- A word that is not negative and below four is one of the four layers. -/
theorem layer_lt {v : BitVec 32} (h : IntOp.andi (IntOp.cmpi .sge v 0#32) (IntOp.cmpi .slt v 4#32) = 1#1) : v.toNat < 4 := by
  have both : ∀ p q : Bool, IntOp.andi (BitVec.ofBool p) (BitVec.ofBool q) = 1#1 → p = true ∧ q = true := by decide
  rw [WordCmp.cmpi_sge_eq, WordCmp.cmpi_slt_eq] at h
  obtain ⟨h0, h1⟩ := both _ _ h
  rw [decide_eq_true_eq, BitVec.toInt_eq_toNat_cond] at h0 h1
  simp only [BitVec.toInt_eq_toNat_cond, BitVec.toNat_ofNat, Nat.reducePow, Nat.reduceMod, Nat.reduceMul] at h0 h1
  split_ifs at h0 h1 <;> omega

end Cert.Kv

end
-- ==== Proof.Kv.Point.lean ====
/- One grid point of the key and value projection kernel, read at an index. -/
module

public import proofs.«01_k».proof.Proof.Gen.KvIdeal.Frame
public import proofs.«01_k».proof.Proof.Kv.Maths
public import Idealize.ShloMosaic.Lib.Pointwise

@[expose] public section

set_option maxRecDepth 16384

noncomputable section

namespace Cert.KvIdeal.Kv

open Cert.KvIdeal Cert.KvIdeal.Gen Cert.Kv
open Idealize.ShloMosaic Idealize.ShloMosaic.TcCoe Idealize.ShloMosaic.Tactic Idealize.ShloMosaic.Pointwise

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The payloads at an index -/
section
variable (x : Vec Ideal S1x1024x1024 .f32) (g : Vec Ideal S1x1024 .f32) (w : Vec Ideal S512x1024 .bf16)

theorem pay3_apply (q k : Fin 1024) :
    k0_pay3 x g (ix2 q k) = Cert.Norm.normRow (fun k => x (ix3 0 q k)) (fun k => g (ix2 0 k)) k := by
  pointwise [k0_pay3]
  rfl

/-- A point's product of the weight with the normed rows. -/
def prod (r : Fin 512) (q : Fin 1024) : EReal := proj (fun k => x (ix3 0 q k)) (fun k => g (ix2 0 k)) (fun k => w (ix2 r k))

theorem pay4_apply (r : Fin 512) (q : Fin 1024) : k0_pay4 x g w (ix2 r q) = prod x g w r q := by
  unfold k0_pay4 prod proj
  simp only [← pay3_apply]
  generalize k0_pay3 x g = h
  pointwise
  exact Finset.sum_congr rfl fun k _ => mul_comm _ _

theorem pay5_eq : k0_pay5 x g w = k0_pay4 x g w := rfl

theorem pay6_apply (r : Fin 512) (q : Fin 1024) : k0_pay6 x g w (ix4 0 0 r q) = prod x g w r q := by
  rw [← pay4_apply]
  unfold k0_pay6
  generalize k0_pay4 x g w = h
  pointwise

theorem pay7_eq : k0_pay7 x g w = k0_pay6 x g w := rfl

theorem pay8_apply (r : Fin 512) (q : Fin 1024) : k0_pay1 (k0_pay8 x g w) (ix3 0 r q) = prod x g w r q := by
  rw [← pay4_apply]
  unfold k0_pay1 k0_pay8
  generalize k0_pay4 x g w = h
  pointwise

theorem pay2_eq : k0_pay2 (k0_pay5 x g w) = k0_pay1 (k0_pay8 x g w) := rfl
end

section
variable (c : Dev nD) (i : grid0.Coords) (arg3 : Memref sig .tc .vmem S1x1024x1024 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .bf16) (harg6 : arg6.IsWhole) (arg9 : Memref sig .tc .vmem S1x1x512x1024 .f32) (harg9 : arg9.IsWhole) (arg10 : Memref sig .tc .vmem S1x1x512x1024 .f32) (harg10 : arg10.IsWhole) (arg11 : Memref sig .tc .vmem S1x512x1024 .bf16) (harg11 : arg11.IsWhole) (arg12 : Memref sig .tc .vmem S1x512x1024 .bf16) (harg12 : arg12.IsWhole)
    (x0 : Vec Ideal S1x1024x1024 .f32) (x1 : Vec Ideal S1x1024 .f32) (x2 : Vec Ideal S512x1024 .bf16) (x3 : Vec Ideal S512x1024 .bf16) (xt0 : TbBuf0 (F := Ideal) c tbM0_0)

theorem out_4 : out0_A_4 c i arg3 harg3 arg4 harg4 arg5 harg5 arg6 harg6 arg9 harg9 arg10 harg10 arg11 harg11 arg12 harg12 x0 x1 x2 x3 xt0 = k0_pay6 x0 x1 x2 := by
  unfold out0_A_4
  rw [View.read_writes_junk_eq_canon]
  unfold kernelRun0_A
  dsimp only
  sl_unfold_words
  rw [View.canon_unit_zero hz4]
  simp only [View.readAt_eq_ld, harg3.read_unread, harg4.read_unread, harg5.read_unread, View.ld_unit_zero (S := S1x1024x1024) hz3, View.ld_unit_zero (S := S1x1024) hz2, View.ld_unit_zero (S := S512x1024) hz2]

theorem out_5 : out0_A_5 c i arg3 harg3 arg4 harg4 arg5 harg5 arg6 harg6 arg9 harg9 arg10 harg10 arg11 harg11 arg12 harg12 x0 x1 x2 x3 xt0 = k0_pay6 x0 x1 x3 := by
  unfold out0_A_5
  rw [View.read_writes_junk_eq_canon]
  unfold kernelRun0_A
  dsimp only
  sl_unfold_words
  rw [View.canon_unit_zero hz4]
  simp only [View.readAt_eq_ld, harg3.read_unread, harg4.read_unread, harg6.read_unread, View.ld_unit_zero (S := S1x1024x1024) hz3, View.ld_unit_zero (S := S1x1024) hz2, View.ld_unit_zero (S := S512x1024) hz2]
  rw [pay7_eq]

theorem out_6 : out0_A_6 c i arg3 harg3 arg4 harg4 arg5 harg5 arg6 harg6 arg9 harg9 arg10 harg10 arg11 harg11 arg12 harg12 x0 x1 x2 x3 xt0 = k0_pay1 (k0_pay8 x0 x1 x2) := by
  unfold out0_A_6
  rw [View.read_writes_junk_eq_canon]
  unfold kernelRun0_A
  dsimp only
  sl_unfold_words
  rw [View.canon_unit_zero hz3]
  simp only [View.readAt_eq_ld, harg3.read_unread, harg4.read_unread, harg5.read_unread, View.ld_unit_zero (S := S1x1024x1024) hz3, View.ld_unit_zero (S := S1x1024) hz2, View.ld_unit_zero (S := S512x1024) hz2]

theorem out_7 : out0_A_7 c i arg3 harg3 arg4 harg4 arg5 harg5 arg6 harg6 arg9 harg9 arg10 harg10 arg11 harg11 arg12 harg12 x0 x1 x2 x3 xt0 = k0_pay1 (k0_pay8 x0 x1 x3) := by
  unfold out0_A_7
  rw [View.read_writes_junk_eq_canon]
  unfold kernelRun0_A
  dsimp only
  sl_unfold_words
  rw [View.canon_unit_zero hz3]
  simp only [View.readAt_eq_ld, harg3.read_unread, harg4.read_unread, harg6.read_unread, View.ld_unit_zero (S := S1x1024x1024) hz3, View.ld_unit_zero (S := S1x1024) hz2, View.ld_unit_zero (S := S512x1024) hz2]
  rw [pay2_eq]
end

end Cert.KvIdeal.Kv

end
-- ==== Proof.Kv.Table.lean ====
/- The prefetched layer of the key and value projection: the precondition's range keeps every block inside its stack. -/
module

public import proofs.«01_k».proof.Proof.Gen.KvIdeal.Frame
public import proofs.«01_k».proof.Proof.Kv.Maths
public import Idealize.ShloMosaic.Lib.StableHlo.RunRead
public import Idealize.ShloMosaic.Lib.Pointwise

@[expose] public section

set_option maxRecDepth 16384

noncomputable section

namespace Cert.KvIdeal.Kv

open Cert.KvIdeal Cert.KvIdeal.Gen
open Idealize.ShloMosaic Idealize.ShloMosaic.TcCoe Idealize.ShloMosaic.Tactic Idealize.ShloMosaic.Pointwise

variable {F : FTy → Type} [FloatOps F] (m : (ℓ : Loc nD τ sig) → Buf (Elt F) ℓ)

/-- The layer, as a word. -/
def word : BitVec 32 := (m (((0 : Dev nD) : Thread nD τ).loc main_arg5) : Vec F S_ .i32) (fun a => a.elim0)

/-- The layer, as a number. -/
def lay : ℕ := (word m).toNat

/-- The table holds the layer. -/
theorem table (y : S1.Idx) : (V m 0 main_v8 : Vec F S1 .i32) y = word m := by
  have e : (V m 0 main_v8 : Vec F S1 .i32) = shapeCast S1 (m (((0 : Dev nD) : Thread nD τ).loc main_arg5) : Vec F S_ .i32) shapeCasts_S_S1 := by
    unfold V; unfold_abbrev_sides; after_reads_simp
    rfl
  rw [e]
  show (m (((0 : Dev nD) : Thread nD τ).loc main_arg5) : Vec F S_ .i32) _ = _
  exact congrArg (m (((0 : Dev nD) : Thread nD τ).loc main_arg5) : Vec F S_ .i32) (funext fun a => a.elim0)

theorem at_table : (tbl m).at 0 (Rect.unit (s := S1) ![0] S1.size inb_S1_S1_0) numel1_S1 = word m := table m _

theorem coords : ∀ t : Fin grid0.N, (grid0.coords t 0).val = t.val / 8 ∧ (grid0.coords t 1).val = t.val % 8 := by decide +kernel

theorem coord0_lt (i : grid0.Coords) : (i 0).val < 4 := (i 0).isLt
theorem coord1_lt (i : grid0.Coords) : (i 1).val < 8 := (i 1).isLt

theorem index4 (i : grid0.Coords) : cc0_transform_6 inb_S1_S1_0 numel1_S1 (tbl m) i = ![lay m, (i 0).val, 0, (i 1).val] := by
  have h0 := coord0_lt i
  have h1 := coord1_lt i
  unfold cc0_transform_6
  dsimp only
  rw [at_table, WordCmp.toNat_ofNat_of_lt (a := (i 0).val) (by omega), WordCmp.toNat_ofNat_of_lt (a := (i 1).val) (by omega)]
  rfl

theorem index5 (i : grid0.Coords) : cc0_transform_7 inb_S1_S1_0 numel1_S1 (tbl m) i = ![lay m, (i 0).val, 0, (i 1).val] := index4 m i

theorem ok_of_lt (h : lay m < 4) : Ok m := by
  have inb : ∀ (i : grid0.Coords) (a : Fin 4), ((![lay m, (i 0).val, 0, (i 1).val] : Fin 4 → ℕ) a + 1) * S1x1x512x1024.size a ≤ S4x4x512x8192.size a := by
    intro i a
    have h0 := coord0_lt i
    have h1 := coord1_lt i
    match a with
    | ⟨0, _⟩ => show (lay m + 1) * 1 ≤ 4; omega
    | ⟨1, _⟩ => show ((i 0).val + 1) * 1 ≤ 4; omega
    | ⟨2, _⟩ => show (0 + 1) * 512 ≤ 512; omega
    | ⟨3, _⟩ => show ((i 1).val + 1) * 1024 ≤ 8192; omega
  exact ⟨fun i => ⟨by rw [index4]; exact inb i, .inl rfl⟩, fun i => ⟨by rw [index5]; exact inb i, .inl rfl⟩⟩

end Cert.KvIdeal.Kv

end
-- ==== Proof.Kv.Arrays.lean ====
/- What the key and value projection kernel's four result arrays hold after the run, as functions of the arguments. -/
module

public import proofs.«01_k».proof.Proof.Kv.Point
public import proofs.«01_k».proof.Proof.Kv.Table
public import Idealize.ShloMosaic.Lib.StableHlo.RunRead
public import Idealize.ShloMosaic.Lib.Pipeline.Value

@[expose] public section

set_option maxRecDepth 16384

noncomputable section

namespace Cert.KvIdeal.Kv

open Cert.KvIdeal Cert.KvIdeal.Gen Cert.Kv
open Idealize.ShloMosaic Idealize.ShloMosaic.TcCoe Idealize.ShloMosaic.Tactic Idealize.ShloMosaic.Pointwise
open Idealize.ShloMosaic.Pipeline (Dat)

variable (m : (ℓ : Loc nD τ sig) → Buf (Elt Ideal) ℓ) (hO : Ok m) (c : Dev nD)

/-! ## The arguments -/
abbrev xs : Vec Ideal S4x8192x1024 .f32 := m ((c : Thread nD τ).loc main_arg0)
abbrev npre : Vec Ideal S1024 .f32 := m ((c : Thread nD τ).loc main_arg1)
abbrev win : Vec Ideal S1024x10248 .f32 := m ((c : Thread nD τ).loc main_arg2)
abbrev ks : Vec Ideal S4x4x512x8192 .f32 := m ((c : Thread nD τ).loc main_arg3)
abbrev vs : Vec Ideal S4x4x512x8192 .f32 := m ((c : Thread nD τ).loc main_arg4)

/-- A token's product with one column of the weight. -/
def at_col (b : Fin 4) (t : Fin 8192) (j : Fin 10248) : EReal :=
  proj (fun k => xs m c (ix3 b t k)) (fun k => npre m c (ix1 k)) (fun k => win m c (ix2 k j))

/-- The keys and the values. -/
def key (b : Fin 4) (r : Fin 512) (t : Fin 8192) : EReal := at_col m c b t ⟨4616 + r.val, by omega⟩
def val (b : Fin 4) (r : Fin 512) (t : Fin 8192) : EReal := at_col m c b t ⟨5128 + r.val, by omega⟩

/-! ## The arrays that the host code prepares -/
theorem V_v3 : (V m c main_v3 : Vec Ideal S1x1024 .f32) = broadcastInDim S1x1024 ![1] bcast_S1024_S1x1024_1 (npre m c) := by
  unfold V; unfold_abbrev_sides; after_reads_simp
theorem row_apply (a : Vec Ideal S1024 .f32) (k : Fin 1024) :
    (broadcastInDim S1x1024 ![1] bcast_S1024_S1x1024_1 a : Vec Ideal S1x1024 .f32) (ix2 0 k) = a (ix1 k) := by
  pointwise

theorem V_v5 (r : Fin 512) (k : Fin 1024) : (V m c main_v5 : Vec Ideal S512x1024 .bf16) (ix2 r k) = win m c (ix2 k ⟨4616 + r.val, by omega⟩) := by
  unfold V; unfold_abbrev_sides; after_reads_simp
  pointwise
  try exact congrArg (win m c) (congrArg (ix2 k) (Fin.ext (by dsimp only; omega)))
theorem V_v7 (r : Fin 512) (k : Fin 1024) : (V m c main_v7 : Vec Ideal S512x1024 .bf16) (ix2 r k) = win m c (ix2 k ⟨5128 + r.val, by omega⟩) := by
  unfold V; unfold_abbrev_sides; after_reads_simp
  pointwise
  try exact congrArg (win m c) (congrArg (ix2 k) (Fin.ext (by dsimp only; omega)))
theorem V_v9_0 : (V m c main_v9_0 : Vec Ideal S4x4x512x8192 .f32) = ks m c := by
  unfold V; unfold_abbrev_sides; after_reads_simp
  rfl
theorem V_v9_1 : (V m c main_v9_1 : Vec Ideal S4x4x512x8192 .f32) = vs m c := by
  unfold V; unfold_abbrev_sides; after_reads_simp
  rfl

/-! ## The windows' indices -/
theorem t_lt (t : Fin (cfgM m hO).N) : t.val < 32 := lt_of_lt_of_eq t.isLt N_0

theorem idx0 : ∀ t : Fin grid0.N, cc0_transform_0 (grid0.coords t) (0 : Fin 3) = t.val / 8 ∧ cc0_transform_0 (grid0.coords t) (1 : Fin 3) = t.val % 8 ∧ cc0_transform_0 (grid0.coords t) (2 : Fin 3) = 0 := by
  decide +kernel
theorem idx1 : ∀ t : Fin grid0.N, cc0_transform_1 (grid0.coords t) (0 : Fin 2) = 0 ∧ cc0_transform_1 (grid0.coords t) (1 : Fin 2) = 0 := by
  decide +kernel
theorem idx2 : ∀ t : Fin grid0.N, cc0_transform_2 (grid0.coords t) (0 : Fin 2) = 0 ∧ cc0_transform_2 (grid0.coords t) (1 : Fin 2) = 0 := by
  decide +kernel
theorem idx3 : ∀ t : Fin grid0.N, cc0_transform_3 (grid0.coords t) (0 : Fin 2) = 0 ∧ cc0_transform_3 (grid0.coords t) (1 : Fin 2) = 0 := by
  decide +kernel
theorem idx6 : ∀ t : Fin grid0.N, cc0_transform_8 (grid0.coords t) (0 : Fin 3) = t.val / 8 ∧ cc0_transform_8 (grid0.coords t) (1 : Fin 3) = 0 ∧ cc0_transform_8 (grid0.coords t) (2 : Fin 3) = t.val % 8 := by
  decide +kernel
theorem idx7 : ∀ t : Fin grid0.N, cc0_transform_9 (grid0.coords t) (0 : Fin 3) = t.val / 8 ∧ cc0_transform_9 (grid0.coords t) (1 : Fin 3) = 0 ∧ cc0_transform_9 (grid0.coords t) (2 : Fin 3) = t.val % 8 := by
  decide +kernel

/-! ## The blocks as reads of the arguments -/
theorem blk0 (t : Fin (cfgM m hO).N) (q k : Fin 1024) : (iblk m hO c 0 t : Vec Ideal S1x1024x1024 .f32) (ix3 0 q k) =
    xs m c (ix3 ⟨t.val / 8, by have := t_lt m hO t; omega⟩ ⟨t.val % 8 * 1024 + q.val, by omega⟩ k) := by
  obtain ⟨e0, e1, e2⟩ := idx0 t
  show V m c main_arg0 ((((cfgM m hO).win 0).blk t).view.emb _) = _
  rw [V_main_arg0]
  refine congrArg (m ((c : Thread nD τ).loc main_arg0)) (funext fun a => Fin.ext ?_)
  match a with
  | ⟨0, _⟩ => show cc0_transform_0 (grid0.coords t) (0 : Fin 3) * 1 + 1 * 0 = t.val / 8; rw [e0]; omega
  | ⟨1, _⟩ => show cc0_transform_0 (grid0.coords t) (1 : Fin 3) * 1024 + 1 * q.val = t.val % 8 * 1024 + q.val; rw [e1]; omega
  | ⟨2, _⟩ => show cc0_transform_0 (grid0.coords t) (2 : Fin 3) * 1024 + 1 * k.val = k.val; rw [e2]; omega

theorem blk1 (t : Fin (cfgM m hO).N) (k : Fin 1024) : (iblk m hO c 1 t : Vec Ideal S1x1024 .f32) (ix2 0 k) = npre m c (ix1 k) := by
  obtain ⟨e0, e1⟩ := idx1 t
  show V m c main_v3 ((((cfgM m hO).win 1).blk t).view.emb _) = _
  rw [V_v3, ← row_apply (npre m c) k]
  refine congrArg (broadcastInDim S1x1024 ![1] bcast_S1024_S1x1024_1 (npre m c) : Vec Ideal S1x1024 .f32) (funext fun a => Fin.ext ?_)
  match a with
  | ⟨0, _⟩ => show cc0_transform_1 (grid0.coords t) (0 : Fin 2) * 1 + 1 * 0 = 0; rw [e0]
  | ⟨1, _⟩ => show cc0_transform_1 (grid0.coords t) (1 : Fin 2) * 1024 + 1 * k.val = k.val; rw [e1]; omega

theorem blk2 (t : Fin (cfgM m hO).N) (r : Fin 512) (k : Fin 1024) : (iblk m hO c 2 t : Vec Ideal S512x1024 .bf16) (ix2 r k) =
    win m c (ix2 k ⟨4616 + r.val, by omega⟩) := by
  obtain ⟨e0, e1⟩ := idx2 t
  rw [← V_v5]
  show V m c main_v5 ((((cfgM m hO).win 2).blk t).view.emb _) = _
  refine congrArg (V m c main_v5 : Vec Ideal S512x1024 .bf16) (funext fun a => Fin.ext ?_)
  match a with
  | ⟨0, _⟩ => show cc0_transform_2 (grid0.coords t) (0 : Fin 2) * 512 + 1 * r.val = r.val; rw [e0]; omega
  | ⟨1, _⟩ => show cc0_transform_2 (grid0.coords t) (1 : Fin 2) * 1024 + 1 * k.val = k.val; rw [e1]; omega

theorem blk3 (t : Fin (cfgM m hO).N) (r : Fin 512) (k : Fin 1024) : (iblk m hO c 3 t : Vec Ideal S512x1024 .bf16) (ix2 r k) =
    win m c (ix2 k ⟨5128 + r.val, by omega⟩) := by
  obtain ⟨e0, e1⟩ := idx3 t
  rw [← V_v7]
  show V m c main_v7 ((((cfgM m hO).win 3).blk t).view.emb _) = _
  refine congrArg (V m c main_v7 : Vec Ideal S512x1024 .bf16) (funext fun a => Fin.ext ?_)
  match a with
  | ⟨0, _⟩ => show cc0_transform_3 (grid0.coords t) (0 : Fin 2) * 512 + 1 * r.val = r.val; rw [e0]; omega
  | ⟨1, _⟩ => show cc0_transform_3 (grid0.coords t) (1 : Fin 2) * 1024 + 1 * k.val = k.val; rw [e1]; omega

theorem prod_keys (t : Fin (cfgM m hO).N) (r : Fin 512) (q : Fin 1024) : prod (iblk m hO c 0 t) (iblk m hO c 1 t) (iblk m hO c 2 t) r q =
    key m c ⟨t.val / 8, by have := t_lt m hO t; omega⟩ r ⟨t.val % 8 * 1024 + q.val, by omega⟩ := by
  unfold prod key at_col
  rw [funext fun k => blk0 m hO c t q k, funext fun k => blk1 m hO c t k, funext fun k => blk2 m hO c t r k]

theorem prod_values (t : Fin (cfgM m hO).N) (r : Fin 512) (q : Fin 1024) : prod (iblk m hO c 0 t) (iblk m hO c 1 t) (iblk m hO c 3 t) r q =
    val m c ⟨t.val / 8, by have := t_lt m hO t; omega⟩ r ⟨t.val % 8 * 1024 + q.val, by omega⟩ := by
  unfold prod val at_col
  rw [funext fun k => blk0 m hO c t q k, funext fun k => blk1 m hO c t k, funext fun k => blk3 m hO c t r k]

/-! ## The bf16 arrays -/
/-- An array of a head row's token values. -/
def flat (f : Fin 4 → Fin 512 → Fin 8192 → EReal) (i : S4x512x8192.Idx) : EReal := f (i 0) (i 1) (i 2)

/-- A stack with one layer's slab replaced. -/
def stacked (l : ℕ) (old : Vec Ideal S4x4x512x8192 .f32) (f : Fin 4 → Fin 512 → Fin 8192 → EReal) (i : S4x4x512x8192.Idx) : EReal :=
  if (i 0).val = l then f (i 1) (i 2) (i 3) else old i

theorem after6 (t : Fin (cfgM m hO).N) : (dats m hO 0 c).after 6 t = k0_pay1 (k0_pay8 (iblk m hO c 0 t) (iblk m hO c 1 t) (iblk m hO c 2 t)) := by
  refine (after0_6 m hO c t).trans ?_
  unfold outsAt0
  dsimp only
  exact out_6 ..
theorem after7 (t : Fin (cfgM m hO).N) : (dats m hO 0 c).after 7 t = k0_pay1 (k0_pay8 (iblk m hO c 0 t) (iblk m hO c 1 t) (iblk m hO c 3 t)) := by
  refine (after0_7 m hO c t).trans ?_
  unfold outsAt0
  dsimp only
  exact out_7 ..
theorem after4 (t : Fin (cfgM m hO).N) : (dats m hO 0 c).after 4 t = k0_pay6 (iblk m hO c 0 t) (iblk m hO c 1 t) (iblk m hO c 2 t) := by
  refine (after0_4 m hO c t).trans ?_
  unfold outsAt0
  dsimp only
  exact out_4 ..
theorem after5 (t : Fin (cfgM m hO).N) : (dats m hO 0 c).after 5 t = k0_pay6 (iblk m hO c 0 t) (iblk m hO c 1 t) (iblk m hO c 3 t) := by
  refine (after0_5 m hO c t).trans ?_
  unfold outsAt0
  dsimp only
  exact out_5 ..

theorem flushed6 (t : Fin (cfgM m hO).N) : (dats m hO 0 c).flushed 6 t = (((cfgM m hO).win 6).blk t).view.read (Elt Ideal) (flat (key m c)) := by
  obtain ⟨e0, e1, e2⟩ := idx6 t
  have ht := t_lt m hO t
  funext y
  have hy0 : (y (0 : Fin 3)).val < 1 := (y (0 : Fin 3)).isLt
  have hy1 : (y (1 : Fin 3)).val < 512 := (y (1 : Fin 3)).isLt
  have hy2 : (y (2 : Fin 3)).val < 1024 := (y (2 : Fin 3)).isLt
  have hi : ((cfgM m hO).win 6).xinj (grid0.coords t) y = ix3 (0 : Fin 1) (⟨(y (1 : Fin 3)).val, hy1⟩ : Fin 512) (⟨(y (2 : Fin 3)).val, hy2⟩ : Fin 1024) := by
    funext a; apply Fin.ext
    match a with
    | ⟨0, _⟩ => show (y (0 : Fin 3)).val = 0; omega
    | ⟨1, _⟩ => rfl
    | ⟨2, _⟩ => rfl
  have he : (((cfgM m hO).win 6).blk t).view.emb y = ix3 (⟨t.val / 8, by omega⟩ : Fin 4) (⟨(y (1 : Fin 3)).val, hy1⟩ : Fin 512) (⟨t.val % 8 * 1024 + (y (2 : Fin 3)).val, by omega⟩ : Fin 8192) := by
    funext a; apply Fin.ext
    match a with
    | ⟨0, _⟩ => show cc0_transform_8 (grid0.coords t) (0 : Fin 3) * 1 + 1 * (y (0 : Fin 3)).val = t.val / 8; rw [e0]; omega
    | ⟨1, _⟩ => show cc0_transform_8 (grid0.coords t) (1 : Fin 3) * 512 + 1 * (y (1 : Fin 3)).val = (y (1 : Fin 3)).val; rw [e1]; omega
    | ⟨2, _⟩ => show cc0_transform_8 (grid0.coords t) (2 : Fin 3) * 1024 + 1 * (y (2 : Fin 3)).val = t.val % 8 * 1024 + (y (2 : Fin 3)).val; rw [e2]; omega
  show (dats m hO 0 c).after 6 t (((cfgM m hO).win 6).xinj (grid0.coords t) y) = flat (key m c) ((((cfgM m hO).win 6).blk t).view.emb y)
  refine (congrArg ((dats m hO 0 c).after 6 t) hi).trans (Eq.trans ?_ (congrArg (flat (key m c)) he).symm)
  refine (congrFun (after6 m hO c t) _).trans ((pay8_apply _ _ _ _ _).trans ?_)
  exact prod_keys m hO c t _ _

theorem flushed7 (t : Fin (cfgM m hO).N) : (dats m hO 0 c).flushed 7 t = (((cfgM m hO).win 7).blk t).view.read (Elt Ideal) (flat (val m c)) := by
  obtain ⟨e0, e1, e2⟩ := idx7 t
  have ht := t_lt m hO t
  funext y
  have hy0 : (y (0 : Fin 3)).val < 1 := (y (0 : Fin 3)).isLt
  have hy1 : (y (1 : Fin 3)).val < 512 := (y (1 : Fin 3)).isLt
  have hy2 : (y (2 : Fin 3)).val < 1024 := (y (2 : Fin 3)).isLt
  have hi : ((cfgM m hO).win 7).xinj (grid0.coords t) y = ix3 (0 : Fin 1) (⟨(y (1 : Fin 3)).val, hy1⟩ : Fin 512) (⟨(y (2 : Fin 3)).val, hy2⟩ : Fin 1024) := by
    funext a; apply Fin.ext
    match a with
    | ⟨0, _⟩ => show (y (0 : Fin 3)).val = 0; omega
    | ⟨1, _⟩ => rfl
    | ⟨2, _⟩ => rfl
  have he : (((cfgM m hO).win 7).blk t).view.emb y = ix3 (⟨t.val / 8, by omega⟩ : Fin 4) (⟨(y (1 : Fin 3)).val, hy1⟩ : Fin 512) (⟨t.val % 8 * 1024 + (y (2 : Fin 3)).val, by omega⟩ : Fin 8192) := by
    funext a; apply Fin.ext
    match a with
    | ⟨0, _⟩ => show cc0_transform_9 (grid0.coords t) (0 : Fin 3) * 1 + 1 * (y (0 : Fin 3)).val = t.val / 8; rw [e0]; omega
    | ⟨1, _⟩ => show cc0_transform_9 (grid0.coords t) (1 : Fin 3) * 512 + 1 * (y (1 : Fin 3)).val = (y (1 : Fin 3)).val; rw [e1]; omega
    | ⟨2, _⟩ => show cc0_transform_9 (grid0.coords t) (2 : Fin 3) * 1024 + 1 * (y (2 : Fin 3)).val = t.val % 8 * 1024 + (y (2 : Fin 3)).val; rw [e2]; omega
  show (dats m hO 0 c).after 7 t (((cfgM m hO).win 7).xinj (grid0.coords t) y) = flat (val m c) ((((cfgM m hO).win 7).blk t).view.emb y)
  refine (congrArg ((dats m hO 0 c).after 7 t) hi).trans (Eq.trans ?_ (congrArg (flat (val m c)) he).symm)
  refine (congrFun (after7 m hO c t) _).trans ((pay8_apply _ _ _ _ _).trans ?_)
  exact prod_values m hO c t _ _

theorem mem6 (t : Fin (cfgM m hO).N) (i : S4x512x8192.Idx)
    (h : ∀ a : Fin 3, cc0_transform_8 (grid0.coords t) a * S1x512x1024.size a ≤ (i a).val ∧ (i a).val < cc0_transform_8 (grid0.coords t) a * S1x512x1024.size a + S1x512x1024.size a) :
    i ∈ (((cfgM m hO).win 6).blk t).view.set :=
  (congrArg (i ∈ ·) (View.set_slice_whole main_v9_2 (((cfgM m hO).win 6).rect t))).mpr (Rect.mem_set_unit.mpr h)

theorem cover6 (i : S4x512x8192.Idx) : ∃ t : Fin (cfgM m hO).N, ((cfgM m hO).win 6).flush t = true ∧ i ∈ (((cfgM m hO).win 6).blk t).view.set := by
  have h0 : (i 0).val < 4 := (i 0).isLt
  have h1 : (i 1).val < 512 := (i 1).isLt
  have h2 : (i 2).val < 8192 := (i 2).isLt
  have hlt : (i 0).val * 8 + (i 2).val / 1024 < (cfgM m hO).N := lt_of_lt_of_eq (by omega) N_0.symm
  refine ⟨⟨(i 0).val * 8 + (i 2).val / 1024, hlt⟩, flush0_6 _ _, mem6 m hO _ i fun a => ?_⟩
  obtain ⟨e0, e1, e2⟩ := idx6 ⟨(i 0).val * 8 + (i 2).val / 1024, hlt⟩
  match a with
  | ⟨0, _⟩ =>
    show cc0_transform_8 (grid0.coords _) (0 : Fin 3) * 1 ≤ (i 0).val ∧ (i 0).val < cc0_transform_8 (grid0.coords _) (0 : Fin 3) * 1 + 1
    rw [e0]; dsimp only; omega
  | ⟨1, _⟩ =>
    show cc0_transform_8 (grid0.coords _) (1 : Fin 3) * 512 ≤ (i 1).val ∧ (i 1).val < cc0_transform_8 (grid0.coords _) (1 : Fin 3) * 512 + 512
    rw [e1]; omega
  | ⟨2, _⟩ =>
    show cc0_transform_8 (grid0.coords _) (2 : Fin 3) * 1024 ≤ (i 2).val ∧ (i 2).val < cc0_transform_8 (grid0.coords _) (2 : Fin 3) * 1024 + 1024
    rw [e2]; dsimp only; omega

theorem array6 : (dats m hO 0 c).arrAt 6 (cfgM m hO).N = flat (key m c) :=
  (dats m hO 0 c).arrAt_eq_of_cover 6 (flat (key m c)) (fun t _ => flushed6 m hO c t) (cover6 m hO)

theorem mem7 (t : Fin (cfgM m hO).N) (i : S4x512x8192.Idx)
    (h : ∀ a : Fin 3, cc0_transform_9 (grid0.coords t) a * S1x512x1024.size a ≤ (i a).val ∧ (i a).val < cc0_transform_9 (grid0.coords t) a * S1x512x1024.size a + S1x512x1024.size a) :
    i ∈ (((cfgM m hO).win 7).blk t).view.set :=
  (congrArg (i ∈ ·) (View.set_slice_whole main_v9_3 (((cfgM m hO).win 7).rect t))).mpr (Rect.mem_set_unit.mpr h)

theorem cover7 (i : S4x512x8192.Idx) : ∃ t : Fin (cfgM m hO).N, ((cfgM m hO).win 7).flush t = true ∧ i ∈ (((cfgM m hO).win 7).blk t).view.set := by
  have h0 : (i 0).val < 4 := (i 0).isLt
  have h1 : (i 1).val < 512 := (i 1).isLt
  have h2 : (i 2).val < 8192 := (i 2).isLt
  have hlt : (i 0).val * 8 + (i 2).val / 1024 < (cfgM m hO).N := lt_of_lt_of_eq (by omega) N_0.symm
  refine ⟨⟨(i 0).val * 8 + (i 2).val / 1024, hlt⟩, flush0_7 _ _, mem7 m hO _ i fun a => ?_⟩
  obtain ⟨e0, e1, e2⟩ := idx7 ⟨(i 0).val * 8 + (i 2).val / 1024, hlt⟩
  match a with
  | ⟨0, _⟩ =>
    show cc0_transform_9 (grid0.coords _) (0 : Fin 3) * 1 ≤ (i 0).val ∧ (i 0).val < cc0_transform_9 (grid0.coords _) (0 : Fin 3) * 1 + 1
    rw [e0]; dsimp only; omega
  | ⟨1, _⟩ =>
    show cc0_transform_9 (grid0.coords _) (1 : Fin 3) * 512 ≤ (i 1).val ∧ (i 1).val < cc0_transform_9 (grid0.coords _) (1 : Fin 3) * 512 + 512
    rw [e1]; omega
  | ⟨2, _⟩ =>
    show cc0_transform_9 (grid0.coords _) (2 : Fin 3) * 1024 ≤ (i 2).val ∧ (i 2).val < cc0_transform_9 (grid0.coords _) (2 : Fin 3) * 1024 + 1024
    rw [e2]; dsimp only; omega

theorem array7 : (dats m hO 0 c).arrAt 7 (cfgM m hO).N = flat (val m c) :=
  (dats m hO 0 c).arrAt_eq_of_cover 7 (flat (val m c)) (fun t _ => flushed7 m hO c t) (cover7 m hO)

/-! ## The stacks -/
/-- Where a point's block of a stack lies. -/
abbrev where4 (t : Fin grid0.N) : Fin 4 → ℕ := cc0_transform_6 inb_S1_S1_0 numel1_S1 (tbl m) (grid0.coords t)
abbrev where5 (t : Fin grid0.N) : Fin 4 → ℕ := cc0_transform_7 inb_S1_S1_0 numel1_S1 (tbl m) (grid0.coords t)

theorem idx4 (t : Fin grid0.N) : where4 m t (0 : Fin 4) = lay m ∧ where4 m t (1 : Fin 4) = t.val / 8 ∧ where4 m t (2 : Fin 4) = 0 ∧ where4 m t (3 : Fin 4) = t.val % 8 := by
  have e := index4 m (grid0.coords t)
  exact ⟨congrFun e 0, (congrFun e 1).trans (coords t).1, congrFun e 2, (congrFun e 3).trans (coords t).2⟩
theorem idx5 (t : Fin grid0.N) : where5 m t (0 : Fin 4) = lay m ∧ where5 m t (1 : Fin 4) = t.val / 8 ∧ where5 m t (2 : Fin 4) = 0 ∧ where5 m t (3 : Fin 4) = t.val % 8 := idx4 m t

theorem flushed4 (hl : lay m < 4) (t : Fin (cfgM m hO).N) : (dats m hO 0 c).flushed 4 t = (((cfgM m hO).win 4).blk t).view.read (Elt Ideal) (stacked (lay m) (ks m c) (key m c)) := by
  obtain ⟨e0, e1, e2, e3⟩ := idx4 m t
  have ht := t_lt m hO t
  funext y
  have hy0 : (y (0 : Fin 4)).val < 1 := (y (0 : Fin 4)).isLt
  have hy1 : (y (1 : Fin 4)).val < 1 := (y (1 : Fin 4)).isLt
  have hy2 : (y (2 : Fin 4)).val < 512 := (y (2 : Fin 4)).isLt
  have hy3 : (y (3 : Fin 4)).val < 1024 := (y (3 : Fin 4)).isLt
  have hi : ((cfgM m hO).win 4).xinj (grid0.coords t) y = ix4 (0 : Fin 1) (0 : Fin 1) (⟨(y (2 : Fin 4)).val, hy2⟩ : Fin 512) (⟨(y (3 : Fin 4)).val, hy3⟩ : Fin 1024) := by
    funext a; apply Fin.ext
    match a with
    | ⟨0, _⟩ => show (y (0 : Fin 4)).val = 0; omega
    | ⟨1, _⟩ => show (y (1 : Fin 4)).val = 0; omega
    | ⟨2, _⟩ => rfl
    | ⟨3, _⟩ => rfl
  have he : (((cfgM m hO).win 4).blk t).view.emb y = ix4 (⟨lay m, hl⟩ : Fin 4) (⟨t.val / 8, by omega⟩ : Fin 4) (⟨(y (2 : Fin 4)).val, hy2⟩ : Fin 512) (⟨t.val % 8 * 1024 + (y (3 : Fin 4)).val, by omega⟩ : Fin 8192) := by
    funext a; apply Fin.ext
    match a with
    | ⟨0, _⟩ => show where4 m t (0 : Fin 4) * 1 + 1 * (y (0 : Fin 4)).val = lay m; rw [e0]; omega
    | ⟨1, _⟩ => show where4 m t (1 : Fin 4) * 1 + 1 * (y (1 : Fin 4)).val = t.val / 8; rw [e1]; omega
    | ⟨2, _⟩ => show where4 m t (2 : Fin 4) * 512 + 1 * (y (2 : Fin 4)).val = (y (2 : Fin 4)).val; rw [e2]; omega
    | ⟨3, _⟩ => show where4 m t (3 : Fin 4) * 1024 + 1 * (y (3 : Fin 4)).val = t.val % 8 * 1024 + (y (3 : Fin 4)).val; rw [e3]; omega
  show (dats m hO 0 c).after 4 t (((cfgM m hO).win 4).xinj (grid0.coords t) y) = stacked (lay m) (ks m c) (key m c) ((((cfgM m hO).win 4).blk t).view.emb y)
  refine (congrArg ((dats m hO 0 c).after 4 t) hi).trans (Eq.trans ?_ (congrArg (stacked (lay m) (ks m c) (key m c)) he).symm)
  refine (congrFun (after4 m hO c t) _).trans ((pay6_apply _ _ _ _ _).trans ((prod_keys m hO c t _ _).trans ?_))
  exact (if_pos rfl).symm

theorem flushed5 (hl : lay m < 4) (t : Fin (cfgM m hO).N) : (dats m hO 0 c).flushed 5 t = (((cfgM m hO).win 5).blk t).view.read (Elt Ideal) (stacked (lay m) (vs m c) (val m c)) := by
  obtain ⟨e0, e1, e2, e3⟩ := idx5 m t
  have ht := t_lt m hO t
  funext y
  have hy0 : (y (0 : Fin 4)).val < 1 := (y (0 : Fin 4)).isLt
  have hy1 : (y (1 : Fin 4)).val < 1 := (y (1 : Fin 4)).isLt
  have hy2 : (y (2 : Fin 4)).val < 512 := (y (2 : Fin 4)).isLt
  have hy3 : (y (3 : Fin 4)).val < 1024 := (y (3 : Fin 4)).isLt
  have hi : ((cfgM m hO).win 5).xinj (grid0.coords t) y = ix4 (0 : Fin 1) (0 : Fin 1) (⟨(y (2 : Fin 4)).val, hy2⟩ : Fin 512) (⟨(y (3 : Fin 4)).val, hy3⟩ : Fin 1024) := by
    funext a; apply Fin.ext
    match a with
    | ⟨0, _⟩ => show (y (0 : Fin 4)).val = 0; omega
    | ⟨1, _⟩ => show (y (1 : Fin 4)).val = 0; omega
    | ⟨2, _⟩ => rfl
    | ⟨3, _⟩ => rfl
  have he : (((cfgM m hO).win 5).blk t).view.emb y = ix4 (⟨lay m, hl⟩ : Fin 4) (⟨t.val / 8, by omega⟩ : Fin 4) (⟨(y (2 : Fin 4)).val, hy2⟩ : Fin 512) (⟨t.val % 8 * 1024 + (y (3 : Fin 4)).val, by omega⟩ : Fin 8192) := by
    funext a; apply Fin.ext
    match a with
    | ⟨0, _⟩ => show where5 m t (0 : Fin 4) * 1 + 1 * (y (0 : Fin 4)).val = lay m; rw [e0]; omega
    | ⟨1, _⟩ => show where5 m t (1 : Fin 4) * 1 + 1 * (y (1 : Fin 4)).val = t.val / 8; rw [e1]; omega
    | ⟨2, _⟩ => show where5 m t (2 : Fin 4) * 512 + 1 * (y (2 : Fin 4)).val = (y (2 : Fin 4)).val; rw [e2]; omega
    | ⟨3, _⟩ => show where5 m t (3 : Fin 4) * 1024 + 1 * (y (3 : Fin 4)).val = t.val % 8 * 1024 + (y (3 : Fin 4)).val; rw [e3]; omega
  show (dats m hO 0 c).after 5 t (((cfgM m hO).win 5).xinj (grid0.coords t) y) = stacked (lay m) (vs m c) (val m c) ((((cfgM m hO).win 5).blk t).view.emb y)
  refine (congrArg ((dats m hO 0 c).after 5 t) hi).trans (Eq.trans ?_ (congrArg (stacked (lay m) (vs m c) (val m c)) he).symm)
  refine (congrFun (after5 m hO c t) _).trans ((pay6_apply _ _ _ _ _).trans ((prod_values m hO c t _ _).trans ?_))
  exact (if_pos rfl).symm

theorem flush4 : ∀ t : Fin (cfgM m hO).N, ((cfgM m hO).win 4).flush t = true :=
  (fun t => (Pipeline.Window.flushOf_reads (cc0_transform_6 inb_S1_S1_0 numel1_S1 (tbl m)) reads0_4 (hreads0_4 (tbl m)) 1 (by decide) (by decide)
    (Pipeline.Window.sep_of_coord (cc0_transform_6 inb_S1_S1_0 numel1_S1 (tbl m)) 1 3 (fun _ => rfl) (by decide)) (P := 1) (m := 0) (by decide) rfl t).mpr (Nat.mod_one _) :
    ∀ t : Fin grid0.N, Pipeline.Window.flushOf grid0 true (cc0_transform_6 inb_S1_S1_0 numel1_S1 (tbl m)) t = true)

theorem mem4 (t : Fin (cfgM m hO).N) (i : S4x4x512x8192.Idx) : i ∈ (((cfgM m hO).win 4).blk t).view.set ↔
    ∀ a : Fin 4, where4 m t a * S1x1x512x1024.size a ≤ (i a).val ∧ (i a).val < where4 m t a * S1x1x512x1024.size a + S1x1x512x1024.size a :=
  (iff_of_eq (congrArg (i ∈ ·) (View.set_slice_whole main_v9_0 (((cfgM m hO).win 4).rect t)))).trans Rect.mem_set_unit

theorem array4 (hl : lay m < 4) : (dats m hO 0 c).arrAt 4 (cfgM m hO).N = stacked (lay m) (ks m c) (key m c) := by
  funext i
  have h0 : (i (0 : Fin 4)).val < 4 := (i (0 : Fin 4)).isLt
  have h1 : (i (1 : Fin 4)).val < 4 := (i (1 : Fin 4)).isLt
  have h2 : (i (2 : Fin 4)).val < 512 := (i (2 : Fin 4)).isLt
  have h3 : (i (3 : Fin 4)).val < 8192 := (i (3 : Fin 4)).isLt
  by_cases e : (i (0 : Fin 4)).val = lay m
  · have hlt : (i (1 : Fin 4)).val * 8 + (i (3 : Fin 4)).val / 1024 < (cfgM m hO).N := lt_of_lt_of_eq (by omega) N_0.symm
    refine (dats m hO 0 c).arrAt_apply_of_mem 4 (stacked (lay m) (ks m c) (key m c)) (fun t _ => flushed4 m hO c hl t) _
      ⟨(i (1 : Fin 4)).val * 8 + (i (3 : Fin 4)).val / 1024, hlt⟩ i hlt (flush4 m hO _) ((mem4 m hO _ i).mpr fun a => ?_)
    obtain ⟨e0, e1, e2, e3⟩ := idx4 m ⟨(i (1 : Fin 4)).val * 8 + (i (3 : Fin 4)).val / 1024, hlt⟩
    match a with
    | ⟨0, _⟩ =>
      show where4 m _ (0 : Fin 4) * 1 ≤ (i (0 : Fin 4)).val ∧ (i (0 : Fin 4)).val < where4 m _ (0 : Fin 4) * 1 + 1
      rw [e0]; omega
    | ⟨1, _⟩ =>
      show where4 m _ (1 : Fin 4) * 1 ≤ (i (1 : Fin 4)).val ∧ (i (1 : Fin 4)).val < where4 m _ (1 : Fin 4) * 1 + 1
      rw [e1]; dsimp only; omega
    | ⟨2, _⟩ =>
      show where4 m _ (2 : Fin 4) * 512 ≤ (i (2 : Fin 4)).val ∧ (i (2 : Fin 4)).val < where4 m _ (2 : Fin 4) * 512 + 512
      rw [e2]; omega
    | ⟨3, _⟩ =>
      show where4 m _ (3 : Fin 4) * 1024 ≤ (i (3 : Fin 4)).val ∧ (i (3 : Fin 4)).val < where4 m _ (3 : Fin 4) * 1024 + 1024
      rw [e3]; dsimp only; omega
  · refine ((dats m hO 0 c).arrAt_apply_of_forall_not_mem 4 _ i fun t _ _ hi => e ?_).trans ?_
    · obtain ⟨e0, -, -, -⟩ := idx4 m t
      have h : where4 m t (0 : Fin 4) * 1 ≤ (i (0 : Fin 4)).val ∧ (i (0 : Fin 4)).val < where4 m t (0 : Fin 4) * 1 + 1 := (mem4 m hO t i).mp hi (0 : Fin 4)
      rw [e0] at h
      omega
    · refine (congrFun (A_eq m hO c 4) i).trans ((congrFun (V_v9_0 m c) i).trans ?_)
      exact (if_neg e).symm

theorem flush5 : ∀ t : Fin (cfgM m hO).N, ((cfgM m hO).win 5).flush t = true :=
  (fun t => (Pipeline.Window.flushOf_reads (cc0_transform_7 inb_S1_S1_0 numel1_S1 (tbl m)) reads0_5 (hreads0_5 (tbl m)) 1 (by decide) (by decide)
    (Pipeline.Window.sep_of_coord (cc0_transform_7 inb_S1_S1_0 numel1_S1 (tbl m)) 1 3 (fun _ => rfl) (by decide)) (P := 1) (m := 0) (by decide) rfl t).mpr (Nat.mod_one _) :
    ∀ t : Fin grid0.N, Pipeline.Window.flushOf grid0 true (cc0_transform_7 inb_S1_S1_0 numel1_S1 (tbl m)) t = true)

theorem mem5 (t : Fin (cfgM m hO).N) (i : S4x4x512x8192.Idx) : i ∈ (((cfgM m hO).win 5).blk t).view.set ↔
    ∀ a : Fin 4, where5 m t a * S1x1x512x1024.size a ≤ (i a).val ∧ (i a).val < where5 m t a * S1x1x512x1024.size a + S1x1x512x1024.size a :=
  (iff_of_eq (congrArg (i ∈ ·) (View.set_slice_whole main_v9_1 (((cfgM m hO).win 5).rect t)))).trans Rect.mem_set_unit

theorem array5 (hl : lay m < 4) : (dats m hO 0 c).arrAt 5 (cfgM m hO).N = stacked (lay m) (vs m c) (val m c) := by
  funext i
  have h0 : (i (0 : Fin 4)).val < 4 := (i (0 : Fin 4)).isLt
  have h1 : (i (1 : Fin 4)).val < 4 := (i (1 : Fin 4)).isLt
  have h2 : (i (2 : Fin 4)).val < 512 := (i (2 : Fin 4)).isLt
  have h3 : (i (3 : Fin 4)).val < 8192 := (i (3 : Fin 4)).isLt
  by_cases e : (i (0 : Fin 4)).val = lay m
  · have hlt : (i (1 : Fin 4)).val * 8 + (i (3 : Fin 4)).val / 1024 < (cfgM m hO).N := lt_of_lt_of_eq (by omega) N_0.symm
    refine (dats m hO 0 c).arrAt_apply_of_mem 5 (stacked (lay m) (vs m c) (val m c)) (fun t _ => flushed5 m hO c hl t) _
      ⟨(i (1 : Fin 4)).val * 8 + (i (3 : Fin 4)).val / 1024, hlt⟩ i hlt (flush5 m hO _) ((mem5 m hO _ i).mpr fun a => ?_)
    obtain ⟨e0, e1, e2, e3⟩ := idx5 m ⟨(i (1 : Fin 4)).val * 8 + (i (3 : Fin 4)).val / 1024, hlt⟩
    match a with
    | ⟨0, _⟩ =>
      show where5 m _ (0 : Fin 4) * 1 ≤ (i (0 : Fin 4)).val ∧ (i (0 : Fin 4)).val < where5 m _ (0 : Fin 4) * 1 + 1
      rw [e0]; omega
    | ⟨1, _⟩ =>
      show where5 m _ (1 : Fin 4) * 1 ≤ (i (1 : Fin 4)).val ∧ (i (1 : Fin 4)).val < where5 m _ (1 : Fin 4) * 1 + 1
      rw [e1]; dsimp only; omega
    | ⟨2, _⟩ =>
      show where5 m _ (2 : Fin 4) * 512 ≤ (i (2 : Fin 4)).val ∧ (i (2 : Fin 4)).val < where5 m _ (2 : Fin 4) * 512 + 512
      rw [e2]; omega
    | ⟨3, _⟩ =>
      show where5 m _ (3 : Fin 4) * 1024 ≤ (i (3 : Fin 4)).val ∧ (i (3 : Fin 4)).val < where5 m _ (3 : Fin 4) * 1024 + 1024
      rw [e3]; dsimp only; omega
  · refine ((dats m hO 0 c).arrAt_apply_of_forall_not_mem 5 _ i fun t _ _ hi => e ?_).trans ?_
    · obtain ⟨e0, -, -, -⟩ := idx5 m t
      have h : where5 m t (0 : Fin 4) * 1 ≤ (i (0 : Fin 4)).val ∧ (i (0 : Fin 4)).val < where5 m t (0 : Fin 4) * 1 + 1 := (mem5 m hO t i).mp hi (0 : Fin 4)
      rw [e0] at h
      omega
    · refine (congrFun (A_eq m hO c 5) i).trans ((congrFun (V_v9_1 m c) i).trans ?_)
      exact (if_neg e).symm

end Cert.KvIdeal.Kv

end
-- ==== Proof.Kv.Reference.lean ====
/- The key and value projection's reference, read at an index. -/
module

public import proofs.«01_k».proof.Proof.Gen.KvReferenceIdeal.Run
public import proofs.«01_k».proof.Proof.Gen.KvReferenceIdeal.Read
public import proofs.«01_k».proof.Proof.Kv.Maths
public import Idealize.ShloMosaic.Lib.Pointwise

@[expose] public section

set_option maxRecDepth 16384

noncomputable section

namespace Cert.KvReferenceIdeal.Kv

open Cert.KvReferenceIdeal Cert.KvReferenceIdeal.Gen Cert.KvReferenceIdeal.Read Cert.Kv
open Idealize.ShloMosaic Idealize.ShloMosaic.TcCoe Idealize.ShloMosaic.Tactic Idealize.ShloMosaic.Pointwise

variable (x0 : Vec Ideal S4x8192x1024 .f32) (x1 : Vec Ideal S1024 .f32) (x2 : Vec Ideal S1024x10248 .f32)
  (x3 : Vec Ideal S4x4x512x8192 .f32) (x5 : Vec Ideal S_ .i32)

theorem norm_apply (b : Fin 4) (t : Fin 8192) (k : Fin 1024) : val_main_v12 (F := Ideal) x0 x1 (ix3 b t k) =
    Cert.Norm.normRow (fun k => x0 (ix3 b t k)) (fun k => x1 (ix1 k)) k := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  rfl

theorem proj_apply (b : Fin 4) (t : Fin 8192) (j : Fin 10248) : val_main_v13 (F := Ideal) x0 x1 x2 (ix3 b t j) =
    proj (fun k => x0 (ix3 b t k)) (fun k => x1 (ix1 k)) (fun k => x2 (ix2 k j)) := by
  unfold proj
  simp only [← norm_apply]
  unfold val_main_v13
  generalize val_main_v12 (F := Ideal) x0 x1 = h
  pointwise

theorem keys_apply (b : Fin 4) (r : Fin 512) (t : Fin 8192) : val_main_v27 (F := Ideal) x0 x1 x2 (ix3 b r t) =
    proj (fun k => x0 (ix3 b t k)) (fun k => x1 (ix1 k)) (fun k => x2 (ix2 k ⟨4616 + r.val, by omega⟩)) := by
  rw [← proj_apply]
  unfold val_main_v27 val_main_v25 val_main_v21
  generalize val_main_v13 (F := Ideal) x0 x1 x2 = p
  pointwise
  try exact congrArg p (congrArg (ix3 b t) (Fin.ext (by dsimp only; omega)))

theorem values_apply (b : Fin 4) (r : Fin 512) (t : Fin 8192) : val_main_v28 (F := Ideal) x0 x1 x2 (ix3 b r t) =
    proj (fun k => x0 (ix3 b t k)) (fun k => x1 (ix1 k)) (fun k => x2 (ix2 k ⟨5128 + r.val, by omega⟩)) := by
  rw [← proj_apply]
  unfold val_main_v28 val_main_v26 val_main_v21
  generalize val_main_v13 (F := Ideal) x0 x1 x2 = p
  pointwise
  try exact congrArg p (congrArg (ix3 b t) (Fin.ext (by dsimp only; omega)))

theorem bf_keys (b : Fin 4) (r : Fin 512) (t : Fin 8192) : val_main_v39 (F := Ideal) x0 x1 x2 (ix3 b r t) = val_main_v27 (F := Ideal) x0 x1 x2 (ix3 b r t) := rfl
theorem bf_values (b : Fin 4) (r : Fin 512) (t : Fin 8192) : val_main_v40 (F := Ideal) x0 x1 x2 (ix3 b r t) = val_main_v28 (F := Ideal) x0 x1 x2 (ix3 b r t) := rfl

/-- The start of the written slab: the layer, which is not negative. -/
theorem start (h : (x5 (fun a => a.elim0)).toNat < 4) : (val_main_v32 (F := Ideal) x5 (Shape.Idx.first h_S_)).toInt = ((x5 (fun a => a.elim0)).toNat : Int) := by
  have e : (Shape.Idx.first h_S_ : S_.Idx) = fun a => a.elim0 := funext fun a => a.elim0
  rw [e, val_main_v32_apply, val_main_v30_apply]
  generalize x5 (fun a => a.elim0) = v at h ⊢
  have hv : v.toInt = (v.toNat : Int) := WordCmp.toInt_eq_toNat_of_lt_half (by omega)
  have hc : val_main_c (F := Ideal) (fun a => a.elim0) = 0#32 := rfl
  rw [hc, WordCmp.cmpi_slt_eq, hv]
  have : decide ((v.toNat : Int) < (0#32 : BitVec 32).toInt) = false := by
    rw [decide_eq_false_iff_not]; show ¬(v.toNat : Int) < 0; omega
  rw [this]
  exact hv

/-- A stack with one layer's slab replaced. -/
def stacked (l : ℕ) (old : Vec Ideal S4x4x512x8192 .f32) (new : Fin 4 → Fin 512 → Fin 8192 → EReal) (i : S4x4x512x8192.Idx) : EReal :=
  if (i 0).val = l then new (i 1) (i 2) (i 3) else old i

theorem fits (l : ℕ) (h : l < 4) : S4x4x512x8192.Slices ![l, 0, 0, 0] S1x4x512x8192 := by
  refine ⟨rfl, fun a => ?_⟩
  match a with
  | ⟨0, _⟩ => show l + 1 ≤ 4; omega
  | ⟨1, _⟩ => show 0 + 4 ≤ 4; omega
  | ⟨2, _⟩ => show 0 + 512 ≤ 512; omega
  | ⟨3, _⟩ => show 0 + 8192 ≤ 8192; omega

theorem update_apply (l : ℕ) (h : l < 4) (old : Vec Ideal S4x4x512x8192 .f32) (u : Vec Ideal S4x512x8192 .f32) (i : S4x4x512x8192.Idx) :
    updateSlice old (broadcastInDim S1x4x512x8192 ![1, 2, 3] bcast_S4x512x8192_S1x4x512x8192_1_2_3 u) ![l, 0, 0, 0] (fits l h) i =
      stacked l old (fun b r t => u (ix3 b r t)) i := by
  obtain ⟨a, b, r, t, rfl⟩ : ∃ a b r t, i = ix4 a b r t := ⟨i 0, i 1, i 2, i 3, eq_ix4 i⟩
  unfold stacked
  pointwise
  by_cases e : a.val = l
  · rw [dif_pos ⟨by omega, by omega⟩, if_pos e]
  · rw [dif_neg (by omega), if_neg e]

theorem keys_stack (h : (x5 (fun a => a.elim0)).toNat < 4) : val_main_v33 (F := Ideal) x0 x1 x2 x3 x5 =
    stacked (x5 (fun a => a.elim0)).toNat x3 (fun b r t => val_main_v27 (F := Ideal) x0 x1 x2 (ix3 b r t)) := by
  unfold val_main_v33
  rw [WordCmp.dynamicUpdateSlice_eq_update _ _ _ _ ![(x5 (fun a => a.elim0)).toNat, 0, 0, 0] (fits _ h) ?_]
  · funext i
    unfold val_main_v29
    exact update_apply _ h x3 _ i
  · intro a
    match a with
    | ⟨0, _⟩ => exact start x5 h
    | ⟨1, _⟩ => rfl
    | ⟨2, _⟩ => rfl
    | ⟨3, _⟩ => rfl

theorem values_stack (h : (x5 (fun a => a.elim0)).toNat < 4) : val_main_v38 (F := Ideal) x0 x1 x2 x3 x5 =
    stacked (x5 (fun a => a.elim0)).toNat x3 (fun b r t => val_main_v28 (F := Ideal) x0 x1 x2 (ix3 b r t)) := by
  unfold val_main_v38
  rw [WordCmp.dynamicUpdateSlice_eq_update _ _ _ _ ![(x5 (fun a => a.elim0)).toNat, 0, 0, 0] (fits _ h) ?_]
  · funext i
    unfold val_main_v34
    exact update_apply _ h x3 _ i
  · intro a
    match a with
    | ⟨0, _⟩ => exact start x5 h
    | ⟨1, _⟩ => rfl
    | ⟨2, _⟩ => rfl
    | ⟨3, _⟩ => rfl

end Cert.KvReferenceIdeal.Kv

end
-- ==== Proof.Kv.Claims.lean ====
/- The claims about the key and value projection: the kernel's four result arrays are the reference's. -/
module

public import proofs.«01_k».proof.Defs
public import proofs.«01_k».proof.Proof.Kv.Arrays
public import proofs.«01_k».proof.Proof.Kv.TableBits
public import proofs.«01_k».proof.Proof.Kv.Reference

@[expose] public section

set_option maxRecDepth 16384

noncomputable section

namespace Cert.KeyValue

open Idealize.ShloMosaic Idealize.ShloMosaic.TcCoe Idealize.ShloMosaic.Pointwise Idealize.SL.Sem

/-- The precondition's one word. -/
theorem range_word {F : FTy → Type} [FloatOps F] [Cert.Pre_layer_in_range.Facts] (a0 a1 a2 a3 a4) (a5 : Vec F Cert.Pre_layer_in_range.S_ .i32)
    (h : Cert.Pre_layer_in_range.fn (F := F) a0 a1 a2 a3 a4 a5 = fun _ => 1#1) : (a5 (fun a => a.elim0)).toNat < 4 :=
  Cert.Kv.layer_lt (congrFun h (fun a => a.elim0))

/-- The precondition's side conditions. -/
theorem range_facts : Cert.Pre_layer_in_range.Facts where

theorem bits_lt (m : (ℓ : Loc Cert.Kv.nD Cert.Kv.τ Cert.Kv.sig) → Buf (Elt Bits) ℓ)
    (h : Cert.Pre_Kv (hPre_layer_in_range := range_facts) m) : Cert.Kv.Layer.lay m < 4 :=
  haveI := range_facts
  range_word (h := h 0)
theorem ideal_lt (m : (ℓ : Loc Cert.KvIdeal.nD Cert.KvIdeal.τ Cert.KvIdeal.sig) → Buf (Elt Ideal) ℓ)
    (h : Cert.Pre_KvIdeal (hPre_layer_in_range := range_facts) m) : Cert.KvIdeal.Kv.lay m < 4 :=
  haveI := range_facts
  range_word (h := h 0)

theorem kernel_frame : Cert.quiescent_Kv (hKv := Cert.Kv.Gen.facts) (hPre_layer_in_range := range_facts) := fun m g h =>
  Cert.Kv.Gen.frame m g (Cert.Kv.Layer.ok_of_lt m (bits_lt m h))
theorem ideal_frame : Cert.quiescent_KvIdeal (hKvIdeal := Cert.KvIdeal.Gen.facts) (hPre_layer_in_range := range_facts) := fun m g h =>
  Cert.KvIdeal.Gen.frame m g (Cert.KvIdeal.Kv.ok_of_lt m (ideal_lt m h))
theorem reference_frame : Cert.quiescent_KvReferenceIdeal (hKvReferenceIdeal := Cert.KvReferenceIdeal.Gen.facts) (hPre_layer_in_range := range_facts) := fun m g _ =>
  (θ_run Cert.KvReferenceIdeal.defs _ _).mono (fun r h => ⟨fun c => (h c).2.2.2.2, Idealize.ShloMosaic.sem_eq_zero_of_no_sems (by decide) r.2⟩) (Cert.KvReferenceIdeal.Value.run m g)

section
open Cert.KvIdeal Cert.KvIdeal.Gen
variable (m : (ℓ : Loc nD τ sig) → Buf (Elt Ideal) ℓ) (g : Dev nD → PrngReg)

/-- The kernel's run: the four result arrays, and the arguments unchanged. -/
theorem run (hl : Cert.KvIdeal.Kv.lay m < 4) :
    θ_run defs (onTc (τ := τ) (main (F := Ideal))) ⟨m, fun _ => 0, g⟩ (fun r => ∀ c : Dev nD,
      r.2.mem ((c.tc : Thread nD τ).loc main_v9_0) = Cert.KvIdeal.Kv.stacked (Cert.KvIdeal.Kv.lay m) (Cert.KvIdeal.Kv.ks m c) (Cert.KvIdeal.Kv.key m c)
      ∧ r.2.mem ((c.tc : Thread nD τ).loc main_v9_1) = Cert.KvIdeal.Kv.stacked (Cert.KvIdeal.Kv.lay m) (Cert.KvIdeal.Kv.vs m c) (Cert.KvIdeal.Kv.val m c)
      ∧ r.2.mem ((c.tc : Thread nD τ).loc main_v9_2) = Cert.KvIdeal.Kv.flat (Cert.KvIdeal.Kv.key m c)
      ∧ r.2.mem ((c.tc : Thread nD τ).loc main_v9_3) = Cert.KvIdeal.Kv.flat (Cert.KvIdeal.Kv.val m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have hO := Cert.KvIdeal.Kv.ok_of_lt m hl
  refine (θ_run defs _ _).mono (fun r h c => ?_) (run_main m g hO)
  refine ⟨((h c).1 4).trans (Cert.KvIdeal.Kv.array4 m hO c hl), ((h c).1 5).trans (Cert.KvIdeal.Kv.array5 m hO c hl),
    ((h c).1 6).trans (Cert.KvIdeal.Kv.array6 m hO c), ((h c).1 7).trans (Cert.KvIdeal.Kv.array7 m hO c),
    ((h c).1 0).trans (((dats m hO 0 c).arrAt_in 0 rfl _).trans ((A_eq m hO c 0).trans (V_main_arg0 m c))),
    ((h c).2 main_arg1 (by decide : main_arg1 ∈ Pipeline.restRefs sig spec0)).trans (V_main_arg1 m c),
    ((h c).2 main_arg2 (by decide : main_arg2 ∈ Pipeline.restRefs sig spec0)).trans (V_main_arg2 m c),
    ((h c).2 main_arg3 (by decide : main_arg3 ∈ Pipeline.restRefs sig spec0)).trans (V_main_arg3 m c),
    ((h c).2 main_arg4 (by decide : main_arg4 ∈ Pipeline.restRefs sig spec0)).trans (V_main_arg4 m c),
    ((h c).2 main_arg5 (by decide : main_arg5 ∈ Pipeline.restRefs sig spec0)).trans (V_main_arg5 m c)⟩
end

/-- The reference's arguments are the kernel's. -/
abbrev Same (m : (ℓ : Loc Cert.KvIdeal.nD Cert.KvIdeal.τ Cert.KvIdeal.sig) → Buf (Elt Ideal) ℓ)
    (m' : (ℓ : Loc Cert.KvReferenceIdeal.nD Cert.KvReferenceIdeal.τ Cert.KvReferenceIdeal.sig) → Buf (Elt Ideal) ℓ) (c : Dev Cert.KvIdeal.nD) : Prop :=
  m' ((c.tc : Thread Cert.KvReferenceIdeal.nD Cert.KvReferenceIdeal.τ).loc Cert.KvReferenceIdeal.main_arg0) = m ((c.tc : Thread Cert.KvIdeal.nD Cert.KvIdeal.τ).loc Cert.KvIdeal.main_arg0)
  ∧ m' ((c.tc : Thread Cert.KvReferenceIdeal.nD Cert.KvReferenceIdeal.τ).loc Cert.KvReferenceIdeal.main_arg1) = m ((c.tc : Thread Cert.KvIdeal.nD Cert.KvIdeal.τ).loc Cert.KvIdeal.main_arg1)
  ∧ m' ((c.tc : Thread Cert.KvReferenceIdeal.nD Cert.KvReferenceIdeal.τ).loc Cert.KvReferenceIdeal.main_arg2) = m ((c.tc : Thread Cert.KvIdeal.nD Cert.KvIdeal.τ).loc Cert.KvIdeal.main_arg2)
  ∧ m' ((c.tc : Thread Cert.KvReferenceIdeal.nD Cert.KvReferenceIdeal.τ).loc Cert.KvReferenceIdeal.main_arg3) = m ((c.tc : Thread Cert.KvIdeal.nD Cert.KvIdeal.τ).loc Cert.KvIdeal.main_arg3)
  ∧ m' ((c.tc : Thread Cert.KvReferenceIdeal.nD Cert.KvReferenceIdeal.τ).loc Cert.KvReferenceIdeal.main_arg4) = m ((c.tc : Thread Cert.KvIdeal.nD Cert.KvIdeal.τ).loc Cert.KvIdeal.main_arg4)
  ∧ m' ((c.tc : Thread Cert.KvReferenceIdeal.nD Cert.KvReferenceIdeal.τ).loc Cert.KvReferenceIdeal.main_arg5) = m ((c.tc : Thread Cert.KvIdeal.nD Cert.KvIdeal.τ).loc Cert.KvIdeal.main_arg5)

section
variable {m : (ℓ : Loc Cert.KvIdeal.nD Cert.KvIdeal.τ Cert.KvIdeal.sig) → Buf (Elt Ideal) ℓ}
  {m' : (ℓ : Loc Cert.KvReferenceIdeal.nD Cert.KvReferenceIdeal.τ Cert.KvReferenceIdeal.sig) → Buf (Elt Ideal) ℓ} {c : Dev Cert.KvIdeal.nD}

theorem lay_eq (c : Dev Cert.KvIdeal.nD) : Cert.KvIdeal.Kv.lay m =
    ((m ((c.tc : Thread Cert.KvIdeal.nD Cert.KvIdeal.τ).loc Cert.KvIdeal.main_arg5) : Vec Ideal Cert.KvIdeal.S_ .i32) (fun a => a.elim0)).toNat := by
  obtain rfl : c = 0 := Subsingleton.elim _ _
  rfl

theorem keys_eq (e : Same m m' c) (hl : Cert.KvIdeal.Kv.lay m < 4) : Cert.KvReferenceIdeal.Read.val_main_v33 (F := Ideal) (m' ((c.tc : Thread Cert.KvReferenceIdeal.nD Cert.KvReferenceIdeal.τ).loc Cert.KvReferenceIdeal.main_arg0)) (m' ((c.tc : Thread Cert.KvReferenceIdeal.nD Cert.KvReferenceIdeal.τ).loc Cert.KvReferenceIdeal.main_arg1)) (m' ((c.tc : Thread Cert.KvReferenceIdeal.nD Cert.KvReferenceIdeal.τ).loc Cert.KvReferenceIdeal.main_arg2)) (m' ((c.tc : Thread Cert.KvReferenceIdeal.nD Cert.KvReferenceIdeal.τ).loc Cert.KvReferenceIdeal.main_arg3)) (m' ((c.tc : Thread Cert.KvReferenceIdeal.nD Cert.KvReferenceIdeal.τ).loc Cert.KvReferenceIdeal.main_arg5)) =
    Cert.KvIdeal.Kv.stacked (Cert.KvIdeal.Kv.lay m) (Cert.KvIdeal.Kv.ks m c) (Cert.KvIdeal.Kv.key m c) := by
  obtain ⟨e0, e1, e2, e3, e4, e5⟩ := e
  rw [e0, e1, e2, e3, e5]
  rw [lay_eq c] at hl ⊢
  refine (Cert.KvReferenceIdeal.Kv.keys_stack _ _ _ _ _ hl).trans ?_
  simp only [Cert.KvReferenceIdeal.Kv.keys_apply]
  rfl

theorem values_eq (e : Same m m' c) (hl : Cert.KvIdeal.Kv.lay m < 4) : Cert.KvReferenceIdeal.Read.val_main_v38 (F := Ideal) (m' ((c.tc : Thread Cert.KvReferenceIdeal.nD Cert.KvReferenceIdeal.τ).loc Cert.KvReferenceIdeal.main_arg0)) (m' ((c.tc : Thread Cert.KvReferenceIdeal.nD Cert.KvReferenceIdeal.τ).loc Cert.KvReferenceIdeal.main_arg1)) (m' ((c.tc : Thread Cert.KvReferenceIdeal.nD Cert.KvReferenceIdeal.τ).loc Cert.KvReferenceIdeal.main_arg2)) (m' ((c.tc : Thread Cert.KvReferenceIdeal.nD Cert.KvReferenceIdeal.τ).loc Cert.KvReferenceIdeal.main_arg4)) (m' ((c.tc : Thread Cert.KvReferenceIdeal.nD Cert.KvReferenceIdeal.τ).loc Cert.KvReferenceIdeal.main_arg5)) =
    Cert.KvIdeal.Kv.stacked (Cert.KvIdeal.Kv.lay m) (Cert.KvIdeal.Kv.vs m c) (Cert.KvIdeal.Kv.val m c) := by
  obtain ⟨e0, e1, e2, e3, e4, e5⟩ := e
  rw [e0, e1, e2, e4, e5]
  rw [lay_eq c] at hl ⊢
  refine (Cert.KvReferenceIdeal.Kv.values_stack _ _ _ _ _ hl).trans ?_
  simp only [Cert.KvReferenceIdeal.Kv.values_apply]
  rfl

theorem bf_keys_eq (e : Same m m' c) : Cert.KvReferenceIdeal.Read.val_main_v39 (F := Ideal) (m' ((c.tc : Thread Cert.KvReferenceIdeal.nD Cert.KvReferenceIdeal.τ).loc Cert.KvReferenceIdeal.main_arg0)) (m' ((c.tc : Thread Cert.KvReferenceIdeal.nD Cert.KvReferenceIdeal.τ).loc Cert.KvReferenceIdeal.main_arg1)) (m' ((c.tc : Thread Cert.KvReferenceIdeal.nD Cert.KvReferenceIdeal.τ).loc Cert.KvReferenceIdeal.main_arg2)) = Cert.KvIdeal.Kv.flat (Cert.KvIdeal.Kv.key m c) := by
  obtain ⟨e0, e1, e2, e3, e4, e5⟩ := e
  rw [e0, e1, e2]
  funext i
  rw [eq_ix3 i]
  exact (Cert.KvReferenceIdeal.Kv.bf_keys _ _ _ _ _ _).trans (Cert.KvReferenceIdeal.Kv.keys_apply _ _ _ _ _ _)

theorem bf_values_eq (e : Same m m' c) : Cert.KvReferenceIdeal.Read.val_main_v40 (F := Ideal) (m' ((c.tc : Thread Cert.KvReferenceIdeal.nD Cert.KvReferenceIdeal.τ).loc Cert.KvReferenceIdeal.main_arg0)) (m' ((c.tc : Thread Cert.KvReferenceIdeal.nD Cert.KvReferenceIdeal.τ).loc Cert.KvReferenceIdeal.main_arg1)) (m' ((c.tc : Thread Cert.KvReferenceIdeal.nD Cert.KvReferenceIdeal.τ).loc Cert.KvReferenceIdeal.main_arg2)) = Cert.KvIdeal.Kv.flat (Cert.KvIdeal.Kv.val m c) := by
  obtain ⟨e0, e1, e2, e3, e4, e5⟩ := e
  rw [e0, e1, e2]
  funext i
  rw [eq_ix3 i]
  exact (Cert.KvReferenceIdeal.Kv.bf_values _ _ _ _ _ _).trans (Cert.KvReferenceIdeal.Kv.values_apply _ _ _ _ _ _)
end

theorem algebraic : Cert.algebraic_KvIdeal_KvReferenceIdeal (hKvIdeal := Cert.KvIdeal.Gen.facts)
    (hKvReferenceIdeal := Cert.KvReferenceIdeal.Gen.facts) (hPre_layer_in_range := range_facts) := by
  intro m g m' g' hp e
  have hl := ideal_lt m hp
  refine ⟨fun c => Cert.KvIdeal.Kv.stacked (Cert.KvIdeal.Kv.lay m) (Cert.KvIdeal.Kv.ks m c) (Cert.KvIdeal.Kv.key m c),
    fun c => Cert.KvIdeal.Kv.stacked (Cert.KvIdeal.Kv.lay m) (Cert.KvIdeal.Kv.vs m c) (Cert.KvIdeal.Kv.val m c),
    fun c => Cert.KvIdeal.Kv.flat (Cert.KvIdeal.Kv.key m c), fun c => Cert.KvIdeal.Kv.flat (Cert.KvIdeal.Kv.val m c), run m g hl, ?_⟩
  refine (θ_run Cert.KvReferenceIdeal.defs _ _).mono (fun r h c => ?_) (Cert.KvReferenceIdeal.Value.run m' g')
  obtain ⟨h0, h1, h2, h3, hr⟩ := h c
  exact ⟨h0.trans ((Cert.KvReferenceIdeal.Read.val_main_v33_eq ..).trans (keys_eq (e c) hl)), h1.trans ((Cert.KvReferenceIdeal.Read.val_main_v38_eq ..).trans (values_eq (e c) hl)),
    h2.trans ((Cert.KvReferenceIdeal.Read.val_main_v39_eq ..).trans (bf_keys_eq (e c))), h3.trans ((Cert.KvReferenceIdeal.Read.val_main_v40_eq ..).trans (bf_values_eq (e c))), hr⟩

end Cert.KeyValue

end
-- ==== Proof.Merge.Maths.lean ====
/- The merge of the four branches as mathematics: the gated sum of the four down-projections, the out-projection, the norm
   and the residual. -/
module

public import proofs.«01_k».proof.Proof.Norm
public import proofs.«01_k».proof.Proof.Lru.Scalars

@[expose] public section

noncomputable section

namespace Cert.Merge

open Idealize.ShloMosaic

/-- The gated sum of the four branches' down-projections. -/
def gated (u : Fin 4 → Fin 512 → EReal) (g : Fin 4 → Fin 1024 → EReal) (wd : Fin 4 → Fin 512 → Fin 1024 → EReal)
    (j : Fin 1024) : EReal := ∑ n, Cert.Lru.sig (g n j) * ∑ k, u n k * wd n k j

/-- One row of the result. -/
def merged (u : Fin 4 → Fin 512 → EReal) (g : Fin 4 → Fin 1024 → EReal) (x : Fin 1024 → EReal)
    (wd : Fin 4 → Fin 512 → Fin 1024 → EReal) (wo : Fin 1024 → Fin 1024 → EReal) (w : Fin 1024 → EReal) (j : Fin 1024) : EReal :=
  x j + Cert.Norm.normRow (fun j => ∑ k, gated u g wd k * wo k j) w j

end Cert.Merge

end
-- ==== Proof.Merge.Point.lean ====
/- One grid point of the merge kernel, read at an index. -/
module

public import proofs.«01_k».proof.Proof.Gen.MixIdeal.Value
public import proofs.«01_k».proof.Proof.Merge.Maths
public import Idealize.ShloMosaic.Lib.Pointwise

@[expose] public section

set_option maxRecDepth 16384

noncomputable section

namespace Cert.MixIdeal.Merge

open Cert.MixIdeal Cert.MixIdeal.Gen Cert.Merge
open Idealize.ShloMosaic Idealize.ShloMosaic.TcCoe Idealize.ShloMosaic.Tactic Idealize.ShloMosaic.Pointwise

/-- One of the four weights of the stack. -/
def slab (x9 : Vec Ideal S4x512x1024 .bf16) (n : Fin 4) : Vec Ideal S1x512x1024 .bf16 := fun i => x9 (ix3 n (i 1) (i 2))

theorem hz2 : (![0, 0] : Fin 2 → Nat) = fun _ => 0 := funext fun a => by fin_cases a <;> rfl

theorem ld_slab (x9 : Vec Ideal S4x512x1024 .bf16) (n : Fin 4) (o : Fin 3 → ℕ) (ho : o = ![n.val, 0, 0]) (h) :
    View.ld x9 (Rect.unit (s := S4x512x1024) o ![1, 512, 1024] h) = slab x9 n := by
  subst ho
  funext y
  refine congrArg x9 (funext fun a => Fin.ext ?_)
  have h0 : (y 0).val < 1 := (y 0).isLt
  match a with
  | ⟨0, _⟩ => show n.val + 1 * (y 0).val = n.val; omega
  | ⟨1, _⟩ => show 0 + 1 * (y 1).val = (y 1).val; omega
  | ⟨2, _⟩ => show 0 + 1 * (y 2).val = (y 2).val; omega

section
variable (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .f32) (harg9 : arg9.IsWhole) (arg10 : Memref sig .tc .vmem S4x512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S512x1024 .f32) (harg13 : arg13.IsWhole)
    (x0 : Vec Ideal S512x512 .bf16) (x1 : Vec Ideal S512x512 .bf16) (x2 : Vec Ideal S512x512 .bf16) (x3 : Vec Ideal S512x512 .bf16) (x4 : Vec Ideal S512x1024 .bf16) (x5 : Vec Ideal S512x1024 .bf16) (x6 : Vec Ideal S512x1024 .bf16) (x7 : Vec Ideal S512x1024 .bf16) (x8 : Vec Ideal S512x1024 .f32) (x9 : Vec Ideal S4x512x1024 .bf16) (x10 : Vec Ideal S1024x1024 .bf16) (x11 : Vec Ideal S1x1024 .f32)

/-- What a point leaves in its block. -/
theorem out_eq : out0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 =
    k0_pay1 (k0_pay4 (k0_pay2 x0 (slab x9 0) x4 x1 (slab x9 1) x5) x2 (k0_pay3 (slab x9 2)) x6 x3 (slab x9 3) x7 x10)
      (k0_pay5 (k0_pay2 x0 (slab x9 0) x4 x1 (slab x9 1) x5) x2 (k0_pay3 (slab x9 2)) x6 x3 (slab x9 3) x7 x10) x8 x11 := by
  unfold out0_A_12
  rw [View.read_writes_junk_eq_canon]
  unfold kernelRun0_A
  dsimp only
  sl_unfold_words
  rw [View.canon_unit_zero hz2]
  simp only [View.readAt_eq_ld, harg1.read_unread, harg2.read_unread, harg3.read_unread, harg4.read_unread, harg5.read_unread,
    harg6.read_unread, harg7.read_unread, harg8.read_unread, harg9.read_unread, harg10.read_unread, harg11.read_unread, harg12.read_unread,
    View.ld_unit_zero (S := S512x512) hz2, View.ld_unit_zero (S := S512x1024) hz2, View.ld_unit_zero (S := S1024x1024) hz2, View.ld_unit_zero (S := S1x1024) hz2]
  rw [ld_slab x9 0 ![0, 0, 0] rfl, ld_slab x9 1 ![1, 0, 0] rfl, ld_slab x9 2 ![2, 0, 0] rfl, ld_slab x9 3 ![3, 0, 0] rfl]
end

/-! ## The values at an index -/

/-- One branch's gated product. -/
def branch (u : Vec Ideal S512x512 .bf16) (w : Vec Ideal S1x512x1024 .bf16) (g : Vec Ideal S512x1024 .bf16) (r : Fin 512) (j : Fin 1024) : EReal :=
  Cert.Lru.sig (g (ix2 r j)) * ∑ k : Fin 512, u (ix2 r k) * w (ix3 0 k j)

theorem pay2_apply (v0 : Vec Ideal S512x512 .bf16) (v1 : Vec Ideal S1x512x1024 .bf16) (v4 : Vec Ideal S512x1024 .bf16)
    (v14 : Vec Ideal S512x512 .bf16) (v15 : Vec Ideal S1x512x1024 .bf16) (v18 : Vec Ideal S512x1024 .bf16) (r : Fin 512) (j : Fin 1024) :
    k0_pay2 v0 v1 v4 v14 v15 v18 (ix2 r j) = branch v0 v1 v4 r j + branch v14 v15 v18 r j := by
  pointwise [k0_pay2]
  simp only [Cert.Lru.tanh_sig, branch]

theorem pay4_apply (v28 : Vec Ideal S512x1024 .f32) (v29 : Vec Ideal S512x512 .bf16) (v30 : Vec Ideal S1x512x1024 .bf16) (v33 : Vec Ideal S512x1024 .bf16)
    (v44 : Vec Ideal S512x512 .bf16) (v45 : Vec Ideal S1x512x1024 .bf16) (v48 : Vec Ideal S512x1024 .bf16) (v60 : Vec Ideal S1024x1024 .bf16)
    (r : Fin 512) (j : Fin 1024) :
    k0_pay4 v28 v29 (k0_pay3 v30) v33 v44 v45 v48 v60 (ix2 r j) =
      ∑ k : Fin 1024, (v28 (ix2 r k) + branch v29 v30 v33 r k + branch v44 v45 v48 r k) * v60 (ix2 k j) := by
  pointwise [k0_pay4, k0_pay3]
  simp only [Cert.Lru.tanh_sig, branch]

theorem pay5_apply (v28 : Vec Ideal S512x1024 .f32) (v29 : Vec Ideal S512x512 .bf16) (v30 : Vec Ideal S512x1024 .bf16) (v33 : Vec Ideal S512x1024 .bf16)
    (v44 : Vec Ideal S512x512 .bf16) (v45 : Vec Ideal S1x512x1024 .bf16) (v48 : Vec Ideal S512x1024 .bf16) (v60 : Vec Ideal S1024x1024 .bf16)
    (r : Fin 512) :
    k0_pay5 v28 v29 v30 v33 v44 v45 v48 v60 (ix2 r 0) =
      Ideal.div (∑ k : Fin 1024, k0_pay4 v28 v29 v30 v33 v44 v45 v48 v60 (ix2 r k) * k0_pay4 v28 v29 v30 v33 v44 v45 v48 v60 (ix2 r k))
        (Ideal.ofBits .f32 0x44800000#32) := by
  unfold k0_pay5
  generalize k0_pay4 v28 v29 v30 v33 v44 v45 v48 v60 = o
  pointwise

theorem pay1_apply (o : Vec Ideal S512x1024 .f32) (d : Vec Ideal S512x1 .f32) (x : Vec Ideal S512x1024 .f32) (w : Vec Ideal S1x1024 .f32)
    (r : Fin 512) (j : Fin 1024) :
    k0_pay1 o d x w (ix2 r j) = x (ix2 r j) + o (ix2 r j) * Ideal.rsqrt (d (ix2 r 0) + Ideal.ofBits .f32 0x358637BD#32) * w (ix2 0 j) := by
  pointwise [k0_pay1]

theorem pay_apply (x0 : Vec Ideal S512x512 .bf16) (x1 : Vec Ideal S512x512 .bf16) (x2 : Vec Ideal S512x512 .bf16) (x3 : Vec Ideal S512x512 .bf16) (x4 : Vec Ideal S512x1024 .bf16) (x5 : Vec Ideal S512x1024 .bf16) (x6 : Vec Ideal S512x1024 .bf16) (x7 : Vec Ideal S512x1024 .bf16) (x8 : Vec Ideal S512x1024 .f32) (x9 : Vec Ideal S4x512x1024 .bf16) (x10 : Vec Ideal S1024x1024 .bf16) (x11 : Vec Ideal S1x1024 .f32)
    (r : Fin 512) (j : Fin 1024) :
    k0_pay1 (k0_pay4 (k0_pay2 x0 (slab x9 0) x4 x1 (slab x9 1) x5) x2 (k0_pay3 (slab x9 2)) x6 x3 (slab x9 3) x7 x10)
      (k0_pay5 (k0_pay2 x0 (slab x9 0) x4 x1 (slab x9 1) x5) x2 (k0_pay3 (slab x9 2)) x6 x3 (slab x9 3) x7 x10) x8 x11 (ix2 r j) =
    merged (fun n k => (![x0, x1, x2, x3] n) (ix2 r k)) (fun n k => (![x4, x5, x6, x7] n) (ix2 r k)) (fun k => x8 (ix2 r k))
      (fun n k l => x9 (ix3 n k l)) (fun k l => x10 (ix2 k l)) (fun k => x11 (ix2 0 k)) j := by
  rw [pay1_apply, pay5_apply]
  simp only [pay4_apply, pay2_apply]
  unfold merged Cert.Norm.normRow gated
  simp only [Fin.sum_univ_four]
  rfl

end Cert.MixIdeal.Merge

end
-- ==== Proof.Merge.Arrays.lean ====
/- What the merge kernel's result array holds after the run, as a function of the arguments. -/
module

public import proofs.«01_k».proof.Proof.Merge.Point
public import Idealize.ShloMosaic.Lib.StableHlo.RunRead
public import Idealize.ShloMosaic.Lib.Pipeline.Value

@[expose] public section

set_option maxRecDepth 16384

noncomputable section

namespace Cert.MixIdeal.Merge

open Cert.MixIdeal Cert.MixIdeal.Gen Cert.Merge
open Idealize.ShloMosaic Idealize.ShloMosaic.TcCoe Idealize.ShloMosaic.Tactic Idealize.ShloMosaic.Pointwise
open Idealize.ShloMosaic.Pipeline (Dat)

variable (m : (ℓ : Loc nD τ sig) → Buf (Elt Ideal) ℓ) (c : Dev nD)

/-! ## The arguments -/
abbrev ua : Vec Ideal S32768x512 .bf16 := m ((c : Thread nD τ).loc main_arg0)
abbrev ub : Vec Ideal S32768x512 .bf16 := m ((c : Thread nD τ).loc main_arg1)
abbrev uc : Vec Ideal S32768x512 .bf16 := m ((c : Thread nD τ).loc main_arg2)
abbrev ud : Vec Ideal S32768x512 .bf16 := m ((c : Thread nD τ).loc main_arg3)
abbrev p2 : Vec Ideal S32768x9472 .bf16 := m ((c : Thread nD τ).loc main_arg4)
abbrev x2 : Vec Ideal S32768x1024 .f32 := m ((c : Thread nD τ).loc main_arg5)
abbrev wdown : Vec Ideal S4x512x1024 .f32 := m ((c : Thread nD τ).loc main_arg6)
abbrev wout : Vec Ideal S1024x1024 .f32 := m ((c : Thread nD τ).loc main_arg7)
abbrev npost : Vec Ideal S1024 .f32 := m ((c : Thread nD τ).loc main_arg8)

/-- The result array. -/
def Y (i : S32768x1024.Idx) : EReal :=
  merged (fun n k => (![ua m c, ub m c, uc m c, ud m c] n) (ix2 (i 0) k))
    (fun n k => p2 m c (ix2 (i 0) ⟨5120 + n.val * 1024 + k.val, by omega⟩)) (fun k => x2 m c (ix2 (i 0) k))
    (fun n k l => wdown m c (ix3 n k l)) (fun k l => wout m c (ix2 k l)) (fun k => npost m c (ix1 k)) (i 1)

/-! ## The windows' indices -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 5 :=
  (by decide +kernel : ∀ t : Fin grid0.N, _)
theorem idx5 : ∀ t : Fin cfg0.N, win0_5.index t (0 : Fin 2) = t.val ∧ win0_5.index t (1 : Fin 2) = 6 :=
  (by decide +kernel : ∀ t : Fin grid0.N, _)
theorem idx6 : ∀ t : Fin cfg0.N, win0_6.index t (0 : Fin 2) = t.val ∧ win0_6.index t (1 : Fin 2) = 7 :=
  (by decide +kernel : ∀ t : Fin grid0.N, _)
theorem idx7 : ∀ t : Fin cfg0.N, win0_7.index t (0 : Fin 2) = t.val ∧ win0_7.index t (1 : Fin 2) = 8 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)
theorem idx9 : ∀ t : Fin cfg0.N, win0_9.index t (0 : Fin 3) = 0 ∧ win0_9.index t (1 : Fin 3) = 0 ∧ win0_9.index t (2 : Fin 3) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)

theorem t_lt (t : Fin cfg0.N) : t.val < 64 := lt_of_lt_of_eq t.isLt N_0

/-! ## The arrays that the host code prepares -/
theorem V_v0 : (V m c main_v0 : Vec Ideal S4x512x1024 .bf16) = truncf (F := Ideal) .bf16 (wdown m c) bitsLt_bf16_f32 := by
  unfold V; unfold_abbrev_sides; after_reads_simp
theorem V_v1 : (V m c main_v1 : Vec Ideal S1024x1024 .bf16) = truncf (F := Ideal) .bf16 (wout m c) bitsLt_bf16_f32 := by
  unfold V; unfold_abbrev_sides; after_reads_simp
theorem V_v2 : (V m c main_v2 : Vec Ideal S1x1024 .f32) = broadcastInDim S1x1024 ![1] bcast_S1024_S1x1024_1 (npost m c) := by
  unfold V; unfold_abbrev_sides; after_reads_simp
theorem row_apply (a : Vec Ideal S1024 .f32) (k : Fin 1024) :
    (broadcastInDim S1x1024 ![1] bcast_S1024_S1x1024_1 a : Vec Ideal S1x1024 .f32) (ix2 0 k) = a (ix1 k) := by
  pointwise

/-! ## The blocks as reads of the arguments -/
theorem blk0 (t : Fin cfg0.N) (r k : Fin 512) : (iblk m c 0 t : Vec Ideal S512x512 .bf16) (ix2 r k) =
    ua m c (ix2 ⟨t.val * 512 + r.val, by have := t_lt t; omega⟩ k) := by
  obtain ⟨e0, e1⟩ := idx0 t
  show V m c main_arg0 (((cfg0.win 0).blk t).view.emb _) = _
  rw [V_main_arg0]
  refine congrArg (m ((c : Thread nD τ).loc main_arg0)) (funext fun a => Fin.ext ?_)
  match a with
  | ⟨0, _⟩ => show win0_0.index t (0 : Fin 2) * 512 + 1 * r.val = t.val * 512 + r.val; rw [e0]; omega
  | ⟨1, _⟩ => show win0_0.index t (1 : Fin 2) * 512 + 1 * k.val = k.val; rw [e1]; omega

theorem blk1 (t : Fin cfg0.N) (r k : Fin 512) : (iblk m c 1 t : Vec Ideal S512x512 .bf16) (ix2 r k) =
    ub m c (ix2 ⟨t.val * 512 + r.val, by have := t_lt t; omega⟩ k) := by
  obtain ⟨e0, e1⟩ := idx1 t
  show V m c main_arg1 (((cfg0.win 1).blk t).view.emb _) = _
  rw [V_main_arg1]
  refine congrArg (m ((c : Thread nD τ).loc main_arg1)) (funext fun a => Fin.ext ?_)
  match a with
  | ⟨0, _⟩ => show win0_1.index t (0 : Fin 2) * 512 + 1 * r.val = t.val * 512 + r.val; rw [e0]; omega
  | ⟨1, _⟩ => show win0_1.index t (1 : Fin 2) * 512 + 1 * k.val = k.val; rw [e1]; omega

theorem blk2 (t : Fin cfg0.N) (r k : Fin 512) : (iblk m c 2 t : Vec Ideal S512x512 .bf16) (ix2 r k) =
    uc m c (ix2 ⟨t.val * 512 + r.val, by have := t_lt t; omega⟩ k) := by
  obtain ⟨e0, e1⟩ := idx2 t
  show V m c main_arg2 (((cfg0.win 2).blk t).view.emb _) = _
  rw [V_main_arg2]
  refine congrArg (m ((c : Thread nD τ).loc main_arg2)) (funext fun a => Fin.ext ?_)
  match a with
  | ⟨0, _⟩ => show win0_2.index t (0 : Fin 2) * 512 + 1 * r.val = t.val * 512 + r.val; rw [e0]; omega
  | ⟨1, _⟩ => show win0_2.index t (1 : Fin 2) * 512 + 1 * k.val = k.val; rw [e1]; omega

theorem blk3 (t : Fin cfg0.N) (r k : Fin 512) : (iblk m c 3 t : Vec Ideal S512x512 .bf16) (ix2 r k) =
    ud m c (ix2 ⟨t.val * 512 + r.val, by have := t_lt t; omega⟩ k) := by
  obtain ⟨e0, e1⟩ := idx3 t
  show V m c main_arg3 (((cfg0.win 3).blk t).view.emb _) = _
  rw [V_main_arg3]
  refine congrArg (m ((c : Thread nD τ).loc main_arg3)) (funext fun a => Fin.ext ?_)
  match a with
  | ⟨0, _⟩ => show win0_3.index t (0 : Fin 2) * 512 + 1 * r.val = t.val * 512 + r.val; rw [e0]; omega
  | ⟨1, _⟩ => show win0_3.index t (1 : Fin 2) * 512 + 1 * k.val = k.val; rw [e1]; omega

theorem blk4 (t : Fin cfg0.N) (r : Fin 512) (k : Fin 1024) : (X0_4 m c t : Vec Ideal S512x1024 .bf16) (ix2 r k) =
    p2 m c (ix2 ⟨t.val * 512 + r.val, by have := t_lt t; omega⟩ ⟨5120 + 0 * 1024 + k.val, by omega⟩) := by
  unfold X0_4 Pipeline.Window.fill
  rw [dif_pos (moved0_4 t _)]
  obtain ⟨e0, e1⟩ := idx4 t
  show V m c main_arg4 (((cfg0.win 4).blk t).view.emb _) = _
  rw [V_main_arg4]
  refine congrArg (m ((c : Thread nD τ).loc main_arg4)) (funext fun a => Fin.ext ?_)
  match a with
  | ⟨0, _⟩ => show win0_4.index t (0 : Fin 2) * 512 + 1 * r.val = t.val * 512 + r.val; rw [e0]; omega
  | ⟨1, _⟩ => show win0_4.index t (1 : Fin 2) * 1024 + 1 * k.val = 5120 + 0 * 1024 + k.val; rw [e1]; omega

theorem blk5 (t : Fin cfg0.N) (r : Fin 512) (k : Fin 1024) : (X0_5 m c t : Vec Ideal S512x1024 .bf16) (ix2 r k) =
    p2 m c (ix2 ⟨t.val * 512 + r.val, by have := t_lt t; omega⟩ ⟨5120 + 1 * 1024 + k.val, by omega⟩) := by
  unfold X0_5 Pipeline.Window.fill
  rw [dif_pos (moved0_5 t _)]
  obtain ⟨e0, e1⟩ := idx5 t
  show V m c main_arg4 (((cfg0.win 5).blk t).view.emb _) = _
  rw [V_main_arg4]
  refine congrArg (m ((c : Thread nD τ).loc main_arg4)) (funext fun a => Fin.ext ?_)
  match a with
  | ⟨0, _⟩ => show win0_5.index t (0 : Fin 2) * 512 + 1 * r.val = t.val * 512 + r.val; rw [e0]; omega
  | ⟨1, _⟩ => show win0_5.index t (1 : Fin 2) * 1024 + 1 * k.val = 5120 + 1 * 1024 + k.val; rw [e1]; omega

theorem blk6 (t : Fin cfg0.N) (r : Fin 512) (k : Fin 1024) : (X0_6 m c t : Vec Ideal S512x1024 .bf16) (ix2 r k) =
    p2 m c (ix2 ⟨t.val * 512 + r.val, by have := t_lt t; omega⟩ ⟨5120 + 2 * 1024 + k.val, by omega⟩) := by
  unfold X0_6 Pipeline.Window.fill
  rw [dif_pos (moved0_6 t _)]
  obtain ⟨e0, e1⟩ := idx6 t
  show V m c main_arg4 (((cfg0.win 6).blk t).view.emb _) = _
  rw [V_main_arg4]
  refine congrArg (m ((c : Thread nD τ).loc main_arg4)) (funext fun a => Fin.ext ?_)
  match a with
  | ⟨0, _⟩ => show win0_6.index t (0 : Fin 2) * 512 + 1 * r.val = t.val * 512 + r.val; rw [e0]; omega
  | ⟨1, _⟩ => show win0_6.index t (1 : Fin 2) * 1024 + 1 * k.val = 5120 + 2 * 1024 + k.val; rw [e1]; omega

theorem blk7 (t : Fin cfg0.N) (r : Fin 512) (k : Fin 1024) : (X0_7 m c t : Vec Ideal S512x1024 .bf16) (ix2 r k) =
    p2 m c (ix2 ⟨t.val * 512 + r.val, by have := t_lt t; omega⟩ ⟨5120 + 3 * 1024 + k.val, by omega⟩) := by
  unfold X0_7 Pipeline.Window.fill
  rw [dif_pos (moved0_7 t _)]
  obtain ⟨e0, e1⟩ := idx7 t
  show V m c main_arg4 (((cfg0.win 7).blk t).view.emb _) = _
  rw [V_main_arg4]
  refine congrArg (m ((c : Thread nD τ).loc main_arg4)) (funext fun a => Fin.ext ?_)
  match a with
  | ⟨0, _⟩ => show win0_7.index t (0 : Fin 2) * 512 + 1 * r.val = t.val * 512 + r.val; rw [e0]; omega
  | ⟨1, _⟩ => show win0_7.index t (1 : Fin 2) * 1024 + 1 * k.val = 5120 + 3 * 1024 + k.val; rw [e1]; omega

theorem blk8 (t : Fin cfg0.N) (r : Fin 512) (k : Fin 1024) : (iblk m c 8 t : Vec Ideal S512x1024 .f32) (ix2 r k) =
    x2 m c (ix2 ⟨t.val * 512 + r.val, by have := t_lt t; omega⟩ k) := by
  obtain ⟨e0, e1⟩ := idx8 t
  show V m c main_arg5 (((cfg0.win 8).blk t).view.emb _) = _
  rw [V_main_arg5]
  refine congrArg (m ((c : Thread nD τ).loc main_arg5)) (funext fun a => Fin.ext ?_)
  match a with
  | ⟨0, _⟩ => show win0_8.index t (0 : Fin 2) * 512 + 1 * r.val = t.val * 512 + r.val; rw [e0]; omega
  | ⟨1, _⟩ => show win0_8.index t (1 : Fin 2) * 1024 + 1 * k.val = k.val; rw [e1]; omega

theorem blk9 (t : Fin cfg0.N) (n : Fin 4) (k : Fin 512) (l : Fin 1024) : (iblk m c 9 t : Vec Ideal S4x512x1024 .bf16) (ix3 n k l) =
    wdown m c (ix3 n k l) := by
  obtain ⟨e0, e1, e2⟩ := idx9 t
  show V m c main_v0 (((cfg0.win 9).blk t).view.emb _) = _
  rw [V_v0]
  refine congrArg (wdown m c) (funext fun a => Fin.ext ?_)
  match a with
  | ⟨0, _⟩ => show win0_9.index t (0 : Fin 3) * 4 + 1 * n.val = n.val; rw [e0]; omega
  | ⟨1, _⟩ => show win0_9.index t (1 : Fin 3) * 512 + 1 * k.val = k.val; rw [e1]; omega
  | ⟨2, _⟩ => show win0_9.index t (2 : Fin 3) * 1024 + 1 * l.val = l.val; rw [e2]; omega

theorem blk10 (t : Fin cfg0.N) (k l : Fin 1024) : (iblk m c 10 t : Vec Ideal S1024x1024 .bf16) (ix2 k l) = wout m c (ix2 k l) := by
  obtain ⟨e0, e1⟩ := idx10 t
  show V m c main_v1 (((cfg0.win 10).blk t).view.emb _) = _
  rw [V_v1]
  refine congrArg (wout m c) (funext fun a => Fin.ext ?_)
  match a with
  | ⟨0, _⟩ => show win0_10.index t (0 : Fin 2) * 1024 + 1 * k.val = k.val; rw [e0]; omega
  | ⟨1, _⟩ => show win0_10.index t (1 : Fin 2) * 1024 + 1 * l.val = l.val; rw [e1]; omega

theorem blk11 (t : Fin cfg0.N) (k : Fin 1024) : (iblk m c 11 t : Vec Ideal S1x1024 .f32) (ix2 0 k) = npost m c (ix1 k) := by
  obtain ⟨e0, e1⟩ := idx11 t
  show V m c main_v2 (((cfg0.win 11).blk t).view.emb _) = _
  rw [V_v2, ← row_apply (npost m c) k]
  refine congrArg (broadcastInDim S1x1024 ![1] bcast_S1024_S1x1024_1 (npost m c) : Vec Ideal S1x1024 .f32) (funext fun a => Fin.ext ?_)
  match a with
  | ⟨0, _⟩ => show win0_11.index t (0 : Fin 2) * 1 + 1 * 0 = 0; rw [e0]
  | ⟨1, _⟩ => show win0_11.index t (1 : Fin 2) * 1024 + 1 * k.val = k.val; rw [e1]; omega

/-! ## The result array -/
theorem flushed12 (t : Fin cfg0.N) : (dats m 0 c).flushed 12 t = ((cfg0.win 12).blk t).view.read (Elt Ideal) (Y m c) := by
  rw [Value.flushed12_A, out_eq]
  obtain ⟨e0, e1⟩ := idx12 t
  have ht := t_lt t
  funext y
  have hy0 : (y 0).val < 512 := (y 0).isLt
  have hy1 : (y 1).val < 1024 := (y 1).isLt
  have hi : (cfg0.win 12).xinj (grid0.coords t) y = ix2 (⟨(y 0).val, hy0⟩ : Fin 512) (⟨(y 1).val, hy1⟩ : Fin 1024) := by
    funext a; apply Fin.ext
    match a with
    | ⟨0, _⟩ => rfl
    | ⟨1, _⟩ => rfl
  have he : ((cfg0.win 12).blk t).view.emb y = ix2 (⟨t.val * 512 + (y 0).val, by omega⟩ : Fin 32768) (⟨(y 1).val, hy1⟩ : Fin 1024) := by
    funext a; apply Fin.ext
    match a with
    | ⟨0, _⟩ => show win0_12.index t (0 : Fin 2) * 512 + 1 * (y 0).val = t.val * 512 + (y 0).val; rw [e0]; omega
    | ⟨1, _⟩ => show win0_12.index t (1 : Fin 2) * 1024 + 1 * (y 1).val = (y 1).val; rw [e1]; omega
  show _ = Y m c (((cfg0.win 12).blk t).view.emb y)
  rw [he]
  show k0_pay1 _ _ _ _ ((cfg0.win 12).xinj (grid0.coords t) y) = _
  rw [hi]
  refine (pay_apply _ _ _ _ _ _ _ _ _ _ _ _ _ _).trans ?_
  unfold Y
  congr 1
  · funext n k
    match n with
    | ⟨0, _⟩ => exact blk0 m c t _ k
    | ⟨1, _⟩ => exact blk1 m c t _ k
    | ⟨2, _⟩ => exact blk2 m c t _ k
    | ⟨3, _⟩ => exact blk3 m c t _ k
  · funext n k
    match n with
    | ⟨0, _⟩ => exact blk4 m c t _ k
    | ⟨1, _⟩ => exact blk5 m c t _ k
    | ⟨2, _⟩ => exact blk6 m c t _ k
    | ⟨3, _⟩ => exact blk7 m c t _ k
  · funext k; exact blk8 m c t _ k
  · funext n k l; exact blk9 m c t n k l
  · funext k l; exact blk10 m c t k l
  · funext k; exact blk11 m c t k

theorem cover12 (i : S32768x1024.Idx) : ∃ t : Fin cfg0.N, (cfg0.win 12).flush t = true ∧ i ∈ ((cfg0.win 12).blk t).view.set := by
  have h0 : (i 0).val < 32768 := (i 0).isLt
  have h1 : (i 1).val < 1024 := (i 1).isLt
  have hlt : (i 0).val / 512 < cfg0.N := lt_of_lt_of_eq (by omega) N_0.symm
  refine ⟨⟨(i 0).val / 512, hlt⟩, flush0_12 _, ?_⟩
  obtain ⟨e0, e1⟩ := idx12 ⟨(i 0).val / 512, hlt⟩
  show i ∈ ((View.whole main_v3).slice (win0_12.rect ⟨(i 0).val / 512, hlt⟩)).set
  rw [View.set_slice_whole, Rect.mem_set_unit]
  intro a
  match a with
  | ⟨0, _⟩ =>
    show win0_12.index ⟨(i 0).val / 512, hlt⟩ (0 : Fin 2) * 512 ≤ (i 0).val ∧ (i 0).val < win0_12.index ⟨(i 0).val / 512, hlt⟩ (0 : Fin 2) * 512 + 512
    rw [e0]; dsimp only; omega
  | ⟨1, _⟩ =>
    show win0_12.index ⟨(i 0).val / 512, hlt⟩ (1 : Fin 2) * 1024 ≤ (i 1).val ∧ (i 1).val < win0_12.index ⟨(i 0).val / 512, hlt⟩ (1 : Fin 2) * 1024 + 1024
    rw [e1]; omega

theorem array12 : (dats m 0 c).arrAt 12 cfg0.N = Y m c :=
  (dats m 0 c).arrAt_eq_of_cover 12 (Y m c) (fun t _ => flushed12 m c t) cover12

end Cert.MixIdeal.Merge

end
-- ==== Proof.Merge.Reference.lean ====
/- The merge's reference, read at an index. -/
module

public import proofs.«01_k».proof.Proof.Gen.MixReferenceIdeal.Run
public import proofs.«01_k».proof.Proof.Gen.MixReferenceIdeal.Read
public import proofs.«01_k».proof.Proof.Merge.Maths
public import Idealize.ShloMosaic.Lib.Pointwise

@[expose] public section

set_option maxRecDepth 16384

noncomputable section

namespace Cert.MixReferenceIdeal.Merge

open Cert.MixReferenceIdeal Cert.MixReferenceIdeal.Gen Cert.MixReferenceIdeal.Read Cert.Merge
open Idealize.ShloMosaic Idealize.ShloMosaic.TcCoe Idealize.ShloMosaic.Tactic Idealize.ShloMosaic.Pointwise

variable (x0 x1 x2 x3 : Vec Ideal S32768x512 .bf16) (x4 : Vec Ideal S32768x9472 .bf16) (x5 : Vec Ideal S32768x1024 .f32)
  (x6 : Vec Ideal S4x512x1024 .f32) (x7 : Vec Ideal S1024x1024 .f32) (x8 : Vec Ideal S1024 .f32)

theorem gate_apply (t : Fin 32768) (n : Fin 4) (k : Fin 1024) : val_main_v16 (F := Ideal) x4 (ix3 t n k) =
    Cert.Lru.sig (x4 (ix2 t ⟨5120 + n.val * 1024 + k.val, by omega⟩)) := by
  pointwise [val_main_v16, val_main_v15, val_main_v14, val_main_v13, val_main_v12, val_main_v11, val_main_v10, val_main_v1, val_main_v0,
    val_main_cst, val_main_cst_0]
  have e : (⟨5120 + (n.val * 1024 + k.val), by omega⟩ : Fin 9472) = ⟨5120 + n.val * 1024 + k.val, by omega⟩ :=
    Fin.ext (add_assoc _ _ _).symm
  rw [e]
  rfl

theorem stack_apply (t : Fin 32768) (n : Fin 4) (k : Fin 512) : val_main_v7 (F := Ideal) x0 x1 x2 x3 (ix3 t n k) =
    (![x0, x1, x2, x3] n) (ix2 t k) := by
  rcases n with ⟨n, hn⟩
  interval_cases n <;> pointwise [val_main_v7, val_main_v6, val_main_v5, val_main_v4, val_main_v3, val_main_v2]

theorem down_apply (t : Fin 32768) (n : Fin 4) (k : Fin 1024) : val_main_v9 (F := Ideal) x0 x1 x2 x3 x6 (ix3 t n k) =
    ∑ c : Fin 512, (![x0, x1, x2, x3] n) (ix2 t c) * x6 (ix3 n c k) := by
  unfold val_main_v9 val_main_v8
  refine Eq.trans ?_ (Finset.sum_congr rfl fun c _ => (congrArg (· * x6 (ix3 n c k)) (stack_apply x0 x1 x2 x3 t n c)))
  generalize val_main_v7 (F := Ideal) x0 x1 x2 x3 = u
  pointwise
  exact Finset.sum_congr rfl fun c _ => mul_comm _ _

theorem mixed_apply (t : Fin 32768) (k : Fin 1024) : val_main_v18 (F := Ideal) x0 x1 x2 x3 x4 x6 (ix2 t k) =
    gated (fun n k => (![x0, x1, x2, x3] n) (ix2 t k)) (fun n k => x4 (ix2 t ⟨5120 + n.val * 1024 + k.val, by omega⟩))
      (fun n k l => x6 (ix3 n k l)) k := by
  have e : val_main_v18 (F := Ideal) x0 x1 x2 x3 x4 x6 (ix2 t k) =
      ∑ n : Fin 4, val_main_v16 (F := Ideal) x4 (ix3 t n k) * val_main_v9 (F := Ideal) x0 x1 x2 x3 x6 (ix3 t n k) := by
    unfold val_main_v18 val_main_v17
    generalize val_main_v16 (F := Ideal) x4 = a
    generalize val_main_v9 (F := Ideal) x0 x1 x2 x3 x6 = b
    pointwise [val_main_cst_1]
  rw [e]
  exact Finset.sum_congr rfl fun n _ => congrArg₂ (· * ·) (gate_apply x4 t n k) (down_apply x0 x1 x2 x3 x6 t n k)

theorem result_apply (t : Fin 32768) (j : Fin 1024) : val_main_v33 (F := Ideal) x0 x1 x2 x3 x4 x5 x6 x7 x8 (ix2 t j) =
    merged (fun n k => (![x0, x1, x2, x3] n) (ix2 t k)) (fun n k => x4 (ix2 t ⟨5120 + n.val * 1024 + k.val, by omega⟩))
      (fun k => x5 (ix2 t k)) (fun n k l => x6 (ix3 n k l)) (fun k l => x7 (ix2 k l)) (fun k => x8 (ix1 k)) j := by
  unfold merged Cert.Norm.normRow
  simp only [← mixed_apply]
  unfold val_main_v33 val_main_v32 val_main_v29 val_main_v28 val_main_v27 val_main_v26 val_main_v24 val_main_v22 val_main_v21 val_main_v20 val_main_v19
  generalize val_main_v18 (F := Ideal) x0 x1 x2 x3 x4 x6 = a
  pointwise [val_main_v31, val_main_v30, val_main_v25, val_main_v23, val_main_cst_2, val_main_cst_3, val_main_cst_4]

end Cert.MixReferenceIdeal.Merge

end
-- ==== Proof.Merge.Claims.lean ====
/- The claims about the merge: the kernel's result array is the reference's. -/
module

public import proofs.«01_k».proof.Defs
public import proofs.«01_k».proof.Proof.Gen.Mix.Frame
public import proofs.«01_k».proof.Proof.Merge.Arrays
public import proofs.«01_k».proof.Proof.Merge.Reference

@[expose] public section

set_option maxRecDepth 16384

noncomputable section

namespace Cert.Merge

open Idealize.ShloMosaic Idealize.ShloMosaic.Pointwise Idealize.SL.Sem

theorem kernel_frame : Cert.quiescent_Mix (hMix := Cert.Mix.Gen.facts) := fun m g _ => Cert.Mix.Gen.frame m g
theorem ideal_frame : Cert.quiescent_MixIdeal (hMixIdeal := Cert.MixIdeal.Gen.facts) := fun m g _ => Cert.MixIdeal.Gen.frame m g
theorem reference_frame : Cert.quiescent_MixReferenceIdeal (hMixReferenceIdeal := Cert.MixReferenceIdeal.Gen.facts) := fun m g _ =>
  (θ_run Cert.MixReferenceIdeal.defs _ _).mono (fun r h => ⟨fun c => (h c).2, Idealize.ShloMosaic.sem_eq_zero_of_no_sems (by decide) r.2⟩) (Cert.MixReferenceIdeal.Value.run m g)

/-- The reference's arguments are the kernel's. -/
abbrev Same (m : (ℓ : Loc Cert.MixIdeal.nD Cert.MixIdeal.τ Cert.MixIdeal.sig) → Buf (Elt Ideal) ℓ)
    (m' : (ℓ : Loc Cert.MixReferenceIdeal.nD Cert.MixReferenceIdeal.τ Cert.MixReferenceIdeal.sig) → Buf (Elt Ideal) ℓ) (c : Dev Cert.MixIdeal.nD) : Prop :=
  m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
  ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
  ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
  ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
  ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
  ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
  ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
  ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
  ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)

theorem result_eq {m : (ℓ : Loc Cert.MixIdeal.nD Cert.MixIdeal.τ Cert.MixIdeal.sig) → Buf (Elt Ideal) ℓ}
    {m' : (ℓ : Loc Cert.MixReferenceIdeal.nD Cert.MixReferenceIdeal.τ Cert.MixReferenceIdeal.sig) → Buf (Elt Ideal) ℓ} {c : Dev Cert.MixIdeal.nD}
    (e : Same m m' c) : Cert.MixReferenceIdeal.Value.res_out0 m' c = Cert.MixIdeal.Merge.Y m c := by
  obtain ⟨e0, e1, e2, e3, e4, e5, e6, e7, e8⟩ := e
  refine (Cert.MixReferenceIdeal.Read.val_main_v33_eq m' c).trans ?_
  rw [e0, e1, e2, e3, e4, e5, e6, e7, e8]
  funext i
  rw [eq_ix2 i]
  exact Cert.MixReferenceIdeal.Merge.result_apply _ _ _ _ _ _ _ _ _ _ _

theorem algebraic : Cert.algebraic_MixIdeal_MixReferenceIdeal (hMixIdeal := Cert.MixIdeal.Gen.facts)
    (hMixReferenceIdeal := Cert.MixReferenceIdeal.Gen.facts) := by
  intro m g m' g' _ e
  refine ⟨fun c => Cert.MixIdeal.Merge.Y m c, ?_, ?_⟩
  · refine (θ_run Cert.MixIdeal.defs _ _).mono (fun r h c => ?_) (Cert.MixIdeal.Value.run_blocks m g)
    exact ⟨((h c).1).trans (Cert.MixIdeal.Merge.array12 m c), (h c).2⟩
  · refine (θ_run Cert.MixReferenceIdeal.defs _ _).mono (fun r h c => ?_) (Cert.MixReferenceIdeal.Value.run m' g')
    exact ⟨((h c).1).trans (result_eq (e c)), (h c).2⟩

end Cert.Merge

end
-- ==== Proof.Sb.Step.lean ====
/- The attention call: what one trip over a block of keys makes of the two scratch arrays (the running sums of the
   log-weights, and the outputs), as functions of the arrays themselves. -/
module

public import proofs.«01_k».proof.Proof.Gen.SbIdeal.Skeleton
public import Idealize.ShloMosaic.Lib.VecWindow

@[expose] public section

set_option maxRecDepth 16384

noncomputable section

namespace Cert.SbIdeal.Attn

open Cert.SbIdeal Cert.SbIdeal.Gen
open Idealize.ShloMosaic

variable {F : FTy → Type} [FloatOps F] [Named F]

/-- What both loops read and never write: the masked queries of the four pairs of heads, the masks, the summation
    matrix, and the keys and values of the batch row. -/
structure Ctx (F : FTy → Type) where
  v29 : IVec S64x128 1
  v31 : FVec F S256x256 .bf16
  v56 : FVec F S128x128 .bf16
  v61 : FVec F S128x128 .bf16
  v65 : FVec F S64x128 .bf16
  v67 : FVec F S64x128 .bf16
  v71 : FVec F S64x128 .bf16
  v73 : FVec F S64x128 .bf16
  v77 : FVec F S64x128 .bf16
  v79 : FVec F S64x128 .bf16
  v83 : FVec F S64x128 .bf16
  v85 : FVec F S64x128 .bf16
  K : Vec F S1x512x1152 .bf16
  V : Vec F S1x512x1152 .bf16

/-- The scratch arrays between two trips, and the two bounds the loops test. -/
structure St (F : FTy → Type) where
  A : Vec F S1x4x2x64x128 .f32
  O : Vec F S1x4x64x128 .f32
  top : F .f32
  rest : F .f32

/-- The piece of the sums that belongs to pair `p`, head `r` of it. -/
abbrev offA (p r : ℕ) : Fin 5 → ℕ := ![0, p, r, 0, 0]
abbrev offO (p : ℕ) : Fin 4 → ℕ := ![0, p, 0, 0]

abbrev winA (A : Vec F S1x4x2x64x128 .f32) (p r : ℕ) (h : ∀ a, offA p r a + S1x1x1x64x128.size a ≤ S1x4x2x64x128.size a) : Vec F S1x1x1x64x128 .f32 :=
  VecWindow.window A (offA p r) S1x1x1x64x128.size h
abbrev winO (O : Vec F S1x4x64x128 .f32) (p : ℕ) (h : ∀ a, offO p a + S1x1x64x128.size a ≤ S1x4x64x128.size a) : Vec F S1x1x64x128 .f32 :=
  VecWindow.window O (offO p) S1x1x64x128.size h
abbrev putA (A : Vec F S1x4x2x64x128 .f32) (p r : ℕ) (w : Vec F S1x1x1x64x128 .f32) : Vec F S1x4x2x64x128 .f32 :=
  VecWindow.put A (offA p r) S1x1x1x64x128.size w
abbrev putO (O : Vec F S1x4x64x128 .f32) (p : ℕ) (w : Vec F S1x1x64x128 .f32) : Vec F S1x4x64x128 .f32 :=
  VecWindow.put O (offO p) S1x1x64x128.size w

/-- The number of the block of keys on the diagonal. -/
abbrev kd (i : grid0.Coords) : BitVec 32 :=
  let v4 := Scalar.addi (Scalar.addi 1024#32 (Scalar.muli (Scalar.addi (Scalar.muli (BitVec.ofNat 32 (i 1).val) 1#32) 0#32) 64#32)) 63#32
  Scalar.select (Scalar.andi (Scalar.cmpi .ne (Scalar.subi (Scalar.extui (Scalar.cmpi .sgt v4 0#32)) (Scalar.extui (Scalar.cmpi .slt v4 0#32)))
      (Scalar.subi (Scalar.extui (Scalar.cmpi .sgt 128#32 0#32)) (Scalar.extui (Scalar.cmpi .slt 128#32 0#32))))
    (Scalar.cmpi .ne (Scalar.remsi v4 128#32) 0#32)) (Scalar.subi (Scalar.divsi v4 128#32) 1#32) (Scalar.divsi v4 128#32)

section Full
variable (X : Ctx F) (i : grid0.Coords) (j : BitVec 32) (h : k0_chk1 i j) (s : St F)

/-- The block of keys of step `j`, for the four pairs. -/
abbrev K0 : Vec F S1x128x128 .bf16 := VecWindow.window X.K (k0_off5 i j) S1x128x128.size (k0_off5_inb i j h)
abbrev K1 : Vec F S1x128x128 .bf16 := VecWindow.window X.K (k0_off6 i j) S1x128x128.size (k0_off6_inb i j h)
abbrev K2 : Vec F S1x128x128 .bf16 := VecWindow.window X.K (k0_off7 i j) S1x128x128.size (k0_off7_inb i j h)
abbrev K3 : Vec F S1x128x128 .bf16 := VecWindow.window X.K (k0_off8 i j) S1x128x128.size (k0_off8_inb i j h)
abbrev V0 : Vec F S1x128x128 .bf16 := VecWindow.window X.V (k0_off5 i j) S1x128x128.size (k0_off5_inb i j h)
abbrev V1 : Vec F S1x128x128 .bf16 := VecWindow.window X.V (k0_off6 i j) S1x128x128.size (k0_off6_inb i j h)
abbrev V2 : Vec F S1x128x128 .bf16 := VecWindow.window X.V (k0_off7 i j) S1x128x128.size (k0_off7_inb i j h)
abbrev V3 : Vec F S1x128x128 .bf16 := VecWindow.window X.V (k0_off8 i j) S1x128x128.size (k0_off8_inb i j h)

abbrev A00 := winA s.A 0 0 inb_S1x4x2x64x128_S1x1x1x64x128_0_0_0_0_0
abbrev A01 := winA s.A 0 1 inb_S1x4x2x64x128_S1x1x1x64x128_0_0_1_0_0
abbrev A10 := winA s.A 1 0 inb_S1x4x2x64x128_S1x1x1x64x128_0_1_0_0_0
abbrev A11 := winA s.A 1 1 inb_S1x4x2x64x128_S1x1x1x64x128_0_1_1_0_0
abbrev A20 := winA s.A 2 0 inb_S1x4x2x64x128_S1x1x1x64x128_0_2_0_0_0
abbrev A21 := winA s.A 2 1 inb_S1x4x2x64x128_S1x1x1x64x128_0_2_1_0_0
abbrev A30 := winA s.A 3 0 inb_S1x4x2x64x128_S1x1x1x64x128_0_3_0_0_0
abbrev A31 := winA s.A 3 1 inb_S1x4x2x64x128_S1x1x1x64x128_0_3_1_0_0
abbrev O0 := winO s.O 0 inb_S1x4x64x128_S1x1x64x128_0_0_0_0
abbrev O1 := winO s.O 1 inb_S1x4x64x128_S1x1x64x128_0_1_0_0
abbrev O2 := winO s.O 2 inb_S1x4x64x128_S1x1x64x128_0_2_0_0
abbrev O3 := winO s.O 3 inb_S1x4x64x128_S1x1x64x128_0_3_0_0

abbrev live : BitVec 1 := Scalar.cmpi .sge (Scalar.subi (kd i) j) 0#32

abbrev z0 := k0_pay97 X.v65 X.v67 (K0 X i j h)
abbrev l0 := k0_pay98 X.v65 X.v67 (K0 X i j h)
abbrev h0 := k0_pay99 X.v65 X.v67 (K0 X i j h)
abbrev z1 := k0_pay100 X.v71 X.v73 (K1 X i j h)
abbrev m1 := k0_pay101 X.v71 X.v73 (K1 X i j h)
abbrev l1 := k0_pay102 (m1 X i j h)
abbrev h1 := k0_pay103 (m1 X i j h)
abbrev z2 := k0_pay104 X.v77 X.v79 (K2 X i j h)
abbrev l2 := k0_pay105 X.v77 X.v79 (K2 X i j h)
abbrev h2 := k0_pay106 X.v77 X.v79 (K2 X i j h)
abbrev z3 := k0_pay107 X.v83 X.v85 (K3 X i j h)
abbrev m3 := k0_pay108 X.v83 X.v85 (K3 X i j h)
abbrev o3 := k0_pay109 (F := F)
abbrev l3 := k0_pay110 (m3 X i j h) (o3 (F := F))
/-- The sums over the block: of the later keys (columns 0 to 127) and of all (128 to 255). -/
abbrev sm := k0_pay111 X.v31 (h0 X i j h) (h1 X i j h) (h2 X i j h) (m3 X i j h) (o3 (F := F))
abbrev kp := k0_pay112 (F := F) (live i j)
abbrev w0 := k0_pay114 X.v31 (live i j) (z0 X i j h) (l0 X i j h) (h0 X i j h) (h1 X i j h) (h2 X i j h) (m3 X i j h) (o3 (F := F)) (A00 s) (A01 s)
abbrev t539 := k0_pay118 X.v31 (h0 X i j h) (h1 X i j h) (h2 X i j h) (m3 X i j h) (o3 (F := F)) (A00 s) (A01 s)
abbrev t540 := k0_pay119 X.v31 (h0 X i j h) (h1 X i j h) (h2 X i j h) (m3 X i j h) (o3 (F := F)) (A00 s) (A01 s)
abbrev t541 := k0_pay120 X.v31 (h0 X i j h) (h1 X i j h) (h2 X i j h) (m3 X i j h) (o3 (F := F)) (A00 s) (A01 s)
abbrev nA00 := k0_pay117 X.v31 (h0 X i j h) (h1 X i j h) (h2 X i j h) (m3 X i j h) (o3 (F := F)) (A00 s) (A01 s)
abbrev nA01 := k0_pay121 X.v31 (h0 X i j h) (h1 X i j h) (h2 X i j h) (m3 X i j h) (o3 (F := F)) (A00 s) (A01 s)
abbrev nO0 := k0_pay124 X.v56 X.v61 (w0 X i j h s) (V0 X i j h) (O0 s)
abbrev t546 := k0_pay122 (t539 X i j h s) (t541 X i j h s)
abbrev t548 := k0_pay123 (t540 X i j h s) (t541 X i j h s)
abbrev w1 := k0_pay126 (z1 X i j h) (l1 X i j h) (sm X i j h) (kp (F := F) i j) (A10 s) (A11 s)
abbrev a579 := k0_pay127 (sm X i j h) (A10 s) (A11 s)
abbrev a580 := k0_pay128 (sm X i j h) (A10 s) (A11 s)
abbrev nA10 := k0_pay129 (a580 X i j h s)
abbrev nA11 := k0_pay131 (a579 X i j h s)
abbrev nO1 := k0_pay134 X.v56 X.v61 (w1 X i j h s) (V1 X i j h) (O1 s)
abbrev t593 := k0_pay132 (t546 X i j h s) (a579 X i j h s) (a580 X i j h s)
abbrev t595 := k0_pay133 (t548 X i j h s) (a579 X i j h s) (a580 X i j h s)
abbrev p20 := k0_pay135 (A20 s)
abbrev nA20 := k0_pay139 (sm X i j h) (p20 s) (A21 s)
abbrev nA21 := k0_pay141 (sm X i j h) (p20 s) (A21 s)
abbrev t640 := k0_pay142 (sm X i j h) (t593 X i j h s) (p20 s) (A21 s)
abbrev t642 := k0_pay143 (sm X i j h) (t595 X i j h s) (p20 s) (A21 s)
abbrev vv2 := k0_pay144 X.v56 X.v61 (V2 X i j h)
abbrev w2 := k0_pay145 (z2 X i j h) (l2 X i j h) (sm X i j h) (kp (F := F) i j) (p20 s) (A21 s)
abbrev nO2 := k0_pay146 (vv2 X i j h) (w2 X i j h s) (O2 s)
abbrev nA30 := k0_pay151 (sm X i j h) (A30 s) (A31 s)
abbrev w3 := k0_pay148 (z3 X i j h) (l3 X i j h) (sm X i j h) (kp (F := F) i j) (A30 s) (A31 s)
abbrev t679 := k0_pay152 (sm X i j h) (t640 X i j h s) (A30 s) (A31 s)
abbrev t681 := k0_pay153 (sm X i j h) (t642 X i j h s) (A30 s) (A31 s)
abbrev a682 := k0_pay154 (sm X i j h) (A30 s) (A31 s)
abbrev nA31 := k0_pay2 (a682 X i j h s)
abbrev nO3 := k0_pay3 X.v56 X.v61 (w3 X i j h s) (V3 X i j h) (O3 s)

/-- One trip of the first loop. -/
def full : St F where
  A := putA (putA (putA (putA (putA (putA (putA (putA s.A 0 0 (nA00 X i j h s)) 0 1 (nA01 X i j h s)) 1 0 (nA10 X i j h s)) 1 1 (nA11 X i j h s))
    2 0 (nA20 X i j h s)) 2 1 (nA21 X i j h s)) 3 0 (nA30 X i j h s)) 3 1 (nA31 X i j h s)
  O := putO (putO (putO (putO s.O 0 (nO0 X i j h s)) 1 (nO1 X i j h s)) 2 (nO2 X i j h s)) 3 (nO3 X i j h s)
  top := k0_pay4 (live i j) (t679 X i j h s) (a682 X i j h s)
  rest := k0_pay5 (live i j) (t681 X i j h s) (a682 X i j h s)

end Full

section Half
variable (X : Ctx F) (i : grid0.Coords) (j : BitVec 32) (h : k0_chk2 i j) (s : St F)

abbrev putA' (A : Vec F S1x4x2x64x128 .f32) (p r : ℕ) (w : Vec F S1x1x1x32x128 .f32) : Vec F S1x4x2x64x128 .f32 :=
  VecWindow.put A (offA p r) S1x1x1x32x128.size w
abbrev putO' (O : Vec F S1x4x64x128 .f32) (p : ℕ) (w : Vec F S1x1x32x128 .f32) : Vec F S1x4x64x128 .f32 :=
  VecWindow.put O (offO p) S1x1x32x128.size w
abbrev winO' (O : Vec F S1x4x64x128 .f32) (p : ℕ) (h : ∀ a, offO p a + S1x1x32x128.size a ≤ S1x4x64x128.size a) : Vec F S1x1x32x128 .f32 :=
  VecWindow.window O (offO p) S1x1x32x128.size h

abbrev K0' : Vec F S1x128x128 .bf16 := VecWindow.window X.K (k0_off9 i j) S1x128x128.size (k0_off9_inb i j h)
abbrev K1' : Vec F S1x128x128 .bf16 := VecWindow.window X.K (k0_off10 i j) S1x128x128.size (k0_off10_inb i j h)
abbrev K2' : Vec F S1x128x128 .bf16 := VecWindow.window X.K (k0_off11 i j) S1x128x128.size (k0_off11_inb i j h)
abbrev K3' : Vec F S1x128x128 .bf16 := VecWindow.window X.K (k0_off12 i j) S1x128x128.size (k0_off12_inb i j h)
abbrev V0' : Vec F S1x128x128 .bf16 := VecWindow.window X.V (k0_off9 i j) S1x128x128.size (k0_off9_inb i j h)
abbrev V1' : Vec F S1x128x128 .bf16 := VecWindow.window X.V (k0_off10 i j) S1x128x128.size (k0_off10_inb i j h)
abbrev V2' : Vec F S1x128x128 .bf16 := VecWindow.window X.V (k0_off11 i j) S1x128x128.size (k0_off11_inb i j h)
abbrev V3' : Vec F S1x128x128 .bf16 := VecWindow.window X.V (k0_off12 i j) S1x128x128.size (k0_off12_inb i j h)
abbrev O0' := winO' s.O 0 inb_S1x4x64x128_S1x1x32x128_0_0_0_0
abbrev O1' := winO' s.O 1 inb_S1x4x64x128_S1x1x32x128_0_1_0_0
abbrev O2' := winO' s.O 2 inb_S1x4x64x128_S1x1x32x128_0_2_0_0
abbrev O3' := winO' s.O 3 inb_S1x4x64x128_S1x1x32x128_0_3_0_0

abbrev v436 := k0_pay155 X.v65 X.v67 (K0' X i j h)
abbrev v448 := k0_pay156 X.v65 X.v67 (K0' X i j h)
abbrev v453 := k0_pay157 X.v65 X.v67 (K0' X i j h)
abbrev v460 := k0_pay158 X.v71 X.v73 (K1' X i j h)
abbrev v462 := k0_pay159 X.v71 X.v73 (K1' X i j h)
abbrev v465 := k0_pay160 X.v71 X.v73 (K1' X i j h)
abbrev v472 := k0_pay161 (v462 X i j h) (v465 X i j h)
abbrev v477 := k0_pay162 (v462 X i j h) (v465 X i j h)
abbrev v484 := k0_pay163 X.v77 X.v79 (K2' X i j h)
abbrev v496 := k0_pay164 X.v77 X.v79 (K2' X i j h)
abbrev v501 := k0_pay165 X.v77 X.v79 (K2' X i j h)
abbrev v508 := k0_pay166 X.v83 X.v85 (K3' X i j h)
abbrev v510 := k0_pay167 X.v83 X.v85 (K3' X i j h)
abbrev v511 := k0_pay168 X.v83 X.v85 (K3' X i j h)
abbrev cz : F .f32 := Scalar.ofBits .f32 0x00000000#32
abbrev v520 := k0_pay169 (v510 X i j h) (v511 X i j h) (cz (F := F))
abbrev v527 := k0_pay170 X.v31 (v453 X i j h) (v477 X i j h) (v501 X i j h) (v510 X i j h) (v511 X i j h) (cz (F := F))
abbrev v531 := k0_pay171 (F := F) (live i j)
abbrev v546 := k0_pay173 X.v31 (live i j) (v436 X i j h) (v448 X i j h) (v453 X i j h) (v477 X i j h) (v501 X i j h) (v510 X i j h) (v511 X i j h) (cz (F := F)) (A00 s) (A01 s)
abbrev v548 := k0_pay174 X.v31 (v453 X i j h) (v477 X i j h) (v501 X i j h) (v510 X i j h) (v511 X i j h) (cz (F := F)) (A00 s) (A01 s)
abbrev v549 := k0_pay175 X.v31 (v453 X i j h) (v477 X i j h) (v501 X i j h) (v510 X i j h) (v511 X i j h) (cz (F := F)) (A00 s) (A01 s)
abbrev v557 := k0_pay179 (v548 X i j h s) (v549 X i j h s)
abbrev v580 := k0_pay181 (A10 s) (A11 s)
abbrev v581 := k0_pay182 (v460 X i j h) (v472 X i j h)
abbrev v582 := k0_pay183 (v527 X i j h)
abbrev v600 := k0_pay189 (v527 X i j h) (v557 X i j h s) (v580 s)
abbrev v643 := k0_pay197 (v527 X i j h) (v600 X i j h s) (A20 s) (A21 s)
abbrev v649 := k0_pay198 X.v56 X.v61 (V2' X i j h)
abbrev v652 := k0_pay199 (v484 X i j h) (v496 X i j h) (v527 X i j h) (v531 (F := F) i j) (A20 s) (A21 s)
abbrev v674 := k0_pay202 (v508 X i j h) (v520 X i j h) (v527 X i j h) (v531 (F := F) i j) (A30 s) (A31 s)
abbrev v681 := k0_pay206 (v527 X i j h) (v643 X i j h s) (A30 s) (A31 s)
abbrev v682 := k0_pay207 (v527 X i j h) (A30 s) (A31 s)

/-- One trip of the second loop: the first thirty-two queries alone. -/
def half : St F where
  A := putA' (putA' (putA' (putA' (putA' (putA' (putA' (putA' s.A 0 0 (k0_pay176 (v549 X i j h s))) 0 1 (k0_pay178 (v548 X i j h s)))
    1 0 (k0_pay186 (v527 X i j h) (v580 s))) 1 1 (k0_pay188 (v527 X i j h) (v580 s)))
    2 0 (k0_pay194 (v527 X i j h) (A20 s) (A21 s))) 2 1 (k0_pay196 (v527 X i j h) (A20 s) (A21 s)))
    3 0 (k0_pay205 (v527 X i j h) (A30 s) (A31 s))) 3 1 (k0_pay6 (v682 X i j h s))
  O := putO' (putO' (putO' (putO' s.O 0 (k0_pay180 X.v56 X.v61 (v546 X i j h s) (V0' X i j h) (O0' s)))
    1 (k0_pay190 X.v56 X.v61 (v531 (F := F) i j) (v580 s) (v581 X i j h) (v582 X i j h) (V1' X i j h) (O1' s)))
    2 (k0_pay200 (v649 X i j h) (v652 X i j h s) (O2' s))) 3 (k0_pay7 X.v56 X.v61 (v674 X i j h s) (V3' X i j h) (O3' s))
  top := k0_pay8 (live i j) (v681 X i j h s) (v682 X i j h s)
  rest := s.rest

end Half

/-- The bound under which a weight is nothing. -/
abbrev bound : F .f32 := Named.named κ "dead" 0xC2D00000#32

/-- The loops' condition: there is a block of keys left, and a row whose weights are not yet nothing. -/
abbrev test (i : grid0.Coords) (j : BitVec 32) (b : F .f32) : Prop :=
  Scalar.andi (Scalar.cmpi .sge (Scalar.subi (kd i) j) 0#32) (Scalar.cmpf .oge b (bound (F := F))) = 1#1

/-- The first loop with at most `k` trips to run. -/
def iter1 (X : Ctx F) (i : grid0.Coords) : ℕ → BitVec 32 → St F → BitVec 32 × St F
  | 0, j, s => (j, s)
  | k + 1, j, s => if h : test i j s.rest ∧ k0_chk1 i j then iter1 X i k (Scalar.addi j 1#32) (full X i j h.2 s) else (j, s)

/-- The second. -/
def iter2 (X : Ctx F) (i : grid0.Coords) : ℕ → BitVec 32 → St F → BitVec 32 × St F
  | 0, j, s => (j, s)
  | k + 1, j, s => if h : test i j s.top ∧ k0_chk2 i j then iter2 X i k (Scalar.addi j 1#32) (half X i j h.2 s) else (j, s)

end Cert.SbIdeal.Attn
-- ==== Proof.Sb.Start.lean ====
/- The attention call at one grid point: what both loops are given, what the masked first block makes of the zero
   scratch, and what the body writes in the end. -/
module

public import proofs.«01_k».proof.Proof.Sb.Step

@[expose] public section

set_option maxRecDepth 16384

noncomputable section

namespace Cert.SbIdeal.Attn

open Cert.SbIdeal Cert.SbIdeal.Gen
open Idealize.ShloMosaic

variable {F : FTy → Type} [FloatOps F] [Named F]

section
variable (q : Vec F S1x64x512 .bf16) (kt vt : Vec F S1x512x1152 .bf16) (g : Vec F S1x64x512 .bf16) (sums : Vec F S256x256 .bf16) (i : grid0.Coords)

abbrev qw (q : Vec F S1x64x512 .bf16) (o : ℕ) (h : ∀ a, (![0, 0, o] : Fin 3 → ℕ) a + S1x64x128.size a ≤ S1x64x512.size a) : Vec F S1x64x128 .bf16 :=
  VecWindow.window q ![0, 0, o] S1x64x128.size h

/-- What the loops read and never write, from the blocks the point is given. -/
def ctx : Ctx F where
  v29 := k0_pay9 i
  v31 := k0_pay10 sums
  v56 := k0_pay16
  v61 := k0_pay17
  v65 := k0_pay19 (k0_pay12 (F := F)) (qw q 0 inb_S1x64x512_S1x64x128_0_0_0)
  v67 := k0_pay20 k0_pay11 1#32 (qw q 0 inb_S1x64x512_S1x64x128_0_0_0)
  v71 := k0_pay22 (k0_pay12 (F := F)) (qw q 128 inb_S1x64x512_S1x64x128_0_0_128)
  v73 := k0_pay23 k0_pay11 1#32 (qw q 128 inb_S1x64x512_S1x64x128_0_0_128)
  v77 := k0_pay25 (k0_pay12 (F := F)) (qw q 256 inb_S1x64x512_S1x64x128_0_0_256)
  v79 := k0_pay26 k0_pay11 1#32 (qw q 256 inb_S1x64x512_S1x64x128_0_0_256)
  v83 := k0_pay29 (k0_pay27 (qw q 384 inb_S1x64x512_S1x64x128_0_0_384)) (k0_pay28 (k0_pay12 (F := F)))
  v85 := k0_pay30 (k0_pay14 (F := F) k0_pay11 1#32) (k0_pay27 (qw q 384 inb_S1x64x512_S1x64x128_0_0_384))
  K := kt
  V := vt

end

section
variable (X : Ctx F) (i : grid0.Coords)

/-- The scratch arrays when the first block is met: zero. -/
def zero : St F := ⟨k0_pay31, k0_pay32, bound, bound⟩

abbrev dK0 : Vec F S1x128x128 .bf16 := VecWindow.window X.K (k0_off1 i) S1x128x128.size (k0_off1_inb i)
abbrev dK1 : Vec F S1x128x128 .bf16 := VecWindow.window X.K (k0_off2 i) S1x128x128.size (k0_off2_inb i)
abbrev dK2 : Vec F S1x128x128 .bf16 := VecWindow.window X.K (k0_off3 i) S1x128x128.size (k0_off3_inb i)
abbrev dK3 : Vec F S1x128x128 .bf16 := VecWindow.window X.K (k0_off4 i) S1x128x128.size (k0_off4_inb i)
abbrev dV0 : Vec F S1x128x128 .bf16 := VecWindow.window X.V (k0_off1 i) S1x128x128.size (k0_off1_inb i)
abbrev dV1 : Vec F S1x128x128 .bf16 := VecWindow.window X.V (k0_off2 i) S1x128x128.size (k0_off2_inb i)
abbrev dV2 : Vec F S1x128x128 .bf16 := VecWindow.window X.V (k0_off3 i) S1x128x128.size (k0_off3_inb i)
abbrev dV3 : Vec F S1x128x128 .bf16 := VecWindow.window X.V (k0_off4 i) S1x128x128.size (k0_off4_inb i)

abbrev dlive : BitVec 1 := Scalar.cmpi .sge (Scalar.subi (kd i) 0#32) 0#32
abbrev v99 := k0_pay33 X.v29
abbrev v104 := k0_pay34 X.v65 X.v67 (dK0 X i)
abbrev v116 := k0_pay35 X.v65 X.v67 (dK0 X i)
abbrev v117 := k0_pay36 (F := F)
abbrev v118 := k0_pay37 (v99 X) (v116 X i) (v117 (F := F))
abbrev v123 := k0_pay38 (v99 X) (v116 X i) (v117 (F := F))
abbrev v128 := k0_pay39 X.v71 X.v73 (dK1 X i)
abbrev v142 := k0_pay40 X.v71 X.v73 (v99 X) (dK1 X i)
abbrev v147 := k0_pay41 X.v71 X.v73 (v99 X) (dK1 X i)
abbrev v152 := k0_pay42 X.v77 X.v79 (dK2 X i)
abbrev v162 := k0_pay43 X.v77 X.v79 (dK2 X i)
abbrev v166 := k0_pay44 (v99 X) (v162 X i) (cz (F := F))
abbrev v176 := k0_pay45 X.v83 X.v85 (dK3 X i)
abbrev v190 := k0_pay46 X.v83 X.v85 (v99 X) (dK3 X i)
abbrev v197 := k0_pay47 X.v31 X.v83 X.v85 (v99 X) (v123 X i) (v147 X i) (v162 X i) (cz (F := F)) (dK3 X i)
abbrev v198 := k0_pay48 X.v29
abbrev v200 := k0_pay49 (A00 (zero (F := F)))
abbrev v202 := k0_pay50 (A01 (zero (F := F)))
abbrev v225 := k0_pay57 (v197 X i) (v200 (F := F)) (v202 (F := F))
abbrev v227 := k0_pay58 (v197 X i) (v200 (F := F)) (v202 (F := F))
abbrev v240 := k0_pay59 X.v56 X.v61 (v104 X i) (v118 X i) (v197 X i) (v198 X) (v200 (F := F)) (v202 (F := F)) (dV0 X i) (O0 (zero (F := F)))
abbrev v256 := k0_pay62 (v128 X i) (v142 X i) (v197 X i) (v198 X) (A10 (zero (F := F))) (A11 (zero (F := F)))
abbrev v272 := k0_pay68 (v197 X i) (v225 X i) (A10 (zero (F := F))) (A11 (zero (F := F)))
abbrev v274 := k0_pay69 (v197 X i) (v227 X i) (A10 (zero (F := F))) (A11 (zero (F := F)))
abbrev v303 := k0_pay72 (v152 X i) (v166 X i) (v197 X i) (v198 X) (A20 (zero (F := F))) (A21 (zero (F := F)))
abbrev v305 := k0_pay73 (v197 X i) (A20 (zero (F := F))) (A21 (zero (F := F)))
abbrev v306 := k0_pay74 (v197 X i) (A20 (zero (F := F))) (A21 (zero (F := F)))
abbrev v319 := k0_pay78 (v272 X i) (v305 X i) (v306 X i)
abbrev v321 := k0_pay79 (v274 X i) (v305 X i) (v306 X i)
abbrev v339 := k0_pay81 (A30 (zero (F := F)))
abbrev v366 := k0_pay88 (v197 X i) (v319 X i) (v339 (F := F)) (A31 (zero (F := F)))
abbrev v368 := k0_pay89 (v197 X i) (v321 X i) (v339 (F := F)) (A31 (zero (F := F)))
abbrev v374 := k0_pay90 X.v56 X.v61 (dV3 X i)
abbrev v377 := k0_pay91 (v176 X i) (v190 X i) (v197 X i) (v198 X) (v339 (F := F)) (A31 (zero (F := F)))

/-- The masked block on the diagonal, met with zero scratch. -/
def start : St F where
  A := putA (putA (putA (putA (putA (putA (putA (putA (zero (F := F)).A 0 0 (k0_pay54 (v197 X i) (v200 (F := F)) (v202 (F := F))))
    0 1 (k0_pay56 (v197 X i) (v200 (F := F)) (v202 (F := F))))
    1 0 (k0_pay65 (v197 X i) (A10 (zero (F := F))) (A11 (zero (F := F))))) 1 1 (k0_pay67 (v197 X i) (A10 (zero (F := F))) (A11 (zero (F := F)))))
    2 0 (k0_pay75 (v306 X i))) 2 1 (k0_pay77 (v305 X i)))
    3 0 (k0_pay85 (v197 X i) (v339 (F := F)) (A31 (zero (F := F))))) 3 1 (k0_pay87 (v197 X i) (v339 (F := F)) (A31 (zero (F := F))))
  O := putO (putO (putO (putO (zero (F := F)).O 0 (k0_pay60 (v240 X i)))
    1 (k0_pay70 X.v56 X.v61 (v256 X i) (dV1 X i) (O1 (zero (F := F)))))
    2 (k0_pay80 X.v56 X.v61 (v303 X i) (dV2 X i) (O2 (zero (F := F)))))
    3 (k0_pay92 (v374 X i) (v377 X i) (O3 (zero (F := F))))
  top := k0_pay93 (dlive i) (v366 X i)
  rest := k0_pay94 (dlive i) (v368 X i)

/-- The state the first loop leaves, and the second. -/
abbrev mid : BitVec 32 × St F := iter1 X i 8 (BitVec.ofNat 32 1) (start X i)

/-- The trips the second loop may still make. -/
abbrev left : ℕ := 9 - (mid X i).1.toNat

abbrev last : St F := (iter2 X i (left X i) (mid X i).1 (mid X i).2).2

/-- The outputs, gated: what the body writes. -/
def gated (s : St F) (g : Vec F S1x64x512 .bf16) : Vec F S1x64x512 .bf16 :=
  k0_pay1 (k0_pay95 (O0 s) (O1 s) (O2 s) (O3 s)) (k0_pay96 g)

end

/-- The block the body writes at one grid point. -/
def point (q : Vec F S1x64x512 .bf16) (kt vt : Vec F S1x512x1152 .bf16) (g : Vec F S1x64x512 .bf16) (sums : Vec F S256x256 .bf16)
    (i : grid0.Coords) : Vec F S1x64x512 .bf16 :=
  gated (last (ctx q kt vt sums i) i) g

end Cert.SbIdeal.Attn
-- ==== Proof.Sb.Trip.lean ====
module

public import proofs.«01_k».proof.Proof.Sb.Step
public import Idealize.ShloMosaic.Lib.Pipeline.FrameBody
public import Idealize.ShloMosaic.Lib.WordCmp
public import Idealize.ShloMosaic.Lib.Tactic

@[expose] public section

set_option maxRecDepth 16384

noncomputable section

namespace Cert.SbIdeal.Attn

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

abbrev 𝒱₀ : Variants := Variants.nat

/-- A load of a rectangle reads a window of the contents. -/
theorem readAt_win {κ : Kind} {sp : Space} {s : Shape} {e : EltTy} (v : View sig κ sp s e)
    (f : BufTy.Contents (Elt F) v.ty) {off size : Fin s.rank → ℕ} (inb : ∀ a, off a + size a ≤ s.size a) :
    v.readAt (Elt F) (Rect.unit off size inb).toLoadRect f = VecWindow.window (v.read (Elt F) f) off size inb := rfl

/-- A store puts its payload over what the earlier stores left. -/
theorem read_put {κ : Kind} {sp : Space} {s : Shape} {e : EltTy} (v : View sig κ sp s e) (f : BufTy.Contents (Elt F) v.ty)
    {off size : Fin s.rank → ℕ} (inb : ∀ a, off a + size a ≤ s.size a) (w : (Rect.unit off size inb).shape.Idx → Elt F e)
    (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl

/-- A piece of the sums is untouched by what is put over the piece of another pair or another head. -/
theorem winA_put {α : Type} (x : S1x4x2x64x128.Idx → α) (off size off' size' : Fin 5 → ℕ) (inb' : ∀ a, off' a + size' a ≤ S1x4x2x64x128.size a)
    (w : ((a : Fin 5) → Fin (size a)) → α)
    (h : (off' 1 + size' 1 ≤ off 1 ∨ off 1 + size 1 ≤ off' 1) ∨ (off' 2 + size' 2 ≤ off 2 ∨ off 2 + size 2 ≤ off' 2)) :
    VecWindow.window (s := S1x4x2x64x128) (VecWindow.put (s := S1x4x2x64x128) x off size w) off' size' inb' = VecWindow.window (s := S1x4x2x64x128) x off' size' inb' := by
  rcases h with h | h
  · exact VecWindow.window_put_of_disjoint (s := S1x4x2x64x128) x off size off' size' inb' w 1 h
  · exact VecWindow.window_put_of_disjoint (s := S1x4x2x64x128) x off size off' size' inb' w 2 h

/-- A pair's output is untouched by what is put over another pair's. -/
theorem winO_put {α : Type} (x : S1x4x64x128.Idx → α) (off size off' size' : Fin 4 → ℕ) (inb' : ∀ a, off' a + size' a ≤ S1x4x64x128.size a)
    (w : ((a : Fin 4) → Fin (size a)) → α)
    (h : off' 1 + size' 1 ≤ off 1 ∨ off 1 + size 1 ≤ off' 1) :
    VecWindow.window (s := S1x4x64x128) (VecWindow.put (s := S1x4x64x128) x off size w) off' size' inb' = VecWindow.window (s := S1x4x64x128) x off' size' inb' :=
  VecWindow.window_put_of_disjoint (s := S1x4x64x128) x off size off' size' inb' w 1 h

section
variable (c : Dev nD) (i : grid0.Coords) (X : Ctx F)
  (arg3 : Memref sig .tc .vmem S1x512x1152 .bf16) (harg3 : arg3.IsWhole)
  (arg4 : Memref sig .tc .vmem S1x512x1152 .bf16) (harg4 : arg4.IsWhole)
  (arg8 : Memref sig .tc .vmem S1x4x2x64x128 .f32) (harg8 : arg8.IsWhole)
  (arg9 : Memref sig .tc .vmem S1x4x64x128 .f32) (harg9 : arg9.IsWhole)

/-- The four arrays a loop works on. -/
def held (A : Vec F S1x4x2x64x128 .f32) (O : Vec F S1x4x64x128 .f32) : sProp 𝕄 :=
  iprop(owns (c : Thread nD τ) arg3 fullShare X.K ∗ owns (c : Thread nD τ) arg4 fullShare X.V
    ∗ owns (c : Thread nD τ) arg8 fullShare A ∗ owns (c : Thread nD τ) arg9 fullShare O)

set_option maxHeartbeats 4000000 in
/-- One trip of the first loop, up to its call of itself, answered by whatever `sp` says of the rest. -/
theorem trip1 (j : BitVec 32) (hj : k0_chk1 i j) (s : St F) (k : ℕ) (E : Set ℕ) (K : BitVec 32 × F .f32 × F .f32 → sProp 𝕄)
    (sp : sWPT 𝕄 (BitVec 32 × F .f32 × F .f32))
    (hsp : ∀ t r, t = (full X i j hj s).top → r = (full X i j hj s).rest →
      ∀ K, sp K ⊢ wp frame (wpE (defs₀ (F := F)) 𝒱₀ (c : Thread nD τ) (some k)) E (defs₀ (F := F) .tc 1
      ⟨i, X.v29, arg3, harg3, X.v65, X.v67, X.v71, X.v73, X.v77, X.v79, X.v83, X.v85, X.v31, arg8, harg8, arg4, harg4, X.v56, X.v61, arg9, harg9,
        Scalar.addi j 1#32, t, r⟩) K)
    (ht : test i j s.rest) :
    iprop(held c X arg3 arg4 arg8 arg9 s.A s.O ∗ (held c X arg3 arg4 arg8 arg9 (full X i j hj s).A (full X i j hj s).O -∗ sp fun x => wp frame (wpE (defs₀ (F := F)) 𝒱₀ (c : Thread nD τ) (some (k+1))) E (Prog.ret x) K))
      ⊢ wp frame (wpE (defs₀ (F := F)) 𝒱₀ (c : Thread nD τ) (some (k+1))) E
          (cc0_while1 i X.v29 arg3 harg3 X.v65 X.v67 X.v71 X.v73 X.v77 X.v79 X.v83 X.v85 X.v31 arg8 harg8 arg4 harg4 X.v56 X.v61 arg9 harg9 j s.top s.rest) K := by
  simp only [cc0_while1_eq_skeleton]; unfold cc0_while1_skel
  have ht' := ht
  simp only [test, kd] at ht'
  simp only [ht', ↓reduceIte]
  simp only [k0_part12_eq_skeleton, k0_part13_eq_skeleton, k0_part14_eq_skeleton, k0_part15_eq_skeleton, k0_part16_eq_skeleton, k0_part17_eq_skeleton, k0_part18_eq_skeleton]
  unfold held owns
  iintro ⟨⟨⟨%f3, %hf3, H3⟩, ⟨%f4, %hf4, H4⟩, ⟨%f8, %hf8, H8⟩, ⟨%f9, %hf9, H9⟩⟩, Hk⟩
  obtain rfl := harg3.eq_unread hf3; obtain rfl := harg4.eq_unread hf4; obtain rfl := harg8.eq_unread hf8; obtain rfl := harg9.eq_unread hf9
  sl_exec (disch := first | sl_exact hj | sl_exact ht)
  generalize e1 : k0_pay4 (F := F) _ _ _ = t
  generalize e2 : k0_pay5 (F := F) _ _ _ = r
  have h1 : t = (full X i j hj s).top := by
    rw [← e1]
    sl_unfold_run_names
    simp (config := {proj := false}) (disch := decide) only [read_put, readAt_win, Memref.IsWhole.read_unread, View.writes_nil, winA_put, winO_put]
    rfl
  have h2 : r = (full X i j hj s).rest := by
    rw [← e2]
    sl_unfold_run_names
    simp (config := {proj := false}) (disch := decide) only [read_put, readAt_win, Memref.IsWhole.read_unread, View.writes_nil, winA_put, winO_put]
    rfl
  iapply (wp_call_spec 𝒱₀ (c : Thread nD τ) (some (k + 1)) E sp k (fun u hu => by cases hu; exact Nat.lt_succ_self k) (hsp t r h1 h2))
  iapply Hk
  isplitl [H3]
  · iexists _; isplitr; · ipureintro; exact harg3.read_unread _
    iexact H3
  isplitl [H4]
  · iexists _; isplitr; · ipureintro; exact harg4.read_unread _
    iexact H4
  isplitl [H8]
  · iexists _; isplitr; swap; · iexact H8
    ipureintro
    sl_unfold_run_names
    simp (config := {proj := false}) (disch := decide) only [read_put, readAt_win, Memref.IsWhole.read_unread, View.writes_nil, winA_put, winO_put]
    rfl
  · iexists _; isplitr; swap; · iexact H9
    ipureintro
    sl_unfold_run_names
    simp (config := {proj := false}) (disch := decide) only [read_put, readAt_win, Memref.IsWhole.read_unread, View.writes_nil, winA_put, winO_put]
    rfl
set_option maxHeartbeats 4000000 in
/-- One trip of the second loop, up to its call of itself, answered by whatever `sp` says of the rest. -/
theorem trip2 (j : BitVec 32) (hj : k0_chk2 i j) (s : St F) (k : ℕ) (E : Set ℕ) (K : BitVec 32 × F .f32 → sProp 𝕄)
    (sp : sWPT 𝕄 (BitVec 32 × F .f32))
    (hsp : ∀ t, t = (half X i j hj s).top →
      ∀ K, sp K ⊢ wp frame (wpE (defs₀ (F := F)) 𝒱₀ (c : Thread nD τ) (some k)) E (defs₀ (F := F) .tc 2
      ⟨i, X.v29, arg3, harg3, X.v65, X.v67, X.v71, X.v73, X.v77, X.v79, X.v83, X.v85, X.v31, arg8, harg8, arg4, harg4, X.v56, X.v61, arg9, harg9,
        Scalar.addi j 1#32, t⟩) K)
    (ht : test i j s.top) :
    iprop(held c X arg3 arg4 arg8 arg9 s.A s.O ∗ (held c X arg3 arg4 arg8 arg9 (half X i j hj s).A (half X i j hj s).O -∗ sp fun x => wp frame (wpE (defs₀ (F := F)) 𝒱₀ (c : Thread nD τ) (some (k+1))) E (Prog.ret x) K))
      ⊢ wp frame (wpE (defs₀ (F := F)) 𝒱₀ (c : Thread nD τ) (some (k+1))) E
          (cc0_while2 i X.v29 arg3 harg3 X.v65 X.v67 X.v71 X.v73 X.v77 X.v79 X.v83 X.v85 X.v31 arg8 harg8 arg4 harg4 X.v56 X.v61 arg9 harg9 j s.top) K := by
  simp only [cc0_while2_eq_skeleton]; unfold cc0_while2_skel
  have ht' := ht
  simp only [test, kd] at ht'
  simp only [ht', ↓reduceIte]
  simp only [k0_part19_eq_skeleton, k0_part20_eq_skeleton, k0_part21_eq_skeleton, k0_part22_eq_skeleton, k0_part23_eq_skeleton, k0_part24_eq_skeleton, k0_part25_eq_skeleton]
  unfold held owns
  iintro ⟨⟨⟨%f3, %hf3, H3⟩, ⟨%f4, %hf4, H4⟩, ⟨%f8, %hf8, H8⟩, ⟨%f9, %hf9, H9⟩⟩, Hk⟩
  obtain rfl := harg3.eq_unread hf3; obtain rfl := harg4.eq_unread hf4; obtain rfl := harg8.eq_unread hf8; obtain rfl := harg9.eq_unread hf9
  sl_exec (disch := first | sl_exact hj | sl_exact ht)
  generalize e1 : k0_pay8 (F := F) _ _ _ = t
  have h1 : t = (half X i j hj s).top := by
    rw [← e1]
    sl_unfold_run_names
    simp (config := {proj := false}) (disch := decide) only [read_put, readAt_win, Memref.IsWhole.read_unread, View.writes_nil, winA_put, winO_put]
    rfl
  iapply (wp_call_spec 𝒱₀ (c : Thread nD τ) (some (k + 1)) E sp k (fun u hu => by cases hu; exact Nat.lt_succ_self k) (hsp t h1))
  iapply Hk
  isplitl [H3]
  · iexists _; isplitr; · ipureintro; exact harg3.read_unread _
    iexact H3
  isplitl [H4]
  · iexists _; isplitr; · ipureintro; exact harg4.read_unread _
    iexact H4
  isplitl [H8]
  · iexists _; isplitr; swap; · iexact H8
    ipureintro
    sl_unfold_run_names
    simp (config := {proj := false}) (disch := decide) only [read_put, readAt_win, Memref.IsWhole.read_unread, View.writes_nil, winA_put, winO_put]
    rfl
  · iexists _; isplitr; swap; · iexact H9
    ipureintro
    sl_unfold_run_names
    simp (config := {proj := false}) (disch := decide) only [read_put, readAt_win, Memref.IsWhole.read_unread, View.writes_nil, winA_put, winO_put]
    rfl

/-! ### The two loops -/

theorem pid1 (i : grid0.Coords) : (i 1).val = 0 := Nat.lt_one_iff.mp (i 1).isLt

theorem kd_eq (i : grid0.Coords) : kd i = 8#32 := by
  have e := pid1 i
  simp only [kd, e]
  decide

theorem chk1_of_lt (i : grid0.Coords) (n : ℕ) (h : n < 9) : k0_chk1 i (BitVec.ofNat 32 n) := by
  have e := pid1 i
  unfold k0_chk1 k0_mult2 k0_off5 k0_off6 k0_off7 k0_off8
  simp only [e]
  interval_cases n <;> decide

theorem chk2_of_lt (i : grid0.Coords) (n : ℕ) (h : n < 9) : k0_chk2 i (BitVec.ofNat 32 n) := by
  have e := pid1 i
  unfold k0_chk2 k0_mult3 k0_off9 k0_off10 k0_off11 k0_off12
  simp only [e]
  interval_cases n <;> decide

/-- Past the first block of keys neither loop runs. -/
theorem not_test_nine (i : grid0.Coords) (b : F .f32) : ¬ test i (BitVec.ofNat 32 9) b := by
  unfold test
  rw [kd_eq]
  rw [show Scalar.cmpi .sge (Scalar.subi 8#32 (BitVec.ofNat 32 9)) 0#32 = 0#1 by decide]
  generalize Scalar.cmpf .oge b (bound (F := F)) = w
  revert w; decide

theorem addi_ofNat (n : ℕ) : Scalar.addi (BitVec.ofNat 32 n) 1#32 = BitVec.ofNat 32 (n + 1) :=
  (BitVec.ofNat_add n 1).symm

def spec1 (k : ℕ) (j : BitVec 32) (s : St F) : sWPT 𝕄 (BitVec 32 × F .f32 × F .f32) := do
  sWPT.consume (held c X arg3 arg4 arg8 arg9 s.A s.O)
  sWPT.produce (held c X arg3 arg4 arg8 arg9 (iter1 X i k j s).2.A (iter1 X i k j s).2.O)
  pure ((iter1 X i k j s).1, (iter1 X i k j s).2.top, (iter1 X i k j s).2.rest)

theorem spec1_apply (k : ℕ) (j : BitVec 32) (s : St F) (K : BitVec 32 × F .f32 × F .f32 → sProp 𝕄) :
    spec1 c i X arg3 arg4 arg8 arg9 k j s K
      = iprop(held c X arg3 arg4 arg8 arg9 s.A s.O ∗ (held c X arg3 arg4 arg8 arg9 (iter1 X i k j s).2.A (iter1 X i k j s).2.O
          -∗ K ((iter1 X i k j s).1, (iter1 X i k j s).2.top, (iter1 X i k j s).2.rest))) := rfl

def spec2 (k : ℕ) (j : BitVec 32) (s : St F) : sWPT 𝕄 (BitVec 32 × F .f32) := do
  sWPT.consume (held c X arg3 arg4 arg8 arg9 s.A s.O)
  sWPT.produce (held c X arg3 arg4 arg8 arg9 (iter2 X i k j s).2.A (iter2 X i k j s).2.O)
  pure ((iter2 X i k j s).1, (iter2 X i k j s).2.top)

theorem spec2_apply (k : ℕ) (j : BitVec 32) (s : St F) (K : BitVec 32 × F .f32 → sProp 𝕄) :
    spec2 c i X arg3 arg4 arg8 arg9 k j s K
      = iprop(held c X arg3 arg4 arg8 arg9 s.A s.O ∗ (held c X arg3 arg4 arg8 arg9 (iter2 X i k j s).2.A (iter2 X i k j s).2.O
          -∗ K ((iter2 X i k j s).1, (iter2 X i k j s).2.top))) := rfl

theorem exit1 (j : BitVec 32) (s : St F) (k : ℕ) (E : Set ℕ) (K : BitVec 32 × F .f32 × F .f32 → sProp 𝕄) (ht : ¬ test i j s.rest) :
    iprop(held c X arg3 arg4 arg8 arg9 s.A s.O ∗ (held c X arg3 arg4 arg8 arg9 s.A s.O -∗ K (j, s.top, s.rest)))
      ⊢ wp frame (wpE (defs₀ (F := F)) 𝒱₀ (c : Thread nD τ) (some k)) E
          (cc0_while1 i X.v29 arg3 harg3 X.v65 X.v67 X.v71 X.v73 X.v77 X.v79 X.v83 X.v85 X.v31 arg8 harg8 arg4 harg4 X.v56 X.v61 arg9 harg9 j s.top s.rest) K := by
  simp only [cc0_while1_eq_skeleton]; unfold cc0_while1_skel
  have ht' := ht
  simp only [test, kd] at ht'
  simp only [ht', ↓reduceIte, Prog.pure_eq_ret]
  iintro ⟨H, Hk⟩
  rw [wp_ret]; imodintro
  iapply Hk
  iexact H

theorem exit2 (j : BitVec 32) (s : St F) (k : ℕ) (E : Set ℕ) (K : BitVec 32 × F .f32 → sProp 𝕄) (ht : ¬ test i j s.top) :
    iprop(held c X arg3 arg4 arg8 arg9 s.A s.O ∗ (held c X arg3 arg4 arg8 arg9 s.A s.O -∗ K (j, s.top)))
      ⊢ wp frame (wpE (defs₀ (F := F)) 𝒱₀ (c : Thread nD τ) (some k)) E
          (cc0_while2 i X.v29 arg3 harg3 X.v65 X.v67 X.v71 X.v73 X.v77 X.v79 X.v83 X.v85 X.v31 arg8 harg8 arg4 harg4 X.v56 X.v61 arg9 harg9 j s.top) K := by
  simp only [cc0_while2_eq_skeleton]; unfold cc0_while2_skel
  have ht' := ht
  simp only [test, kd] at ht'
  simp only [ht', ↓reduceIte, Prog.pure_eq_ret]
  iintro ⟨H, Hk⟩
  rw [wp_ret]; imodintro
  iapply Hk
  iexact H

/-- The first loop entered with `k` trips at most to run: by induction on `k`. -/
theorem spec1_le (E : Set ℕ) : ∀ (k n : ℕ), n + k = 9 → ∀ (s : St F) (K : BitVec 32 × F .f32 × F .f32 → sProp 𝕄),
    spec1 c i X arg3 arg4 arg8 arg9 k (BitVec.ofNat 32 n) s K
      ⊢ wp frame (wpE (defs₀ (F := F)) 𝒱₀ (c : Thread nD τ) (some k)) E (defs₀ (F := F) .tc 1
      ⟨i, X.v29, arg3, harg3, X.v65, X.v67, X.v71, X.v73, X.v77, X.v79, X.v83, X.v85, X.v31, arg8, harg8, arg4, harg4, X.v56, X.v61, arg9, harg9,
        BitVec.ofNat 32 n, s.top, s.rest⟩) K := by
  intro k
  induction k with
  | zero =>
    intro n hn s K
    obtain rfl : n = 9 := by omega
    rw [spec1_apply]
    exact exit1 c i X arg3 harg3 arg4 harg4 arg8 harg8 arg9 harg9 _ s 0 E K (not_test_nine i _)
  | succ k ih =>
    intro n hn s K
    have hc := chk1_of_lt i n (by omega)
    rw [spec1_apply]
    by_cases ht : test i (BitVec.ofNat 32 n) s.rest
    · have hi : iter1 X i (k + 1) (BitVec.ofNat 32 n) s = iter1 X i k (BitVec.ofNat 32 (n + 1)) (full X i (BitVec.ofNat 32 n) hc s) := by
        rw [iter1, dif_pos ⟨ht, hc⟩, addi_ofNat]
      rw [hi]
      refine BIBase.Entails.trans ?_ (trip1 c i X arg3 harg3 arg4 harg4 arg8 harg8 arg9 harg9 (BitVec.ofNat 32 n) hc s k E K
        (spec1 c i X arg3 arg4 arg8 arg9 k (BitVec.ofNat 32 (n + 1)) (full X i (BitVec.ofNat 32 n) hc s)) ?_ ht)
      · rw [spec1_apply]
        iintro ⟨H, Hk⟩
        isplitl [H]; · iexact H
        iintro H
        isplitl [H]; · iexact H
        iintro H
        rw [wp_ret]; imodintro
        iapply Hk
        iexact H
      · intro t r h1 h2
        subst h1; subst h2
        rw [addi_ofNat]
        exact ih (n + 1) (by omega) (full X i (BitVec.ofNat 32 n) hc s)
    · have hi : iter1 X i (k + 1) (BitVec.ofNat 32 n) s = (BitVec.ofNat 32 n, s) := by
        rw [iter1, dif_neg fun h => ht h.1]
      rw [hi]
      exact exit1 c i X arg3 harg3 arg4 harg4 arg8 harg8 arg9 harg9 _ s (k + 1) E K ht

theorem spec2_le (E : Set ℕ) : ∀ (k n : ℕ), n + k = 9 → ∀ (s : St F) (K : BitVec 32 × F .f32 → sProp 𝕄),
    spec2 c i X arg3 arg4 arg8 arg9 k (BitVec.ofNat 32 n) s K
      ⊢ wp frame (wpE (defs₀ (F := F)) 𝒱₀ (c : Thread nD τ) (some k)) E (defs₀ (F := F) .tc 2
      ⟨i, X.v29, arg3, harg3, X.v65, X.v67, X.v71, X.v73, X.v77, X.v79, X.v83, X.v85, X.v31, arg8, harg8, arg4, harg4, X.v56, X.v61, arg9, harg9,
        BitVec.ofNat 32 n, s.top⟩) K := by
  intro k
  induction k with
  | zero =>
    intro n hn s K
    obtain rfl : n = 9 := by omega
    rw [spec2_apply]
    exact exit2 c i X arg3 harg3 arg4 harg4 arg8 harg8 arg9 harg9 _ s 0 E K (not_test_nine i _)
  | succ k ih =>
    intro n hn s K
    have hc := chk2_of_lt i n (by omega)
    rw [spec2_apply]
    by_cases ht : test i (BitVec.ofNat 32 n) s.top
    · have hi : iter2 X i (k + 1) (BitVec.ofNat 32 n) s = iter2 X i k (BitVec.ofNat 32 (n + 1)) (half X i (BitVec.ofNat 32 n) hc s) := by
        rw [iter2, dif_pos ⟨ht, hc⟩, addi_ofNat]
      rw [hi]
      refine BIBase.Entails.trans ?_ (trip2 c i X arg3 harg3 arg4 harg4 arg8 harg8 arg9 harg9 (BitVec.ofNat 32 n) hc s k E K
        (spec2 c i X arg3 arg4 arg8 arg9 k (BitVec.ofNat 32 (n + 1)) (half X i (BitVec.ofNat 32 n) hc s)) ?_ ht)
      · rw [spec2_apply]
        iintro ⟨H, Hk⟩
        isplitl [H]; · iexact H
        iintro H
        isplitl [H]; · iexact H
        iintro H
        rw [wp_ret]; imodintro
        iapply Hk
        iexact H
      · intro t h1
        subst h1
        rw [addi_ofNat]
        exact ih (n + 1) (by omega) (half X i (BitVec.ofNat 32 n) hc s)
    · have hi : iter2 X i (k + 1) (BitVec.ofNat 32 n) s = (BitVec.ofNat 32 n, s) := by
        rw [iter2, dif_neg fun h => ht h.1]
      rw [hi]
      exact exit2 c i X arg3 harg3 arg4 harg4 arg8 harg8 arg9 harg9 _ s (k + 1) E K ht

/-- The first loop leaves a counter of at most nine. -/
theorem iter1_counter : ∀ (k n : ℕ), n + k = 9 → ∀ s : St F, ∃ n', n' ≤ 9 ∧ (iter1 X i k (BitVec.ofNat 32 n) s).1 = BitVec.ofNat 32 n' := by
  intro k
  induction k with
  | zero => intro n hn s; exact ⟨n, by omega, rfl⟩
  | succ k ih =>
    intro n hn s
    rw [iter1]
    split
    · rw [addi_ofNat]; exact ih (n + 1) (by omega) _
    · exact ⟨n, by omega, rfl⟩
end
end Cert.SbIdeal.Attn
-- ==== Proof.Sb.Body.lean ====
module

public import proofs.«01_k».proof.Proof.Sb.Start
public import proofs.«01_k».proof.Proof.Sb.Trip
public import Idealize.ShloMosaic.Lib.Pipeline.FrameBody
public import Idealize.ShloMosaic.Lib.WordCmp
public import Idealize.ShloMosaic.Lib.Tactic

@[expose] public section

set_option maxRecDepth 16384

noncomputable section

namespace Cert.SbIdeal.Attn

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem put_full5 {α : Type} (x : S1x4x2x64x128.Idx → α) (w : S1x4x2x64x128.Idx → α) :
    VecWindow.put (s := S1x4x2x64x128) x ![0, 0, 0, 0, 0] S1x4x2x64x128.size w = w := by
  funext y
  unfold VecWindow.put
  rw [dif_pos (fun a => by
    have h := (y a).isLt
    fin_cases a <;> exact ⟨Nat.zero_le _, by simpa using h⟩)]
  congr 1
  funext a
  apply Fin.ext
  show (y a).val - (![0, 0, 0, 0, 0] : Fin 5 → ℕ) a = (y a).val
  fin_cases a <;> rfl

theorem put_full4 {α : Type} (x : S1x4x64x128.Idx → α) (w : S1x4x64x128.Idx → α) :
    VecWindow.put (s := S1x4x64x128) x ![0, 0, 0, 0] S1x4x64x128.size w = w := by
  funext y
  unfold VecWindow.put
  rw [dif_pos (fun a => by
    have h := (y a).isLt
    fin_cases a <;> exact ⟨Nat.zero_le _, by simpa using h⟩)]
  congr 1
  funext a
  apply Fin.ext
  show (y a).val - (![0, 0, 0, 0] : Fin 4 → ℕ) a = (y a).val
  fin_cases a <;> rfl

theorem put_full3 {α : Type} (x : S1x64x512.Idx → α) (w : S1x64x512.Idx → α) :
    VecWindow.put (s := S1x64x512) x ![0, 0, 0] S1x64x512.size w = w := by
  funext y
  unfold VecWindow.put
  rw [dif_pos (fun a => by
    have h := (y a).isLt
    fin_cases a <;> exact ⟨Nat.zero_le _, by simpa using h⟩)]
  congr 1
  funext a
  apply Fin.ext
  show (y a).val - (![0, 0, 0] : Fin 3 → ℕ) a = (y a).val
  fin_cases a <;> rfl

theorem win_full2 {α : Type} (x : S256x256.Idx → α) (h : ∀ a, (![0, 0] : Fin 2 → ℕ) a + S256x256.size a ≤ S256x256.size a) :
    VecWindow.window (s := S256x256) x ![0, 0] S256x256.size h = x := by
  funext y
  show x _ = x y
  congr 1
  funext a
  apply Fin.ext
  show (![0, 0] : Fin 2 → ℕ) a + 1 * (y a).val = (y a).val
  fin_cases a <;> simp

theorem win_full3 {α : Type} (x : S1x64x512.Idx → α) (h : ∀ a, (![0, 0, 0] : Fin 3 → ℕ) a + S1x64x512.size a ≤ S1x64x512.size a) :
    VecWindow.window (s := S1x64x512) x ![0, 0, 0] S1x64x512.size h = x := by
  funext y
  show x _ = x y
  congr 1
  funext a
  apply Fin.ext
  show (![0, 0, 0] : Fin 3 → ℕ) a + 1 * (y a).val = (y a).val
  fin_cases a <;> simp

/-- A load of a rectangle after stores that cover it reads a window of what they left, whatever was there before. -/
theorem readCov_win {κ : Kind} {sp : Space} {s : Shape} {e : EltTy} (v : View sig κ sp s e)
    {off size : Fin s.rank → ℕ} (inb : ∀ a, off a + size a ≤ s.size a) (L : List (View.Piece (Elt F) s e)) :
    v.readCov L (Rect.unit off size inb).toLoadRect
      = VecWindow.window (v.read (Elt F) (v.writes (Elt F) v.junk L)) off size inb := rfl

section
variable (c : Dev nD) (i : grid0.Coords)
  (arg2 : Memref sig .tc .vmem S1x64x512 .bf16) (harg2 : arg2.IsWhole)
  (arg3 : Memref sig .tc .vmem S1x512x1152 .bf16) (harg3 : arg3.IsWhole)
  (arg4 : Memref sig .tc .vmem S1x512x1152 .bf16) (harg4 : arg4.IsWhole)
  (arg5 : Memref sig .tc .vmem S1x64x512 .bf16) (harg5 : arg5.IsWhole)
  (arg6 : Memref sig .tc .vmem S256x256 .bf16) (harg6 : arg6.IsWhole)
  (arg7 : Memref sig .tc .vmem S1x64x512 .bf16) (harg7 : arg7.IsWhole)
  (arg8 : Memref sig .tc .vmem S1x4x2x64x128 .f32) (harg8 : arg8.IsWhole)
  (arg9 : Memref sig .tc .vmem S1x4x64x128 .f32) (harg9 : arg9.IsWhole)
  (q : Vec F S1x64x512 .bf16) (kt vt : Vec F S1x512x1152 .bf16) (g : Vec F S1x64x512 .bf16) (sums : Vec F S256x256 .bf16)

set_option maxHeartbeats 4000000 in
/-- The body at one grid point. -/
theorem run (E : Set ℕ) (K : PUnit → sProp 𝕄) :
    iprop(owns (c : Thread nD τ) arg2 fullShare q ∗ owns (c : Thread nD τ) arg3 fullShare kt ∗ owns (c : Thread nD τ) arg4 fullShare vt ∗ owns (c : Thread nD τ) arg5 fullShare g ∗ owns (c : Thread nD τ) arg6 fullShare sums
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare q ∗ owns (c : Thread nD τ) arg3 fullShare kt ∗ owns (c : Thread nD τ) arg4 fullShare vt ∗ owns (c : Thread nD τ) arg5 fullShare g ∗ owns (c : Thread nD τ) arg6 fullShare sums
            ∗ owns (c : Thread nD τ) arg7 fullShare (point q kt vt g sums i) ∗ (∃ d, owns (c : Thread nD τ) arg8 fullShare d) ∗ (∃ d, owns (c : Thread nD τ) arg9 fullShare d)) -∗ K ⟨⟩))
      ⊢ wp frame (wpE (defs₀ (F := F)) 𝒱₀ (c : Thread nD τ) none) E
          (cc0_sb_branch i arg2 harg2 arg3 harg3 arg4 harg4 arg5 harg5 arg6 harg6 arg7 harg7 arg8 harg8 arg9 harg9) K := by
  simp only [cc0_sb_branch_eq_skeleton]; unfold cc0_sb_branch_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, %hf7, H7⟩, ⟨%d8, %f8, %hf8, H8⟩, ⟨%d9, %f9, %hf9, H9⟩, Hk⟩
  obtain rfl := harg2.eq_unread hf2; obtain rfl := harg3.eq_unread hf3; obtain rfl := harg4.eq_unread hf4; obtain rfl := harg5.eq_unread hf5; obtain rfl := harg6.eq_unread hf6
  sl_exec
  generalize e1 : k0_pay93 (F := F) _ _ = t
  generalize e2 : k0_pay94 (F := F) _ _ = r
  have h1 : t = (start (ctx q kt vt sums i) i).top := by
    rw [← e1]
    sl_unfold_run_names
    simp (config := {proj := false}) (disch := decide) only [read_put, readAt_win, readCov_win, Memref.IsWhole.read_unread, View.writes_nil, winA_put, winO_put, put_full5, put_full4, win_full2, win_full3]
    rfl
  have h2 : r = (start (ctx q kt vt sums i) i).rest := by
    rw [← e2]
    sl_unfold_run_names
    simp (config := {proj := false}) (disch := decide) only [read_put, readAt_win, readCov_win, Memref.IsWhole.read_unread, View.writes_nil, winA_put, winO_put, put_full5, put_full4, win_full2, win_full3]
    rfl
  sl_unfold_run_names
  simp (config := {proj := false}) (disch := decide) only [read_put, readAt_win, readCov_win, Memref.IsWhole.read_unread, View.writes_nil, winA_put, winO_put, put_full5, put_full4, win_full2, win_full3]
  subst h1; subst h2
  have hc1 := spec1_le c i (ctx q kt vt sums i) arg3 harg3 arg4 harg4 arg8 harg8 arg9 harg9 E 8 1 rfl (start (ctx q kt vt sums i) i)
  iapply (wp_call_spec 𝒱₀ (c : Thread nD τ) none E (spec1 c i (ctx q kt vt sums i) arg3 arg4 arg8 arg9 8 (BitVec.ofNat 32 1) (start (ctx q kt vt sums i) i)) 8 (fun u hu => nomatch hu) hc1)
  rw [spec1_apply]
  obtain ⟨n', hn', e'⟩ := iter1_counter i (ctx q kt vt sums i) 8 1 rfl (start (ctx q kt vt sums i) i)
  isplitl [H3 H4 H8 H9]
  · unfold held owns
    isplitl [H3]
    · iexists _; isplitr; · ipureintro; exact harg3.read_unread _
      iexact H3
    isplitl [H4]
    · iexists _; isplitr; · ipureintro; exact harg4.read_unread _
      iexact H4
    isplitl [H8]
    · iexists _; isplitr; swap; · iexact H8
      ipureintro
      simp (config := {proj := false}) (disch := decide) only [read_put, readAt_win, readCov_win, Memref.IsWhole.read_unread, View.writes_nil, winA_put, winO_put, put_full5, put_full4, win_full2, win_full3]
      rfl
    · iexists _; isplitr; swap; · iexact H9
      ipureintro
      simp (config := {proj := false}) (disch := decide) only [read_put, readAt_win, readCov_win, Memref.IsWhole.read_unread, View.writes_nil, winA_put, winO_put, put_full5, put_full4, win_full2, win_full3]
      rfl
  iintro Hh
  simp only [Prog.lift, Prog.bind_op, Prog.bind_ret, Prog.pure_eq_ret]
  have hl : 9 - n' = left (ctx q kt vt sums i) i := by
    unfold left mid
    rw [e', BitVec.toNat_ofNat]
    omega
  rw [e']
  have hc2 := spec2_le c i (ctx q kt vt sums i) arg3 harg3 arg4 harg4 arg8 harg8 arg9 harg9 E (9 - n') n' (by omega) (mid (ctx q kt vt sums i) i).2
  iapply (wp_call_spec 𝒱₀ (c : Thread nD τ) none E (spec2 c i (ctx q kt vt sums i) arg3 arg4 arg8 arg9 (9 - n') (BitVec.ofNat 32 n') (mid (ctx q kt vt sums i) i).2) (9 - n') (fun u hu => nomatch hu) hc2)
  rw [spec2_apply]
  isplitl [Hh]; · iexact Hh
  iintro Hh
  rw [hl, ← e']
  unfold held owns
  icases Hh with ⟨⟨%f3, %hf3, H3⟩, ⟨%f4, %hf4, H4⟩, ⟨%f8', %hf8', H8⟩, ⟨%f9', %hf9', H9⟩⟩
  obtain rfl := harg9.eq_unread hf9'
  sl_exec
  sl_step
  iapply Hk
  isplitl [H2]
  · iexists _; isplitr; · ipureintro; exact harg2.read_unread _
    iexact H2
  isplitl [H3]
  · iexists _; isplitr; · ipureintro; exact hf3
    iexact H3
  isplitl [H4]
  · iexists _; isplitr; · ipureintro; exact hf4
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    simp (config := {proj := false}) (disch := decide) only [View.read_writes_full, read_put, readAt_win, readCov_win, Memref.IsWhole.read_unread, View.writes_nil, winA_put, winO_put, put_full5, put_full4, win_full2, win_full3]
    refine (put_full3 _ _).trans ?_
    exact congrArg (fun x => k0_pay1 _ (k0_pay96 x)) (win_full3 g _)
  isplitl [H8]
  · iexists _; iexists _; isplitr; swap; · iexact H8
    ipureintro; rfl
  iexists _; iexists _; isplitr; swap; · iexact H9
  ipureintro; rfl
end
end Cert.SbIdeal.Attn
-- ==== Proof.Sb.Run.lean ====
/- The attention kernel's launch: the program up to the call, the blocks of its windows, the pipeline's proof data, the
   body at a point, and the run with the contents it ends at. -/
module

public import proofs.«01_k».proof.Proof.Gen.SbIdeal.Launch
public import proofs.«01_k».proof.Proof.Gen.SbIdeal.Points
public import proofs.«01_k».proof.Proof.Sb.Body
public import Idealize.ShloMosaic.Lib.Claim
public import Idealize.ShloMosaic.Lib.Pipeline.FrameBody
public import Idealize.ShloMosaic.Lib.Tactic

@[expose] public section

set_option maxRecDepth 16384

noncomputable section

namespace Cert.SbIdeal.Attn

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The program up to the call -/

/-- The host operations before the call, stretch by stretch. -/
abbrev stretches : List (List (HloOp τ sig (Elt F))) :=
  [hostOps0, hostOps0_1, hostOps0_2, hostOps0_3, hostOps0_4, hostOps0_5, hostOps0_6]

/-- What core `c`'s buffers hold when the call is reached. -/
abbrev V (c : Dev nD) (b : Ref sig .tc) : Buf (Elt F) ((c : Thread nD τ).loc b) :=
  StableHlo.after (stretches (F := F)).flatten (fun b => m (c, b)) b

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

theorem stretches_fresh : (stretches (F := F)).Forall fun ops => ops.Forall fun op => op.fresh = ∅ := by
  simp only [List.Forall]; repeat' constructor

set_option maxHeartbeats 800000 in
theorem hmain (𝒱 : Variants) : Pipeline.HMain (Ix := Unit) (Name := ℕ) (U := UR sig nD τ) (Lvl := ℕ) cfgs 0 defs₀ 𝒱 m (main (F := F)) (V m) :=
  Pipeline.hmain_prefixes cfgs 0 defs₀ 𝒱 m main stretches stretches_sub stretches_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [stretches, hostOps0, hostOps0_1, hostOps0_2, hostOps0_3, hostOps0_4, hostOps0_5, hostOps0_6, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [stretches, hostOps0, hostOps0_1, hostOps0_2, hostOps0_3, hostOps0_4, hostOps0_5, hostOps0_6, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [stretches, hostOps0, hostOps0_1, hostOps0_2, hostOps0_3, hostOps0_4, hostOps0_5, hostOps0_6, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [stretches, hostOps0, hostOps0_1, hostOps0_2, hostOps0_3, hostOps0_4, hostOps0_5, hostOps0_6, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [stretches, hostOps0, hostOps0_1, hostOps0_2, hostOps0_3, hostOps0_4, hostOps0_5, hostOps0_6, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    repeat' apply And.intro
    all_goals exact StableHlo.devRef_ne_of_ne (by decide)))

/-! ## The windows' blocks -/

/-- Window `w`'s block at point `t`, read off its array. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- A filler for window 0's buffer, which no block leaves in sight. -/
def filler0 : ((cfg0 (F := F)).win 0).block.Idx → Elt F ((cfg0 (F := F)).win 0).elt := fun _ => Classical.choice inferInstance

/-- Window 0's block at point `t` as its buffer holds it. -/
def X0 (c : Dev nD) (t : Fin (cfg0 (F := F)).N) : ((cfg0 (F := F)).win 0).block.Idx → Elt F ((cfg0 (F := F)).win 0).elt :=
  ((cfg0 (F := F)).win 0).fill ((cfg0 (F := F)).grid.coords t) filler0 (iblk m c 0 t)

theorem xsize0 : ∀ t : Fin (cfg0 (F := F)).N, ∀ a, ((cfg0 (F := F)).win 0).xsize ((cfg0 (F := F)).grid.coords t) a = ((cfg0 (F := F)).win 0).size a :=
  (by decide +kernel : ∀ t : Fin grid0.N, ∀ a, win0_0.xsize (grid0.coords t) a = win0_0.size a)

theorem moved0 (t : Fin (cfg0 (F := F)).N) (j : ((cfg0 (F := F)).win 0).block.Idx) : ((cfg0 (F := F)).win 0).moved ((cfg0 (F := F)).grid.coords t) j = true :=
  (((cfg0 (F := F)).win 0).moved_iff _ j).mpr fun a => by rw [xsize0 t a]; exact (j a).isLt

theorem fill0 (t : Fin (cfg0 (F := F)).N) (d d' : ((cfg0 (F := F)).win 0).block.Idx → Elt F ((cfg0 (F := F)).win 0).elt) (g) :
    ((cfg0 (F := F)).win 0).fill ((cfg0 (F := F)).grid.coords t) d g = ((cfg0 (F := F)).win 0).fill ((cfg0 (F := F)).grid.coords t) d' g := by
  funext j; unfold Pipeline.Window.fill; rw [dif_pos (moved0 t j), dif_pos (moved0 t j)]

theorem before0_of {c : Dev nD} (dat : Dat τ (Elt F) Unit ℕ (UR sig nD τ) ℕ cfg0 c) (hA : dat.A 0 = V m c (Pipeline.arrRef spec0 0))
    (hafter : ∀ t, dat.after 0 t = X0 m c t) (t : Fin (cfg0 (F := F)).N) (d) : dat.before 0 t d = X0 m c t :=
  (dat.before_in_eq_fetched 0 rfl (fun _ => rfl)
      (fun t t' h => funext fun a => congrArg (fun n => Pipeline.Clip.of n (((cfg0 (F := F)).win 0).size a) (S8x64x9472.size a)) (congrFun h a))
      (fun t => by rw [hafter]; unfold X0; rw [Pipeline.Window.cut_fill]; unfold Dat.blockOf iblk; rw [hA]; try rfl) t d).trans
    (by unfold Dat.fetched X0; rw [fill0 t d filler0]; unfold Dat.blockOf iblk; rw [hA]; try rfl)

/-- A filler for window 3's buffer, which no block leaves in sight. -/
def filler3 : ((cfg0 (F := F)).win 3).block.Idx → Elt F ((cfg0 (F := F)).win 3).elt := fun _ => Classical.choice inferInstance

/-- Window 3's block at point `t` as its buffer holds it. -/
def X3 (c : Dev nD) (t : Fin (cfg0 (F := F)).N) : ((cfg0 (F := F)).win 3).block.Idx → Elt F ((cfg0 (F := F)).win 3).elt :=
  ((cfg0 (F := F)).win 3).fill ((cfg0 (F := F)).grid.coords t) filler3 (iblk m c 3 t)

theorem xsize3 : ∀ t : Fin (cfg0 (F := F)).N, ∀ a, ((cfg0 (F := F)).win 3).xsize ((cfg0 (F := F)).grid.coords t) a = ((cfg0 (F := F)).win 3).size a :=
  (by decide +kernel : ∀ t : Fin grid0.N, ∀ a, win0_3.xsize (grid0.coords t) a = win0_3.size a)

theorem moved3 (t : Fin (cfg0 (F := F)).N) (j : ((cfg0 (F := F)).win 3).block.Idx) : ((cfg0 (F := F)).win 3).moved ((cfg0 (F := F)).grid.coords t) j = true :=
  (((cfg0 (F := F)).win 3).moved_iff _ j).mpr fun a => by rw [xsize3 t a]; exact (j a).isLt

theorem fill3 (t : Fin (cfg0 (F := F)).N) (d d' : ((cfg0 (F := F)).win 3).block.Idx → Elt F ((cfg0 (F := F)).win 3).elt) (g) :
    ((cfg0 (F := F)).win 3).fill ((cfg0 (F := F)).grid.coords t) d g = ((cfg0 (F := F)).win 3).fill ((cfg0 (F := F)).grid.coords t) d' g := by
  funext j; unfold Pipeline.Window.fill; rw [dif_pos (moved3 t j), dif_pos (moved3 t j)]

theorem before3_of {c : Dev nD} (dat : Dat τ (Elt F) Unit ℕ (UR sig nD τ) ℕ cfg0 c) (hA : dat.A 3 = V m c (Pipeline.arrRef spec0 3))
    (hafter : ∀ t, dat.after 3 t = X3 m c t) (t : Fin (cfg0 (F := F)).N) (d) : dat.before 3 t d = X3 m c t :=
  (dat.before_in_eq_fetched 3 rfl (fun _ => rfl)
      (fun t t' h => funext fun a => congrArg (fun n => Pipeline.Clip.of n (((cfg0 (F := F)).win 3).size a) (S8x64x9472.size a)) (congrFun h a))
      (fun t => by rw [hafter]; unfold X3; rw [Pipeline.Window.cut_fill]; unfold Dat.blockOf iblk; rw [hA]; try rfl) t d).trans
    (by unfold Dat.fetched X3; rw [fill3 t d filler3]; unfold Dat.blockOf iblk; rw [hA]; try rfl)

theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The buffers of a point -/
abbrev stg0 (t : Fin (cfg0 (F := F)).N) : Memref sig .tc .vmem S1x64x512 .bf16 := win0_0.stage ((cfg0 (F := F)).slots t 0)
abbrev stg1 (t : Fin (cfg0 (F := F)).N) : Memref sig .tc .vmem S1x512x1152 .bf16 := win0_1.stage ((cfg0 (F := F)).slots t 1)
abbrev stg2 (t : Fin (cfg0 (F := F)).N) : Memref sig .tc .vmem S1x512x1152 .bf16 := win0_2.stage ((cfg0 (F := F)).slots t 2)
abbrev stg3 (t : Fin (cfg0 (F := F)).N) : Memref sig .tc .vmem S1x64x512 .bf16 := win0_3.stage ((cfg0 (F := F)).slots t 3)
abbrev stg4 (t : Fin (cfg0 (F := F)).N) : Memref sig .tc .vmem S256x256 .bf16 := win0_4.stage ((cfg0 (F := F)).slots t 4)
abbrev stg5 (t : Fin (cfg0 (F := F)).N) : Memref sig .tc .vmem S1x64x512 .bf16 := win0_5.stage ((cfg0 (F := F)).slots t 5)
abbrev scr0 : Memref sig .tc .vmem S1x4x2x64x128 .f32 := Memref.whole cc0_scratch0
abbrev scr1 : Memref sig .tc .vmem S1x4x64x128 .f32 := Memref.whole cc0_scratch1

/-- The launch's invariant: both scratch buffers owned at something, and the generator register. -/
theorem PhiA_eq (c : Dev nD) :
    (Pipeline.ΦA spec0 c : sProp 𝕄)
      = iprop(iprop((∃ d, owns (c : Thread nD τ) scr0 fullShare d) ∗ (∃ d, owns (c : Thread nD τ) scr1 fullShare d))
        ∗ (∃ r, prngReg c r)) := by
  unfold Pipeline.ΦA; rw [scopedRest0_eq]; simp only [scr0, scr1, owns_whole]; try rfl

/-- What point `t` writes. -/
def wrote (c : Dev nD) (t : Fin (cfg0 (F := F)).N) : Vec F S1x64x512 .bf16 :=
  point (X0 m c t) (iblk m c 1 t) (iblk m c 2 t) (X3 m c t) (iblk m c 4 t) (grid0.coords t)

/-! ## The pipeline's proof data -/

/-- Each input's buffer at its block, the output's at `wrote`, the scratch at anything. -/
def dats (_ : Fin 1) (c : Dev nD) : Dat τ (Elt F) Unit ℕ (UR sig nD τ) ℕ (cfg0 (F := F)) c where
  A w := V m c (Pipeline.arrRef spec0 w)
  after w t := match w with
    | ⟨0, _⟩ => X0 m c t
    | ⟨1, _⟩ => iblk m c 1 t
    | ⟨2, _⟩ => iblk m c 2 t
    | ⟨3, _⟩ => X3 m c t
    | ⟨4, _⟩ => iblk m c 4 t
    | ⟨5, _⟩ => wrote m c t
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = X0 m c t := by dsimp only [dats]; rfl
theorem after_1 (c : Dev nD) (t : Fin (cfg0 (F := F)).N) : (dats m 0 c).after 1 t = iblk m c 1 t := by dsimp only [dats]; rfl
theorem after_2 (c : Dev nD) (t : Fin (cfg0 (F := F)).N) : (dats m 0 c).after 2 t = iblk m c 2 t := by dsimp only [dats]; rfl
theorem after_3 (c : Dev nD) (t : Fin (cfg0 (F := F)).N) : (dats m 0 c).after 3 t = X3 m c t := by dsimp only [dats]; rfl
theorem after_4 (c : Dev nD) (t : Fin (cfg0 (F := F)).N) : (dats m 0 c).after 4 t = iblk m c 4 t := by dsimp only [dats]; rfl
theorem after_5 (c : Dev nD) (t : Fin (cfg0 (F := F)).N) : (dats m 0 c).after 5 t = wrote m c t := by dsimp only [dats]; rfl
theorem before_0 (c : Dev nD) (t : Fin (cfg0 (F := F)).N) (d) : (dats m 0 c).before 0 t d = X0 m c t :=
  before0_of m (dats m 0 c) (A_eq m c 0) (after_0 m c) t d
theorem before_1 (c : Dev nD) (t : Fin (cfg0 (F := F)).N) (d) : (dats m 0 c).before 1 t d = iblk m c 1 t :=
  before1_of m (dats m 0 c) (A_eq m c 1) (after_1 m c) t d
theorem before_2 (c : Dev nD) (t : Fin (cfg0 (F := F)).N) (d) : (dats m 0 c).before 2 t d = iblk m c 2 t :=
  before2_of m (dats m 0 c) (A_eq m c 2) (after_2 m c) t d
theorem before_3 (c : Dev nD) (t : Fin (cfg0 (F := F)).N) (d) : (dats m 0 c).before 3 t d = X3 m c t :=
  before3_of m (dats m 0 c) (A_eq m c 3) (after_3 m c) t d
theorem before_4 (c : Dev nD) (t : Fin (cfg0 (F := F)).N) (d) : (dats m 0 c).before 4 t d = iblk m c 4 t :=
  before4_of m (dats m 0 c) (A_eq m c 4) (after_4 m c) t d

/-! ## The body at a point -/

def pre (c : Dev nD) (t : Fin (cfg0 (F := F)).N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d)))

def post (c : Dev nD) (t : Fin (cfg0 (F := F)).N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t))

set_option maxHeartbeats 4000000 in
/-- The body at any point. -/
theorem sound (c : Dev nD) (t : Fin (cfg0 (F := F)).N) :
    pre m c t ⊢ wp frame (wpE (defs₀ (F := F)) 𝒱₀ c none) Set.univ (bodyAt0 t) (fun _ => post m c t) := by
  unfold pre post bodyAt0
  simp only [before_0, before_1, before_2, before_3, before_4]
  rw [show (dats m 0 c).owesAt () t.succ = (dats m 0 c).owesAt () t.castSucc from rfl,
    after_0, after_1, after_2, after_3, after_4, after_5]
  rw [show (dats m 0 c).Φ t.succ = Pipeline.ΦA spec0 c from rfl, show (dats m 0 c).Φ t.castSucc = Pipeline.ΦA spec0 c from rfl]
  rw [PhiA_eq]
  unfold wrote
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (run c (grid0.coords t) _ _ _ _ _ _ _ _ _ _ _ _ _ _ _ _ (X0 m c t) (iblk m c 1 t) (iblk m c 2 t) (X3 m c t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at a point is the body. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]; try rfl

theorem obligation (c : Dev nD) : BodyObligation (dats (F := F) m 0 c) (defs₀ (F := F)) 𝒱₀ () Set.univ := fun t => by
  rw [bigSep_W0, bigSep_W0, defs₀_row]
  exact triple_restated (sound m c t) rfl .rfl fun _ => .rfl

theorem hin (c : Dev nD) : Pipeline.ΦA spec0 c ⊢ (dats m 0 c).Φ 0 := Idealize.SL.BI.Entails.refl _

theorem hout (c : Dev nD) : (dats m 0 c).Φ (Fin.last (cfg0 (F := F)).N) ⊢ Pipeline.ΦA spec0 c := Idealize.SL.BI.Entails.refl _

/-! ## The run -/

set_option backward.isDefEq.respectTransparency.types false in
/-- The program runs to its end: every array of the pipeline at what the proof data say, every counter at zero. -/
theorem run_q : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ 𝒱₀ m ρ main
    (hbody := fun c => (obligation m c).loose) (hq := fun _ _ _ => rfl)
    (howed := fun _ _ => rfl) (V := V m) (hmain := hmain m 𝒱₀) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_q m ρ)

/-- The argument arrays end unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c |>.1 0).trans (((dats m 0 c).arrAt_in 0 rfl _).trans ((A_eq m c 0).trans (V_main_arg0 m c))),
      ((h.1 c).2 main_arg1 (Pipeline.mem_restRefs_of (win := spec0) main_arg1 (by decide) (by decide))).trans (V_main_arg1 m c),
      ((h.1 c).2 main_arg2 (Pipeline.mem_restRefs_of (win := spec0) main_arg2 (by decide) (by decide))).trans (V_main_arg2 m c),
      ((h.1 c).2 main_arg3 (Pipeline.mem_restRefs_of (win := spec0) main_arg3 (by decide) (by decide))).trans (V_main_arg3 m c),
      ((h.1 c).2 main_arg4 (Pipeline.mem_restRefs_of (win := spec0) main_arg4 (by decide) (by decide))).trans (V_main_arg4 m c)⟩, h.2⟩) (run_q m ρ)

end Cert.SbIdeal.Attn

end
-- ==== Proof.Sb.Frames.lean ====
/- The claims about the attention that say how its programs run: each ends with its arguments unchanged and its counters
   at zero, and the two named constants stand for what they name. -/
module

public import proofs.«01_k».proof.Defs
public import proofs.«01_k».proof.Proof.Sb.Run
public import proofs.«01_k».proof.Proof.SbBase.Run
public import proofs.«01_k».proof.Proof.Gen.SbReferenceIdeal
public import proofs.«01_k».proof.Proof.Gen.SbReferenceIdeal.Run

@[expose] public section

set_option maxRecDepth 16384

noncomputable section

namespace Cert.Attention

open Idealize.ShloMosaic Idealize.ShloMosaic.TcCoe Idealize.SL.Sem

theorem kernel_frame : Cert.quiescent_Sb (hSb := Cert.Sb.Gen.facts) := fun m g _ => Cert.Sb.Attn.frame_all m g

theorem ideal_frame : Cert.quiescent_SbIdeal (hSbIdeal := Cert.SbIdeal.Gen.facts) := fun m g _ => Cert.SbIdeal.Attn.frame_all m g

theorem reference_frame : Cert.quiescent_SbReferenceIdeal (hSbReferenceIdeal := Cert.SbReferenceIdeal.Gen.facts) := fun m g _ =>
  (θ_run Cert.SbReferenceIdeal.defs _ _).mono (fun r h => ⟨fun c => (h c).2, Idealize.ShloMosaic.sem_eq_zero_of_no_sems (by decide) r.2⟩) (Cert.SbReferenceIdeal.Value.run m g)

theorem preserves : Cert.preserves_Sb_SbIdeal :=
  ⟨IdealRules.named_const.statement Cert.SbIdeal.κ "masked" .f32 0xF149F2CA#32 ⊥ rfl,
    IdealRules.named_const.statement Cert.SbIdeal.κ "dead" .f32 0xC2D00000#32 ⊥ rfl⟩

end Cert.Attention

end
-- ==== Proof.Sb.Pair.lean ====
/- One block of keys of the attention call, one pair of heads at a time: the four pairs' printed computations are the same
   functions of their own queries, keys and sums. -/
module

public import proofs.«01_k».proof.Proof.Sb.Start

@[expose] public section

set_option maxRecDepth 16384

noncomputable section

namespace Cert.SbIdeal.Attn

open Cert.SbIdeal Cert.SbIdeal.Gen
open Idealize.ShloMosaic Idealize.ShloMosaic.TcCoe

variable {F : FTy → Type} [FloatOps F] [Named F]

/-- The logits of a pair: the two heads' queries, one above the other, times the keys. -/
abbrev gZ (a b : FVec F S64x128 .bf16) (K : Vec F S1x128x128 .bf16) : FVec F S128x128 .f32 := k0_pay97 a b K
/-- The logarithm of one minus the weight. -/
abbrev gL (a b : FVec F S64x128 .bf16) (K : Vec F S1x128x128 .bf16) : FVec F S128x128 .f32 := k0_pay98 a b K
/-- The two parts the logarithms are summed in. -/
def gH (l : FVec F S128x128 .f32) : FVec F S128x256 .bf16 :=
  concatenate S128x256 1 [⟨S128x128, truncf .bf16 l bitsLt_bf16_f32⟩, ⟨S128x128, truncf .bf16 (subf l (extf .f32 (truncf .bf16 l bitsLt_bf16_f32) bitsLt_bf16_f32)) bitsLt_bf16_f32⟩]
    concatenates_S128x128_S128x128_S128x256_d1
/-- The sums over the block, of all four pairs. -/
def gS (v31 : FVec F S256x256 .bf16) (h0 h1 h2 h3 : FVec F S128x256 .bf16) : FVec F S512x256 .f32 :=
  matmul dot_S512x256_S256x256_S512x256_1_0_0_1_n_n none (concatenate S512x256 0 [⟨S128x256, h0⟩, ⟨S128x256, h1⟩, ⟨S128x256, h2⟩, ⟨S128x256, h3⟩] concatenates_S128x256_S128x256_S128x256_S128x256_S512x256_d0)
    v31 (constant S512x256 .f32 0x00000000#32)
/-- The two heads' running sums, one above the other. -/
abbrev gA (A0 A1 : Vec F S1x1x1x64x128 .f32) : FVec F S128x128 .f32 := k0_pay113 A0 A1
/-- The weights of a pair. -/
def gW (z l s A : FVec F S128x128 .f32) (k : F .f32) : FVec F S128x128 .bf16 :=
  truncf .bf16 (mulf (exp (addf (addf (addf z l) s) A)) (broadcast S128x128 k)) bitsLt_bf16_f32
/-- The weights of a pair on the diagonal. -/
def gM (z l s A : FVec F S128x128 .f32) (mask : IVec S128x128 1) : FVec F S128x128 .bf16 :=
  truncf .bf16 (exp (select mask (addf (addf (addf z l) s) A) (broadcast S128x128 (Named.named κ "masked" 0xF149F2CA#32)))) bitsLt_bf16_f32
/-- The running sums after the block. -/
def gA0 (A s : FVec F S128x128 .f32) : Vec F S1x1x1x64x128 .f32 :=
  shapeCast S1x1x1x64x128 (extractStridedSlice S64x128 ![0, 0] (addf A s) slices_S128x128_o0_0_S64x128) shapeCasts_S64x128_S1x1x1x64x128
def gA1 (A s : FVec F S128x128 .f32) : Vec F S1x1x1x64x128 .f32 :=
  shapeCast S1x1x1x64x128 (extractStridedSlice S64x128 ![64, 0] (addf A s) slices_S128x128_o64_0_S64x128) shapeCasts_S64x128_S1x1x1x64x128
/-- The output after the block. -/
abbrev gO (v56 v61 : FVec F S128x128 .bf16) (w : FVec F S128x128 .bf16) (V : Vec F S1x128x128 .bf16) (O : Vec F S1x1x64x128 .f32) : Vec F S1x1x64x128 .f32 :=
  k0_pay124 v56 v61 w V O

section
variable (s : FVec F S512x256 .f32)
abbrev s00 := extractStridedSlice S128x128 ![0, 0] s slices_S512x256_o0_0_S128x128
abbrev s10 := extractStridedSlice S128x128 ![128, 0] s slices_S512x256_o128_0_S128x128
abbrev s20 := extractStridedSlice S128x128 ![256, 0] s slices_S512x256_o256_0_S128x128
abbrev s30 := extractStridedSlice S128x128 ![384, 0] s slices_S512x256_o384_0_S128x128
abbrev s01 := extractStridedSlice S128x128 ![0, 128] s slices_S512x256_o0_128_S128x128
abbrev s11 := extractStridedSlice S128x128 ![128, 128] s slices_S512x256_o128_128_S128x128
abbrev s21 := extractStridedSlice S128x128 ![256, 128] s slices_S512x256_o256_128_S128x128
abbrev s31 := extractStridedSlice S128x128 ![384, 128] s slices_S512x256_o384_128_S128x128
end

section Full
variable (X : Ctx F) (i : grid0.Coords) (j : BitVec 32) (h : k0_chk1 i j) (s : St F)

abbrev fS : FVec F S512x256 .f32 := gS X.v31 (gH (gL X.v65 X.v67 (K0 X i j h))) (gH (gL X.v71 X.v73 (K1 X i j h)))
  (gH (gL X.v77 X.v79 (K2 X i j h))) (gH (gL X.v83 X.v85 (K3 X i j h)))

theorem full_A : (full X i j h s).A =
    putA (putA (putA (putA (putA (putA (putA (putA s.A 0 0 (gA0 (gA (A00 s) (A01 s)) (s01 (fS X i j h)))) 0 1 (gA1 (gA (A00 s) (A01 s)) (s01 (fS X i j h))))
      1 0 (gA0 (gA (A10 s) (A11 s)) (s11 (fS X i j h)))) 1 1 (gA1 (gA (A10 s) (A11 s)) (s11 (fS X i j h))))
      2 0 (gA0 (gA (A20 s) (A21 s)) (s21 (fS X i j h)))) 2 1 (gA1 (gA (A20 s) (A21 s)) (s21 (fS X i j h))))
      3 0 (gA0 (gA (A30 s) (A31 s)) (s31 (fS X i j h)))) 3 1 (gA1 (gA (A30 s) (A31 s)) (s31 (fS X i j h))) := rfl

theorem full_O : (full X i j h s).O =
    putO (putO (putO (putO s.O
      0 (gO X.v56 X.v61 (gW (gZ X.v65 X.v67 (K0 X i j h)) (gL X.v65 X.v67 (K0 X i j h)) (s00 (fS X i j h)) (gA (A00 s) (A01 s)) (k0_pay112 (live i j))) (V0 X i j h) (O0 s)))
      1 (gO X.v56 X.v61 (gW (gZ X.v71 X.v73 (K1 X i j h)) (gL X.v71 X.v73 (K1 X i j h)) (s10 (fS X i j h)) (gA (A10 s) (A11 s)) (k0_pay112 (live i j))) (V1 X i j h) (O1 s)))
      2 (gO X.v56 X.v61 (gW (gZ X.v77 X.v79 (K2 X i j h)) (gL X.v77 X.v79 (K2 X i j h)) (s20 (fS X i j h)) (gA (A20 s) (A21 s)) (k0_pay112 (live i j))) (V2 X i j h) (O2 s)))
      3 (gO X.v56 X.v61 (gW (gZ X.v83 X.v85 (K3 X i j h)) (gL X.v83 X.v85 (K3 X i j h)) (s30 (fS X i j h)) (gA (A30 s) (A31 s)) (k0_pay112 (live i j))) (V3 X i j h) (O3 s)) := rfl

end Full

section Start
variable (X : Ctx F) (i : grid0.Coords)

/-- The logarithms on the diagonal: nothing where the key is not seen. -/
def gN (mask : IVec S128x128 1) (l : FVec F S128x128 .f32) : FVec F S128x128 .f32 :=
  select mask l (broadcast S128x128 (Scalar.ofBits .f32 0x00000000#32))

abbrev dL0 := gN (k0_pay33 X.v29) (gL X.v65 X.v67 (dK0 X i))
abbrev dL1 := gN (k0_pay33 X.v29) (gL X.v71 X.v73 (dK1 X i))
abbrev dL2 := gN (k0_pay33 X.v29) (gL X.v77 X.v79 (dK2 X i))
abbrev dL3 := gN (k0_pay33 X.v29) (gL X.v83 X.v85 (dK3 X i))
abbrev dS : FVec F S512x256 .f32 := gS X.v31 (gH (dL0 X i)) (gH (dL1 X i)) (gH (dL2 X i)) (gH (dL3 X i))

local notation "zz" => zero (F := F)

theorem start_A : (start X i).A =
    putA (putA (putA (putA (putA (putA (putA (putA (zero (F := F)).A 0 0 (gA0 (gA (A00 zz) (A01 zz)) (s01 (dS X i)))) 0 1 (gA1 (gA (A00 zz) (A01 zz)) (s01 (dS X i))))
      1 0 (gA0 (gA (A10 zz) (A11 zz)) (s11 (dS X i)))) 1 1 (gA1 (gA (A10 zz) (A11 zz)) (s11 (dS X i))))
      2 0 (gA0 (gA (A20 zz) (A21 zz)) (s21 (dS X i)))) 2 1 (gA1 (gA (A20 zz) (A21 zz)) (s21 (dS X i))))
      3 0 (gA0 (gA (A30 zz) (A31 zz)) (s31 (dS X i)))) 3 1 (gA1 (gA (A30 zz) (A31 zz)) (s31 (dS X i))) := rfl

theorem start_O : (start X i).O =
    putO (putO (putO (putO (zero (F := F)).O
      0 (gO X.v56 X.v61 (gM (gZ X.v65 X.v67 (dK0 X i)) (dL0 X i) (s00 (dS X i)) (gA (A00 zz) (A01 zz)) (k0_pay33 X.v29)) (dV0 X i) (O0 zz)))
      1 (gO X.v56 X.v61 (gM (gZ X.v71 X.v73 (dK1 X i)) (dL1 X i) (s10 (dS X i)) (gA (A10 zz) (A11 zz)) (k0_pay33 X.v29)) (dV1 X i) (O1 zz)))
      2 (gO X.v56 X.v61 (gM (gZ X.v77 X.v79 (dK2 X i)) (dL2 X i) (s20 (dS X i)) (gA (A20 zz) (A21 zz)) (k0_pay33 X.v29)) (dV2 X i) (O2 zz)))
      3 (gO X.v56 X.v61 (gM (gZ X.v83 X.v85 (dK3 X i)) (dL3 X i) (s30 (dS X i)) (gA (A30 zz) (A31 zz)) (k0_pay33 X.v29)) (dV3 X i) (O3 zz)) := rfl
end Start

end Cert.SbIdeal.Attn

end
-- ==== Proof.Sb.PairValue.lean ====
/- The pair computations of the attention call, read at an index over the extended reals. -/
module

public import proofs.«01_k».proof.Proof.Sb.Pair
public import proofs.«01_k».proof.Proof.Lru.Scalars
public import Idealize.ShloMosaic.Lib.Pointwise

@[expose] public section

set_option maxRecDepth 16384

noncomputable section

namespace Cert.SbIdeal.Attn

open Cert.SbIdeal Cert.SbIdeal.Gen
open Idealize.ShloMosaic Idealize.ShloMosaic.TcCoe Idealize.ShloMosaic.Tactic Idealize.ShloMosaic.Pointwise

/-- Row `i` of a pair's first head, and of its second. -/
abbrev up (i : Fin 64) : Fin 128 := ⟨i.val, by omega⟩
abbrev dn (i : Fin 64) : Fin 128 := ⟨64 + i.val, by omega⟩
abbrev lo (k : Fin 128) : Fin 256 := ⟨k.val, by omega⟩
abbrev hi (k : Fin 128) : Fin 256 := ⟨128 + k.val, by omega⟩

/-- The logarithm of one minus the sigmoid, as the kernel writes it. -/
def lsm (z : EReal) : EReal := 0 - (max z 0 + Ideal.log (1 + Ideal.exp (0 - max z (-z))))

theorem gZ_up (a b : FVec Ideal S64x128 .bf16) (K : Vec Ideal S1x128x128 .bf16) (i : Fin 64) (n : Fin 128) :
    gZ a b K (ix2 (up i) n) = ∑ k : Fin 128, a (ix2 i k) * K (ix3 0 k n) := by
  have hi := i.isLt
  pointwise [gZ, k0_pay97]
theorem gZ_dn (a b : FVec Ideal S64x128 .bf16) (K : Vec Ideal S1x128x128 .bf16) (i : Fin 64) (n : Fin 128) :
    gZ a b K (ix2 (dn i) n) = ∑ k : Fin 128, b (ix2 i k) * K (ix3 0 k n) := by
  have hi := i.isLt
  pointwise [gZ, k0_pay97]
theorem gL_apply (a b : FVec Ideal S64x128 .bf16) (K : Vec Ideal S1x128x128 .bf16) (r n : Fin 128) :
    gL a b K (ix2 r n) = lsm (gZ a b K (ix2 r n)) := by
  unfold gL gZ k0_pay98
  generalize k0_pay97 a b K = z
  pointwise
  rfl

section
variable (u : FVec Ideal S256x256 .bf16) (l0 l1 l2 l3 : FVec Ideal S128x128 .f32) (r n : Fin 128)

/-- One pair's row summed with a column of the summation matrix. -/
def summed (u : FVec Ideal S256x256 .bf16) (l : FVec Ideal S128x128 .f32) (r : Fin 128) (n : Fin 256) : EReal :=
  ∑ k : Fin 128, l (ix2 r k) * u (ix2 (lo k) n) + ∑ k : Fin 128, (l (ix2 r k) - l (ix2 r k)) * u (ix2 (hi k) n)

theorem s00_apply : s00 (gS u (gH l0) (gH l1) (gH l2) (gH l3)) (ix2 r n) = summed u l0 r (lo n) := by
  pointwise [gS, gH, summed]
theorem s10_apply : s10 (gS u (gH l0) (gH l1) (gH l2) (gH l3)) (ix2 r n) = summed u l1 r (lo n) := by
  pointwise [gS, gH, summed]
theorem s20_apply : s20 (gS u (gH l0) (gH l1) (gH l2) (gH l3)) (ix2 r n) = summed u l2 r (lo n) := by
  pointwise [gS, gH, summed]
  have a1 : ¬ 256 + r.val < 128 := by omega
  have a2 : ¬ 256 + r.val - 128 < 128 := by omega
  have a3 : r.val < 128 := r.isLt
  have e : 256 + r.val - 128 - 128 = r.val := by omega
  simp only [a1, a2, a3, e, ↓reduceDIte]
theorem s30_apply : s30 (gS u (gH l0) (gH l1) (gH l2) (gH l3)) (ix2 r n) = summed u l3 r (lo n) := by
  pointwise [gS, gH, summed]
  have a1 : ¬ 384 + r.val < 128 := by omega
  have a2 : ¬ 384 + r.val - 128 < 128 := by omega
  have a3 : ¬ 384 + r.val - 128 - 128 < 128 := by omega
  have e : 384 + r.val - 128 - 128 - 128 = r.val := by omega
  simp only [a1, a2, a3, e, ↓reduceDIte]
theorem s01_apply : s01 (gS u (gH l0) (gH l1) (gH l2) (gH l3)) (ix2 r n) = summed u l0 r (hi n) := by
  pointwise [gS, gH, summed]
theorem s11_apply : s11 (gS u (gH l0) (gH l1) (gH l2) (gH l3)) (ix2 r n) = summed u l1 r (hi n) := by
  pointwise [gS, gH, summed]
theorem s21_apply : s21 (gS u (gH l0) (gH l1) (gH l2) (gH l3)) (ix2 r n) = summed u l2 r (hi n) := by
  pointwise [gS, gH, summed]
  have a1 : ¬ 256 + r.val < 128 := by omega
  have a2 : ¬ 256 + r.val - 128 < 128 := by omega
  have a3 : r.val < 128 := r.isLt
  have e : 256 + r.val - 128 - 128 = r.val := by omega
  simp only [a1, a2, a3, e, ↓reduceDIte]
theorem s31_apply : s31 (gS u (gH l0) (gH l1) (gH l2) (gH l3)) (ix2 r n) = summed u l3 r (hi n) := by
  pointwise [gS, gH, summed]
  have a1 : ¬ 384 + r.val < 128 := by omega
  have a2 : ¬ 384 + r.val - 128 < 128 := by omega
  have a3 : ¬ 384 + r.val - 128 - 128 < 128 := by omega
  have e : 384 + r.val - 128 - 128 - 128 = r.val := by omega
  simp only [a1, a2, a3, e, ↓reduceDIte]
end

theorem gA_up (A0 A1 : Vec Ideal S1x1x1x64x128 .f32) (i : Fin 64) (n : Fin 128) : gA A0 A1 (ix2 (up i) n) = A0 (ix5 0 0 0 i n) := by
  have hi := i.isLt
  pointwise [gA, k0_pay113]
theorem gA_dn (A0 A1 : Vec Ideal S1x1x1x64x128 .f32) (i : Fin 64) (n : Fin 128) : gA A0 A1 (ix2 (dn i) n) = A1 (ix5 0 0 0 i n) := by
  have hi := i.isLt
  pointwise [gA, k0_pay113]

theorem gW_apply (z l s A : FVec Ideal S128x128 .f32) (k : Ideal .f32) (r n : Fin 128) :
    gW z l s A k (ix2 r n) = Ideal.exp (z (ix2 r n) + l (ix2 r n) + s (ix2 r n) + A (ix2 r n)) * k := by
  pointwise [gW]
theorem gM_apply (z l s A : FVec Ideal S128x128 .f32) (mask : IVec S128x128 1) (r n : Fin 128) :
    gM z l s A mask (ix2 r n) = Ideal.exp (if mask (ix2 r n) = 1#1 then z (ix2 r n) + l (ix2 r n) + s (ix2 r n) + A (ix2 r n) else ⊥) := by
  pointwise [gM]
  rfl
theorem gN_apply (mask : IVec S128x128 1) (l : FVec Ideal S128x128 .f32) (r n : Fin 128) :
    gN mask l (ix2 r n) = if mask (ix2 r n) = 1#1 then l (ix2 r n) else 0 := by
  pointwise [gN]
  rfl
theorem gA0_apply (A s : FVec Ideal S128x128 .f32) (i : Fin 64) (n : Fin 128) :
    gA0 A s (ix5 0 0 0 i n) = A (ix2 (up i) n) + s (ix2 (up i) n) := by
  pointwise [gA0]
theorem gA1_apply (A s : FVec Ideal S128x128 .f32) (i : Fin 64) (n : Fin 128) :
    gA1 A s (ix5 0 0 0 i n) = A (ix2 (dn i) n) + s (ix2 (dn i) n) := by
  pointwise [gA1]
theorem gO_apply (v56 v61 w : FVec Ideal S128x128 .bf16) (V : Vec Ideal S1x128x128 .bf16) (O : Vec Ideal S1x1x64x128 .f32) (i : Fin 64) (n : Fin 128) :
    gO v56 v61 w V O (ix4 0 0 i n) = O (ix4 0 0 i n) + (∑ k : Fin 128, w (ix2 (up i) k) * (V (ix3 0 n k) * v56 (ix2 n k))
      + ∑ k : Fin 128, w (ix2 (dn i) k) * (V (ix3 0 n k) * v61 (ix2 n k))) := by
  pointwise [gO, k0_pay124]

/-! ## The arrays by pairs -/

theorem A_put (A : Vec Ideal S1x4x2x64x128 .f32) (p r : ℕ) (w : Vec Ideal S1x1x1x64x128 .f32) (p' : Fin 4) (r' : Fin 2) (i : Fin 64) (n : Fin 128) :
    putA A p r w (ix5 0 p' r' i n) = if p'.val = p ∧ r'.val = r then w (ix5 0 0 0 i n) else A (ix5 0 p' r' i n) := by
  unfold putA VecWindow.put
  have hi := i.isLt
  have hn := n.isLt
  by_cases hc : p'.val = p ∧ r'.val = r
  · rw [if_pos hc, dif_pos]
    · refine congrArg w (funext fun a => Fin.ext ?_)
      obtain ⟨h1, h2⟩ := hc
      match a with
      | ⟨0, _⟩ => rfl
      | ⟨1, _⟩ => show p'.val - p = 0; omega
      | ⟨2, _⟩ => show r'.val - r = 0; omega
      | ⟨3, _⟩ => show i.val - 0 = i.val; omega
      | ⟨4, _⟩ => show n.val - 0 = n.val; omega
    · obtain ⟨h1, h2⟩ := hc
      intro a
      match a with
      | ⟨0, _⟩ => show 0 ≤ 0 ∧ 0 < 0 + 1; omega
      | ⟨1, _⟩ => show p ≤ p'.val ∧ p'.val < p + 1; omega
      | ⟨2, _⟩ => show r ≤ r'.val ∧ r'.val < r + 1; omega
      | ⟨3, _⟩ => show 0 ≤ i.val ∧ i.val < 0 + 64; omega
      | ⟨4, _⟩ => show 0 ≤ n.val ∧ n.val < 0 + 128; omega
  · rw [if_neg hc, dif_neg]
    intro h
    have h1 : p ≤ p'.val ∧ p'.val < p + 1 := h 1
    have h2 : r ≤ r'.val ∧ r'.val < r + 1 := h 2
    exact hc ⟨by omega, by omega⟩

theorem O_put (O : Vec Ideal S1x4x64x128 .f32) (p : ℕ) (w : Vec Ideal S1x1x64x128 .f32) (p' : Fin 4) (i : Fin 64) (n : Fin 128) :
    putO O p w (ix4 0 p' i n) = if p'.val = p then w (ix4 0 0 i n) else O (ix4 0 p' i n) := by
  unfold putO VecWindow.put
  have hi := i.isLt
  have hn := n.isLt
  by_cases hc : p'.val = p
  · rw [if_pos hc, dif_pos]
    · refine congrArg w (funext fun a => Fin.ext ?_)
      match a with
      | ⟨0, _⟩ => rfl
      | ⟨1, _⟩ => show p'.val - p = 0; omega
      | ⟨2, _⟩ => show i.val - 0 = i.val; omega
      | ⟨3, _⟩ => show n.val - 0 = n.val; omega
    · intro a
      match a with
      | ⟨0, _⟩ => show 0 ≤ 0 ∧ 0 < 0 + 1; omega
      | ⟨1, _⟩ => show p ≤ p'.val ∧ p'.val < p + 1; omega
      | ⟨2, _⟩ => show 0 ≤ i.val ∧ i.val < 0 + 64; omega
      | ⟨3, _⟩ => show 0 ≤ n.val ∧ n.val < 0 + 128; omega
  · rw [if_neg hc, dif_neg]
    intro h
    have h1 : p ≤ p'.val ∧ p'.val < p + 1 := h 1
    exact hc (by omega)

theorem A_win (A : Vec Ideal S1x4x2x64x128 .f32) (p : Fin 4) (r : Fin 2) (h) (i : Fin 64) (n : Fin 128) :
    winA A p.val r.val h (ix5 0 0 0 i n) = A (ix5 0 p r i n) := by
  refine congrArg A (funext fun a => Fin.ext ?_)
  match a with
  | ⟨0, _⟩ => rfl
  | ⟨1, _⟩ => show p.val + 1 * 0 = p.val; omega
  | ⟨2, _⟩ => show r.val + 1 * 0 = r.val; omega
  | ⟨3, _⟩ => show 0 + 1 * i.val = i.val; omega
  | ⟨4, _⟩ => show 0 + 1 * n.val = n.val; omega

theorem O_win (O : Vec Ideal S1x4x64x128 .f32) (p : Fin 4) (h) (i : Fin 64) (n : Fin 128) :
    winO O p.val h (ix4 0 0 i n) = O (ix4 0 p i n) := by
  refine congrArg O (funext fun a => Fin.ext ?_)
  match a with
  | ⟨0, _⟩ => rfl
  | ⟨1, _⟩ => show p.val + 1 * 0 = p.val; omega
  | ⟨2, _⟩ => show 0 + 1 * i.val = i.val; omega
  | ⟨3, _⟩ => show 0 + 1 * n.val = n.val; omega

end Cert.SbIdeal.Attn

end
-- ==== Proof.Sb.Maths.lean ====
/- Stick-breaking attention over the extended reals: the logits, the logarithms of what each key leaves of the stick, the
   weights, and the sums a block of keys at a time. -/
module

public import proofs.«01_k».proof.Proof.Lru.Scalars
public import Mathlib.Tactic.FinCases

@[expose] public section

noncomputable section

namespace Cert.Stick

open Idealize.ShloMosaic

/-- The logarithm of one minus the sigmoid. -/
def ls (x : EReal) : EReal := 0 - (max x 0 + Ideal.log (1 + Ideal.exp (0 - max x (-x))))

/-- The factor of the logits. -/
def scale : EReal := ((1 / 8 : ℝ) : EReal)

variable (q k : ℕ → ℕ → EReal) (v : ℕ → ℕ → EReal)

/-- The logit of head `h`, query `i`, key `n`. -/
def zr (h i n : ℕ) : EReal := (∑ d ∈ Finset.range 64, q i (64 * h + d) * k (64 * h + d) n) * scale
/-- What the key leaves of the stick, as a logarithm: nothing is taken by a key that is not seen. -/
def lr (h i n : ℕ) : EReal := if n < 1024 + i then ls (zr q k h i n) else 0
/-- The same, of all keys from `a` on. -/
def tail (h i a : ℕ) : EReal := ∑ n ∈ Finset.Ico a 1152, lr q k h i n
/-- The weight of a key. -/
def wt (h i n : ℕ) : EReal := if n < 1024 + i then Ideal.exp (zr q k h i n + lr q k h i n + tail q k h i (n + 1)) else 0
/-- The output of the keys from `a` on, at channel `c`. -/
def out (h i c a : ℕ) : EReal := ∑ n ∈ Finset.Ico a 1152, wt q k h i n * v c n

/-! ## Infinite logits -/

/-- The same logarithm of a real number. -/
def lsr (x : ℝ) : ℝ := 0 - (max x 0 + Real.log (1 + Real.exp (0 - max x (-x))))

theorem ls_coe (x : ℝ) : ls (x : EReal) = ((lsr x : ℝ) : EReal) := by
  have hm : ∀ a b : ℝ, max (a : EReal) (b : EReal) = ((max a b : ℝ) : EReal) := fun a b => (EReal.coe_strictMono.monotone.map_max).symm
  unfold ls lsr
  rw [← EReal.coe_neg, hm, ← EReal.coe_zero, hm, ← EReal.coe_sub, Ideal.exp_coe, ← EReal.coe_one, ← EReal.coe_add, Ideal.log_coe,
    if_neg (by have := Real.exp_pos (0 - max x (-x)); linarith), ← EReal.coe_add, ← EReal.coe_sub]

theorem log_one : Ideal.log (1 + Ideal.exp ⊥) = 0 := by
  rw [Ideal.exp_bot, add_zero, ← EReal.coe_one, Ideal.log_coe, if_neg (by norm_num), Real.log_one, EReal.coe_zero]

theorem ls_top : ls ⊤ = ⊥ := by
  unfold ls
  rw [EReal.neg_top, max_eq_left bot_le, max_eq_left le_top, show (0 : EReal) - ⊤ = ⊥ from rfl, log_one]
  rfl
theorem ls_bot : ls ⊥ = 0 := by
  unfold ls
  rw [EReal.neg_bot, max_eq_right bot_le, max_eq_right bot_le, show (0 : EReal) - ⊤ = ⊥ from rfl, log_one, add_zero, sub_zero]

theorem ls_ne_top (x : EReal) : ls x ≠ ⊤ := by
  induction x using EReal.rec with
  | bot => rw [ls_bot]; exact EReal.zero_ne_top
  | coe x => rw [ls_coe]; exact EReal.coe_ne_top _
  | top => rw [ls_top]; exact bot_ne_top

theorem lr_ne_top (h i n : ℕ) : lr q k h i n ≠ ⊤ := by
  unfold lr
  split
  · exact ls_ne_top _
  · exact EReal.zero_ne_top

theorem tail_ne_top (h i a : ℕ) : tail q k h i a ≠ ⊤ := by
  classical
  unfold tail
  induction Finset.Ico a 1152 using Finset.induction_on with
  | empty => rw [Finset.sum_empty]; exact EReal.zero_ne_top
  | insert b s hb ih => rw [Finset.sum_insert hb]; exact EReal.add_ne_top (lr_ne_top q k h i b) ih

/-- A value and what rounding takes off it, where nothing is rounded: minus infinity stays what it is. -/
theorem halves {l u : EReal} (hl : l ≠ ⊤) (hu : u = 0 ∨ u = 1) : l * u + (l - l) * u = l * u := by
  rcases hu with rfl | rfl
  · simp
  · rw [mul_one, mul_one]
    induction l using EReal.rec with
    | bot => exact EReal.bot_add _
    | coe x => rw [← EReal.coe_sub, sub_self, EReal.coe_zero, add_zero]
    | top => exact absurd rfl hl

theorem sum_scale {ι : Type} (s : Finset ι) (f : ι → EReal) : (∑ x ∈ s, f x) * scale = ∑ x ∈ s, f x * scale := by
  classical
  induction s using Finset.induction_on with
  | empty => simp
  | insert a s ha ih =>
    rw [Finset.sum_insert ha, Finset.sum_insert ha, ← ih]
    exact EReal.right_distrib_of_nonneg_of_ne_top (EReal.coe_nonneg.mpr (by norm_num)) (EReal.coe_ne_top _) _ _

/-- A block's sum over its 128 keys. -/
theorem sum_block {M : Type} [AddCommMonoid M] (f : ℕ → M) (b : ℕ) : ∑ n ∈ Finset.Ico (128 * b) (128 * b + 128), f n = ∑ j : Fin 128, f (128 * b + j.val) := by
  rw [Finset.sum_Ico_eq_sum_range, Nat.add_sub_cancel_left, Finset.sum_range]

theorem tail_block (h i b : ℕ) (hb : b ≤ 8) : tail q k h i (128 * b) = (∑ j : Fin 128, lr q k h i (128 * b + j.val)) + tail q k h i (128 * (b + 1)) := by
  unfold tail
  rw [← sum_block, ← Finset.sum_Ico_consecutive _ (show 128 * b ≤ 128 * b + 128 by omega) (show 128 * b + 128 ≤ 1152 by omega)]
  rfl

theorem out_block (h i c b : ℕ) (hb : b ≤ 8) : out q k v h i c (128 * b) =
    (∑ j : Fin 128, wt q k h i (128 * b + j.val) * v c (128 * b + j.val)) + out q k v h i c (128 * (b + 1)) := by
  unfold out
  rw [← sum_block (fun n => wt q k h i n * v c n), ← Finset.sum_Ico_consecutive _ (show 128 * b ≤ 128 * b + 128 by omega) (show 128 * b + 128 ≤ 1152 by omega)]
  rfl

theorem tail_later (h i b : ℕ) (hb : b ≤ 8) (j : Fin 128) : tail q k h i (128 * b + j.val + 1) =
    (∑ l : Fin 128, lr q k h i (128 * b + l.val) * (if j.val < l.val then 1 else 0)) + tail q k h i (128 * (b + 1)) := by
  have e : (∑ l : Fin 128, lr q k h i (128 * b + l.val) * (if j.val < l.val then 1 else 0)) =
      ∑ n ∈ Finset.Ico (128 * b + j.val + 1) (128 * b + 128), lr q k h i n := by
    have e1 : (∑ l : Fin 128, lr q k h i (128 * b + l.val) * (if j.val < l.val then 1 else 0)) =
        ∑ n ∈ Finset.Ico (128 * b) (128 * b + 128), if 128 * b + j.val < n then lr q k h i n else 0 := by
      rw [sum_block (fun n => if 128 * b + j.val < n then lr q k h i n else 0)]
      refine Finset.sum_congr rfl fun l _ => ?_
      by_cases hl : j.val < l.val
      · rw [if_pos hl, if_pos (by omega), mul_one]
      · rw [if_neg hl, if_neg (by omega), mul_zero]
    rw [e1, ← Finset.sum_filter]
    refine Finset.sum_congr (Finset.ext fun n => ?_) fun _ _ => rfl
    simp only [Finset.mem_filter, Finset.mem_Ico]
    omega
  rw [e]
  unfold tail
  rw [← Finset.sum_Ico_consecutive _ (show 128 * b + j.val + 1 ≤ 128 * b + 128 by omega) (show 128 * b + 128 ≤ 1152 by omega)]
  rfl

theorem tail_end (h i : ℕ) : tail q k h i (128 * 9) = 0 := by unfold tail; simp
theorem out_end (h i c : ℕ) : out q k v h i c (128 * 9) = 0 := by unfold out; simp

/-- The keys behind the 1088 that there are count for nothing. -/
theorem lr_far (h i n : ℕ) (hi : i < 64) (hn : 1088 ≤ n) : lr q k h i n = 0 := by
  unfold lr; rw [if_neg (by omega)]
theorem wt_far (h i n : ℕ) (hi : i < 64) (hn : 1088 ≤ n) : wt q k h i n = 0 := by
  unfold wt; rw [if_neg (by omega)]
theorem tail_near (h i a : ℕ) (hi : i < 64) (ha : a ≤ 1088) : tail q k h i a = ∑ n ∈ Finset.Ico a 1088, lr q k h i n := by
  unfold tail
  rw [← Finset.sum_Ico_consecutive _ ha (show 1088 ≤ 1152 by omega)]
  rw [Finset.sum_eq_zero (s := Finset.Ico 1088 1152) fun n hn => lr_far q k h i n hi (Finset.mem_Ico.mp hn).1, add_zero]
theorem out_near (h i c : ℕ) (hi : i < 64) : out q k v h i c 0 = ∑ n ∈ Finset.range 1088, wt q k h i n * v c n := by
  unfold out
  rw [← Finset.sum_Ico_consecutive _ (show 0 ≤ 1088 by omega) (show 1088 ≤ 1152 by omega)]
  rw [Finset.sum_eq_zero (s := Finset.Ico 1088 1152) fun n hn => by rw [wt_far q k h i n hi (Finset.mem_Ico.mp hn).1, zero_mul], add_zero,
    Finset.range_eq_Ico]

/-- One head's share of a pair's product: the other head's channels are masked. -/
theorem pair_sum (f : ℕ → EReal) (p : ℕ) (r : Fin 2) :
    (∑ c : Fin 128, if c.val / 64 = r.val then f (128 * p + c.val) else 0) = ∑ d ∈ Finset.range 64, f (64 * (2 * p + r.val) + d) := by
  rw [← Finset.sum_range (fun c => if c / 64 = r.val then f (128 * p + c) else 0), show (128 : ℕ) = 64 + 64 from rfl, Finset.sum_range_add]
  fin_cases r
  · rw [Finset.sum_eq_zero (s := Finset.range 64) (f := fun x => if (64 + x) / 64 = _ then f _ else 0), add_zero]
    · refine Finset.sum_congr rfl fun d hd => ?_
      have := Finset.mem_range.mp hd
      rw [if_pos (show d / 64 = 0 by omega)]
      exact congrArg f (by simp only; omega)
    · intro d hd
      have := Finset.mem_range.mp hd
      rw [if_neg]
      show ¬ (64 + d) / 64 = 0
      omega
  · rw [Finset.sum_eq_zero (s := Finset.range 64) (f := fun x => if x / 64 = _ then f _ else 0), zero_add]
    · refine Finset.sum_congr rfl fun d hd => ?_
      have := Finset.mem_range.mp hd
      rw [if_pos (show (64 + d) / 64 = 1 by omega)]
      exact congrArg f (by simp only; omega)
    · intro d hd
      have := Finset.mem_range.mp hd
      rw [if_neg]
      show ¬ d / 64 = 1
      omega

end Cert.Stick

end
-- ==== Proof.Sb.Sums.lean ====
/- What one block of keys adds to a pair's running sums and output, over the extended reals: the tails and the outputs of
   stick-breaking attention, a block further. -/
module

public import proofs.«01_k».proof.Proof.Sb.PairValue
public import proofs.«01_k».proof.Proof.Sb.Maths

@[expose] public section

set_option maxRecDepth 16384

noncomputable section

namespace Cert.SbIdeal.Attn

open Cert.SbIdeal Cert.SbIdeal.Gen Cert.Stick
open Idealize.ShloMosaic Idealize.ShloMosaic.TcCoe Idealize.ShloMosaic.Tactic Idealize.ShloMosaic.Pointwise

/-- Row `i` of head `r` of a pair. -/
def row (r : Fin 2) (i : Fin 64) : Fin 128 := if r = 0 then up i else dn i
theorem row_zero (i : Fin 64) : row 0 i = up i := rfl
theorem row_one (i : Fin 64) : row 1 i = dn i := rfl

section
variable (q k : ℕ → ℕ → EReal) (v : ℕ → ℕ → EReal) (p bk : ℕ) (hb : bk ≤ 8)

/-- A head's queries, the other head's channels masked, scaled. -/
def QOk (f : FVec Ideal S64x128 .bf16) (r : Fin 2) : Prop :=
  ∀ (i : Fin 64) (c : Fin 128), f (ix2 i c) = if c.val / 64 = r.val then (q i.val (128 * p + c.val) * scale) else 0
def KOk (K : Vec Ideal S1x128x128 .bf16) : Prop :=
  ∀ c n : Fin 128, K (ix3 0 c n) = (k (128 * p + c.val) (128 * bk + n.val))
def VOk (V : Vec Ideal S1x128x128 .bf16) : Prop :=
  ∀ c n : Fin 128, V (ix3 0 c n) = v (128 * p + c.val) (128 * bk + n.val)
def ZOk (z : FVec Ideal S128x128 .f32) : Prop :=
  ∀ (r : Fin 2) (i : Fin 64) (n : Fin 128), z (ix2 (row r i) n) = (zr q k (2 * p + r.val) i.val (128 * bk + n.val))
def LOk (l : FVec Ideal S128x128 .f32) : Prop :=
  ∀ (r : Fin 2) (i : Fin 64) (n : Fin 128), l (ix2 (row r i) n) = (lr q k (2 * p + r.val) i.val (128 * bk + n.val))
def UOk (u : FVec Ideal S256x256 .bf16) : Prop :=
  (∀ l n : Fin 128, u (ix2 (lo l) (lo n)) = if n.val < l.val then 1 else 0) ∧ (∀ l n : Fin 128, u (ix2 (lo l) (hi n)) = 1)
    ∧ ∀ (l : Fin 128) (n : Fin 256), u (ix2 (hi l) n) = u (ix2 (lo l) n)
/-- The running sums of the pair's two heads when the keys from block `bk` on are in. -/
def AOk (A : Vec Ideal S1x1x1x64x128 .f32) (r : Fin 2) : Prop :=
  ∀ (i : Fin 64) (n : Fin 128), A (ix5 0 0 0 i n) = (tail q k (2 * p + r.val) i.val (128 * bk))
def OOk (O : Vec Ideal S1x1x64x128 .f32) : Prop :=
  ∀ (i : Fin 64) (c : Fin 128), O (ix4 0 0 i c) = out q k v (2 * p + c.val / 64) i.val (128 * p + c.val) (128 * bk)
def WOk (w : FVec Ideal S128x128 .bf16) : Prop :=
  ∀ (r : Fin 2) (i : Fin 64) (n : Fin 128), w (ix2 (row r i) n) = wt q k (2 * p + r.val) i.val (128 * bk + n.val)
def MOk (m0 m1 : FVec Ideal S128x128 .bf16) : Prop :=
  (∀ c n : Fin 128, m0 (ix2 c n) = if c.val / 64 = 0 then 1 else 0) ∧ (∀ c n : Fin 128, m1 (ix2 c n) = if c.val / 64 = 1 then 1 else 0)

variable {q k v p bk}

theorem dotted {f : FVec Ideal S64x128 .bf16} {K : Vec Ideal S1x128x128 .bf16} {r : Fin 2} (hf : QOk q p f r) (hK : KOk k p bk K) (i : Fin 64) (n : Fin 128) :
    ∑ c : Fin 128, f (ix2 i c) * K (ix3 0 c n) = zr q k (2 * p + r.val) i.val (128 * bk + n.val) := by
  have e : ∀ c : Fin 128, f (ix2 i c) * K (ix3 0 c n) =
      if c.val / 64 = r.val then q i.val (128 * p + c.val) * scale * k (128 * p + c.val) (128 * bk + n.val) else 0 := by
    intro c
    rw [hf, hK]
    split
    · rfl
    · rw [zero_mul]
  rw [Finset.sum_congr rfl fun c _ => e c, pair_sum (fun c => q i.val c * scale * k c (128 * bk + n.val)) p r]
  unfold zr
  rw [sum_scale]
  exact Finset.sum_congr rfl fun d _ => mul_right_comm _ _ _

theorem z_ok {a b : FVec Ideal S64x128 .bf16} {K : Vec Ideal S1x128x128 .bf16} (ha : QOk q p a 0) (hb : QOk q p b 1) (hK : KOk k p bk K) :
    ZOk q k p bk (gZ a b K) := by
  intro r i n
  match r with
  | 0 => rw [row_zero, gZ_up]; exact dotted ha hK i n
  | 1 => rw [row_one, gZ_dn]; exact dotted hb hK i n

theorem l_ok {a b : FVec Ideal S64x128 .bf16} {K : Vec Ideal S1x128x128 .bf16} (hz : ZOk q k p bk (gZ a b K)) (h8 : bk < 8) :
    LOk q k p bk (gL a b K) := by
  intro r i n
  rw [gL_apply, hz r i n]
  unfold lr
  rw [if_pos (by have := n.isLt; omega)]
  rfl

theorem n_ok {a b : FVec Ideal S64x128 .bf16} {K : Vec Ideal S1x128x128 .bf16} {mask : IVec S128x128 1} (hz : ZOk q k p 8 (gZ a b K))
    (hm : ∀ (r : Fin 2) (i : Fin 64) (n : Fin 128), mask (ix2 (row r i) n) = 1#1 ↔ n.val < i.val) : LOk q k p 8 (gN mask (gL a b K)) := by
  intro r i n
  rw [gN_apply, gL_apply, hz r i n]
  unfold lr
  by_cases h : n.val < i.val
  · rw [if_pos ((hm r i n).mpr h), if_pos (by omega)]; rfl
  · rw [if_neg (fun e => h ((hm r i n).mp e)), if_neg (by omega)]

theorem summed_lo {u : FVec Ideal S256x256 .bf16} {l : FVec Ideal S128x128 .f32} (hu : UOk u) (hl : LOk q k p bk l) (r : Fin 2) (i : Fin 64) (n : Fin 128) :
    summed u l (row r i) (lo n) = ∑ j : Fin 128, lr q k (2 * p + r.val) i.val (128 * bk + j.val) * (if n.val < j.val then 1 else 0) := by
  unfold summed
  rw [← Finset.sum_add_distrib]
  refine Finset.sum_congr rfl fun j _ => ?_
  rw [hl, hu.2.2, hu.1]
  refine halves (lr_ne_top _ _ _ _ _) ?_
  split
  · exact Or.inr rfl
  · exact Or.inl rfl

theorem summed_hi {u : FVec Ideal S256x256 .bf16} {l : FVec Ideal S128x128 .f32} (hu : UOk u) (hl : LOk q k p bk l) (r : Fin 2) (i : Fin 64) (n : Fin 128) :
    summed u l (row r i) (hi n) = ∑ j : Fin 128, lr q k (2 * p + r.val) i.val (128 * bk + j.val) := by
  unfold summed
  rw [← Finset.sum_add_distrib]
  refine Finset.sum_congr rfl fun j _ => ?_
  rw [hl, hu.2.2, hu.2.1]
  exact (halves (lr_ne_top _ _ _ _ _) (Or.inr rfl)).trans (mul_one _)

/-- The pair's sums over the block, in the columns of the later keys and in those of all. -/
def SLo (q k : ℕ → ℕ → EReal) (p bk : ℕ) (s : FVec Ideal S128x128 .f32) : Prop :=
  ∀ (r : Fin 2) (i : Fin 64) (n : Fin 128), s (ix2 (row r i) n) =
    (∑ j : Fin 128, lr q k (2 * p + r.val) i.val (128 * bk + j.val) * (if n.val < j.val then 1 else 0))
def SHi (q k : ℕ → ℕ → EReal) (p bk : ℕ) (s : FVec Ideal S128x128 .f32) : Prop :=
  ∀ (r : Fin 2) (i : Fin 64) (n : Fin 128), s (ix2 (row r i) n) = (∑ j : Fin 128, lr q k (2 * p + r.val) i.val (128 * bk + j.val))

section
variable {u : FVec Ideal S256x256 .bf16} {l0 l1 l2 l3 : FVec Ideal S128x128 .f32} (hu : UOk u)
include hu in
theorem s00_ok (h : LOk q k p bk l0) : SLo q k p bk (s00 (gS u (gH l0) (gH l1) (gH l2) (gH l3))) := fun r i n => (s00_apply u l0 l1 l2 l3 _ n).trans (summed_lo hu h r i n)
include hu in
theorem s10_ok (h : LOk q k p bk l1) : SLo q k p bk (s10 (gS u (gH l0) (gH l1) (gH l2) (gH l3))) := fun r i n => (s10_apply u l0 l1 l2 l3 _ n).trans (summed_lo hu h r i n)
include hu in
theorem s20_ok (h : LOk q k p bk l2) : SLo q k p bk (s20 (gS u (gH l0) (gH l1) (gH l2) (gH l3))) := fun r i n => (s20_apply u l0 l1 l2 l3 _ n).trans (summed_lo hu h r i n)
include hu in
theorem s30_ok (h : LOk q k p bk l3) : SLo q k p bk (s30 (gS u (gH l0) (gH l1) (gH l2) (gH l3))) := fun r i n => (s30_apply u l0 l1 l2 l3 _ n).trans (summed_lo hu h r i n)
include hu in
theorem s01_ok (h : LOk q k p bk l0) : SHi q k p bk (s01 (gS u (gH l0) (gH l1) (gH l2) (gH l3))) := fun r i n => (s01_apply u l0 l1 l2 l3 _ n).trans (summed_hi hu h r i n)
include hu in
theorem s11_ok (h : LOk q k p bk l1) : SHi q k p bk (s11 (gS u (gH l0) (gH l1) (gH l2) (gH l3))) := fun r i n => (s11_apply u l0 l1 l2 l3 _ n).trans (summed_hi hu h r i n)
include hu in
theorem s21_ok (h : LOk q k p bk l2) : SHi q k p bk (s21 (gS u (gH l0) (gH l1) (gH l2) (gH l3))) := fun r i n => (s21_apply u l0 l1 l2 l3 _ n).trans (summed_hi hu h r i n)
include hu in
theorem s31_ok (h : LOk q k p bk l3) : SHi q k p bk (s31 (gS u (gH l0) (gH l1) (gH l2) (gH l3))) := fun r i n => (s31_apply u l0 l1 l2 l3 _ n).trans (summed_hi hu h r i n)
end

section
variable {A0 A1 : Vec Ideal S1x1x1x64x128 .f32} (h0 : AOk q k p (bk + 1) A0 0) (h1 : AOk q k p (bk + 1) A1 1)

include h0 h1 in
theorem gA_ok (r : Fin 2) (i : Fin 64) (n : Fin 128) : gA A0 A1 (ix2 (row r i) n) = (tail q k (2 * p + r.val) i.val (128 * (bk + 1))) := by
  match r with
  | 0 => rw [row_zero, gA_up]; exact h0 i n
  | 1 => rw [row_one, gA_dn]; exact h1 i n

include h0 h1 in
theorem gA0_ok {s : FVec Ideal S128x128 .f32} (hs : SHi q k p bk s) (hb : bk ≤ 8) : AOk q k p bk (gA0 (gA A0 A1) s) 0 := by
  intro i n
  rw [gA0_apply, ← row_zero, gA_ok h0 h1, hs, tail_block q k _ _ _ hb, add_comm]
include h0 h1 in
theorem gA1_ok {s : FVec Ideal S128x128 .f32} (hs : SHi q k p bk s) (hb : bk ≤ 8) : AOk q k p bk (gA1 (gA A0 A1) s) 1 := by
  intro i n
  rw [gA1_apply, ← row_one, gA_ok h0 h1, hs, tail_block q k _ _ _ hb, add_comm]

variable {z l s : FVec Ideal S128x128 .f32} (hz : ZOk q k p bk z) (hl : LOk q k p bk l) (hs : SLo q k p bk s)

include h0 h1 hz hl hs in
theorem arg_ok (hb : bk ≤ 8) (r : Fin 2) (i : Fin 64) (n : Fin 128) :
    z (ix2 (row r i) n) + l (ix2 (row r i) n) + s (ix2 (row r i) n) + gA A0 A1 (ix2 (row r i) n) =
      (zr q k (2 * p + r.val) i.val (128 * bk + n.val) + lr q k (2 * p + r.val) i.val (128 * bk + n.val)
        + tail q k (2 * p + r.val) i.val (128 * bk + n.val + 1)) := by
  rw [hz, hl, hs, gA_ok h0 h1, tail_later q k _ _ _ hb n, add_assoc _ (∑ _, _)]

include h0 h1 hz hl hs in
theorem gW_ok (h8 : bk < 8) {kp : Ideal .f32} (hk : kp = 1) : WOk q k p bk (gW z l s (gA A0 A1) kp) := by
  intro r i n
  rw [gW_apply, arg_ok h0 h1 hz hl hs (by omega), hk]
  unfold wt
  rw [if_pos (by have := n.isLt; omega), mul_one]

include h0 h1 hz hl hs in
theorem gM_ok (h8 : bk = 8) {mask : IVec S128x128 1}
    (hm : ∀ (r : Fin 2) (i : Fin 64) (n : Fin 128), mask (ix2 (row r i) n) = 1#1 ↔ n.val < i.val) : WOk q k p bk (gM z l s (gA A0 A1) mask) := by
  intro r i n
  rw [gM_apply, arg_ok h0 h1 hz hl hs (by omega)]
  unfold wt
  by_cases h : n.val < i.val
  · rw [if_pos ((hm r i n).mpr h), if_pos (by omega)]
  · rw [if_neg (fun e => h ((hm r i n).mp e)), if_neg (by omega), Ideal.exp_bot]
end

theorem gO_ok {m0 m1 w : FVec Ideal S128x128 .bf16} {V : Vec Ideal S1x128x128 .bf16} {O : Vec Ideal S1x1x64x128 .f32}
    (hm : MOk m0 m1) (hw : WOk q k p bk w) (hV : VOk v p bk V) (hO : OOk q k v p (bk + 1) O) (hb : bk ≤ 8) : OOk q k v p bk (gO m0 m1 w V O) := by
  intro i c
  rw [gO_apply, hO, out_block q k v _ _ _ _ hb, add_comm]
  congr 1
  have hc := c.isLt
  by_cases h : c.val / 64 = 0
  · rw [Finset.sum_eq_zero (f := fun j => w (ix2 (dn i) j) * _), add_zero]
    · refine Finset.sum_congr rfl fun j _ => ?_
      rw [← row_zero, hw, hV, hm.1, if_pos h, mul_one, h]
      rfl
    · intro j _
      rw [hm.2, if_neg (by omega), mul_zero, mul_zero]
  · have h' : c.val / 64 = 1 := by omega
    rw [Finset.sum_eq_zero (f := fun j => w (ix2 (up i) j) * _), zero_add]
    · refine Finset.sum_congr rfl fun j _ => ?_
      rw [← row_one, hw, hV, hm.2, if_pos h', mul_one, h']
      rfl
    · intro j _
      rw [hm.1, if_neg h, mul_zero, mul_zero]
end

end Cert.SbIdeal.Attn

end
-- ==== Proof.Sb.Loop.lean ====
/- Both loops of the attention call, over the extended reals: the first takes every block of keys before the diagonal, the
   second none, and the scratch arrays end as the whole sums and the whole outputs. -/
module

public import proofs.«01_k».proof.Proof.Sb.Sums
public import proofs.«01_k».proof.Proof.Sb.Trip
public import Mathlib.Tactic.IntervalCases

@[expose] public section

set_option maxRecDepth 16384

noncomputable section

namespace Cert.SbIdeal.Attn

open Cert.SbIdeal Cert.SbIdeal.Gen Cert.Stick
open Idealize.ShloMosaic Idealize.ShloMosaic.TcCoe Idealize.ShloMosaic.Tactic Idealize.ShloMosaic.Pointwise

/-- What the loops are given, as queries, keys and values. -/
structure Reads (q k : ℕ → ℕ → EReal) (v : ℕ → ℕ → EReal) (X : Ctx Ideal) : Prop where
  q00 : QOk q 0 X.v65 0
  q01 : QOk q 0 X.v67 1
  q10 : QOk q 1 X.v71 0
  q11 : QOk q 1 X.v73 1
  q20 : QOk q 2 X.v77 0
  q21 : QOk q 2 X.v79 1
  q30 : QOk q 3 X.v83 0
  q31 : QOk q 3 X.v85 1
  keys : ∀ (c : Fin 512) (n : Fin 1152), X.K (ix3 0 c n) = (k c.val n.val)
  vals : ∀ (c : Fin 512) (n : Fin 1152), X.V (ix3 0 c n) = v c.val n.val
  sums : UOk X.v31
  heads : MOk X.v56 X.v61
  seen : ∀ (i : Fin 64) (n : Fin 128), X.v29 (ix2 i n) = 1#1 ↔ n.val < i.val

/-- The scratch arrays when the keys from block `b` on are in. -/
def Held (q k : ℕ → ℕ → EReal) (v : ℕ → ℕ → EReal) (b : ℕ) (s : St Ideal) : Prop :=
  (∀ (p : Fin 4) (r : Fin 2) (i : Fin 64) (n : Fin 128), s.A (ix5 0 p r i n) = (tail q k (2 * p.val + r.val) i.val (128 * b)))
  ∧ ∀ (p : Fin 4) (i : Fin 64) (c : Fin 128), s.O (ix4 0 p i c) = out q k v (2 * p.val + c.val / 64) i.val (128 * p.val + c.val) (128 * b)

theorem block_keys {q k : ℕ → ℕ → EReal} {v : ℕ → ℕ → EReal} {X : Ctx Ideal} (R : Reads q k v X) (p b : ℕ) (off : Fin 3 → ℕ)
    (h : ∀ a, off a + S1x128x128.size a ≤ S1x512x1152.size a) (e : off = ![0, 128 * p, 128 * b]) :
    KOk k p b (VecWindow.window X.K off S1x128x128.size h) ∧ VOk v p b (VecWindow.window X.V off S1x128x128.size h) := by
  subst e
  have h1 : 128 * p + 128 ≤ 512 := h 1
  have h2 : 128 * b + 128 ≤ 1152 := h 2
  constructor
  · intro c n
    refine (congrArg X.K (funext fun a => Fin.ext ?_)).trans (R.keys (⟨128 * p + c.val, by have := c.isLt; omega⟩ : Fin 512) (⟨128 * b + n.val, by have := n.isLt; omega⟩ : Fin 1152))
    match a with
    | ⟨0, _⟩ => rfl
    | ⟨1, _⟩ => show 128 * p + 1 * c.val = 128 * p + c.val; omega
    | ⟨2, _⟩ => show 128 * b + 1 * n.val = 128 * b + n.val; omega
  · intro c n
    refine (congrArg X.V (funext fun a => Fin.ext ?_)).trans (R.vals (⟨128 * p + c.val, by have := c.isLt; omega⟩ : Fin 512) (⟨128 * b + n.val, by have := n.isLt; omega⟩ : Fin 1152))
    match a with
    | ⟨0, _⟩ => rfl
    | ⟨1, _⟩ => show 128 * p + 1 * c.val = 128 * p + c.val; omega
    | ⟨2, _⟩ => show 128 * b + 1 * n.val = 128 * b + n.val; omega

variable {q k : ℕ → ℕ → EReal} {v : ℕ → ℕ → EReal} {X : Ctx Ideal} (R : Reads q k v X) (i : grid0.Coords)

theorem held_zero : Held q k v 9 (zero (F := Ideal)) := by
  constructor
  · intro p r i n
    rw [tail_end]
    exact (show k0_pay31 (F := Ideal) (ix5 0 p r i n) = 0 by pointwise [k0_pay31])
  · intro p i c
    rw [out_end]
    exact (show k0_pay32 (F := Ideal) (ix4 0 p i c) = 0 by pointwise [k0_pay32])

include R in
theorem mask_ok (r : Fin 2) (i : Fin 64) (n : Fin 128) : k0_pay33 X.v29 (ix2 (row r i) n) = 1#1 ↔ n.val < i.val := by
  rw [← R.seen]
  match r with
  | 0 =>
    rw [row_zero, show k0_pay33 X.v29 (ix2 (up i) n) = X.v29 (ix2 i n) by
      have := i.isLt
      unfold up
      pointwise [k0_pay33]]
  | 1 =>
    rw [row_one, show k0_pay33 X.v29 (ix2 (dn i) n) = X.v29 (ix2 i n) by
      have := i.isLt
      unfold dn
      pointwise [k0_pay33]]

section
variable {b : ℕ} {s : St Ideal} (H : Held q k v b s)
include H
theorem held_A (p : Fin 4) (r : Fin 2) (h) : AOk q k p.val b (winA s.A p.val r.val h) r := fun i n => (A_win s.A p r h i n).trans (H.1 p r i n)
theorem held_O (p : Fin 4) (h) : OOk q k v p.val b (winO s.O p.val h) := fun i c => (O_win s.O p h i c).trans (H.2 p i c)
end

/-- Four pairs' pieces written make the arrays. -/
theorem held_put {b : ℕ} {A : Vec Ideal S1x4x2x64x128 .f32} {O : Vec Ideal S1x4x64x128 .f32}
    {a00 a01 a10 a11 a20 a21 a30 a31 : Vec Ideal S1x1x1x64x128 .f32} {o0 o1 o2 o3 : Vec Ideal S1x1x64x128 .f32}
    (h00 : AOk q k 0 b a00 0) (h01 : AOk q k 0 b a01 1) (h10 : AOk q k 1 b a10 0) (h11 : AOk q k 1 b a11 1)
    (h20 : AOk q k 2 b a20 0) (h21 : AOk q k 2 b a21 1) (h30 : AOk q k 3 b a30 0) (h31 : AOk q k 3 b a31 1)
    (g0 : OOk q k v 0 b o0) (g1 : OOk q k v 1 b o1) (g2 : OOk q k v 2 b o2) (g3 : OOk q k v 3 b o3) (t r : Ideal .f32)
    (s : St Ideal)
    (hA : s.A = putA (putA (putA (putA (putA (putA (putA (putA A 0 0 a00) 0 1 a01) 1 0 a10) 1 1 a11) 2 0 a20) 2 1 a21) 3 0 a30) 3 1 a31)
    (hO : s.O = putO (putO (putO (putO O 0 o0) 1 o1) 2 o2) 3 o3) : Held q k v b s := by
  constructor
  · intro p r i n
    rw [hA]
    match p, r with
    | 0, 0 => repeat rw [A_put, if_neg (by decide)]
              rw [A_put, if_pos (by decide)]; exact h00 i n
    | 0, 1 => repeat rw [A_put, if_neg (by decide)]
              rw [A_put, if_pos (by decide)]; exact h01 i n
    | 1, 0 => repeat rw [A_put, if_neg (by decide)]
              rw [A_put, if_pos (by decide)]; exact h10 i n
    | 1, 1 => repeat rw [A_put, if_neg (by decide)]
              rw [A_put, if_pos (by decide)]; exact h11 i n
    | 2, 0 => repeat rw [A_put, if_neg (by decide)]
              rw [A_put, if_pos (by decide)]; exact h20 i n
    | 2, 1 => repeat rw [A_put, if_neg (by decide)]
              rw [A_put, if_pos (by decide)]; exact h21 i n
    | 3, 0 => repeat rw [A_put, if_neg (by decide)]
              rw [A_put, if_pos (by decide)]; exact h30 i n
    | 3, 1 => rw [A_put, if_pos (by decide)]; exact h31 i n
  · intro p i c
    rw [hO]
    match p with
    | 0 => repeat rw [O_put, if_neg (by decide)]
           rw [O_put, if_pos (by decide)]; exact g0 i c
    | 1 => repeat rw [O_put, if_neg (by decide)]
           rw [O_put, if_pos (by decide)]; exact g1 i c
    | 2 => repeat rw [O_put, if_neg (by decide)]
           rw [O_put, if_pos (by decide)]; exact g2 i c
    | 3 => rw [O_put, if_pos (by decide)]; exact g3 i c

include R in
theorem held_start : Held q k v 8 (start X i) := by
  have e := pid1 i
  have o1 : k0_off1 i = ![0, 128 * 0, 128 * 8] := by unfold k0_off1; simp only [e]; decide
  have o2 : k0_off2 i = ![0, 128 * 1, 128 * 8] := by unfold k0_off2; simp only [e]; decide
  have o3 : k0_off3 i = ![0, 128 * 2, 128 * 8] := by unfold k0_off3; simp only [e]; decide
  have o4 : k0_off4 i = ![0, 128 * 3, 128 * 8] := by unfold k0_off4; simp only [e]; decide
  have w0 := block_keys R 0 8 _ (k0_off1_inb i) o1
  have w1 := block_keys R 1 8 _ (k0_off2_inb i) o2
  have w2 := block_keys R 2 8 _ (k0_off3_inb i) o3
  have w3 := block_keys R 3 8 _ (k0_off4_inb i) o4
  have z0 := z_ok R.q00 R.q01 w0.1
  have z1 := z_ok R.q10 R.q11 w1.1
  have z2 := z_ok R.q20 R.q21 w2.1
  have z3 := z_ok R.q30 R.q31 w3.1
  have m := mask_ok R
  have l0 := n_ok z0 m
  have l1 := n_ok z1 m
  have l2 := n_ok z2 m
  have l3 := n_ok z3 m
  have H := held_zero (q := q) (k := k) (v := v)
  have a00 := held_A H 0 0 inb_S1x4x2x64x128_S1x1x1x64x128_0_0_0_0_0
  have a01 := held_A H 0 1 inb_S1x4x2x64x128_S1x1x1x64x128_0_0_1_0_0
  have a10 := held_A H 1 0 inb_S1x4x2x64x128_S1x1x1x64x128_0_1_0_0_0
  have a11 := held_A H 1 1 inb_S1x4x2x64x128_S1x1x1x64x128_0_1_1_0_0
  have a20 := held_A H 2 0 inb_S1x4x2x64x128_S1x1x1x64x128_0_2_0_0_0
  have a21 := held_A H 2 1 inb_S1x4x2x64x128_S1x1x1x64x128_0_2_1_0_0
  have a30 := held_A H 3 0 inb_S1x4x2x64x128_S1x1x1x64x128_0_3_0_0_0
  have a31 := held_A H 3 1 inb_S1x4x2x64x128_S1x1x1x64x128_0_3_1_0_0
  refine held_put (gA0_ok a00 a01 (s01_ok R.sums l0) le_rfl) (gA1_ok a00 a01 (s01_ok R.sums l0) le_rfl)
    (gA0_ok a10 a11 (s11_ok R.sums l1) le_rfl) (gA1_ok a10 a11 (s11_ok R.sums l1) le_rfl)
    (gA0_ok a20 a21 (s21_ok R.sums l2) le_rfl) (gA1_ok a20 a21 (s21_ok R.sums l2) le_rfl)
    (gA0_ok a30 a31 (s31_ok R.sums l3) le_rfl) (gA1_ok a30 a31 (s31_ok R.sums l3) le_rfl)
    (gO_ok R.heads (gM_ok a00 a01 z0 l0 (s00_ok R.sums l0) rfl m) w0.2 (held_O H 0 inb_S1x4x64x128_S1x1x64x128_0_0_0_0) le_rfl)
    (gO_ok R.heads (gM_ok a10 a11 z1 l1 (s10_ok R.sums l1) rfl m) w1.2 (held_O H 1 inb_S1x4x64x128_S1x1x64x128_0_1_0_0) le_rfl)
    (gO_ok R.heads (gM_ok a20 a21 z2 l2 (s20_ok R.sums l2) rfl m) w2.2 (held_O H 2 inb_S1x4x64x128_S1x1x64x128_0_2_0_0) le_rfl)
    (gO_ok R.heads (gM_ok a30 a31 z3 l3 (s30_ok R.sums l3) rfl m) w3.2 (held_O H 3 inb_S1x4x64x128_S1x1x64x128_0_3_0_0) le_rfl)
    0 0 _ (start_A X i) (start_O X i)

include R in
theorem held_full (n : ℕ) (h1 : 1 ≤ n) (h9 : n < 9) (hc : k0_chk1 i (BitVec.ofNat 32 n)) (s : St Ideal) (H : Held q k v (8 - n + 1) s) :
    Held q k v (8 - n) (full X i (BitVec.ofNat 32 n) hc s) := by
  have e := pid1 i
  have o1 : k0_off5 i (BitVec.ofNat 32 n) = ![0, 128 * 0, 128 * (8 - n)] := by unfold k0_off5; simp only [e]; interval_cases n <;> decide
  have o2 : k0_off6 i (BitVec.ofNat 32 n) = ![0, 128 * 1, 128 * (8 - n)] := by unfold k0_off6; simp only [e]; interval_cases n <;> decide
  have o3 : k0_off7 i (BitVec.ofNat 32 n) = ![0, 128 * 2, 128 * (8 - n)] := by unfold k0_off7; simp only [e]; interval_cases n <;> decide
  have o4 : k0_off8 i (BitVec.ofNat 32 n) = ![0, 128 * 3, 128 * (8 - n)] := by unfold k0_off8; simp only [e]; interval_cases n <;> decide
  have hk : k0_pay112 (F := Ideal) (live i (BitVec.ofNat 32 n)) = 1 := by
    have : live i (BitVec.ofNat 32 n) = 1#1 := by unfold live; rw [kd_eq]; interval_cases n <;> decide
    rw [this]
    exact Ideal.ofBits_one_f32
  have h8 : 8 - n < 8 := by omega
  have w0 := block_keys R 0 (8 - n) _ (k0_off5_inb i _ hc) o1
  have w1 := block_keys R 1 (8 - n) _ (k0_off6_inb i _ hc) o2
  have w2 := block_keys R 2 (8 - n) _ (k0_off7_inb i _ hc) o3
  have w3 := block_keys R 3 (8 - n) _ (k0_off8_inb i _ hc) o4
  have z0 := z_ok R.q00 R.q01 w0.1
  have z1 := z_ok R.q10 R.q11 w1.1
  have z2 := z_ok R.q20 R.q21 w2.1
  have z3 := z_ok R.q30 R.q31 w3.1
  have l0 := l_ok z0 h8
  have l1 := l_ok z1 h8
  have l2 := l_ok z2 h8
  have l3 := l_ok z3 h8
  have a00 := held_A H 0 0 inb_S1x4x2x64x128_S1x1x1x64x128_0_0_0_0_0
  have a01 := held_A H 0 1 inb_S1x4x2x64x128_S1x1x1x64x128_0_0_1_0_0
  have a10 := held_A H 1 0 inb_S1x4x2x64x128_S1x1x1x64x128_0_1_0_0_0
  have a11 := held_A H 1 1 inb_S1x4x2x64x128_S1x1x1x64x128_0_1_1_0_0
  have a20 := held_A H 2 0 inb_S1x4x2x64x128_S1x1x1x64x128_0_2_0_0_0
  have a21 := held_A H 2 1 inb_S1x4x2x64x128_S1x1x1x64x128_0_2_1_0_0
  have a30 := held_A H 3 0 inb_S1x4x2x64x128_S1x1x1x64x128_0_3_0_0_0
  have a31 := held_A H 3 1 inb_S1x4x2x64x128_S1x1x1x64x128_0_3_1_0_0
  refine held_put (gA0_ok a00 a01 (s01_ok R.sums l0) h8.le) (gA1_ok a00 a01 (s01_ok R.sums l0) h8.le)
    (gA0_ok a10 a11 (s11_ok R.sums l1) h8.le) (gA1_ok a10 a11 (s11_ok R.sums l1) h8.le)
    (gA0_ok a20 a21 (s21_ok R.sums l2) h8.le) (gA1_ok a20 a21 (s21_ok R.sums l2) h8.le)
    (gA0_ok a30 a31 (s31_ok R.sums l3) h8.le) (gA1_ok a30 a31 (s31_ok R.sums l3) h8.le)
    (gO_ok R.heads (gW_ok a00 a01 z0 l0 (s00_ok R.sums l0) h8 hk) w0.2 (held_O H 0 inb_S1x4x64x128_S1x1x64x128_0_0_0_0) h8.le)
    (gO_ok R.heads (gW_ok a10 a11 z1 l1 (s10_ok R.sums l1) h8 hk) w1.2 (held_O H 1 inb_S1x4x64x128_S1x1x64x128_0_1_0_0) h8.le)
    (gO_ok R.heads (gW_ok a20 a21 z2 l2 (s20_ok R.sums l2) h8 hk) w2.2 (held_O H 2 inb_S1x4x64x128_S1x1x64x128_0_2_0_0) h8.le)
    (gO_ok R.heads (gW_ok a30 a31 z3 l3 (s30_ok R.sums l3) h8 hk) w3.2 (held_O H 3 inb_S1x4x64x128_S1x1x64x128_0_3_0_0) h8.le)
    0 0 _ (full_A X i _ hc s) (full_O X i _ hc s)

/-- Over the extended reals the bound is minus infinity, so a loop stops only when it has no block left. -/
theorem test_true (n : ℕ) (h : n < 9) (b : Ideal .f32) : test i (BitVec.ofNat 32 n) b := by
  unfold test
  rw [kd_eq, show Scalar.cmpi .sge (Scalar.subi 8#32 (BitVec.ofNat 32 n)) 0#32 = 1#1 by interval_cases n <;> decide]
  have hb : (bound : Ideal .f32) = (⊥ : EReal) := rfl
  rw [hb, show Scalar.cmpf (F := Ideal) (φ := .f32) .oge b (⊥ : EReal) = 1#1 from by simp [Ideal.cmp]]
  decide

include R in
theorem held_iter : ∀ (j n : ℕ), 1 ≤ n → n + j = 9 → ∀ s : St Ideal, Held q k v j s →
    (iter1 X i j (BitVec.ofNat 32 n) s).1 = BitVec.ofNat 32 9 ∧ Held q k v 0 (iter1 X i j (BitVec.ofNat 32 n) s).2 := by
  intro j
  induction j with
  | zero => intro n _ hn s H; exact ⟨by rw [show n = 9 by omega]; rfl, H⟩
  | succ j ih =>
    intro n h1 hn s H
    rw [iter1, dif_pos ⟨test_true i n (by omega) _, chk1_of_lt i n (by omega)⟩, addi_ofNat]
    refine ih (n + 1) (by omega) (by omega) _ ?_
    have e : j = 8 - n := by omega
    subst e
    exact held_full R i n h1 (by omega) _ s H

include R in
/-- The scratch arrays at the end. -/
theorem held_last : Held q k v 0 (last X i) := by
  have h := held_iter R i 8 1 le_rfl rfl _ (held_start R i)
  have e : left X i = 0 := by unfold left mid; rw [h.1]; decide
  unfold last
  rw [e]
  exact h.2

end Cert.SbIdeal.Attn

end
-- ==== Proof.Sb.Ctx.lean ====
/- What the attention call's body makes of its blocks before the loops: queries, masks and sums, read at an index. -/
module

public import proofs.«01_k».proof.Proof.Sb.Loop

@[expose] public section

set_option maxRecDepth 16384

noncomputable section

namespace Cert.SbIdeal.Attn

open Cert.SbIdeal Cert.SbIdeal.Gen Cert.Stick
open Idealize.ShloMosaic Idealize.ShloMosaic.TcCoe Idealize.ShloMosaic.Tactic Idealize.ShloMosaic.Pointwise

theorem eighth : Ideal.ofBits .bf16 0x3E00#16 = (((1 : ℝ) / 8 : ℝ) : EReal) := by
  simp [Ideal.ofBits, Ideal.ieee, -EReal.coe_mul]; norm_num

theorem head_zero : ∀ c : Fin 128, IntOp.cmpi .eq (IntOp.shrui .vector (BitVec.ofNat 32 c.val) 6#32) 0#32 = if c.val / 64 = 0 then 1#1 else 0#1 := by
  decide +kernel
theorem head_one : ∀ c : Fin 128, IntOp.cmpi .eq (IntOp.shrui .vector (BitVec.ofNat 32 c.val) 6#32) 1#32 = if c.val / 64 = 1 then 1#1 else 0#1 := by
  decide +kernel

theorem flag (p : Prop) [Decidable p] : (FloatOps.sitofp .f32 (BitVec.setWidth 32 (if p then 1#1 else 0#1)) : Ideal .f32) = if p then 1 else 0 := by
  show (((BitVec.setWidth 32 (if p then 1#1 else 0#1)).toInt : ℝ) : EReal) = _
  by_cases h : p
  · rw [if_pos h, if_pos h]; simp
  · rw [if_neg h, if_neg h]; simp

theorem heads_ok : MOk (k0_pay16 (F := Ideal)) (k0_pay17 (F := Ideal)) := by
  constructor
  · intro c n
    pointwise [k0_pay16, k0_pay15]
    rw [head_zero, flag]
  · intro c n
    pointwise [k0_pay17, k0_pay15]
    rw [head_one, flag]

theorem lane_zero (c : Fin 128) : k0_pay12 (F := Ideal) (ix2 0 c) = if c.val / 64 = 0 then 1 else 0 := by
  pointwise [k0_pay12, k0_pay11]
  rw [head_zero, flag]

section
variable (W : Vec Ideal S1x64x128 .bf16) (i : Fin 64) (c : Fin 128)

/-- A head's lanes of a pair's queries, scaled. -/
def lanes (r : ℕ) : EReal := W (ix3 0 i c) * ((if c.val / 64 = r then 1 else 0) * (((1 : ℝ) / 8 : ℝ) : EReal))

theorem q19 : k0_pay19 (k0_pay12 (F := Ideal)) W (ix2 i c) = lanes W i c 0 := by
  unfold lanes
  rw [← lane_zero, ← eighth]
  generalize k0_pay12 (F := Ideal) = v
  pointwise [k0_pay19, k0_pay13, k0_pay18]
theorem q22 : k0_pay22 (k0_pay12 (F := Ideal)) W (ix2 i c) = lanes W i c 0 := by
  unfold lanes
  rw [← lane_zero, ← eighth]
  generalize k0_pay12 (F := Ideal) = v
  pointwise [k0_pay22, k0_pay13, k0_pay21]
theorem q25 : k0_pay25 (k0_pay12 (F := Ideal)) W (ix2 i c) = lanes W i c 0 := by
  unfold lanes
  rw [← lane_zero, ← eighth]
  generalize k0_pay12 (F := Ideal) = v
  pointwise [k0_pay25, k0_pay13, k0_pay24]
theorem q29 : k0_pay29 (k0_pay27 W) (k0_pay28 (k0_pay12 (F := Ideal))) (ix2 i c) = lanes W i c 0 := by
  unfold lanes
  rw [← lane_zero, ← eighth]
  generalize k0_pay12 (F := Ideal) = v
  pointwise [k0_pay29, k0_pay27, k0_pay28, k0_pay13]
theorem q20 : k0_pay20 k0_pay11 1#32 W (ix2 i c) = lanes W i c 1 := by
  unfold lanes
  pointwise [k0_pay20, k0_pay14, k0_pay11, k0_pay18]
  rw [head_one, flag, eighth]
theorem q23 : k0_pay23 k0_pay11 1#32 W (ix2 i c) = lanes W i c 1 := by
  unfold lanes
  pointwise [k0_pay23, k0_pay14, k0_pay11, k0_pay21]
  rw [head_one, flag, eighth]
theorem q26 : k0_pay26 k0_pay11 1#32 W (ix2 i c) = lanes W i c 1 := by
  unfold lanes
  pointwise [k0_pay26, k0_pay14, k0_pay11, k0_pay24]
  rw [head_one, flag, eighth]
theorem q30 : k0_pay30 (k0_pay14 (F := Ideal) k0_pay11 1#32) (k0_pay27 W) (ix2 i c) = lanes W i c 1 := by
  unfold lanes
  pointwise [k0_pay30, k0_pay14, k0_pay11, k0_pay27]
  rw [head_one, flag, eighth]
end

theorem seen_zero : ∀ (r : Fin 64) (c : Fin 128), IntOp.cmpi .slt (IntOp.addi 1024#32 (BitVec.ofNat 32 c.val)) (IntOp.addi 1024#32 (BitVec.ofNat 32 r.val)) = 1#1 ↔ c.val < r.val := by
  decide +kernel

theorem seen_ok (i : grid0.Coords) (r : Fin 64) (c : Fin 128) : k0_pay9 i (ix2 r c) = 1#1 ↔ c.val < r.val := by
  have e := pid1 i
  rw [← seen_zero r c]
  unfold k0_pay9
  simp only [e]
  pointwise []
  exact Iff.rfl

theorem lanes_ok {q : ℕ → ℕ → EReal} {Q : Vec Ideal S1x64x512 .bf16} (hq : ∀ (i : Fin 64) (c : Fin 512), Q (ix3 0 i c) = (q i.val c.val))
    (p : ℕ) (h : ∀ a, (![0, 0, 128 * p] : Fin 3 → ℕ) a + S1x64x128.size a ≤ S1x64x512.size a) (r : ℕ) (i : Fin 64) (c : Fin 128) :
    lanes (VecWindow.window Q ![0, 0, 128 * p] S1x64x128.size h) i c r =
      if c.val / 64 = r then (q i.val (128 * p + c.val) * scale) else 0 := by
  have h2 : 128 * p + 128 ≤ 512 := h 2
  have e : VecWindow.window Q ![0, 0, 128 * p] S1x64x128.size h (ix3 0 i c) = (q i.val (128 * p + c.val)) := by
    refine (congrArg Q (funext fun a => Fin.ext ?_)).trans (hq i (⟨128 * p + c.val, by have := c.isLt; omega⟩ : Fin 512))
    match a with
    | ⟨0, _⟩ => rfl
    | ⟨1, _⟩ => show 0 + 1 * i.val = i.val; omega
    | ⟨2, _⟩ => show 128 * p + 1 * c.val = 128 * p + c.val; omega
  unfold lanes
  rw [e]
  split
  · rw [one_mul]; rfl
  · rw [zero_mul, mul_zero]

/-- What the loops are given, when the blocks hold queries, keys and values. -/
theorem ctx_reads {q k : ℕ → ℕ → EReal} {v : ℕ → ℕ → EReal} {Q : Vec Ideal S1x64x512 .bf16} {kt vt : Vec Ideal S1x512x1152 .bf16} {sums : Vec Ideal S256x256 .bf16}
    (hq : ∀ (i : Fin 64) (c : Fin 512), Q (ix3 0 i c) = (q i.val c.val))
    (hk : ∀ (c : Fin 512) (n : Fin 1152), kt (ix3 0 c n) = (k c.val n.val))
    (hv : ∀ (c : Fin 512) (n : Fin 1152), vt (ix3 0 c n) = v c.val n.val) (hs : UOk sums) (i : grid0.Coords) :
    Reads q k v (ctx Q kt vt sums i) where
  q00 r c := (q19 _ r c).trans (lanes_ok hq 0 _ 0 r c)
  q01 r c := (q20 _ r c).trans (lanes_ok hq 0 _ 1 r c)
  q10 r c := (q22 _ r c).trans (lanes_ok hq 1 _ 0 r c)
  q11 r c := (q23 _ r c).trans (lanes_ok hq 1 _ 1 r c)
  q20 r c := (q25 _ r c).trans (lanes_ok hq 2 _ 0 r c)
  q21 r c := (q26 _ r c).trans (lanes_ok hq 2 _ 1 r c)
  q30 r c := (q29 _ r c).trans (lanes_ok hq 3 _ 0 r c)
  q31 r c := (q30 _ r c).trans (lanes_ok hq 3 _ 1 r c)
  keys := hk
  vals := hv
  sums := by
    have e : ∀ l n : Fin 256, k0_pay10 sums (ix2 l n) = sums (ix2 l n) := by intro l n; pointwise [k0_pay10]
    exact ⟨fun l n => (e _ _).trans (hs.1 l n), fun l n => (e _ _).trans (hs.2.1 l n), fun l n => (e _ _).trans ((hs.2.2 l n).trans (e _ _).symm)⟩
  heads := heads_ok
  seen := seen_ok i

/-- What the body writes at an index: the output, gated. -/
theorem gated_apply (s : St Ideal) (g : Vec Ideal S1x64x512 .bf16) (i : Fin 64) (p : Fin 4) (c : Fin 128) (hc : 128 * p.val + c.val < 512) :
    gated s g (ix3 0 i (⟨128 * p.val + c.val, hc⟩ : Fin 512)) = s.O (ix4 0 p i c) * (g (ix3 0 i (⟨128 * p.val + c.val, hc⟩ : Fin 512))
      * Cert.Lru.sig (g (ix3 0 i (⟨128 * p.val + c.val, hc⟩ : Fin 512)))) := by
  unfold gated
  have e : k0_pay95 (O0 s) (O1 s) (O2 s) (O3 s) (ix2 i (⟨128 * p.val + c.val, hc⟩ : Fin 512)) = s.O (ix4 0 p i c) := by
    have h0 := O_win s.O 0 inb_S1x4x64x128_S1x1x64x128_0_0_0_0 i
    have h1 := O_win s.O 1 inb_S1x4x64x128_S1x1x64x128_0_1_0_0 i
    have h2 := O_win s.O 2 inb_S1x4x64x128_S1x1x64x128_0_2_0_0 i
    have h3 := O_win s.O 3 inb_S1x4x64x128_S1x1x64x128_0_3_0_0 i
    have hl := c.isLt
    match p with
    | 0 =>
      refine Eq.trans ?_ (h0 c)
      show k0_pay95 (O0 s) (O1 s) (O2 s) (O3 s) _ = O0 s _
      generalize O0 s = a0, O1 s = a1, O2 s = a2, O3 s = a3
      pointwise [k0_pay95]
    | 1 =>
      refine Eq.trans ?_ (h1 c)
      show k0_pay95 (O0 s) (O1 s) (O2 s) (O3 s) _ = O1 s _
      generalize O0 s = a0, O1 s = a1, O2 s = a2, O3 s = a3
      pointwise [k0_pay95]
    | 2 =>
      refine Eq.trans ?_ (h2 c)
      show k0_pay95 (O0 s) (O1 s) (O2 s) (O3 s) _ = O2 s _
      generalize O0 s = a0, O1 s = a1, O2 s = a2, O3 s = a3
      pointwise [k0_pay95]
      have b1 : ¬ (256 + c.val < 128) := by omega
      have b2 : ¬ (256 + c.val - 128 < 128) := by omega
      have e : 256 + c.val - 128 - 128 = c.val := by omega
      simp only [b1, b2, e, hl, ↓reduceDIte]
    | 3 =>
      refine Eq.trans ?_ (h3 c)
      show k0_pay95 (O0 s) (O1 s) (O2 s) (O3 s) _ = O3 s _
      generalize O0 s = a0, O1 s = a1, O2 s = a2, O3 s = a3
      pointwise [k0_pay95]
      have b1 : ¬ (384 + c.val < 128) := by omega
      have b2 : ¬ (384 + c.val - 128 < 128) := by omega
      have b3 : ¬ (384 + c.val - 128 - 128 < 128) := by omega
      have e : 384 + c.val - 128 - 128 - 128 = c.val := by omega
      simp only [b1, b2, b3, e, ↓reduceDIte]
  rw [← e]
  generalize k0_pay95 (O0 s) (O1 s) (O2 s) (O3 s) = o
  rw [← Cert.Lru.tanh_sig]
  pointwise [k0_pay1, k0_pay96]

end Cert.SbIdeal.Attn

end
-- ==== Proof.Sb.Blocks.lean ====
/- The blocks of the attention call's windows at a grid point, read as the program's arguments. -/
module

public import proofs.«01_k».proof.Proof.Sb.Ctx
public import proofs.«01_k».proof.Proof.Sb.Run
public import Idealize.ShloMosaic.Lib.StableHlo.RunRead

@[expose] public section

set_option maxRecDepth 16384

noncomputable section

namespace Cert.SbIdeal.Attn

open Cert.SbIdeal Cert.SbIdeal.Gen Cert.Stick
open Idealize.ShloMosaic Idealize.ShloMosaic.TcCoe Idealize.ShloMosaic.Tactic Idealize.ShloMosaic.Pointwise

variable (m : (ℓ : Loc nD τ sig) → Buf (Elt Ideal) ℓ) (c : Dev nD)

abbrev P3 : Vec Ideal S8x64x9472 .bf16 := m ((c : Thread nD τ).loc main_arg0)
abbrev pastK : Vec Ideal S8x1024x8x64 .f32 := m ((c : Thread nD τ).loc main_arg1)
abbrev pastV : Vec Ideal S8x1024x8x64 .f32 := m ((c : Thread nD τ).loc main_arg2)
abbrev newK : Vec Ideal S8x512x64 .bf16 := m ((c : Thread nD τ).loc main_arg3)
abbrev newV : Vec Ideal S8x512x64 .bf16 := m ((c : Thread nD τ).loc main_arg4)

/-- The past and the new keys (or values) of a batch, by channel and position; nothing past the last. -/
def cached (P : Vec Ideal S8x1024x8x64 .f32) (N : Vec Ideal S8x512x64 .bf16) (b : Fin 8) (e n : ℕ) : EReal :=
  if he : e < 512 then
    if h : n < 1024 then P (ix4 b ⟨n, h⟩ ⟨e / 64, by omega⟩ ⟨e % 64, by omega⟩)
    else if h : n - 1024 < 64 then N (ix3 b ⟨e, he⟩ ⟨n - 1024, h⟩) else 0
  else 0

/-- What the host code lays the cache out as. -/
def laid (P : FVec Ideal S8x1024x8x64 .f32) (N : FVec Ideal S8x512x64 .bf16) : FVec Ideal S8x512x1152 .bf16 :=
  pad S8x512x1152 ![0, 0, 0] ![0, 0, 64] ![0, 0, 0]
    (concatenate S8x512x1088 2 [⟨S8x512x1024, truncf .bf16 (shapeCast S8x512x1024 (transpose S8x8x64x1024 [0, 2, 3, 1] P transposes_S8x1024x8x64_S8x8x64x1024_0_2_3_1)
      shapeCasts_S8x8x64x1024_S8x512x1024) bitsLt_bf16_f32⟩, ⟨S8x512x64, N⟩] concatenates_S8x512x1024_S8x512x64_S8x512x1088_d2)
    (sitofp .bf16 (constantI S_ 32 0#32)) pads_S8x512x1088_S8x512x1152_000_000_0640 h_S_

set_option maxHeartbeats 1000000 in
theorem V_v4 : (V m c main_v4 : Vec Ideal S8x512x1152 .bf16) = laid (pastK m c) (newK m c) := by
  unfold V; unfold_abbrev_sides; after_reads_simp; try rfl
set_option maxHeartbeats 1000000 in
theorem V_v9 : (V m c main_v9 : Vec Ideal S8x512x1152 .bf16) = laid (pastV m c) (newV m c) := by
  unfold V; unfold_abbrev_sides; after_reads_simp; try rfl

def sumsOf : FVec Ideal S128x256 .bf16 :=
  concatenate S128x256 1 [⟨S128x128, select (cmpi .sge (addi (iotaInDim S128x128 32 0) (broadcastInDim S128x128 ![] bcast_S_S128x128 (constantI S_ 32 4294967295#32))) (iotaInDim S128x128 32 1))
    (broadcastInDim S128x128 ![] bcast_S_S128x128 (constant (F := Ideal) S_ .bf16 0x3F80#16)) (broadcastInDim S128x128 ![] bcast_S_S128x128 (constant (F := Ideal) S_ .bf16 0x0000#16))⟩,
    ⟨S128x128, broadcastInDim S128x128 ![] bcast_S_S128x128 (constant (F := Ideal) S_ .bf16 0x3F80#16)⟩] concatenates_S128x128_S128x128_S128x256_d1

set_option maxRecDepth 200000 in
set_option maxHeartbeats 1000000 in
theorem V_v14 : (V m c main_v14 : Vec Ideal S256x256 .bf16) = concatenate S256x256 0 [⟨S128x256, sumsOf⟩, ⟨S128x256, sumsOf⟩] concatenates_S128x256_S128x256_S256x256_d0 := by
  unfold V; unfold_abbrev_sides; after_reads_simp
  refine congrArg (fun x : FVec Ideal S128x256 .bf16 => concatenate S256x256 0 [⟨S128x256, x⟩, ⟨S128x256, x⟩] concatenates_S128x256_S128x256_S256x256_d0) ?_
  unfold sumsOf
  after_reads_simp
  refine congrArg₂ (fun x y : FVec Ideal S128x128 .bf16 => concatenate S128x256 1 [⟨S128x128, x⟩, ⟨S128x128, y⟩] concatenates_S128x128_S128x128_S128x256_d1) ?_ ?_
  · after_reads_simp
    simp only [StableHlo.TRef.ofBuf_toBuf]
    refine eq_of_heq ((cast_heq _ _).trans (heq_of_eq ?_))
    exact congrArg (fun x : FVec Ideal S128x128 .bf16 => select (cmpi .sge (addi (iotaInDim S128x128 32 0) (broadcastInDim S128x128 ![] bcast_S_S128x128 (constantI S_ 32 4294967295#32))) (iotaInDim S128x128 32 1)) x
      (broadcastInDim S128x128 ![] bcast_S_S128x128 (constant (F := Ideal) S_ .bf16 0x0000#16))) (eq_of_heq (cast_heq _ _))
  · after_reads_simp

theorem later : ∀ l n : Fin 128, IntOp.cmpi .sge (IntOp.addi (BitVec.ofNat 32 l.val) 4294967295#32) (BitVec.ofNat 32 n.val) = 1 ↔ n.val < l.val := by
  decide +kernel

theorem sums_ok : UOk (concatenate S256x256 0 [⟨S128x256, sumsOf⟩, ⟨S128x256, sumsOf⟩] concatenates_S128x256_S128x256_S256x256_d0) := by
  refine ⟨?_, ?_, ?_⟩
  · intro l n
    unfold sumsOf lo
    pointwise []
    show (if _ then _ else _) = _
    by_cases h : n.val < l.val
    · rw [if_pos ((later l n).mpr h), if_pos h]
    · rw [if_neg (fun e => h ((later l n).mp e)), if_neg h]
  · intro l n
    unfold sumsOf lo hi
    pointwise []
  · intro l n
    generalize sumsOf = s
    unfold lo hi
    pointwise []

theorem laid_apply (P : FVec Ideal S8x1024x8x64 .f32) (N : FVec Ideal S8x512x64 .bf16) (b : Fin 8) (e : Fin 512) (n : Fin 1152) :
    laid P N (ix3 b e n) = cached P N b e.val n.val := by
  unfold laid cached
  rw [dif_pos e.isLt]
  pointwise []
  by_cases h1 : n.val < 1024
  · rw [dif_pos (by omega), dif_pos h1, dif_pos h1]
  · by_cases h2 : n.val - 1024 < 64
    · rw [dif_pos (by omega), dif_neg h1, dif_neg h1, dif_pos h2]
    · rw [dif_neg (by omega), dif_neg h1, dif_neg h2]
      show (((0#32 : BitVec 32).toInt : ℝ) : EReal) = 0
      simp

/-! ## The blocks -/
theorem idx0 : ∀ t : Fin (cfg0 (F := Ideal)).N, win0_0.index t (0 : Fin 3) = t.val ∧ win0_0.index t (1 : Fin 3) = 0 ∧ win0_0.index t (2 : Fin 3) = 8 :=
  (by decide +kernel : ∀ t : Fin grid0.N, _)
theorem idx1 : ∀ t : Fin (cfg0 (F := Ideal)).N, win0_1.index t (0 : Fin 3) = t.val ∧ win0_1.index t (1 : Fin 3) = 0 ∧ win0_1.index t (2 : Fin 3) = 0 :=
  (by decide +kernel : ∀ t : Fin grid0.N, _)
theorem idx2 : ∀ t : Fin (cfg0 (F := Ideal)).N, win0_2.index t (0 : Fin 3) = t.val ∧ win0_2.index t (1 : Fin 3) = 0 ∧ win0_2.index t (2 : Fin 3) = 0 :=
  (by decide +kernel : ∀ t : Fin grid0.N, _)
theorem idx3 : ∀ t : Fin (cfg0 (F := Ideal)).N, win0_3.index t (0 : Fin 3) = t.val ∧ win0_3.index t (1 : Fin 3) = 0 ∧ win0_3.index t (2 : Fin 3) = 9 :=
  (by decide +kernel : ∀ t : Fin grid0.N, _)
theorem idx4 : ∀ t : Fin (cfg0 (F := Ideal)).N, win0_4.index t (0 : Fin 2) = 0 ∧ win0_4.index t (1 : Fin 2) = 0 :=
  (by decide +kernel : ∀ t : Fin grid0.N, _)
theorem idx5 : ∀ t : Fin (cfg0 (F := Ideal)).N, win0_5.index t (0 : Fin 3) = t.val ∧ win0_5.index t (1 : Fin 3) = 0 ∧ win0_5.index t (2 : Fin 3) = 0 :=
  (by decide +kernel : ∀ t : Fin grid0.N, _)

theorem N_eq : (cfg0 (F := Ideal)).N = 8 := (by decide +kernel : grid0.N = 8)
theorem t_lt (t : Fin (cfg0 (F := Ideal)).N) : t.val < 8 := lt_of_lt_of_eq t.isLt N_eq

/-- The batch a grid point works on. -/
abbrev bat (t : Fin (cfg0 (F := Ideal)).N) : Fin 8 := ⟨t.val, t_lt t⟩

theorem blk0 (t : Fin (cfg0 (F := Ideal)).N) (r : Fin 64) (l : Fin 512) : (X0 m c t : Vec Ideal S1x64x512 .bf16) (ix3 0 r l) =
    P3 m c (ix3 (bat t) r ⟨4096 + l.val, by omega⟩) := by
  unfold X0 Pipeline.Window.fill
  rw [dif_pos (moved0 t _)]
  obtain ⟨e0, e1, e2⟩ := idx0 t
  show V m c main_arg0 (((cfg0.win 0).blk t).view.emb _) = _
  rw [V_main_arg0]
  refine congrArg (m ((c : Thread nD τ).loc main_arg0)) (funext fun a => Fin.ext ?_)
  match a with
  | ⟨0, _⟩ => show win0_0.index t (0 : Fin 3) * 1 + 1 * 0 = t.val; omega
  | ⟨1, _⟩ => show win0_0.index t (1 : Fin 3) * 64 + 1 * r.val = r.val; omega
  | ⟨2, _⟩ => show win0_0.index t (2 : Fin 3) * 512 + 1 * l.val = 4096 + l.val; omega

theorem blk3 (t : Fin (cfg0 (F := Ideal)).N) (r : Fin 64) (l : Fin 512) : (X3 m c t : Vec Ideal S1x64x512 .bf16) (ix3 0 r l) =
    P3 m c (ix3 (bat t) r ⟨4608 + l.val, by omega⟩) := by
  unfold X3 Pipeline.Window.fill
  rw [dif_pos (moved3 t _)]
  obtain ⟨e0, e1, e2⟩ := idx3 t
  show V m c main_arg0 (((cfg0.win 3).blk t).view.emb _) = _
  rw [V_main_arg0]
  refine congrArg (m ((c : Thread nD τ).loc main_arg0)) (funext fun a => Fin.ext ?_)
  match a with
  | ⟨0, _⟩ => show win0_3.index t (0 : Fin 3) * 1 + 1 * 0 = t.val; omega
  | ⟨1, _⟩ => show win0_3.index t (1 : Fin 3) * 64 + 1 * r.val = r.val; omega
  | ⟨2, _⟩ => show win0_3.index t (2 : Fin 3) * 512 + 1 * l.val = 4608 + l.val; omega

theorem blk1 (t : Fin (cfg0 (F := Ideal)).N) (e : Fin 512) (n : Fin 1152) : (iblk m c 1 t : Vec Ideal S1x512x1152 .bf16) (ix3 0 e n) =
    cached (pastK m c) (newK m c) (bat t) e.val n.val := by
  obtain ⟨e0, e1, e2⟩ := idx1 t
  show V m c main_v4 (((cfg0.win 1).blk t).view.emb _) = _
  rw [← laid_apply, ← V_v4]
  refine congrArg (V m c main_v4) (funext fun a => Fin.ext ?_)
  match a with
  | ⟨0, _⟩ => show win0_1.index t (0 : Fin 3) * 1 + 1 * 0 = t.val; omega
  | ⟨1, _⟩ => show win0_1.index t (1 : Fin 3) * 512 + 1 * e.val = e.val; omega
  | ⟨2, _⟩ => show win0_1.index t (2 : Fin 3) * 1152 + 1 * n.val = n.val; omega

theorem blk2 (t : Fin (cfg0 (F := Ideal)).N) (e : Fin 512) (n : Fin 1152) : (iblk m c 2 t : Vec Ideal S1x512x1152 .bf16) (ix3 0 e n) =
    cached (pastV m c) (newV m c) (bat t) e.val n.val := by
  obtain ⟨e0, e1, e2⟩ := idx2 t
  show V m c main_v9 (((cfg0.win 2).blk t).view.emb _) = _
  rw [← laid_apply, ← V_v9]
  refine congrArg (V m c main_v9) (funext fun a => Fin.ext ?_)
  match a with
  | ⟨0, _⟩ => show win0_2.index t (0 : Fin 3) * 1 + 1 * 0 = t.val; omega
  | ⟨1, _⟩ => show win0_2.index t (1 : Fin 3) * 512 + 1 * e.val = e.val; omega
  | ⟨2, _⟩ => show win0_2.index t (2 : Fin 3) * 1152 + 1 * n.val = n.val; omega

theorem blk4 (t : Fin (cfg0 (F := Ideal)).N) : UOk (iblk m c 4 t : Vec Ideal S256x256 .bf16) := by
  obtain ⟨e0, e1⟩ := idx4 t
  have h : ∀ l n : Fin 256, (iblk m c 4 t : Vec Ideal S256x256 .bf16) (ix2 l n) =
      concatenate S256x256 0 [⟨S128x256, sumsOf⟩, ⟨S128x256, sumsOf⟩] concatenates_S128x256_S128x256_S256x256_d0 (ix2 l n) := by
    intro l n
    show V m c main_v14 (((cfg0.win 4).blk t).view.emb _) = _
    rw [← V_v14 m c]
    refine congrArg (V m c main_v14) (funext fun a => Fin.ext ?_)
    match a with
    | ⟨0, _⟩ => show win0_4.index t (0 : Fin 2) * 256 + 1 * l.val = l.val; omega
    | ⟨1, _⟩ => show win0_4.index t (1 : Fin 2) * 256 + 1 * n.val = n.val; omega
  exact ⟨fun l n => (h _ _).trans (sums_ok.1 l n), fun l n => (h _ _).trans (sums_ok.2.1 l n), fun l n => (h _ _).trans ((sums_ok.2.2 l n).trans (h _ _).symm)⟩

end Cert.SbIdeal.Attn

end
-- ==== Proof.Sb.Values.lean ====
/- What the attention call computes, as a function of its five arguments. -/
module

public import proofs.«01_k».proof.Proof.Sb.Blocks

@[expose] public section

noncomputable section

namespace Cert.SbIdeal.Attn

open Cert.SbIdeal Cert.SbIdeal.Gen Cert.Stick
open Idealize.ShloMosaic Idealize.ShloMosaic.Pointwise

/-- The queries of a batch. -/
def queries (x0 : Vec Ideal S8x64x9472 .bf16) (b : Fin 8) (i e : ℕ) : EReal :=
  if h : i < 64 ∧ e < 512 then x0 (ix3 b (⟨i, h.1⟩ : Fin 64) (⟨4096 + e, by omega⟩ : Fin 9472)) else 0
/-- The keys of a batch, the past ones first. -/
def keys (x1 : Vec Ideal S8x1024x8x64 .f32) (x3 : Vec Ideal S8x512x64 .bf16) (b : Fin 8) (e n : ℕ) : EReal := cached x1 x3 b e n

/-- The gate of a query's channel. -/
def gate (x0 : Vec Ideal S8x64x9472 .bf16) (b : Fin 8) (i : Fin 64) (e : Fin 512) : EReal := x0 (ix3 b i (⟨4608 + e.val, by omega⟩ : Fin 9472))

/-- The result at batch `b`, query `i`, channel `e`. -/
def attended (x0 : Vec Ideal S8x64x9472 .bf16) (x1 x2 : Vec Ideal S8x1024x8x64 .f32) (x3 x4 : Vec Ideal S8x512x64 .bf16) (b : Fin 8) (i : Fin 64) (e : Fin 512) : EReal :=
  out (queries x0 b) (keys x1 x3 b) (cached x2 x4 b) (e.val / 64) i.val e.val 0 * (gate x0 b i e * Cert.Lru.sig (gate x0 b i e))

theorem queries_eq (x0 : Vec Ideal S8x64x9472 .bf16) (b : Fin 8) (i : Fin 64) (e : Fin 512) :
    x0 (ix3 b i (⟨4096 + e.val, by omega⟩ : Fin 9472)) = queries x0 b i.val e.val := by
  unfold queries
  rw [dif_pos ⟨i.isLt, e.isLt⟩]

end Cert.SbIdeal.Attn

end
-- ==== Proof.Sb.Arrays.lean ====
/- What the attention call's result array holds after the run. -/
module

public import proofs.«01_k».proof.Proof.Sb.Values
public import Idealize.ShloMosaic.Lib.Pipeline.Value

@[expose] public section

set_option maxRecDepth 16384

noncomputable section

namespace Cert.SbIdeal.Attn

open Cert.SbIdeal Cert.SbIdeal.Gen Cert.Stick
open Idealize.ShloMosaic Idealize.ShloMosaic.TcCoe Idealize.ShloMosaic.Tactic Idealize.ShloMosaic.Pointwise
open Idealize.ShloMosaic.Pipeline (Dat)

variable (m : (ℓ : Loc nD τ sig) → Buf (Elt Ideal) ℓ) (c : Dev nD)

/-- The result array. -/
def Y (i : S8x64x512.Idx) : EReal := attended (P3 m c) (pastK m c) (pastV m c) (newK m c) (newV m c) (i 0) (i 1) (i 2)

/-- What a grid point writes, at query `i` and channel `e`. -/
theorem wrote_apply (t : Fin (cfg0 (F := Ideal)).N) (i : Fin 64) (e : Fin 512) : (wrote m c t : Vec Ideal S1x64x512 .bf16) (ix3 0 i e) =
    attended (P3 m c) (pastK m c) (pastV m c) (newK m c) (newV m c) (bat t) i e := by
  have R := ctx_reads (q := queries (P3 m c) (bat t)) (k := keys (pastK m c) (newK m c) (bat t)) (v := cached (pastV m c) (newV m c) (bat t))
    (fun i e => (blk0 m c t i e).trans (queries_eq (P3 m c) (bat t) i e)) (fun e n => blk1 m c t e n)
    (fun e n => blk2 m c t e n) (blk4 m c t) (grid0.coords t)
  have hp : e.val / 128 < 4 := by omega
  have hc : e.val % 128 < 128 := by omega
  have he : e = (⟨128 * (⟨e.val / 128, hp⟩ : Fin 4).val + (⟨e.val % 128, hc⟩ : Fin 128).val, by show 128 * (e.val / 128) + e.val % 128 < 512; omega⟩ : Fin 512) :=
    Fin.ext (by show e.val = 128 * (e.val / 128) + e.val % 128; omega)
  have hO := (held_last R (grid0.coords t)).2 ⟨e.val / 128, hp⟩ i ⟨e.val % 128, hc⟩
  have hg := blk3 m c t i e
  unfold wrote point attended gate
  rw [← hg]
  generalize X3 m c t = g at *
  have h := gated_apply (last (ctx (X0 m c t) (iblk m c 1 t) (iblk m c 2 t) (iblk m c 4 t) (grid0.coords t)) (grid0.coords t)) g i ⟨e.val / 128, hp⟩ ⟨e.val % 128, hc⟩
    (by show 128 * (e.val / 128) + e.val % 128 < 512; omega)
  rw [← he, hO] at h
  have e1 : 2 * (e.val / 128) + e.val % 128 / 64 = e.val / 64 := by omega
  have e2 : 128 * (e.val / 128) + e.val % 128 = e.val := by omega
  simp only [e1, e2] at h
  exact h

theorem flushed5 (t : Fin (cfg0 (F := Ideal)).N) : (dats m 0 c).flushed 5 t = (((cfg0 (F := Ideal)).win 5).blk t).view.read (Elt Ideal) (Y m c) := by
  show ((cfg0 (F := Ideal)).win 5).cut _ ((dats m 0 c).after 5 t) = _
  rw [after_5]
  obtain ⟨e0, e1, e2⟩ := idx5 t
  have ht := t_lt t
  funext y
  have hy0 : (y 0).val < 1 := (y 0).isLt
  have hy1 : (y 1).val < 64 := (y 1).isLt
  have hy2 : (y 2).val < 512 := (y 2).isLt
  have hi : ((cfg0 (F := Ideal)).win 5).xinj (grid0.coords t) y = ix3 (0 : Fin 1) (⟨(y 1).val, hy1⟩ : Fin 64) (⟨(y 2).val, hy2⟩ : Fin 512) := by
    funext a; apply Fin.ext
    match a with
    | ⟨0, _⟩ => show (y 0).val = 0; omega
    | ⟨1, _⟩ => rfl
    | ⟨2, _⟩ => rfl
  have he : (((cfg0 (F := Ideal)).win 5).blk t).view.emb y = ix3 (bat t) (⟨(y 1).val, hy1⟩ : Fin 64) (⟨(y 2).val, hy2⟩ : Fin 512) := by
    funext a; apply Fin.ext
    match a with
    | ⟨0, _⟩ => show win0_5.index t (0 : Fin 3) * 1 + 1 * (y 0).val = t.val; rw [e0]; omega
    | ⟨1, _⟩ => show win0_5.index t (1 : Fin 3) * 64 + 1 * (y 1).val = (y 1).val; rw [e1]; omega
    | ⟨2, _⟩ => show win0_5.index t (2 : Fin 3) * 512 + 1 * (y 2).val = (y 2).val; rw [e2]; omega
  show (wrote m c t : Vec Ideal S1x64x512 .bf16) (((cfg0 (F := Ideal)).win 5).xinj (grid0.coords t) y) = Y m c ((((cfg0 (F := Ideal)).win 5).blk t).view.emb y)
  rw [he, hi]
  exact wrote_apply m c t _ _

theorem cover5 (i : S8x64x512.Idx) : ∃ t : Fin (cfg0 (F := Ideal)).N, ((cfg0 (F := Ideal)).win 5).flush t = true ∧ i ∈ (((cfg0 (F := Ideal)).win 5).blk t).view.set := by
  have h0 : (i 0).val < 8 := (i 0).isLt
  have h1 : (i 1).val < 64 := (i 1).isLt
  have h2 : (i 2).val < 512 := (i 2).isLt
  have hlt : (i 0).val < (cfg0 (F := Ideal)).N := lt_of_lt_of_eq h0 N_eq.symm
  refine ⟨⟨(i 0).val, hlt⟩, flush0_5 _, ?_⟩
  obtain ⟨e0, e1, e2⟩ := idx5 ⟨(i 0).val, hlt⟩
  show i ∈ ((View.whole main_v15).slice (win0_5.rect ⟨(i 0).val, hlt⟩)).set
  rw [View.set_slice_whole, Rect.mem_set_unit]
  intro a
  match a with
  | ⟨0, _⟩ =>
    show win0_5.index ⟨(i 0).val, hlt⟩ (0 : Fin 3) * 1 ≤ (i 0).val ∧ (i 0).val < win0_5.index ⟨(i 0).val, hlt⟩ (0 : Fin 3) * 1 + 1
    rw [e0, Nat.mul_one]; exact ⟨le_rfl, Nat.lt_succ_self _⟩
  | ⟨1, _⟩ =>
    show win0_5.index ⟨(i 0).val, hlt⟩ (1 : Fin 3) * 64 ≤ (i 1).val ∧ (i 1).val < win0_5.index ⟨(i 0).val, hlt⟩ (1 : Fin 3) * 64 + 64
    rw [e1]; omega
  | ⟨2, _⟩ =>
    show win0_5.index ⟨(i 0).val, hlt⟩ (2 : Fin 3) * 512 ≤ (i 2).val ∧ (i 2).val < win0_5.index ⟨(i 0).val, hlt⟩ (2 : Fin 3) * 512 + 512
    rw [e2]; omega

theorem array5 : (dats m 0 c).arrAt 5 (cfg0 (F := Ideal)).N = Y m c :=
  (dats m 0 c).arrAt_eq_of_cover 5 (Y m c) (fun t _ => flushed5 m c t) cover5

end Cert.SbIdeal.Attn

end
-- ==== Proof.Sb.Reference.lean ====
/- What the attention's reference computes, as the same function of its five arguments. -/
module

public import proofs.«01_k».proof.Proof.Sb.Values
public import proofs.«01_k».proof.Proof.Gen.SbReferenceIdeal.Read

@[expose] public section

set_option maxRecDepth 16384

noncomputable section

namespace Cert.Attention

open Cert.SbReferenceIdeal Cert.SbReferenceIdeal.Read Cert.SbReferenceIdeal.Gen Cert.Stick
open Idealize.ShloMosaic Idealize.ShloMosaic.Pointwise
open Cert.SbIdeal.Attn (queries keys cached gate attended queries_eq)

/-! ## Scalars -/

theorem eighth : (FloatOps.ofBits (F := Ideal) .f32 0x3E000000#32 : EReal) = ((1 / 8 : ℝ) : EReal) := by
  show Ideal.ofBits .f32 0x3E000000#32 = _
  simp [Ideal.ofBits, Ideal.ieee, -EReal.coe_mul]; norm_num
theorem nought : (FloatOps.ofBits (F := Ideal) .f32 0x00000000#32 : EReal) = 0 := by
  show Ideal.ofBits .f32 0x00000000#32 = _
  simp [Ideal.ofBits, Ideal.ieee, -EReal.coe_mul]
theorem unit : (FloatOps.ofBits (F := Ideal) .f32 0x3F800000#32 : EReal) = 1 := Ideal.ofBits_one_f32

/-- The soft positive part, as the reference's function writes it. -/
def sp (u : EReal) : EReal :=
  Scalar.select (FloatOps.cmpf (F := Ideal) (φ := .f32) .une (FloatOps.subf (F := Ideal) (φ := .f32) u (0 : EReal)) (FloatOps.subf (F := Ideal) (φ := .f32) u (0 : EReal)))
    (u + 0) (max u 0 + Ideal.log1p (Ideal.exp (-(max (u - 0) (-(u - 0))))))

theorem sp_eq (u : EReal) : sp u = max u 0 + Ideal.log1p (Ideal.exp (-(max u (-u)))) := by
  have hc : ∀ x : EReal, FloatOps.cmpf (F := Ideal) (φ := .f32) .une x x = 0#1 := fun x => by
    show Ideal.cmp .une x x = 0#1
    simp [Ideal.cmp]
  unfold sp
  rw [hc, sub_zero]
  rfl

theorem neg_sp (u : EReal) : -sp u = ls u := by
  rw [sp_eq]
  unfold ls Ideal.log1p
  rw [zero_sub, zero_sub]

theorem neg_sp_neg (r : ℝ) : -sp (-(r : EReal)) = ((r + lsr r : ℝ) : EReal) := by
  rw [neg_sp, ← EReal.coe_neg, ls_coe]
  unfold lsr
  congr 1
  rw [neg_neg, max_comm (-r) r]
  have : max (-r) 0 = max r 0 - r := by
    rcases le_total r 0 with h | h
    · rw [max_eq_left (by linarith), max_eq_right h]; ring
    · rw [max_eq_right (by linarith), max_eq_left h]; ring
  rw [this]; ring

/-- The exponent of a key's weight, as the reference writes it: what the key leaves is added to the later keys' sum and taken off again. -/
theorem weight_arg (z t : EReal) (ht : t ≠ ⊤) : -sp (-z) + (ls z + t - ls z) = z + ls z + t := by
  induction z using EReal.rec with
  | bot =>
    rw [neg_sp, EReal.neg_bot, ls_top, EReal.bot_add, EReal.bot_add, EReal.bot_add]
  | top =>
    rw [ls_top, EReal.bot_add, show (⊥ : EReal) - ⊥ = ⊥ from rfl, EReal.add_bot, EReal.add_bot, EReal.bot_add]
  | coe r =>
    rw [neg_sp_neg, ls_coe]
    induction t using EReal.rec with
    | bot => rw [EReal.add_bot, EReal.bot_sub, EReal.add_bot, EReal.add_bot]
    | coe t =>
      rw [← EReal.coe_add, ← EReal.coe_sub, ← EReal.coe_add, ← EReal.coe_add, ← EReal.coe_add]
      congr 1
      ring
    | top => exact absurd rfl ht

/-- A left fold that adds entries is their sum. -/
theorem fold_sum {N : ℕ} (h : EReal → Fin N → EReal) (g : Fin N → EReal) (hh : ∀ r n, h r n = r + g n) (l : List (Fin N)) (a : EReal) :
    l.foldl h a = a + (l.map g).sum := by
  induction l generalizing a with
  | nil => simp
  | cons x l ih => rw [List.foldl_cons, hh, ih, List.map_cons, List.sum_cons, add_assoc]

variable (x0 : Vec Ideal S8x64x9472 .bf16) (x1 x2 : Vec Ideal S8x1024x8x64 .f32) (x3 x4 : Vec Ideal S8x512x64 .bf16)

/-! ## The logits -/

theorem query_apply (b : Fin 8) (i : Fin 64) (h : Fin 8) (d : Fin 64) : val_main_v2 (F := Ideal) x0 (ix4 b i h d) =
    x0 (ix3 b i (⟨4096 + (64 * h.val + d.val), by omega⟩ : Fin 9472)) := by
  unfold val_main_v2 val_main_v1 val_main_v0
  pointwise []
  refine congrArg x0 (funext fun a => Fin.ext ?_)
  match a with
  | ⟨0, _⟩ => first | rfl | (show _ = b.val; omega)
  | ⟨1, _⟩ => first | rfl | (show _ = i.val; omega)
  | ⟨2, _⟩ => first | rfl | (show 4096 + (h.val * 64 + d.val) = 4096 + (64 * h.val + d.val); omega)

theorem joined_apply (P : Vec Ideal S8x1024x8x64 .f32) (N : Vec Ideal S8x512x64 .bf16) (b : Fin 8) (n : Fin 1088) (h : Fin 8) (d : Fin 64) :
    val_main_v11 (F := Ideal) P N (ix4 b n h d) = cached P N b (64 * h.val + d.val) n.val := by
  unfold val_main_v11 val_main_v7 val_main_v6 val_main_v5 cached
  have e1 : (64 * h.val + d.val) / 64 = h.val := by omega
  have e2 : (64 * h.val + d.val) % 64 = d.val := by omega
  rw [dif_pos (show 64 * h.val + d.val < 512 by omega)]
  pointwise []
  by_cases h1 : n.val < 1024
  · rw [dif_pos h1, dif_pos h1]
    refine congrArg P (funext fun a => Fin.ext ?_)
    match a with
    | ⟨0, _⟩ => rfl
    | ⟨1, _⟩ => rfl
    | ⟨2, _⟩ => exact e1.symm
    | ⟨3, _⟩ => exact e2.symm
  · rw [dif_neg h1, dif_neg h1, dif_pos (show n.val - 1024 < 64 by omega)]
    refine congrArg N (funext fun a => Fin.ext ?_)
    match a with
    | ⟨0, _⟩ => first | rfl | (show _ = b.val; omega)
    | ⟨1, _⟩ => first | rfl | (show h.val * 64 + d.val = 64 * h.val + d.val; omega)
    | ⟨2, _⟩ => first | rfl | (show _ = n.val - 1024; omega)

theorem logit_apply (b : Fin 8) (h : Fin 8) (i : Fin 64) (n : Fin 1088) : val_main_v18 (F := Ideal) x0 x1 x3 (ix4 b h i n) =
    (zr (queries x0 b) (keys x1 x3 b) h.val i.val n.val) := by
  rw [val_main_v18_apply, val_main_v17_apply, val_main_cst_apply, eighth, val_main_v16_apply]
  have el : ∀ d : Fin 64, lidx_main_v16 (ix4 b h i n) d = ix4 b i h d := fun d => by
    funext a; match a with
    | ⟨0, _⟩ => rfl
    | ⟨1, _⟩ => rfl
    | ⟨2, _⟩ => rfl
    | ⟨3, _⟩ => rfl
  have er : ∀ d : Fin 64, ridx_main_v16 (ix4 b h i n) d = ix4 b n h d := fun d => by
    funext a; match a with
    | ⟨0, _⟩ => rfl
    | ⟨1, _⟩ => rfl
    | ⟨2, _⟩ => rfl
    | ⟨3, _⟩ => rfl
  have es : (∑ d : Fin 64, val_main_v2 (F := Ideal) x0 (lidx_main_v16 (ix4 b h i n) d) * val_main_v11 (F := Ideal) x1 x3 (ridx_main_v16 (ix4 b h i n) d) : EReal)
      = (∑ d : Fin 64, queries x0 b i.val (64 * h.val + d.val) * keys x1 x3 b (64 * h.val + d.val) n.val) := by
    refine Finset.sum_congr rfl fun d _ => ?_
    rw [el, er, query_apply, joined_apply]
    exact congrArg (· * _) (queries_eq x0 b i (⟨64 * h.val + d.val, by omega⟩ : Fin 512))
  show (_ : EReal) * _ = _
  rw [es]
  unfold zr
  rw [Finset.sum_range]
  rfl

theorem left_eq (j : S8x8x64x1088.Idx) : val_main_v26 (F := Ideal) x0 x1 x3 j = -sp (-(-(val_main_v18 (F := Ideal) x0 x1 x3 j))) := by
  unfold val_main_v26 val_main_call0_v1 val_main_call0_call0_v11 val_main_call0_call0_v10 val_main_call0_call0_v9 val_main_call0_call0_v8 val_main_call0_call0_v7
    val_main_call0_call0_v6 val_main_call0_call0_v4 val_main_call0_call0_v3 val_main_call0_call0_v1 val_main_call0_v0 val_main_v25
  generalize val_main_v18 (F := Ideal) x0 x1 x3 = z
  have h0 : ∀ i, val_main_call0_call0_v0 (F := Ideal) i = (0 : EReal) := fun i => by rw [val_main_call0_call0_v0_apply, val_main_call0_call0_cst_apply, nought]
  have h2 : ∀ i, val_main_call0_call0_v2 (F := Ideal) i = (0 : EReal) := fun i => by rw [val_main_call0_call0_v2_apply, val_main_call0_call0_cst_apply, nought]
  have h5 : ∀ i, val_main_call0_call0_v5 (F := Ideal) i = (0 : EReal) := fun i => by rw [val_main_call0_call0_v5_apply, val_main_call0_call0_cst_apply, nought]
  rw [show val_main_call0_call0_v0 (F := Ideal) = fun _ => (0 : EReal) from funext h0, show val_main_call0_call0_v2 (F := Ideal) = fun _ => (0 : EReal) from funext h2,
    show val_main_call0_call0_v5 (F := Ideal) = fun _ => (0 : EReal) from funext h5]
  rfl

theorem own_eq (j : S8x8x64x1088.Idx) : val_main_v30 (F := Ideal) x0 x1 x3 j = -sp (-(val_main_v18 (F := Ideal) x0 x1 x3 j)) := by
  unfold val_main_v30 val_main_call3_v1 val_main_call3_call0_v11 val_main_call3_call0_v10 val_main_call3_call0_v9 val_main_call3_call0_v8 val_main_call3_call0_v7
    val_main_call3_call0_v6 val_main_call3_call0_v4 val_main_call3_call0_v3 val_main_call3_call0_v1 val_main_call3_v0
  generalize val_main_v18 (F := Ideal) x0 x1 x3 = z
  have h0 : ∀ i, val_main_call3_call0_v0 (F := Ideal) i = (0 : EReal) := fun i => by rw [val_main_call3_call0_v0_apply, val_main_call3_call0_cst_apply, nought]
  have h2 : ∀ i, val_main_call3_call0_v2 (F := Ideal) i = (0 : EReal) := fun i => by rw [val_main_call3_call0_v2_apply, val_main_call3_call0_cst_apply, nought]
  have h5 : ∀ i, val_main_call3_call0_v5 (F := Ideal) i = (0 : EReal) := fun i => by rw [val_main_call3_call0_v5_apply, val_main_call3_call0_cst_apply, nought]
  rw [show val_main_call3_call0_v0 (F := Ideal) = fun _ => (0 : EReal) from funext h0, show val_main_call3_call0_v2 (F := Ideal) = fun _ => (0 : EReal) from funext h2,
    show val_main_call3_call0_v5 (F := Ideal) = fun _ => (0 : EReal) from funext h5]
  rfl

/-! ## The mask -/

theorem small (a : ℕ) (h : a < 2048) : (BitVec.ofNat 32 a).toInt = a := by
  have e : (BitVec.ofNat 32 a).toNat = a := by rw [BitVec.toNat_ofNat]; exact Nat.mod_eq_of_lt (by omega)
  rw [BitVec.toInt_eq_toNat_of_lt (by rw [e]; omega), e]

theorem seen_word : ∀ n : Fin 1088, ∀ i : Fin 64, IntOp.cmpi .slt (BitVec.ofNat 32 n.val) (IntOp.addi 1024#32 (BitVec.ofNat 32 i.val)) = 1 ↔ n.val < 1024 + i.val := by
  intro n i
  have hn : (BitVec.ofNat 32 n.val).toInt = n.val := small n.val (by omega)
  have hi : (1024#32 + BitVec.ofNat 32 i.val).toInt = 1024 + i.val := by
    rw [show (1024#32 : BitVec 32) + BitVec.ofNat 32 i.val = BitVec.ofNat 32 (1024 + i.val) from (BitVec.ofNat_add _ _).symm, small _ (by omega)]
    rfl
  show BitVec.ofBool (BitVec.slt (BitVec.ofNat 32 n.val) (1024#32 + BitVec.ofNat 32 i.val)) = 1 ↔ _
  rw [BitVec.slt, hn, hi]
  by_cases h : n.val < 1024 + i.val
  · rw [decide_eq_true (by omega)]; simp [h]
  · rw [decide_eq_false (by omega)]; simp [h]

theorem seen_apply (n : Fin 1088) (i : Fin 64) : val_main_v24 (F := Ideal) (ix2 i n) = 1 ↔ n.val < 1024 + i.val := by
  rw [← seen_word n i]
  have e : val_main_v24 (F := Ideal) (ix2 i n) = IntOp.cmpi .slt (BitVec.ofNat 32 n.val) (IntOp.addi 1024#32 (BitVec.ofNat 32 i.val)) := by
    rw [val_main_v24_apply, val_main_v22_apply, val_main_v23_apply, val_main_v20_apply, val_main_v21_apply, val_main_v19_apply, val_main_v15_apply,
      val_main_v14_apply, val_main_c_apply, val_main_v13_apply]
    rfl
  rw [e]

theorem seen0 (b h : Fin 8) (i : Fin 64) (n : Fin 1088) : val_main_call1_v1 (F := Ideal) (ix4 b h i n) = 1 ↔ n.val < 1024 + i.val := by
  rw [val_main_call1_v1_apply, show idx_main_call1_v1 (ix4 b h i n) = ix2 i n from by funext a; match a with | ⟨0, _⟩ => rfl | ⟨1, _⟩ => rfl]
  exact seen_apply n i
theorem seen4 (b h : Fin 8) (i : Fin 64) (n : Fin 1088) : val_main_call4_v1 (F := Ideal) (ix4 b h i n) = 1 ↔ n.val < 1024 + i.val := by
  rw [val_main_call4_v1_apply, show idx_main_call4_v1 (ix4 b h i n) = ix2 i n from by funext a; match a with | ⟨0, _⟩ => rfl | ⟨1, _⟩ => rfl]
  exact seen_apply n i

theorem lr_apply (b h : Fin 8) (i : Fin 64) (n : Fin 1088) : val_main_v27 (F := Ideal) x0 x1 x3 (ix4 b h i n) =
    (lr (queries x0 b) (keys x1 x3 b) h.val i.val n.val) := by
  rw [val_main_v27_apply, left_eq, logit_apply x0 x1 x3, val_main_call1_v2_apply]
  have hz : ∀ j, val_main_call1_v0 (F := Ideal) j = (0 : EReal) := fun j => nought
  rw [hz, neg_neg, neg_sp]
  unfold lr
  show (if _ then _ else _) = _
  by_cases hs : n.val < 1024 + i.val
  · rw [if_pos ((seen0 b h i n).mpr hs), if_pos hs]
  · rw [if_neg (fun e => hs ((seen0 b h i n).mp e)), if_neg hs]

end Cert.Attention

end
-- ==== Proof.Sb.ReferenceSums.lean ====
/- The attention's reference, from the keys' logarithms to the result. -/
module

public import proofs.«01_k».proof.Proof.Sb.Reference

@[expose] public section

set_option maxRecDepth 16384

noncomputable section

namespace Cert.Attention

open Cert.SbReferenceIdeal Cert.SbReferenceIdeal.Read Cert.SbReferenceIdeal.Gen Cert.Stick
open Idealize.ShloMosaic Idealize.ShloMosaic.Pointwise
open Cert.SbIdeal.Attn (queries keys cached gate attended queries_eq)

variable (x0 : Vec Ideal S8x64x9472 .bf16) (x1 x2 : Vec Ideal S8x1024x8x64 .f32) (x3 x4 : Vec Ideal S8x512x64 .bf16)

/-- The sum of a window that runs from `n` on, over its entries. -/
theorem window_sum (x : FVec Ideal S8x8x64x1088 .f32) (init : FVec Ideal S_ .f32) (g : ℕ → EReal) (b h : Fin 8) (i : Fin 64) (n : Fin 1088)
    (hx : ∀ n : Fin 1088, x (ix4 b h i n) = (g n.val)) (hi : ∀ j, init j = (0 : EReal)) :
    Host.reduceWindowAdd ![1, 1, 1, 1088] ![1, 1, 1, 1] ![0, 0, 0, 0] ![0, 0, 0, 1087] x init
      reduceWindows_S8x8x64x1088_S8x8x64x1088_w1s1p0_0_w1s1p0_0_w1s1p0_0_w1088s1p0_1087 h_S_ (ix4 b h i n) = (∑ a ∈ Finset.Ico n.val 1088, g a) := by
  have hn := n.isLt
  have hW : (⟨4, ![1, 1, 1, 1088]⟩ : Shape).numel = 1088 := by decide
  have hq : ∀ w : Fin (⟨4, ![1, 1, 1, 1088]⟩ : Shape).numel, (((⟨4, ![1, 1, 1, 1088]⟩ : Shape).rowMajor.symm w) 0).val = 0
      ∧ (((⟨4, ![1, 1, 1, 1088]⟩ : Shape).rowMajor.symm w) 1).val = 0 ∧ (((⟨4, ![1, 1, 1, 1088]⟩ : Shape).rowMajor.symm w) 2).val = 0
      ∧ (((⟨4, ![1, 1, 1, 1088]⟩ : Shape).rowMajor.symm w) 3).val = w.val := by
    intro w
    have e := Shape.rowMajor_val_four ((⟨4, ![1, 1, 1, 1088]⟩ : Shape).rowMajor.symm w)
    rw [Equiv.apply_symm_apply] at e
    generalize (⟨4, ![1, 1, 1, 1088]⟩ : Shape).rowMajor.symm w = q at *
    have a0 : (q 0).val < 1 := (q 0).isLt
    have a1 : (q 1).val < 1 := (q 1).isLt
    have a2 : (q 2).val < 1 := (q 2).isLt
    have e' : w.val = (((q 0).val * 1 + (q 1).val) * 1 + (q 2).val) * 1088 + (q 3).val := e
    refine ⟨by omega, by omega, by omega, by omega⟩
  have hv : init (Shape.Idx.first h_S_) = 0 := hi _
  show (List.finRange _).foldl _ (init (Shape.Idx.first h_S_)) = _
  rw [hv]
  refine (fold_sum _ (fun w => if n.val + w.val < 1088 then g (n.val + w.val) else 0) (fun r w => ?_) _ 0).trans ?_
  · obtain ⟨q0, q1, q2, q3⟩ := hq w
    refine congrArg (fun y : EReal => r + y) ?_
    split
    · next hin =>
      have h3 := (hin 3).2
      change n.val * 1 + ((⟨4, ![1, 1, 1, 1088]⟩ : Shape).rowMajor.symm w 3).val - 0 < 1088 at h3
      rw [q3] at h3
      rw [if_pos (by omega)]
      refine (congrArg x (funext fun a => Fin.ext ?_)).trans (hx ⟨n.val + w.val, by omega⟩)
      match a with
      | ⟨0, _⟩ =>
        show b.val * 1 + ((⟨4, ![1, 1, 1, 1088]⟩ : Shape).rowMajor.symm w 0).val - 0 = b.val
        rw [q0]; omega
      | ⟨1, _⟩ =>
        show h.val * 1 + ((⟨4, ![1, 1, 1, 1088]⟩ : Shape).rowMajor.symm w 1).val - 0 = h.val
        rw [q1]; omega
      | ⟨2, _⟩ =>
        show i.val * 1 + ((⟨4, ![1, 1, 1, 1088]⟩ : Shape).rowMajor.symm w 2).val - 0 = i.val
        rw [q2]; omega
      | ⟨3, _⟩ =>
        show n.val * 1 + ((⟨4, ![1, 1, 1, 1088]⟩ : Shape).rowMajor.symm w 3).val - 0 = n.val + w.val
        rw [q3]; omega
    · next hin =>
      rw [if_neg fun hle => hin fun a => by
        match a with
        | ⟨0, _⟩ =>
          show 0 ≤ b.val * 1 + ((⟨4, ![1, 1, 1, 1088]⟩ : Shape).rowMajor.symm w 0).val ∧ b.val * 1 + ((⟨4, ![1, 1, 1, 1088]⟩ : Shape).rowMajor.symm w 0).val - 0 < 8
          rw [q0]; have := b.isLt; omega
        | ⟨1, _⟩ =>
          show 0 ≤ h.val * 1 + ((⟨4, ![1, 1, 1, 1088]⟩ : Shape).rowMajor.symm w 1).val ∧ h.val * 1 + ((⟨4, ![1, 1, 1, 1088]⟩ : Shape).rowMajor.symm w 1).val - 0 < 8
          rw [q1]; have := h.isLt; omega
        | ⟨2, _⟩ =>
          show 0 ≤ i.val * 1 + ((⟨4, ![1, 1, 1, 1088]⟩ : Shape).rowMajor.symm w 2).val ∧ i.val * 1 + ((⟨4, ![1, 1, 1, 1088]⟩ : Shape).rowMajor.symm w 2).val - 0 < 64
          rw [q2]; have := i.isLt; omega
        | ⟨3, _⟩ =>
          show 0 ≤ n.val * 1 + ((⟨4, ![1, 1, 1, 1088]⟩ : Shape).rowMajor.symm w 3).val ∧ n.val * 1 + ((⟨4, ![1, 1, 1, 1088]⟩ : Shape).rowMajor.symm w 3).val - 0 < 1088
          rw [q3]; omega]
  · rw [zero_add, ← Fin.sum_univ_def, Fin.sum_univ_eq_sum_range (fun w => if n.val + w < 1088 then g (n.val + w) else 0)]
    rw [show (⟨(⟨4, ![8, 8, 64, 1088]⟩ : Shape).rank, ![1, 1, 1, 1088]⟩ : Shape).numel = 1088 from hW, Finset.sum_Ico_eq_sum_range, ← Finset.sum_filter]
    refine Finset.sum_congr ?_ fun _ _ => rfl
    ext w
    simp only [Finset.mem_filter, Finset.mem_range]
    omega

theorem tail_apply (b h : Fin 8) (i : Fin 64) (n : Fin 1088) : val_main_v29 (F := Ideal) x0 x1 x3 (ix4 b h i n) =
    lr (queries x0 b) (keys x1 x3 b) h.val i.val n.val + tail (queries x0 b) (keys x1 x3 b) h.val i.val (n.val + 1)
      - lr (queries x0 b) (keys x1 x3 b) h.val i.val n.val := by
  have h0 : ∀ j, val_main_call2_v0 (F := Ideal) j = (0 : EReal) := fun j => by rw [val_main_call2_v0_apply, val_main_call2_cst_apply, nought]
  have hw := window_sum (val_main_v27 (F := Ideal) x0 x1 x3) (val_main_call2_v0 (F := Ideal)) (lr (queries x0 b) (keys x1 x3 b) h.val i.val) b h i n
    (lr_apply x0 x1 x3 b h i) h0
  rw [val_main_v29_apply, lr_apply x0 x1 x3 b h i n]
  show val_main_v28 (F := Ideal) x0 x1 x3 (ix4 b h i n) - (_ : EReal) = _
  unfold val_main_v28
  rw [hw, Finset.sum_eq_sum_Ico_succ_bot n.isLt, tail_near _ _ _ _ _ i.isLt (by have := n.isLt; omega)]

theorem weight_apply (b h : Fin 8) (i : Fin 64) (n : Fin 1088) : val_main_v33 (F := Ideal) x0 x1 x3 (ix4 b h i n) =
    wt (queries x0 b) (keys x1 x3 b) h.val i.val n.val := by
  have hz : ∀ j, val_main_call4_v2 (F := Ideal) j = (0 : EReal) := fun j => (val_main_call4_v2_apply j).trans nought
  have he : val_main_v32 (F := Ideal) x0 x1 x3 (ix4 b h i n) = Ideal.exp (val_main_v30 (F := Ideal) x0 x1 x3 (ix4 b h i n) + val_main_v29 (F := Ideal) x0 x1 x3 (ix4 b h i n)) := rfl
  rw [val_main_v33_apply, he, hz, own_eq, logit_apply x0 x1 x3, tail_apply x0 x1 x3]
  unfold wt
  show (if _ then _ else _) = _
  by_cases hs : n.val < 1024 + i.val
  · rw [if_pos ((seen4 b h i n).mpr hs), if_pos hs]
    have e : lr (queries x0 b) (keys x1 x3 b) h.val i.val n.val = ls (zr (queries x0 b) (keys x1 x3 b) h.val i.val n.val) := by
      unfold lr
      rw [if_pos hs]
    rw [e, weight_arg _ _ (tail_ne_top _ _ _ _ _)]
  · rw [if_neg (fun e => hs ((seen4 b h i n).mp e)), if_neg hs]

theorem out_apply (b h : Fin 8) (d i : Fin 64) : val_main_v34 (F := Ideal) x0 x1 x2 x3 x4 (ix4 b h d i) =
    out (queries x0 b) (keys x1 x3 b) (cached x2 x4 b) h.val i.val (64 * h.val + d.val) 0 := by
  rw [val_main_v34_apply, out_near _ _ _ _ _ _ i.isLt, Finset.sum_range]
  have el : ∀ n : Fin 1088, lidx_main_v34 (ix4 b h d i) n = ix4 b n h d := fun n => by
    funext a; match a with
    | ⟨0, _⟩ => rfl
    | ⟨1, _⟩ => rfl
    | ⟨2, _⟩ => rfl
    | ⟨3, _⟩ => rfl
  have er : ∀ n : Fin 1088, ridx_main_v34 (ix4 b h d i) n = ix4 b h i n := fun n => by
    funext a; match a with
    | ⟨0, _⟩ => rfl
    | ⟨1, _⟩ => rfl
    | ⟨2, _⟩ => rfl
    | ⟨3, _⟩ => rfl
  refine Finset.sum_congr rfl fun n _ => ?_
  rw [el, er, weight_apply x0 x1 x3, mul_comm]
  exact congrArg (fun y : EReal => wt (queries x0 b) (keys x1 x3 b) h.val i.val n.val * y) (joined_apply x2 x4 b n h d)

/-- The reference's result. -/
theorem reference_apply (b : Fin 8) (i : Fin 64) (e : Fin 512) : val_main_v39 (F := Ideal) x0 x1 x2 x3 x4 (ix3 b i e) = attended x0 x1 x2 x3 x4 b i e := by
  have hg : val_main_v4 (F := Ideal) x0 (ix3 b i e) = gate x0 b i e := by
    unfold val_main_v4 val_main_v3 gate
    pointwise []
  have h2 : ∀ j, val_main_call5_v2 (F := Ideal) j = (1 : EReal) := fun j => (val_main_call5_v2_apply j).trans unit
  have h4 : ∀ j, val_main_call5_v4 (F := Ideal) j = (1 : EReal) := fun j => (val_main_call5_v4_apply j).trans unit
  have hs : val_main_v37 (F := Ideal) x0 (ix3 b i e) = gate x0 b i e * Cert.Lru.sig (gate x0 b i e) := by
    rw [← hg]
    show val_main_v4 (F := Ideal) x0 (ix3 b i e) * Ideal.div (val_main_call5_v4 (F := Ideal) (ix3 b i e)) (val_main_call5_v2 (F := Ideal) (ix3 b i e)
      + Ideal.exp (-(val_main_v4 (F := Ideal) x0 (ix3 b i e)))) = _
    rw [h2, h4]
    rfl
  have ho : val_main_v36 (F := Ideal) x0 x1 x2 x3 x4 (ix3 b i e) = out (queries x0 b) (keys x1 x3 b) (cached x2 x4 b) (e.val / 64) i.val e.val 0 := by
    have ei : idx_main_v35 (idx_main_v36 (ix3 b i e)) = ix4 b (⟨e.val / 64, by omega⟩ : Fin 8) (⟨e.val % 64, by omega⟩ : Fin 64) i := by
      have hb := b.isLt
      have hi := i.isLt
      have he := e.isLt
      funext a; apply Fin.ext
      match a with
      | ⟨0, _⟩ => show ((b.val * 64 + i.val) * 512 + e.val) / 32768 = b.val; omega
      | ⟨1, _⟩ => show ((b.val * 64 + i.val) * 512 + e.val) / 64 % 8 = e.val / 64; omega
      | ⟨2, _⟩ => show ((b.val * 64 + i.val) * 512 + e.val) % 64 = e.val % 64; omega
      | ⟨3, _⟩ => show ((b.val * 64 + i.val) * 512 + e.val) / 512 % 64 = i.val; omega
    rw [val_main_v36_apply, val_main_v35_apply, ei, out_apply x0 x1 x2 x3 x4]
    show out _ _ _ (e.val / 64) i.val (64 * (e.val / 64) + e.val % 64) 0 = _
    rw [Nat.div_add_mod]
  show val_main_v36 (F := Ideal) x0 x1 x2 x3 x4 (ix3 b i e) * val_main_v37 (F := Ideal) x0 (ix3 b i e) = _
  rw [ho, hs]
  rfl

end Cert.Attention

end
-- ==== Proof.Sb.Claims.lean ====
/- The attention's value claim: the call and its reference end with the same array. -/
module

public import proofs.«01_k».proof.Proof.Sb.Frames
public import proofs.«01_k».proof.Proof.Sb.Arrays
public import proofs.«01_k».proof.Proof.Sb.ReferenceSums

@[expose] public section

set_option maxRecDepth 16384

noncomputable section

namespace Cert.Attention

open Idealize.ShloMosaic Idealize.ShloMosaic.TcCoe Idealize.ShloMosaic.Pointwise Idealize.SL.Sem
open Cert.SbIdeal.Attn (attended)

/-! ## The runs -/

section
open Cert.SbIdeal Cert.SbIdeal.Gen
variable (m : (ℓ : Loc nD τ sig) → Buf (Elt Ideal) ℓ) (g : Dev nD → PrngReg)

/-- The kernel's run: the result array, and the arguments unchanged. -/
theorem run :
    θ_run defs (onTc (τ := τ) (main (F := Ideal))) ⟨m, fun _ => 0, g⟩ (fun r => ∀ c : Dev nD,
      r.2.mem ((c.tc : Thread nD τ).loc main_v15) = Cert.SbIdeal.Attn.Y m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (Cert.SbIdeal.Attn.run_main m g)
  refine ⟨((h c).1 5).trans (Cert.SbIdeal.Attn.array5 m c),
    ((h c).1 0).trans (((Cert.SbIdeal.Attn.dats m 0 c).arrAt_in 0 rfl _).trans ((Cert.SbIdeal.Attn.A_eq m c 0).trans (Cert.SbIdeal.Attn.V_main_arg0 m c))),
    ((h c).2 main_arg1 (Pipeline.mem_restRefs_of (win := spec0) main_arg1 (by decide) (by decide))).trans (Cert.SbIdeal.Attn.V_main_arg1 m c),
    ((h c).2 main_arg2 (Pipeline.mem_restRefs_of (win := spec0) main_arg2 (by decide) (by decide))).trans (Cert.SbIdeal.Attn.V_main_arg2 m c),
    ((h c).2 main_arg3 (Pipeline.mem_restRefs_of (win := spec0) main_arg3 (by decide) (by decide))).trans (Cert.SbIdeal.Attn.V_main_arg3 m c),
    ((h c).2 main_arg4 (Pipeline.mem_restRefs_of (win := spec0) main_arg4 (by decide) (by decide))).trans (Cert.SbIdeal.Attn.V_main_arg4 m c)⟩
end

theorem algebraic : Cert.algebraic_SbIdeal_SbReferenceIdeal (hSbIdeal := Cert.SbIdeal.Gen.facts)
    (hSbReferenceIdeal := Cert.SbReferenceIdeal.Gen.facts) := by
  intro m g m' g' _ e
  refine ⟨fun c => Cert.SbIdeal.Attn.Y m c, run m g, ?_⟩
  refine (θ_run Cert.SbReferenceIdeal.defs _ _).mono (fun r h c => ?_) (Cert.SbReferenceIdeal.Value.run m' g')
  obtain ⟨h0, hr⟩ := h c
  refine ⟨h0.trans ((Cert.SbReferenceIdeal.Read.val_main_v39_eq ..).trans ?_), hr⟩
  obtain ⟨e0, e1, e2, e3, e4⟩ := e c
  rw [e0, e1, e2, e3, e4]
  funext j
  have hj : j = ix3 (j 0) (j 1) (j 2) := by
    funext a
    match a with
    | ⟨0, _⟩ => rfl
    | ⟨1, _⟩ => rfl
    | ⟨2, _⟩ => rfl
  rw [hj]
  exact reference_apply _ _ _ _ _ (j 0) (j 1) (j 2)

end Cert.Attention

end
-- ==== Proof.MergeSample.Point.lean ====
/- One grid point of the merge kernel, read at an index. -/
module

public import proofs.«01_k».proof.Proof.Gen.MixSampleIdeal.Value
public import proofs.«01_k».proof.Proof.Merge.Maths
public import Idealize.ShloMosaic.Lib.Pointwise

@[expose] public section

set_option maxRecDepth 16384

noncomputable section

namespace Cert.MixSampleIdeal.Merge

open Cert.MixSampleIdeal Cert.MixSampleIdeal.Gen Cert.Merge
open Idealize.ShloMosaic Idealize.ShloMosaic.TcCoe Idealize.ShloMosaic.Tactic Idealize.ShloMosaic.Pointwise

/-- One of the four weights of the stack. -/
def slab (x9 : Vec Ideal S4x512x1024 .bf16) (n : Fin 4) : Vec Ideal S1x512x1024 .bf16 := fun i => x9 (ix3 n (i 1) (i 2))

theorem hz2 : (![0, 0] : Fin 2 → Nat) = fun _ => 0 := funext fun a => by fin_cases a <;> rfl

theorem ld_slab (x9 : Vec Ideal S4x512x1024 .bf16) (n : Fin 4) (o : Fin 3 → ℕ) (ho : o = ![n.val, 0, 0]) (h) :
    View.ld x9 (Rect.unit (s := S4x512x1024) o ![1, 512, 1024] h) = slab x9 n := by
  subst ho
  funext y
  refine congrArg x9 (funext fun a => Fin.ext ?_)
  have h0 : (y 0).val < 1 := (y 0).isLt
  match a with
  | ⟨0, _⟩ => show n.val + 1 * (y 0).val = n.val; omega
  | ⟨1, _⟩ => show 0 + 1 * (y 1).val = (y 1).val; omega
  | ⟨2, _⟩ => show 0 + 1 * (y 2).val = (y 2).val; omega

section
variable (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .f32) (harg9 : arg9.IsWhole) (arg10 : Memref sig .tc .vmem S4x512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S512x1024 .f32) (harg13 : arg13.IsWhole)
    (x0 : Vec Ideal S512x512 .bf16) (x1 : Vec Ideal S512x512 .bf16) (x2 : Vec Ideal S512x512 .bf16) (x3 : Vec Ideal S512x512 .bf16) (x4 : Vec Ideal S512x1024 .bf16) (x5 : Vec Ideal S512x1024 .bf16) (x6 : Vec Ideal S512x1024 .bf16) (x7 : Vec Ideal S512x1024 .bf16) (x8 : Vec Ideal S512x1024 .f32) (x9 : Vec Ideal S4x512x1024 .bf16) (x10 : Vec Ideal S1024x1024 .bf16) (x11 : Vec Ideal S1x1024 .f32)

/-- What a point leaves in its block. -/
theorem out_eq : out0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 =
    k0_pay1 (k0_pay4 (k0_pay2 x0 (slab x9 0) x4 x1 (slab x9 1) x5) x2 (k0_pay3 (slab x9 2)) x6 x3 (slab x9 3) x7 x10)
      (k0_pay5 (k0_pay2 x0 (slab x9 0) x4 x1 (slab x9 1) x5) x2 (k0_pay3 (slab x9 2)) x6 x3 (slab x9 3) x7 x10) x8 x11 := by
  unfold out0_A_12
  rw [View.read_writes_junk_eq_canon]
  unfold kernelRun0_A
  dsimp only
  sl_unfold_words
  rw [View.canon_unit_zero hz2]
  simp only [View.readAt_eq_ld, harg1.read_unread, harg2.read_unread, harg3.read_unread, harg4.read_unread, harg5.read_unread,
    harg6.read_unread, harg7.read_unread, harg8.read_unread, harg9.read_unread, harg10.read_unread, harg11.read_unread, harg12.read_unread,
    View.ld_unit_zero (S := S512x512) hz2, View.ld_unit_zero (S := S512x1024) hz2, View.ld_unit_zero (S := S1024x1024) hz2, View.ld_unit_zero (S := S1x1024) hz2]
  rw [ld_slab x9 0 ![0, 0, 0] rfl, ld_slab x9 1 ![1, 0, 0] rfl, ld_slab x9 2 ![2, 0, 0] rfl, ld_slab x9 3 ![3, 0, 0] rfl]
end

/-! ## The values at an index -/

/-- One branch's gated product. -/
def branch (u : Vec Ideal S512x512 .bf16) (w : Vec Ideal S1x512x1024 .bf16) (g : Vec Ideal S512x1024 .bf16) (r : Fin 512) (j : Fin 1024) : EReal :=
  Cert.Lru.sig (g (ix2 r j)) * ∑ k : Fin 512, u (ix2 r k) * w (ix3 0 k j)

theorem pay2_apply (v0 : Vec Ideal S512x512 .bf16) (v1 : Vec Ideal S1x512x1024 .bf16) (v4 : Vec Ideal S512x1024 .bf16)
    (v14 : Vec Ideal S512x512 .bf16) (v15 : Vec Ideal S1x512x1024 .bf16) (v18 : Vec Ideal S512x1024 .bf16) (r : Fin 512) (j : Fin 1024) :
    k0_pay2 v0 v1 v4 v14 v15 v18 (ix2 r j) = branch v0 v1 v4 r j + branch v14 v15 v18 r j := by
  pointwise [k0_pay2]
  simp only [Cert.Lru.tanh_sig, branch]

theorem pay4_apply (v28 : Vec Ideal S512x1024 .f32) (v29 : Vec Ideal S512x512 .bf16) (v30 : Vec Ideal S1x512x1024 .bf16) (v33 : Vec Ideal S512x1024 .bf16)
    (v44 : Vec Ideal S512x512 .bf16) (v45 : Vec Ideal S1x512x1024 .bf16) (v48 : Vec Ideal S512x1024 .bf16) (v60 : Vec Ideal S1024x1024 .bf16)
    (r : Fin 512) (j : Fin 1024) :
    k0_pay4 v28 v29 (k0_pay3 v30) v33 v44 v45 v48 v60 (ix2 r j) =
      ∑ k : Fin 1024, (v28 (ix2 r k) + branch v29 v30 v33 r k + branch v44 v45 v48 r k) * v60 (ix2 k j) := by
  pointwise [k0_pay4, k0_pay3]
  simp only [Cert.Lru.tanh_sig, branch]

theorem pay5_apply (v28 : Vec Ideal S512x1024 .f32) (v29 : Vec Ideal S512x512 .bf16) (v30 : Vec Ideal S512x1024 .bf16) (v33 : Vec Ideal S512x1024 .bf16)
    (v44 : Vec Ideal S512x512 .bf16) (v45 : Vec Ideal S1x512x1024 .bf16) (v48 : Vec Ideal S512x1024 .bf16) (v60 : Vec Ideal S1024x1024 .bf16)
    (r : Fin 512) :
    k0_pay5 v28 v29 v30 v33 v44 v45 v48 v60 (ix2 r 0) =
      Ideal.div (∑ k : Fin 1024, k0_pay4 v28 v29 v30 v33 v44 v45 v48 v60 (ix2 r k) * k0_pay4 v28 v29 v30 v33 v44 v45 v48 v60 (ix2 r k))
        (Ideal.ofBits .f32 0x44800000#32) := by
  unfold k0_pay5
  generalize k0_pay4 v28 v29 v30 v33 v44 v45 v48 v60 = o
  pointwise

theorem pay1_apply (o : Vec Ideal S512x1024 .f32) (d : Vec Ideal S512x1 .f32) (x : Vec Ideal S512x1024 .f32) (w : Vec Ideal S1x1024 .f32)
    (r : Fin 512) (j : Fin 1024) :
    k0_pay1 o d x w (ix2 r j) = x (ix2 r j) + o (ix2 r j) * Ideal.rsqrt (d (ix2 r 0) + Ideal.ofBits .f32 0x358637BD#32) * w (ix2 0 j) := by
  pointwise [k0_pay1]

theorem pay_apply (x0 : Vec Ideal S512x512 .bf16) (x1 : Vec Ideal S512x512 .bf16) (x2 : Vec Ideal S512x512 .bf16) (x3 : Vec Ideal S512x512 .bf16) (x4 : Vec Ideal S512x1024 .bf16) (x5 : Vec Ideal S512x1024 .bf16) (x6 : Vec Ideal S512x1024 .bf16) (x7 : Vec Ideal S512x1024 .bf16) (x8 : Vec Ideal S512x1024 .f32) (x9 : Vec Ideal S4x512x1024 .bf16) (x10 : Vec Ideal S1024x1024 .bf16) (x11 : Vec Ideal S1x1024 .f32)
    (r : Fin 512) (j : Fin 1024) :
    k0_pay1 (k0_pay4 (k0_pay2 x0 (slab x9 0) x4 x1 (slab x9 1) x5) x2 (k0_pay3 (slab x9 2)) x6 x3 (slab x9 3) x7 x10)
      (k0_pay5 (k0_pay2 x0 (slab x9 0) x4 x1 (slab x9 1) x5) x2 (k0_pay3 (slab x9 2)) x6 x3 (slab x9 3) x7 x10) x8 x11 (ix2 r j) =
    merged (fun n k => (![x0, x1, x2, x3] n) (ix2 r k)) (fun n k => (![x4, x5, x6, x7] n) (ix2 r k)) (fun k => x8 (ix2 r k))
      (fun n k l => x9 (ix3 n k l)) (fun k l => x10 (ix2 k l)) (fun k => x11 (ix2 0 k)) j := by
  rw [pay1_apply, pay5_apply]
  simp only [pay4_apply, pay2_apply]
  unfold merged Cert.Norm.normRow gated
  simp only [Fin.sum_univ_four]
  rfl

end Cert.MixSampleIdeal.Merge

end
-- ==== Proof.MergeSample.Arrays.lean ====
/- What the merge kernel's result array holds after the run, as a function of the arguments. -/
module

public import proofs.«01_k».proof.Proof.MergeSample.Point
public import Idealize.ShloMosaic.Lib.StableHlo.RunRead
public import Idealize.ShloMosaic.Lib.Pipeline.Value

@[expose] public section

set_option maxRecDepth 16384

noncomputable section

namespace Cert.MixSampleIdeal.Merge

open Cert.MixSampleIdeal Cert.MixSampleIdeal.Gen Cert.Merge
open Idealize.ShloMosaic Idealize.ShloMosaic.TcCoe Idealize.ShloMosaic.Tactic Idealize.ShloMosaic.Pointwise
open Idealize.ShloMosaic.Pipeline (Dat)

variable (m : (ℓ : Loc nD τ sig) → Buf (Elt Ideal) ℓ) (c : Dev nD)

/-! ## The arguments -/
abbrev ua : Vec Ideal S512x512 .bf16 := m ((c : Thread nD τ).loc main_arg0)
abbrev ub : Vec Ideal S512x512 .bf16 := m ((c : Thread nD τ).loc main_arg1)
abbrev uc : Vec Ideal S512x512 .bf16 := m ((c : Thread nD τ).loc main_arg2)
abbrev ud : Vec Ideal S512x512 .bf16 := m ((c : Thread nD τ).loc main_arg3)
abbrev p2 : Vec Ideal S512x9472 .bf16 := m ((c : Thread nD τ).loc main_arg4)
abbrev x2 : Vec Ideal S512x1024 .f32 := m ((c : Thread nD τ).loc main_arg5)
abbrev wdown : Vec Ideal S4x512x1024 .f32 := m ((c : Thread nD τ).loc main_arg6)
abbrev wout : Vec Ideal S1024x1024 .f32 := m ((c : Thread nD τ).loc main_arg7)
abbrev npost : Vec Ideal S1024 .f32 := m ((c : Thread nD τ).loc main_arg8)

/-- The result array. -/
def Y (i : S512x1024.Idx) : EReal :=
  merged (fun n k => (![ua m c, ub m c, uc m c, ud m c] n) (ix2 (i 0) k))
    (fun n k => p2 m c (ix2 (i 0) ⟨5120 + n.val * 1024 + k.val, by omega⟩)) (fun k => x2 m c (ix2 (i 0) k))
    (fun n k l => wdown m c (ix3 n k l)) (fun k l => wout m c (ix2 k l)) (fun k => npost m c (ix1 k)) (i 1)

/-! ## The windows' indices -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 5 :=
  (by decide +kernel : ∀ t : Fin grid0.N, _)
theorem idx5 : ∀ t : Fin cfg0.N, win0_5.index t (0 : Fin 2) = t.val ∧ win0_5.index t (1 : Fin 2) = 6 :=
  (by decide +kernel : ∀ t : Fin grid0.N, _)
theorem idx6 : ∀ t : Fin cfg0.N, win0_6.index t (0 : Fin 2) = t.val ∧ win0_6.index t (1 : Fin 2) = 7 :=
  (by decide +kernel : ∀ t : Fin grid0.N, _)
theorem idx7 : ∀ t : Fin cfg0.N, win0_7.index t (0 : Fin 2) = t.val ∧ win0_7.index t (1 : Fin 2) = 8 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)
theorem idx9 : ∀ t : Fin cfg0.N, win0_9.index t (0 : Fin 3) = 0 ∧ win0_9.index t (1 : Fin 3) = 0 ∧ win0_9.index t (2 : Fin 3) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)

theorem t_lt (t : Fin cfg0.N) : t.val < 1 := lt_of_lt_of_eq t.isLt N_0

/-! ## The arrays that the host code prepares -/
theorem V_v0 : (V m c main_v0 : Vec Ideal S4x512x1024 .bf16) = truncf (F := Ideal) .bf16 (wdown m c) bitsLt_bf16_f32 := by
  unfold V; unfold_abbrev_sides; after_reads_simp
theorem V_v1 : (V m c main_v1 : Vec Ideal S1024x1024 .bf16) = truncf (F := Ideal) .bf16 (wout m c) bitsLt_bf16_f32 := by
  unfold V; unfold_abbrev_sides; after_reads_simp
theorem V_v2 : (V m c main_v2 : Vec Ideal S1x1024 .f32) = broadcastInDim S1x1024 ![1] bcast_S1024_S1x1024_1 (npost m c) := by
  unfold V; unfold_abbrev_sides; after_reads_simp
theorem row_apply (a : Vec Ideal S1024 .f32) (k : Fin 1024) :
    (broadcastInDim S1x1024 ![1] bcast_S1024_S1x1024_1 a : Vec Ideal S1x1024 .f32) (ix2 0 k) = a (ix1 k) := by
  pointwise

/-! ## The blocks as reads of the arguments -/
theorem blk0 (t : Fin cfg0.N) (r k : Fin 512) : (iblk m c 0 t : Vec Ideal S512x512 .bf16) (ix2 r k) =
    ua m c (ix2 ⟨t.val * 512 + r.val, by have := t_lt t; omega⟩ k) := by
  obtain ⟨e0, e1⟩ := idx0 t
  show V m c main_arg0 (((cfg0.win 0).blk t).view.emb _) = _
  rw [V_main_arg0]
  refine congrArg (m ((c : Thread nD τ).loc main_arg0)) (funext fun a => Fin.ext ?_)
  match a with
  | ⟨0, _⟩ => show win0_0.index t (0 : Fin 2) * 512 + 1 * r.val = t.val * 512 + r.val; rw [e0]; omega
  | ⟨1, _⟩ => show win0_0.index t (1 : Fin 2) * 512 + 1 * k.val = k.val; rw [e1]; omega

theorem blk1 (t : Fin cfg0.N) (r k : Fin 512) : (iblk m c 1 t : Vec Ideal S512x512 .bf16) (ix2 r k) =
    ub m c (ix2 ⟨t.val * 512 + r.val, by have := t_lt t; omega⟩ k) := by
  obtain ⟨e0, e1⟩ := idx1 t
  show V m c main_arg1 (((cfg0.win 1).blk t).view.emb _) = _
  rw [V_main_arg1]
  refine congrArg (m ((c : Thread nD τ).loc main_arg1)) (funext fun a => Fin.ext ?_)
  match a with
  | ⟨0, _⟩ => show win0_1.index t (0 : Fin 2) * 512 + 1 * r.val = t.val * 512 + r.val; rw [e0]; omega
  | ⟨1, _⟩ => show win0_1.index t (1 : Fin 2) * 512 + 1 * k.val = k.val; rw [e1]; omega

theorem blk2 (t : Fin cfg0.N) (r k : Fin 512) : (iblk m c 2 t : Vec Ideal S512x512 .bf16) (ix2 r k) =
    uc m c (ix2 ⟨t.val * 512 + r.val, by have := t_lt t; omega⟩ k) := by
  obtain ⟨e0, e1⟩ := idx2 t
  show V m c main_arg2 (((cfg0.win 2).blk t).view.emb _) = _
  rw [V_main_arg2]
  refine congrArg (m ((c : Thread nD τ).loc main_arg2)) (funext fun a => Fin.ext ?_)
  match a with
  | ⟨0, _⟩ => show win0_2.index t (0 : Fin 2) * 512 + 1 * r.val = t.val * 512 + r.val; rw [e0]; omega
  | ⟨1, _⟩ => show win0_2.index t (1 : Fin 2) * 512 + 1 * k.val = k.val; rw [e1]; omega

theorem blk3 (t : Fin cfg0.N) (r k : Fin 512) : (iblk m c 3 t : Vec Ideal S512x512 .bf16) (ix2 r k) =
    ud m c (ix2 ⟨t.val * 512 + r.val, by have := t_lt t; omega⟩ k) := by
  obtain ⟨e0, e1⟩ := idx3 t
  show V m c main_arg3 (((cfg0.win 3).blk t).view.emb _) = _
  rw [V_main_arg3]
  refine congrArg (m ((c : Thread nD τ).loc main_arg3)) (funext fun a => Fin.ext ?_)
  match a with
  | ⟨0, _⟩ => show win0_3.index t (0 : Fin 2) * 512 + 1 * r.val = t.val * 512 + r.val; rw [e0]; omega
  | ⟨1, _⟩ => show win0_3.index t (1 : Fin 2) * 512 + 1 * k.val = k.val; rw [e1]; omega

theorem blk4 (t : Fin cfg0.N) (r : Fin 512) (k : Fin 1024) : (X0_4 m c t : Vec Ideal S512x1024 .bf16) (ix2 r k) =
    p2 m c (ix2 ⟨t.val * 512 + r.val, by have := t_lt t; omega⟩ ⟨5120 + 0 * 1024 + k.val, by omega⟩) := by
  unfold X0_4 Pipeline.Window.fill
  rw [dif_pos (moved0_4 t _)]
  obtain ⟨e0, e1⟩ := idx4 t
  show V m c main_arg4 (((cfg0.win 4).blk t).view.emb _) = _
  rw [V_main_arg4]
  refine congrArg (m ((c : Thread nD τ).loc main_arg4)) (funext fun a => Fin.ext ?_)
  match a with
  | ⟨0, _⟩ => show win0_4.index t (0 : Fin 2) * 512 + 1 * r.val = t.val * 512 + r.val; rw [e0]; omega
  | ⟨1, _⟩ => show win0_4.index t (1 : Fin 2) * 1024 + 1 * k.val = 5120 + 0 * 1024 + k.val; rw [e1]; omega

theorem blk5 (t : Fin cfg0.N) (r : Fin 512) (k : Fin 1024) : (X0_5 m c t : Vec Ideal S512x1024 .bf16) (ix2 r k) =
    p2 m c (ix2 ⟨t.val * 512 + r.val, by have := t_lt t; omega⟩ ⟨5120 + 1 * 1024 + k.val, by omega⟩) := by
  unfold X0_5 Pipeline.Window.fill
  rw [dif_pos (moved0_5 t _)]
  obtain ⟨e0, e1⟩ := idx5 t
  show V m c main_arg4 (((cfg0.win 5).blk t).view.emb _) = _
  rw [V_main_arg4]
  refine congrArg (m ((c : Thread nD τ).loc main_arg4)) (funext fun a => Fin.ext ?_)
  match a with
  | ⟨0, _⟩ => show win0_5.index t (0 : Fin 2) * 512 + 1 * r.val = t.val * 512 + r.val; rw [e0]; omega
  | ⟨1, _⟩ => show win0_5.index t (1 : Fin 2) * 1024 + 1 * k.val = 5120 + 1 * 1024 + k.val; rw [e1]; omega

theorem blk6 (t : Fin cfg0.N) (r : Fin 512) (k : Fin 1024) : (X0_6 m c t : Vec Ideal S512x1024 .bf16) (ix2 r k) =
    p2 m c (ix2 ⟨t.val * 512 + r.val, by have := t_lt t; omega⟩ ⟨5120 + 2 * 1024 + k.val, by omega⟩) := by
  unfold X0_6 Pipeline.Window.fill
  rw [dif_pos (moved0_6 t _)]
  obtain ⟨e0, e1⟩ := idx6 t
  show V m c main_arg4 (((cfg0.win 6).blk t).view.emb _) = _
  rw [V_main_arg4]
  refine congrArg (m ((c : Thread nD τ).loc main_arg4)) (funext fun a => Fin.ext ?_)
  match a with
  | ⟨0, _⟩ => show win0_6.index t (0 : Fin 2) * 512 + 1 * r.val = t.val * 512 + r.val; rw [e0]; omega
  | ⟨1, _⟩ => show win0_6.index t (1 : Fin 2) * 1024 + 1 * k.val = 5120 + 2 * 1024 + k.val; rw [e1]; omega

theorem blk7 (t : Fin cfg0.N) (r : Fin 512) (k : Fin 1024) : (X0_7 m c t : Vec Ideal S512x1024 .bf16) (ix2 r k) =
    p2 m c (ix2 ⟨t.val * 512 + r.val, by have := t_lt t; omega⟩ ⟨5120 + 3 * 1024 + k.val, by omega⟩) := by
  unfold X0_7 Pipeline.Window.fill
  rw [dif_pos (moved0_7 t _)]
  obtain ⟨e0, e1⟩ := idx7 t
  show V m c main_arg4 (((cfg0.win 7).blk t).view.emb _) = _
  rw [V_main_arg4]
  refine congrArg (m ((c : Thread nD τ).loc main_arg4)) (funext fun a => Fin.ext ?_)
  match a with
  | ⟨0, _⟩ => show win0_7.index t (0 : Fin 2) * 512 + 1 * r.val = t.val * 512 + r.val; rw [e0]; omega
  | ⟨1, _⟩ => show win0_7.index t (1 : Fin 2) * 1024 + 1 * k.val = 5120 + 3 * 1024 + k.val; rw [e1]; omega

theorem blk8 (t : Fin cfg0.N) (r : Fin 512) (k : Fin 1024) : (iblk m c 8 t : Vec Ideal S512x1024 .f32) (ix2 r k) =
    x2 m c (ix2 ⟨t.val * 512 + r.val, by have := t_lt t; omega⟩ k) := by
  obtain ⟨e0, e1⟩ := idx8 t
  show V m c main_arg5 (((cfg0.win 8).blk t).view.emb _) = _
  rw [V_main_arg5]
  refine congrArg (m ((c : Thread nD τ).loc main_arg5)) (funext fun a => Fin.ext ?_)
  match a with
  | ⟨0, _⟩ => show win0_8.index t (0 : Fin 2) * 512 + 1 * r.val = t.val * 512 + r.val; rw [e0]; omega
  | ⟨1, _⟩ => show win0_8.index t (1 : Fin 2) * 1024 + 1 * k.val = k.val; rw [e1]; omega

theorem blk9 (t : Fin cfg0.N) (n : Fin 4) (k : Fin 512) (l : Fin 1024) : (iblk m c 9 t : Vec Ideal S4x512x1024 .bf16) (ix3 n k l) =
    wdown m c (ix3 n k l) := by
  obtain ⟨e0, e1, e2⟩ := idx9 t
  show V m c main_v0 (((cfg0.win 9).blk t).view.emb _) = _
  rw [V_v0]
  refine congrArg (wdown m c) (funext fun a => Fin.ext ?_)
  match a with
  | ⟨0, _⟩ => show win0_9.index t (0 : Fin 3) * 4 + 1 * n.val = n.val; rw [e0]; omega
  | ⟨1, _⟩ => show win0_9.index t (1 : Fin 3) * 512 + 1 * k.val = k.val; rw [e1]; omega
  | ⟨2, _⟩ => show win0_9.index t (2 : Fin 3) * 1024 + 1 * l.val = l.val; rw [e2]; omega

theorem blk10 (t : Fin cfg0.N) (k l : Fin 1024) : (iblk m c 10 t : Vec Ideal S1024x1024 .bf16) (ix2 k l) = wout m c (ix2 k l) := by
  obtain ⟨e0, e1⟩ := idx10 t
  show V m c main_v1 (((cfg0.win 10).blk t).view.emb _) = _
  rw [V_v1]
  refine congrArg (wout m c) (funext fun a => Fin.ext ?_)
  match a with
  | ⟨0, _⟩ => show win0_10.index t (0 : Fin 2) * 1024 + 1 * k.val = k.val; rw [e0]; omega
  | ⟨1, _⟩ => show win0_10.index t (1 : Fin 2) * 1024 + 1 * l.val = l.val; rw [e1]; omega

theorem blk11 (t : Fin cfg0.N) (k : Fin 1024) : (iblk m c 11 t : Vec Ideal S1x1024 .f32) (ix2 0 k) = npost m c (ix1 k) := by
  obtain ⟨e0, e1⟩ := idx11 t
  show V m c main_v2 (((cfg0.win 11).blk t).view.emb _) = _
  rw [V_v2, ← row_apply (npost m c) k]
  refine congrArg (broadcastInDim S1x1024 ![1] bcast_S1024_S1x1024_1 (npost m c) : Vec Ideal S1x1024 .f32) (funext fun a => Fin.ext ?_)
  match a with
  | ⟨0, _⟩ => show win0_11.index t (0 : Fin 2) * 1 + 1 * 0 = 0; rw [e0]
  | ⟨1, _⟩ => show win0_11.index t (1 : Fin 2) * 1024 + 1 * k.val = k.val; rw [e1]; omega

/-! ## The result array -/
theorem flushed12 (t : Fin cfg0.N) : (dats m 0 c).flushed 12 t = ((cfg0.win 12).blk t).view.read (Elt Ideal) (Y m c) := by
  rw [Value.flushed12_A, out_eq]
  obtain ⟨e0, e1⟩ := idx12 t
  have ht := t_lt t
  funext y
  have hy0 : (y 0).val < 512 := (y 0).isLt
  have hy1 : (y 1).val < 1024 := (y 1).isLt
  have hi : (cfg0.win 12).xinj (grid0.coords t) y = ix2 (⟨(y 0).val, hy0⟩ : Fin 512) (⟨(y 1).val, hy1⟩ : Fin 1024) := by
    funext a; apply Fin.ext
    match a with
    | ⟨0, _⟩ => rfl
    | ⟨1, _⟩ => rfl
  have he : ((cfg0.win 12).blk t).view.emb y = ix2 (⟨t.val * 512 + (y 0).val, by omega⟩ : Fin 512) (⟨(y 1).val, hy1⟩ : Fin 1024) := by
    funext a; apply Fin.ext
    match a with
    | ⟨0, _⟩ => show win0_12.index t (0 : Fin 2) * 512 + 1 * (y 0).val = t.val * 512 + (y 0).val; rw [e0]; omega
    | ⟨1, _⟩ => show win0_12.index t (1 : Fin 2) * 1024 + 1 * (y 1).val = (y 1).val; rw [e1]; omega
  show _ = Y m c (((cfg0.win 12).blk t).view.emb y)
  rw [he]
  show k0_pay1 _ _ _ _ ((cfg0.win 12).xinj (grid0.coords t) y) = _
  rw [hi]
  refine (pay_apply _ _ _ _ _ _ _ _ _ _ _ _ _ _).trans ?_
  unfold Y
  congr 1
  · funext n k
    match n with
    | ⟨0, _⟩ => exact blk0 m c t _ k
    | ⟨1, _⟩ => exact blk1 m c t _ k
    | ⟨2, _⟩ => exact blk2 m c t _ k
    | ⟨3, _⟩ => exact blk3 m c t _ k
  · funext n k
    match n with
    | ⟨0, _⟩ => exact blk4 m c t _ k
    | ⟨1, _⟩ => exact blk5 m c t _ k
    | ⟨2, _⟩ => exact blk6 m c t _ k
    | ⟨3, _⟩ => exact blk7 m c t _ k
  · funext k; exact blk8 m c t _ k
  · funext n k l; exact blk9 m c t n k l
  · funext k l; exact blk10 m c t k l
  · funext k; exact blk11 m c t k

theorem cover12 (i : S512x1024.Idx) : ∃ t : Fin cfg0.N, (cfg0.win 12).flush t = true ∧ i ∈ ((cfg0.win 12).blk t).view.set := by
  have h0 : (i 0).val < 512 := (i 0).isLt
  have h1 : (i 1).val < 1024 := (i 1).isLt
  have hlt : (i 0).val / 512 < cfg0.N := lt_of_lt_of_eq (by omega) N_0.symm
  refine ⟨⟨(i 0).val / 512, hlt⟩, flush0_12 _, ?_⟩
  obtain ⟨e0, e1⟩ := idx12 ⟨(i 0).val / 512, hlt⟩
  show i ∈ ((View.whole main_v3).slice (win0_12.rect ⟨(i 0).val / 512, hlt⟩)).set
  rw [View.set_slice_whole, Rect.mem_set_unit]
  intro a
  match a with
  | ⟨0, _⟩ =>
    show win0_12.index ⟨(i 0).val / 512, hlt⟩ (0 : Fin 2) * 512 ≤ (i 0).val ∧ (i 0).val < win0_12.index ⟨(i 0).val / 512, hlt⟩ (0 : Fin 2) * 512 + 512
    rw [e0]; dsimp only; omega
  | ⟨1, _⟩ =>
    show win0_12.index ⟨(i 0).val / 512, hlt⟩ (1 : Fin 2) * 1024 ≤ (i 1).val ∧ (i 1).val < win0_12.index ⟨(i 0).val / 512, hlt⟩ (1 : Fin 2) * 1024 + 1024
    rw [e1]; omega

theorem array12 : (dats m 0 c).arrAt 12 cfg0.N = Y m c :=
  (dats m 0 c).arrAt_eq_of_cover 12 (Y m c) (fun t _ => flushed12 m c t) cover12

end Cert.MixSampleIdeal.Merge

end
-- ==== Proof.MergeSample.Reference.lean ====
/- The merge's reference, read at an index. -/
module

public import proofs.«01_k».proof.Proof.Gen.MixSampleReferenceIdeal.Run
public import proofs.«01_k».proof.Proof.Gen.MixSampleReferenceIdeal.Read
public import proofs.«01_k».proof.Proof.Merge.Maths
public import Idealize.ShloMosaic.Lib.Pointwise

@[expose] public section

set_option maxRecDepth 16384

noncomputable section

namespace Cert.MixSampleReferenceIdeal.Merge

open Cert.MixSampleReferenceIdeal Cert.MixSampleReferenceIdeal.Gen Cert.MixSampleReferenceIdeal.Read Cert.Merge
open Idealize.ShloMosaic Idealize.ShloMosaic.TcCoe Idealize.ShloMosaic.Tactic Idealize.ShloMosaic.Pointwise

variable (x0 x1 x2 x3 : Vec Ideal S512x512 .bf16) (x4 : Vec Ideal S512x9472 .bf16) (x5 : Vec Ideal S512x1024 .f32)
  (x6 : Vec Ideal S4x512x1024 .f32) (x7 : Vec Ideal S1024x1024 .f32) (x8 : Vec Ideal S1024 .f32)

theorem gate_apply (t : Fin 512) (n : Fin 4) (k : Fin 1024) : val_main_v16 (F := Ideal) x4 (ix3 t n k) =
    Cert.Lru.sig (x4 (ix2 t ⟨5120 + n.val * 1024 + k.val, by omega⟩)) := by
  pointwise [val_main_v16, val_main_v15, val_main_v14, val_main_v13, val_main_v12, val_main_v11, val_main_v10, val_main_v1, val_main_v0,
    val_main_cst, val_main_cst_0]
  have e : (⟨5120 + (n.val * 1024 + k.val), by omega⟩ : Fin 9472) = ⟨5120 + n.val * 1024 + k.val, by omega⟩ :=
    Fin.ext (add_assoc _ _ _).symm
  rw [e]
  rfl

theorem stack_apply (t : Fin 512) (n : Fin 4) (k : Fin 512) : val_main_v7 (F := Ideal) x0 x1 x2 x3 (ix3 t n k) =
    (![x0, x1, x2, x3] n) (ix2 t k) := by
  rcases n with ⟨n, hn⟩
  interval_cases n <;> pointwise [val_main_v7, val_main_v6, val_main_v5, val_main_v4, val_main_v3, val_main_v2]

theorem down_apply (t : Fin 512) (n : Fin 4) (k : Fin 1024) : val_main_v9 (F := Ideal) x0 x1 x2 x3 x6 (ix3 t n k) =
    ∑ c : Fin 512, (![x0, x1, x2, x3] n) (ix2 t c) * x6 (ix3 n c k) := by
  unfold val_main_v9 val_main_v8
  refine Eq.trans ?_ (Finset.sum_congr rfl fun c _ => (congrArg (· * x6 (ix3 n c k)) (stack_apply x0 x1 x2 x3 t n c)))
  generalize val_main_v7 (F := Ideal) x0 x1 x2 x3 = u
  pointwise
  exact Finset.sum_congr rfl fun c _ => mul_comm _ _

theorem mixed_apply (t : Fin 512) (k : Fin 1024) : val_main_v18 (F := Ideal) x0 x1 x2 x3 x4 x6 (ix2 t k) =
    gated (fun n k => (![x0, x1, x2, x3] n) (ix2 t k)) (fun n k => x4 (ix2 t ⟨5120 + n.val * 1024 + k.val, by omega⟩))
      (fun n k l => x6 (ix3 n k l)) k := by
  have e : val_main_v18 (F := Ideal) x0 x1 x2 x3 x4 x6 (ix2 t k) =
      ∑ n : Fin 4, val_main_v16 (F := Ideal) x4 (ix3 t n k) * val_main_v9 (F := Ideal) x0 x1 x2 x3 x6 (ix3 t n k) := by
    unfold val_main_v18 val_main_v17
    generalize val_main_v16 (F := Ideal) x4 = a
    generalize val_main_v9 (F := Ideal) x0 x1 x2 x3 x6 = b
    pointwise [val_main_cst_1]
  rw [e]
  exact Finset.sum_congr rfl fun n _ => congrArg₂ (· * ·) (gate_apply x4 t n k) (down_apply x0 x1 x2 x3 x6 t n k)

theorem result_apply (t : Fin 512) (j : Fin 1024) : val_main_v33 (F := Ideal) x0 x1 x2 x3 x4 x5 x6 x7 x8 (ix2 t j) =
    merged (fun n k => (![x0, x1, x2, x3] n) (ix2 t k)) (fun n k => x4 (ix2 t ⟨5120 + n.val * 1024 + k.val, by omega⟩))
      (fun k => x5 (ix2 t k)) (fun n k l => x6 (ix3 n k l)) (fun k l => x7 (ix2 k l)) (fun k => x8 (ix1 k)) j := by
  unfold merged Cert.Norm.normRow
  simp only [← mixed_apply]
  unfold val_main_v33 val_main_v32 val_main_v29 val_main_v28 val_main_v27 val_main_v26 val_main_v24 val_main_v22 val_main_v21 val_main_v20 val_main_v19
  generalize val_main_v18 (F := Ideal) x0 x1 x2 x3 x4 x6 = a
  pointwise [val_main_v31, val_main_v30, val_main_v25, val_main_v23, val_main_cst_2, val_main_cst_3, val_main_cst_4]

end Cert.MixSampleReferenceIdeal.Merge

end
-- ==== Proof.MergeSample.Claims.lean ====
/- The claims about the merge at the sample's shapes: the kernel's result array is the reference's. -/
module

public import proofs.«01_k».proof.Defs
public import proofs.«01_k».proof.Proof.Gen.MixSample.Frame
public import proofs.«01_k».proof.Proof.MergeSample.Arrays
public import proofs.«01_k».proof.Proof.MergeSample.Reference

@[expose] public section

set_option maxRecDepth 16384

noncomputable section

namespace Cert.MergeSample

open Idealize.ShloMosaic Idealize.ShloMosaic.Pointwise Idealize.SL.Sem

theorem kernel_frame : Cert.quiescent_MixSample (hMixSample := Cert.MixSample.Gen.facts) := fun m g _ => Cert.MixSample.Gen.frame m g
theorem ideal_frame : Cert.quiescent_MixSampleIdeal (hMixSampleIdeal := Cert.MixSampleIdeal.Gen.facts) := fun m g _ => Cert.MixSampleIdeal.Gen.frame m g
theorem reference_frame : Cert.quiescent_MixSampleReferenceIdeal (hMixSampleReferenceIdeal := Cert.MixSampleReferenceIdeal.Gen.facts) := fun m g _ =>
  (θ_run Cert.MixSampleReferenceIdeal.defs _ _).mono (fun r h => ⟨fun c => (h c).2, Idealize.ShloMosaic.sem_eq_zero_of_no_sems (by decide) r.2⟩) (Cert.MixSampleReferenceIdeal.Value.run m g)

/-- The reference's arguments are the kernel's. -/
abbrev Same (m : (ℓ : Loc Cert.MixSampleIdeal.nD Cert.MixSampleIdeal.τ Cert.MixSampleIdeal.sig) → Buf (Elt Ideal) ℓ)
    (m' : (ℓ : Loc Cert.MixSampleReferenceIdeal.nD Cert.MixSampleReferenceIdeal.τ Cert.MixSampleReferenceIdeal.sig) → Buf (Elt Ideal) ℓ) (c : Dev Cert.MixSampleIdeal.nD) : Prop :=
  m' ((c.tc : Thread Cert.MixSampleReferenceIdeal.nD Cert.MixSampleReferenceIdeal.τ).loc Cert.MixSampleReferenceIdeal.main_arg0) = m ((c.tc : Thread Cert.MixSampleIdeal.nD Cert.MixSampleIdeal.τ).loc Cert.MixSampleIdeal.main_arg0)
  ∧ m' ((c.tc : Thread Cert.MixSampleReferenceIdeal.nD Cert.MixSampleReferenceIdeal.τ).loc Cert.MixSampleReferenceIdeal.main_arg1) = m ((c.tc : Thread Cert.MixSampleIdeal.nD Cert.MixSampleIdeal.τ).loc Cert.MixSampleIdeal.main_arg1)
  ∧ m' ((c.tc : Thread Cert.MixSampleReferenceIdeal.nD Cert.MixSampleReferenceIdeal.τ).loc Cert.MixSampleReferenceIdeal.main_arg2) = m ((c.tc : Thread Cert.MixSampleIdeal.nD Cert.MixSampleIdeal.τ).loc Cert.MixSampleIdeal.main_arg2)
  ∧ m' ((c.tc : Thread Cert.MixSampleReferenceIdeal.nD Cert.MixSampleReferenceIdeal.τ).loc Cert.MixSampleReferenceIdeal.main_arg3) = m ((c.tc : Thread Cert.MixSampleIdeal.nD Cert.MixSampleIdeal.τ).loc Cert.MixSampleIdeal.main_arg3)
  ∧ m' ((c.tc : Thread Cert.MixSampleReferenceIdeal.nD Cert.MixSampleReferenceIdeal.τ).loc Cert.MixSampleReferenceIdeal.main_arg4) = m ((c.tc : Thread Cert.MixSampleIdeal.nD Cert.MixSampleIdeal.τ).loc Cert.MixSampleIdeal.main_arg4)
  ∧ m' ((c.tc : Thread Cert.MixSampleReferenceIdeal.nD Cert.MixSampleReferenceIdeal.τ).loc Cert.MixSampleReferenceIdeal.main_arg5) = m ((c.tc : Thread Cert.MixSampleIdeal.nD Cert.MixSampleIdeal.τ).loc Cert.MixSampleIdeal.main_arg5)
  ∧ m' ((c.tc : Thread Cert.MixSampleReferenceIdeal.nD Cert.MixSampleReferenceIdeal.τ).loc Cert.MixSampleReferenceIdeal.main_arg6) = m ((c.tc : Thread Cert.MixSampleIdeal.nD Cert.MixSampleIdeal.τ).loc Cert.MixSampleIdeal.main_arg6)
  ∧ m' ((c.tc : Thread Cert.MixSampleReferenceIdeal.nD Cert.MixSampleReferenceIdeal.τ).loc Cert.MixSampleReferenceIdeal.main_arg7) = m ((c.tc : Thread Cert.MixSampleIdeal.nD Cert.MixSampleIdeal.τ).loc Cert.MixSampleIdeal.main_arg7)
  ∧ m' ((c.tc : Thread Cert.MixSampleReferenceIdeal.nD Cert.MixSampleReferenceIdeal.τ).loc Cert.MixSampleReferenceIdeal.main_arg8) = m ((c.tc : Thread Cert.MixSampleIdeal.nD Cert.MixSampleIdeal.τ).loc Cert.MixSampleIdeal.main_arg8)

theorem result_eq {m : (ℓ : Loc Cert.MixSampleIdeal.nD Cert.MixSampleIdeal.τ Cert.MixSampleIdeal.sig) → Buf (Elt Ideal) ℓ}
    {m' : (ℓ : Loc Cert.MixSampleReferenceIdeal.nD Cert.MixSampleReferenceIdeal.τ Cert.MixSampleReferenceIdeal.sig) → Buf (Elt Ideal) ℓ} {c : Dev Cert.MixSampleIdeal.nD}
    (e : Same m m' c) : Cert.MixSampleReferenceIdeal.Value.res_out0 m' c = Cert.MixSampleIdeal.Merge.Y m c := by
  obtain ⟨e0, e1, e2, e3, e4, e5, e6, e7, e8⟩ := e
  refine (Cert.MixSampleReferenceIdeal.Read.val_main_v33_eq m' c).trans ?_
  rw [e0, e1, e2, e3, e4, e5, e6, e7, e8]
  funext i
  rw [eq_ix2 i]
  exact Cert.MixSampleReferenceIdeal.Merge.result_apply _ _ _ _ _ _ _ _ _ _ _

theorem algebraic : Cert.algebraic_MixSampleIdeal_MixSampleReferenceIdeal (hMixSampleIdeal := Cert.MixSampleIdeal.Gen.facts)
    (hMixSampleReferenceIdeal := Cert.MixSampleReferenceIdeal.Gen.facts) := by
  intro m g m' g' _ e
  refine ⟨fun c => Cert.MixSampleIdeal.Merge.Y m c, ?_, ?_⟩
  · refine (θ_run Cert.MixSampleIdeal.defs _ _).mono (fun r h c => ?_) (Cert.MixSampleIdeal.Value.run_blocks m g)
    exact ⟨((h c).1).trans (Cert.MixSampleIdeal.Merge.array12 m c), (h c).2⟩
  · refine (θ_run Cert.MixSampleReferenceIdeal.defs _ _).mono (fun r h c => ?_) (Cert.MixSampleReferenceIdeal.Value.run m' g')
    exact ⟨((h c).1).trans (result_eq (e c)), (h c).2⟩

end Cert.MergeSample

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojReferenceIdeal
public import proofs.«01_k».proof.Proof.Gen.InprojReferenceIdeal.Run
public import proofs.«01_k».proof.Proof.Gen.InprojReferenceIdeal.Read
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvReferenceIdeal
public import proofs.«01_k».proof.Proof.Gen.KvReferenceIdeal.Run
public import proofs.«01_k».proof.Proof.Gen.KvReferenceIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.Sb
public import proofs.«01_k».proof.Proof.Gen.Sb.Skeleton
public import proofs.«01_k».proof.Proof.Gen.Sb.Launch
public import proofs.«01_k».proof.Proof.Gen.Sb.Points
public import proofs.«01_k».proof.Proof.Gen.SbIdeal
public import proofs.«01_k».proof.Proof.Gen.SbIdeal.Skeleton
public import proofs.«01_k».proof.Proof.Gen.SbIdeal.Launch
public import proofs.«01_k».proof.Proof.Gen.SbIdeal.Points
public import proofs.«01_k».proof.Proof.Gen.SbReferenceIdeal
public import proofs.«01_k».proof.Proof.Gen.SbReferenceIdeal.Run
public import proofs.«01_k».proof.Proof.Gen.SbReferenceIdeal.Read
public import proofs.«01_k».proof.Proof.Gen.MixSample
public import proofs.«01_k».proof.Proof.Gen.MixSample.Skeleton
public import proofs.«01_k».proof.Proof.Gen.MixSample.Launch
public import proofs.«01_k».proof.Proof.Gen.MixSample.Points
public import proofs.«01_k».proof.Proof.Gen.MixSample.Frame
public import proofs.«01_k».proof.Proof.Gen.MixSampleIdeal
public import proofs.«01_k».proof.Proof.Gen.MixSampleIdeal.Skeleton
public import proofs.«01_k».proof.Proof.Gen.MixSampleIdeal.Launch
public import proofs.«01_k».proof.Proof.Gen.MixSampleIdeal.Points
public import proofs.«01_k».proof.Proof.Gen.MixSampleIdeal.Frame
public import proofs.«01_k».proof.Proof.Gen.MixSampleIdeal.Value
public import proofs.«01_k».proof.Proof.Gen.MixSampleReferenceIdeal
public import proofs.«01_k».proof.Proof.Gen.MixSampleReferenceIdeal.Run
public import proofs.«01_k».proof.Proof.Gen.MixSampleReferenceIdeal.Read
public import proofs.«01_k».proof.Proof.Lru.Claims
public import proofs.«01_k».proof.Proof.Inproj.Claims
public import proofs.«01_k».proof.Proof.Kv.Claims
public import proofs.«01_k».proof.Proof.Merge.Claims
public import proofs.«01_k».proof.Proof.Sb.Claims
public import proofs.«01_k».proof.Proof.MergeSample.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Inproj.Gen.facts, Cert.InprojIdeal.Gen.facts, Cert.InprojReferenceIdeal.Gen.facts,
  Cert.Kv.Gen.facts, Cert.KvIdeal.Gen.facts, Cert.KvReferenceIdeal.Gen.facts,
  Cert.Mix.Gen.facts, Cert.MixIdeal.Gen.facts, Cert.MixReferenceIdeal.Gen.facts,
  Cert.Sb.Gen.facts, Cert.SbIdeal.Gen.facts, Cert.SbReferenceIdeal.Gen.facts,
  Cert.MixSample.Gen.facts, Cert.MixSampleIdeal.Gen.facts, Cert.MixSampleReferenceIdeal.Gen.facts, Cert.KeyValue.range_facts,
  Cert.Lru.kernel_frame, Cert.Lru.ideal_frame, Cert.Lru.reference_frame,
  Cert.Inproj.kernel_frame, Cert.Inproj.ideal_frame, Cert.Inproj.reference_frame,
  Cert.KeyValue.kernel_frame, Cert.KeyValue.ideal_frame, Cert.KeyValue.reference_frame,
  Cert.Merge.kernel_frame, Cert.Merge.ideal_frame, Cert.Merge.reference_frame,
  Cert.Attention.kernel_frame, Cert.Attention.ideal_frame, Cert.Attention.reference_frame,
  Cert.MergeSample.kernel_frame, Cert.MergeSample.ideal_frame, Cert.MergeSample.reference_frame,
  trivial, Cert.Lru.algebraic, trivial, Cert.Inproj.algebraic, trivial, Cert.KeyValue.algebraic, trivial, Cert.Merge.algebraic,
  Cert.Attention.preserves, Cert.Attention.algebraic, trivial, Cert.MergeSample.algebraic⟩

end Cert.Proof

end
